-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_2688" .f32 0x39C30C31#32 ((1 / 2688 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v13_0) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x4096 : Shape := ⟨3, ![16, 2048, 4096]⟩
abbrev S32768x4096 : Shape := ⟨2, ![32768, 4096]⟩
abbrev S32768x2048 : Shape := ⟨2, ![32768, 2048]⟩
abbrev S32768x256 : Shape := ⟨2, ![32768, 256]⟩
abbrev S1x1 : Shape := ⟨2, ![1, 1]⟩
abbrev S18x256x4096 : Shape := ⟨3, ![18, 256, 4096]⟩
abbrev S128x256x256 : Shape := ⟨3, ![128, 256, 256]⟩
abbrev S2x256x256 : Shape := ⟨3, ![2, 256, 256]⟩
abbrev S2x256x2048 : Shape := ⟨3, ![2, 256, 2048]⟩
abbrev S16x256 : Shape := ⟨2, ![16, 256]⟩
abbrev S256x256 : Shape := ⟨2, ![256, 256]⟩
abbrev S18 : Shape := ⟨1, ![18]⟩
abbrev S2 : Shape := ⟨1, ![2]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x256x256 : Shape := ⟨3, ![1, 256, 256]⟩
abbrev S1x16x256 : Shape := ⟨3, ![1, 16, 256]⟩
abbrev S1x1x1 : Shape := ⟨3, ![1, 1, 1]⟩
abbrev S256x128 : Shape := ⟨2, ![256, 128]⟩
abbrev S256x2048 : Shape := ⟨2, ![256, 2048]⟩
abbrev S1x256x2048 : Shape := ⟨3, ![1, 256, 2048]⟩
abbrev S1x256x128 : Shape := ⟨3, ![1, 256, 128]⟩
abbrev S256x128x1 : Shape := ⟨3, ![256, 128, 1]⟩
abbrev S64x128 : Shape := ⟨2, ![64, 128]⟩
abbrev S16x2048x2048 : Shape := ⟨3, ![16, 2048, 2048]⟩
abbrev S16x2048x256 : Shape := ⟨3, ![16, 2048, 256]⟩

abbrev nBuf : Space → Nat
  | .hbm => 8
  | .vmem => 9
  | .smem => 1
  | _ => 0

abbrev bufTy : (tb : Table) → Fin (tcTables nBuf tb) → BufTy
  | .hbm, ⟨0, _⟩ => ⟨S16x2048x4096, .bf16⟩
  | .hbm, ⟨1, _⟩ => ⟨S32768x4096, .bf16⟩
  | .hbm, ⟨2, _⟩ => ⟨S32768x2048, .i8⟩
  | .hbm, ⟨3, _⟩ => ⟨S32768x256, .fp8e4m3⟩
  | .hbm, ⟨4, _⟩ => ⟨S1x1, .f32⟩
  | .hbm, ⟨5, _⟩ => ⟨S16x2048x2048, .i8⟩
  | .hbm, ⟨6, _⟩ => ⟨S16x2048x256, .fp8e4m3⟩
  | .hbm, ⟨7, _⟩ => ⟨S_, .f32⟩
  | .local _ .vmem, ⟨0, _⟩ => ⟨S18x256x4096, .bf16⟩
  | .local _ .vmem, ⟨1, _⟩ => ⟨S128x256x256, .bf16⟩
  | .local _ .vmem, ⟨2, _⟩ => ⟨S2x256x256, .f32⟩
  | .local _ .vmem, ⟨3, _⟩ => ⟨S2x256x256, .f32⟩
  | .local _ .vmem, ⟨4, _⟩ => ⟨S2x256x2048, .i8⟩
  | .local _ .vmem, ⟨5, _⟩ => ⟨S2x256x256, .fp8e4m3⟩
  | .local _ .vmem, ⟨6, _⟩ => ⟨S16x256, .f32⟩
  | .local _ .vmem, ⟨7, _⟩ => ⟨S256x256, .bf16⟩
  | .local _ .vmem, ⟨8, _⟩ => ⟨S256x256, .bf16⟩
  | .local _ .smem, ⟨0, _⟩ => ⟨S1x1, .f32⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_52 : BitVec 32 := 0#32
  let c128_i32_53 : BitVec 32 := 128#32
  let v128 : BitVec 32 := Scalar.addi c0_i32_52 c128_i32_53
  let c1_i32_54 : BitVec 32 := 1#32
  ⟨c0_i32_52, v128, c1_i32_54⟩
def k0_cond1 (k0_t1 : Fin k0_t1_loop.trips) : BitVec 1 :=
  let c0_i32_52 : BitVec 32 := 0#32
  let c1_i32_54 : BitVec 32 := 1#32
  let arg16 : BitVec 32 := Scf.iv c0_i32_52 c1_i32_54 k0_t1
  let c4_i32 : BitVec 32 := 4#32
  let v204 : BitVec 32 := Scalar.addi arg16 c4_i32
  let c128_i32_117 : BitVec 32 := 128#32
  let v205 : BitVec 1 := Scalar.cmpi .slt v204 c128_i32_117
  let v206 : BitVec 32 := Scalar.extui v205
  let c0_i32_118 : BitVec 32 := 0#32
  let v207 : BitVec 1 := Scalar.cmpi .ne v206 c0_i32_118
  v207

def k0_off1 (k0_t1 : Fin k0_t1_loop.trips) : Fin 1 → Nat :=
  let c0_i32_52 : BitVec 32 := 0#32
  let c1_i32_54 : BitVec 32 := 1#32
  let arg16 : BitVec 32 := Scf.iv c0_i32_52 c1_i32_54 k0_t1
  let c4_i32_323 : BitVec 32 := 4#32
  let v1322 : BitVec 32 := Scalar.addi arg16 c4_i32_323
  let c18_i32_324 : BitVec 32 := 18#32
  let c0_i32_325 : BitVec 32 := 0#32
  let v1323 : BitVec 1 := Scalar.cmpi .eq c18_i32_324 c0_i32_325
  let c1_i32_326 : BitVec 32 := 1#32
  let v1324 : BitVec 32 := Scalar.select v1323 c1_i32_326 c18_i32_324
  let v1325 : BitVec 32 := Scalar.remsi v1322 v1324
  let c0_i32_328 : BitVec 32 := 0#32
  let v1327 : BitVec 1 := Scalar.cmpi .slt v1325 c0_i32_328
  let c0_i32_329 : BitVec 32 := 0#32
  let v1328 : BitVec 1 := Scalar.cmpi .slt v1324 c0_i32_329
  let v1329 : BitVec 1 := Scalar.xori v1327 v1328
  let c0_i32_327 : BitVec 32 := 0#32
  let v1326 : BitVec 1 := Scalar.cmpi .ne v1325 c0_i32_327
  let v1330 : BitVec 1 := Scalar.andi v1329 v1326
  let v1331 : BitVec 32 := Scalar.addi v1325 v1324
  let v1332 : BitVec 32 := Scalar.select v1330 v1331 v1325
  ![v1332.toNat]
def k0_off2 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c4_i32_323 : BitVec 32 := 4#32
  let v1322 : BitVec 32 := Scalar.addi arg16 c4_i32_323
  let c18_i32_324 : BitVec 32 := 18#32
  let c0_i32_325 : BitVec 32 := 0#32
  let v1323 : BitVec 1 := Scalar.cmpi .eq c18_i32_324 c0_i32_325
  let c1_i32_326 : BitVec 32 := 1#32
  let v1324 : BitVec 32 := Scalar.select v1323 c1_i32_326 c18_i32_324
  let v1325 : BitVec 32 := Scalar.remsi v1322 v1324
  let c0_i32_328 : BitVec 32 := 0#32
  let v1327 : BitVec 1 := Scalar.cmpi .slt v1325 c0_i32_328
  let c0_i32_329 : BitVec 32 := 0#32
  let v1328 : BitVec 1 := Scalar.cmpi .slt v1324 c0_i32_329
  let v1329 : BitVec 1 := Scalar.xori v1327 v1328
  let c0_i32_327 : BitVec 32 := 0#32
  let v1326 : BitVec 1 := Scalar.cmpi .ne v1325 c0_i32_327
  let v1330 : BitVec 1 := Scalar.andi v1329 v1326
  let v1331 : BitVec 32 := Scalar.addi v1325 v1324
  let v1332 : BitVec 32 := Scalar.select v1330 v1331 v1325
  let c0_i32_331 : BitVec 32 := 0#32
  let c0_i32_332 : BitVec 32 := 0#32
  ![v1332.toNat, 0, 0]
def k0_off3 (k0_t1 : Fin k0_t1_loop.trips) : Fin 2 → Nat :=
  let c0_i32_52 : BitVec 32 := 0#32
  let c1_i32_54 : BitVec 32 := 1#32
  let arg16 : BitVec 32 := Scf.iv c0_i32_52 c1_i32_54 k0_t1
  let c4_i32_322 : BitVec 32 := 4#32
  let v1321 : BitVec 32 := Scalar.addi arg16 c4_i32_322
  let c256_i32_330 : BitVec 32 := 256#32
  let v1333 : BitVec 32 := Scalar.muli v1321 c256_i32_330
  let c0_i32_333 : BitVec 32 := 0#32
  ![v1333.toNat, 0]
def k0_off4 (k0_t1 : Fin k0_t1_loop.trips) : Fin 1 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  ![v217.toNat]
def k0_off5 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let c0_i32_125 : BitVec 32 := 0#32
  let c0_i32_126 : BitVec 32 := 0#32
  ![v217.toNat, 0, 0]
def k0_off6 (k0_t1 : Fin k0_t1_loop.trips) : Fin 2 → Nat :=
  let c0_i32_52 : BitVec 32 := 0#32
  let c1_i32_54 : BitVec 32 := 1#32
  let arg16 : BitVec 32 := Scf.iv c0_i32_52 c1_i32_54 k0_t1
  let c256_i32_124 : BitVec 32 := 256#32
  let v218 : BitVec 32 := Scalar.muli arg16 c256_i32_124
  let c0_i32_127 : BitVec 32 := 0#32
  ![v218.toNat, 0]
def k0_off7 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c1_i32_128 : BitVec 32 := 1#32
  let v224 : BitVec 32 := Scalar.subi arg16 c1_i32_128
  let c0_i32_129 : BitVec 32 := 0#32
  let v225 : BitVec 32 := Scalar.maxsi v224 c0_i32_129
  let c2_i32_130 : BitVec 32 := 2#32
  let c0_i32_131 : BitVec 32 := 0#32
  let v226 : BitVec 1 := Scalar.cmpi .eq c2_i32_130 c0_i32_131
  let c1_i32_132 : BitVec 32 := 1#32
  let v227 : BitVec 32 := Scalar.select v226 c1_i32_132 c2_i32_130
  let v228 : BitVec 32 := Scalar.remsi v225 v227
  let c0_i32_134 : BitVec 32 := 0#32
  let v230 : BitVec 1 := Scalar.cmpi .slt v228 c0_i32_134
  let c0_i32_135 : BitVec 32 := 0#32
  let v231 : BitVec 1 := Scalar.cmpi .slt v227 c0_i32_135
  let v232 : BitVec 1 := Scalar.xori v230 v231
  let c0_i32_133 : BitVec 32 := 0#32
  let v229 : BitVec 1 := Scalar.cmpi .ne v228 c0_i32_133
  let v233 : BitVec 1 := Scalar.andi v232 v229
  let v234 : BitVec 32 := Scalar.addi v228 v227
  let v235 : BitVec 32 := Scalar.select v233 v234 v228
  let v236 : Index := Scalar.indexCast v235
  let c0_136 : Index := 0#32
  let c0_137 : Index := 0#32
  ![v236.toNat, 0, 0]
def k0_off8 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c1_i32_128 : BitVec 32 := 1#32
  let v224 : BitVec 32 := Scalar.subi arg16 c1_i32_128
  let c0_i32_129 : BitVec 32 := 0#32
  let v225 : BitVec 32 := Scalar.maxsi v224 c0_i32_129
  let v241 : Index := Scalar.indexCast v225
  let c0_138 : Index := 0#32
  let c0_139 : Index := 0#32
  ![v241.toNat, 0, 0]
def k0_off9 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v247 : Index := Scalar.indexCast v217
  let c0_144 : Index := 0#32
  let c0_145 : Index := 0#32
  ![v247.toNat, 0, 0]
def k0_off10 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_147 : BitVec 32 := 2#32
  let c0_i32_148 : BitVec 32 := 0#32
  let v298 : BitVec 1 := Scalar.cmpi .eq c2_i32_147 c0_i32_148
  let c1_i32_149 : BitVec 32 := 1#32
  let v299 : BitVec 32 := Scalar.select v298 c1_i32_149 c2_i32_147
  let v300 : BitVec 32 := Scalar.remsi arg16 v299
  let c0_i32_151 : BitVec 32 := 0#32
  let v302 : BitVec 1 := Scalar.cmpi .slt v300 c0_i32_151
  let c0_i32_152 : BitVec 32 := 0#32
  let v303 : BitVec 1 := Scalar.cmpi .slt v299 c0_i32_152
  let v304 : BitVec 1 := Scalar.xori v302 v303
  let c0_i32_150 : BitVec 32 := 0#32
  let v301 : BitVec 1 := Scalar.cmpi .ne v300 c0_i32_150
  let v305 : BitVec 1 := Scalar.andi v304 v301
  let v306 : BitVec 32 := Scalar.addi v300 v299
  let v307 : BitVec 32 := Scalar.select v305 v306 v300
  let v308 : Index := Scalar.indexCast v307
  let c0_153 : Index := 0#32
  let c0_154 : Index := 0#32
  ![v308.toNat, 0, 0]
def k0_off11 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v314 : Index := Scalar.indexCast v217
  let c0_157 : Index := 0#32
  let c256 : Index := 256#32
  ![v314.toNat, 0, 256]
def k0_off12 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_159 : BitVec 32 := 2#32
  let c0_i32_160 : BitVec 32 := 0#32
  let v365 : BitVec 1 := Scalar.cmpi .eq c2_i32_159 c0_i32_160
  let c1_i32_161 : BitVec 32 := 1#32
  let v366 : BitVec 32 := Scalar.select v365 c1_i32_161 c2_i32_159
  let v367 : BitVec 32 := Scalar.remsi arg16 v366
  let c0_i32_163 : BitVec 32 := 0#32
  let v369 : BitVec 1 := Scalar.cmpi .slt v367 c0_i32_163
  let c0_i32_164 : BitVec 32 := 0#32
  let v370 : BitVec 1 := Scalar.cmpi .slt v366 c0_i32_164
  let v371 : BitVec 1 := Scalar.xori v369 v370
  let c0_i32_162 : BitVec 32 := 0#32
  let v368 : BitVec 1 := Scalar.cmpi .ne v367 c0_i32_162
  let v372 : BitVec 1 := Scalar.andi v371 v368
  let v373 : BitVec 32 := Scalar.addi v367 v366
  let v374 : BitVec 32 := Scalar.select v372 v373 v367
  let v375 : Index := Scalar.indexCast v374
  let c16 : Index := 16#32
  let c0_165 : Index := 0#32
  ![v375.toNat, 16, 0]
def k0_off13 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v381 : Index := Scalar.indexCast v217
  let c0_168 : Index := 0#32
  let c512 : Index := 512#32
  ![v381.toNat, 0, 512]
def k0_off14 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_170 : BitVec 32 := 2#32
  let c0_i32_171 : BitVec 32 := 0#32
  let v432 : BitVec 1 := Scalar.cmpi .eq c2_i32_170 c0_i32_171
  let c1_i32_172 : BitVec 32 := 1#32
  let v433 : BitVec 32 := Scalar.select v432 c1_i32_172 c2_i32_170
  let v434 : BitVec 32 := Scalar.remsi arg16 v433
  let c0_i32_174 : BitVec 32 := 0#32
  let v436 : BitVec 1 := Scalar.cmpi .slt v434 c0_i32_174
  let c0_i32_175 : BitVec 32 := 0#32
  let v437 : BitVec 1 := Scalar.cmpi .slt v433 c0_i32_175
  let v438 : BitVec 1 := Scalar.xori v436 v437
  let c0_i32_173 : BitVec 32 := 0#32
  let v435 : BitVec 1 := Scalar.cmpi .ne v434 c0_i32_173
  let v439 : BitVec 1 := Scalar.andi v438 v435
  let v440 : BitVec 32 := Scalar.addi v434 v433
  let v441 : BitVec 32 := Scalar.select v439 v440 v434
  let v442 : Index := Scalar.indexCast v441
  let c32 : Index := 32#32
  let c0_176 : Index := 0#32
  ![v442.toNat, 32, 0]
def k0_off15 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v448 : Index := Scalar.indexCast v217
  let c0_179 : Index := 0#32
  let c768 : Index := 768#32
  ![v448.toNat, 0, 768]
def k0_off16 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_181 : BitVec 32 := 2#32
  let c0_i32_182 : BitVec 32 := 0#32
  let v499 : BitVec 1 := Scalar.cmpi .eq c2_i32_181 c0_i32_182
  let c1_i32_183 : BitVec 32 := 1#32
  let v500 : BitVec 32 := Scalar.select v499 c1_i32_183 c2_i32_181
  let v501 : BitVec 32 := Scalar.remsi arg16 v500
  let c0_i32_185 : BitVec 32 := 0#32
  let v503 : BitVec 1 := Scalar.cmpi .slt v501 c0_i32_185
  let c0_i32_186 : BitVec 32 := 0#32
  let v504 : BitVec 1 := Scalar.cmpi .slt v500 c0_i32_186
  let v505 : BitVec 1 := Scalar.xori v503 v504
  let c0_i32_184 : BitVec 32 := 0#32
  let v502 : BitVec 1 := Scalar.cmpi .ne v501 c0_i32_184
  let v506 : BitVec 1 := Scalar.andi v505 v502
  let v507 : BitVec 32 := Scalar.addi v501 v500
  let v508 : BitVec 32 := Scalar.select v506 v507 v501
  let v509 : Index := Scalar.indexCast v508
  let c48 : Index := 48#32
  let c0_187 : Index := 0#32
  ![v509.toNat, 48, 0]
def k0_off17 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v515 : Index := Scalar.indexCast v217
  let c0_190 : Index := 0#32
  let c1024 : Index := 1024#32
  ![v515.toNat, 0, 1024]
def k0_off18 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_192 : BitVec 32 := 2#32
  let c0_i32_193 : BitVec 32 := 0#32
  let v566 : BitVec 1 := Scalar.cmpi .eq c2_i32_192 c0_i32_193
  let c1_i32_194 : BitVec 32 := 1#32
  let v567 : BitVec 32 := Scalar.select v566 c1_i32_194 c2_i32_192
  let v568 : BitVec 32 := Scalar.remsi arg16 v567
  let c0_i32_196 : BitVec 32 := 0#32
  let v570 : BitVec 1 := Scalar.cmpi .slt v568 c0_i32_196
  let c0_i32_197 : BitVec 32 := 0#32
  let v571 : BitVec 1 := Scalar.cmpi .slt v567 c0_i32_197
  let v572 : BitVec 1 := Scalar.xori v570 v571
  let c0_i32_195 : BitVec 32 := 0#32
  let v569 : BitVec 1 := Scalar.cmpi .ne v568 c0_i32_195
  let v573 : BitVec 1 := Scalar.andi v572 v569
  let v574 : BitVec 32 := Scalar.addi v568 v567
  let v575 : BitVec 32 := Scalar.select v573 v574 v568
  let v576 : Index := Scalar.indexCast v575
  let c64 : Index := 64#32
  let c0_198 : Index := 0#32
  ![v576.toNat, 64, 0]
def k0_off19 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v582 : Index := Scalar.indexCast v217
  let c0_201 : Index := 0#32
  let c1280 : Index := 1280#32
  ![v582.toNat, 0, 1280]
def k0_off20 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_203 : BitVec 32 := 2#32
  let c0_i32_204 : BitVec 32 := 0#32
  let v633 : BitVec 1 := Scalar.cmpi .eq c2_i32_203 c0_i32_204
  let c1_i32_205 : BitVec 32 := 1#32
  let v634 : BitVec 32 := Scalar.select v633 c1_i32_205 c2_i32_203
  let v635 : BitVec 32 := Scalar.remsi arg16 v634
  let c0_i32_207 : BitVec 32 := 0#32
  let v637 : BitVec 1 := Scalar.cmpi .slt v635 c0_i32_207
  let c0_i32_208 : BitVec 32 := 0#32
  let v638 : BitVec 1 := Scalar.cmpi .slt v634 c0_i32_208
  let v639 : BitVec 1 := Scalar.xori v637 v638
  let c0_i32_206 : BitVec 32 := 0#32
  let v636 : BitVec 1 := Scalar.cmpi .ne v635 c0_i32_206
  let v640 : BitVec 1 := Scalar.andi v639 v636
  let v641 : BitVec 32 := Scalar.addi v635 v634
  let v642 : BitVec 32 := Scalar.select v640 v641 v635
  let v643 : Index := Scalar.indexCast v642
  let c80 : Index := 80#32
  let c0_209 : Index := 0#32
  ![v643.toNat, 80, 0]
def k0_off21 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v649 : Index := Scalar.indexCast v217
  let c0_212 : Index := 0#32
  let c1536 : Index := 1536#32
  ![v649.toNat, 0, 1536]
def k0_off22 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_214 : BitVec 32 := 2#32
  let c0_i32_215 : BitVec 32 := 0#32
  let v700 : BitVec 1 := Scalar.cmpi .eq c2_i32_214 c0_i32_215
  let c1_i32_216 : BitVec 32 := 1#32
  let v701 : BitVec 32 := Scalar.select v700 c1_i32_216 c2_i32_214
  let v702 : BitVec 32 := Scalar.remsi arg16 v701
  let c0_i32_218 : BitVec 32 := 0#32
  let v704 : BitVec 1 := Scalar.cmpi .slt v702 c0_i32_218
  let c0_i32_219 : BitVec 32 := 0#32
  let v705 : BitVec 1 := Scalar.cmpi .slt v701 c0_i32_219
  let v706 : BitVec 1 := Scalar.xori v704 v705
  let c0_i32_217 : BitVec 32 := 0#32
  let v703 : BitVec 1 := Scalar.cmpi .ne v702 c0_i32_217
  let v707 : BitVec 1 := Scalar.andi v706 v703
  let v708 : BitVec 32 := Scalar.addi v702 v701
  let v709 : BitVec 32 := Scalar.select v707 v708 v702
  let v710 : Index := Scalar.indexCast v709
  let c96 : Index := 96#32
  let c0_220 : Index := 0#32
  ![v710.toNat, 96, 0]
def k0_off23 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v716 : Index := Scalar.indexCast v217
  let c0_223 : Index := 0#32
  let c1792 : Index := 1792#32
  ![v716.toNat, 0, 1792]
def k0_off24 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_225 : BitVec 32 := 2#32
  let c0_i32_226 : BitVec 32 := 0#32
  let v767 : BitVec 1 := Scalar.cmpi .eq c2_i32_225 c0_i32_226
  let c1_i32_227 : BitVec 32 := 1#32
  let v768 : BitVec 32 := Scalar.select v767 c1_i32_227 c2_i32_225
  let v769 : BitVec 32 := Scalar.remsi arg16 v768
  let c0_i32_229 : BitVec 32 := 0#32
  let v771 : BitVec 1 := Scalar.cmpi .slt v769 c0_i32_229
  let c0_i32_230 : BitVec 32 := 0#32
  let v772 : BitVec 1 := Scalar.cmpi .slt v768 c0_i32_230
  let v773 : BitVec 1 := Scalar.xori v771 v772
  let c0_i32_228 : BitVec 32 := 0#32
  let v770 : BitVec 1 := Scalar.cmpi .ne v769 c0_i32_228
  let v774 : BitVec 1 := Scalar.andi v773 v770
  let v775 : BitVec 32 := Scalar.addi v769 v768
  let v776 : BitVec 32 := Scalar.select v774 v775 v769
  let v777 : Index := Scalar.indexCast v776
  let c112 : Index := 112#32
  let c0_231 : Index := 0#32
  ![v777.toNat, 112, 0]
def k0_off25 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v783 : Index := Scalar.indexCast v217
  let c0_234 : Index := 0#32
  let c2048 : Index := 2048#32
  ![v783.toNat, 0, 2048]
def k0_off26 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_236 : BitVec 32 := 2#32
  let c0_i32_237 : BitVec 32 := 0#32
  let v834 : BitVec 1 := Scalar.cmpi .eq c2_i32_236 c0_i32_237
  let c1_i32_238 : BitVec 32 := 1#32
  let v835 : BitVec 32 := Scalar.select v834 c1_i32_238 c2_i32_236
  let v836 : BitVec 32 := Scalar.remsi arg16 v835
  let c0_i32_240 : BitVec 32 := 0#32
  let v838 : BitVec 1 := Scalar.cmpi .slt v836 c0_i32_240
  let c0_i32_241 : BitVec 32 := 0#32
  let v839 : BitVec 1 := Scalar.cmpi .slt v835 c0_i32_241
  let v840 : BitVec 1 := Scalar.xori v838 v839
  let c0_i32_239 : BitVec 32 := 0#32
  let v837 : BitVec 1 := Scalar.cmpi .ne v836 c0_i32_239
  let v841 : BitVec 1 := Scalar.andi v840 v837
  let v842 : BitVec 32 := Scalar.addi v836 v835
  let v843 : BitVec 32 := Scalar.select v841 v842 v836
  let v844 : Index := Scalar.indexCast v843
  let c128 : Index := 128#32
  let c0_242 : Index := 0#32
  ![v844.toNat, 128, 0]
def k0_off27 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v850 : Index := Scalar.indexCast v217
  let c0_245 : Index := 0#32
  let c2304 : Index := 2304#32
  ![v850.toNat, 0, 2304]
def k0_off28 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_247 : BitVec 32 := 2#32
  let c0_i32_248 : BitVec 32 := 0#32
  let v901 : BitVec 1 := Scalar.cmpi .eq c2_i32_247 c0_i32_248
  let c1_i32_249 : BitVec 32 := 1#32
  let v902 : BitVec 32 := Scalar.select v901 c1_i32_249 c2_i32_247
  let v903 : BitVec 32 := Scalar.remsi arg16 v902
  let c0_i32_251 : BitVec 32 := 0#32
  let v905 : BitVec 1 := Scalar.cmpi .slt v903 c0_i32_251
  let c0_i32_252 : BitVec 32 := 0#32
  let v906 : BitVec 1 := Scalar.cmpi .slt v902 c0_i32_252
  let v907 : BitVec 1 := Scalar.xori v905 v906
  let c0_i32_250 : BitVec 32 := 0#32
  let v904 : BitVec 1 := Scalar.cmpi .ne v903 c0_i32_250
  let v908 : BitVec 1 := Scalar.andi v907 v904
  let v909 : BitVec 32 := Scalar.addi v903 v902
  let v910 : BitVec 32 := Scalar.select v908 v909 v903
  let v911 : Index := Scalar.indexCast v910
  let c144 : Index := 144#32
  let c0_253 : Index := 0#32
  ![v911.toNat, 144, 0]
def k0_off29 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v917 : Index := Scalar.indexCast v217
  let c0_256 : Index := 0#32
  let c2560 : Index := 2560#32
  ![v917.toNat, 0, 2560]
def k0_off30 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_258 : BitVec 32 := 2#32
  let c0_i32_259 : BitVec 32 := 0#32
  let v968 : BitVec 1 := Scalar.cmpi .eq c2_i32_258 c0_i32_259
  let c1_i32_260 : BitVec 32 := 1#32
  let v969 : BitVec 32 := Scalar.select v968 c1_i32_260 c2_i32_258
  let v970 : BitVec 32 := Scalar.remsi arg16 v969
  let c0_i32_262 : BitVec 32 := 0#32
  let v972 : BitVec 1 := Scalar.cmpi .slt v970 c0_i32_262
  let c0_i32_263 : BitVec 32 := 0#32
  let v973 : BitVec 1 := Scalar.cmpi .slt v969 c0_i32_263
  let v974 : BitVec 1 := Scalar.xori v972 v973
  let c0_i32_261 : BitVec 32 := 0#32
  let v971 : BitVec 1 := Scalar.cmpi .ne v970 c0_i32_261
  let v975 : BitVec 1 := Scalar.andi v974 v971
  let v976 : BitVec 32 := Scalar.addi v970 v969
  let v977 : BitVec 32 := Scalar.select v975 v976 v970
  let v978 : Index := Scalar.indexCast v977
  let c160 : Index := 160#32
  let c0_264 : Index := 0#32
  ![v978.toNat, 160, 0]
def k0_off31 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v984 : Index := Scalar.indexCast v217
  let c0_267 : Index := 0#32
  let c2816 : Index := 2816#32
  ![v984.toNat, 0, 2816]
def k0_off32 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_269 : BitVec 32 := 2#32
  let c0_i32_270 : BitVec 32 := 0#32
  let v1035 : BitVec 1 := Scalar.cmpi .eq c2_i32_269 c0_i32_270
  let c1_i32_271 : BitVec 32 := 1#32
  let v1036 : BitVec 32 := Scalar.select v1035 c1_i32_271 c2_i32_269
  let v1037 : BitVec 32 := Scalar.remsi arg16 v1036
  let c0_i32_273 : BitVec 32 := 0#32
  let v1039 : BitVec 1 := Scalar.cmpi .slt v1037 c0_i32_273
  let c0_i32_274 : BitVec 32 := 0#32
  let v1040 : BitVec 1 := Scalar.cmpi .slt v1036 c0_i32_274
  let v1041 : BitVec 1 := Scalar.xori v1039 v1040
  let c0_i32_272 : BitVec 32 := 0#32
  let v1038 : BitVec 1 := Scalar.cmpi .ne v1037 c0_i32_272
  let v1042 : BitVec 1 := Scalar.andi v1041 v1038
  let v1043 : BitVec 32 := Scalar.addi v1037 v1036
  let v1044 : BitVec 32 := Scalar.select v1042 v1043 v1037
  let v1045 : Index := Scalar.indexCast v1044
  let c176 : Index := 176#32
  let c0_275 : Index := 0#32
  ![v1045.toNat, 176, 0]
def k0_off33 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v1051 : Index := Scalar.indexCast v217
  let c0_278 : Index := 0#32
  let c3072 : Index := 3072#32
  ![v1051.toNat, 0, 3072]
def k0_off34 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_280 : BitVec 32 := 2#32
  let c0_i32_281 : BitVec 32 := 0#32
  let v1102 : BitVec 1 := Scalar.cmpi .eq c2_i32_280 c0_i32_281
  let c1_i32_282 : BitVec 32 := 1#32
  let v1103 : BitVec 32 := Scalar.select v1102 c1_i32_282 c2_i32_280
  let v1104 : BitVec 32 := Scalar.remsi arg16 v1103
  let c0_i32_284 : BitVec 32 := 0#32
  let v1106 : BitVec 1 := Scalar.cmpi .slt v1104 c0_i32_284
  let c0_i32_285 : BitVec 32 := 0#32
  let v1107 : BitVec 1 := Scalar.cmpi .slt v1103 c0_i32_285
  let v1108 : BitVec 1 := Scalar.xori v1106 v1107
  let c0_i32_283 : BitVec 32 := 0#32
  let v1105 : BitVec 1 := Scalar.cmpi .ne v1104 c0_i32_283
  let v1109 : BitVec 1 := Scalar.andi v1108 v1105
  let v1110 : BitVec 32 := Scalar.addi v1104 v1103
  let v1111 : BitVec 32 := Scalar.select v1109 v1110 v1104
  let v1112 : Index := Scalar.indexCast v1111
  let c192 : Index := 192#32
  let c0_286 : Index := 0#32
  ![v1112.toNat, 192, 0]
def k0_off35 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v1118 : Index := Scalar.indexCast v217
  let c0_289 : Index := 0#32
  let c3328 : Index := 3328#32
  ![v1118.toNat, 0, 3328]
def k0_off36 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_291 : BitVec 32 := 2#32
  let c0_i32_292 : BitVec 32 := 0#32
  let v1169 : BitVec 1 := Scalar.cmpi .eq c2_i32_291 c0_i32_292
  let c1_i32_293 : BitVec 32 := 1#32
  let v1170 : BitVec 32 := Scalar.select v1169 c1_i32_293 c2_i32_291
  let v1171 : BitVec 32 := Scalar.remsi arg16 v1170
  let c0_i32_295 : BitVec 32 := 0#32
  let v1173 : BitVec 1 := Scalar.cmpi .slt v1171 c0_i32_295
  let c0_i32_296 : BitVec 32 := 0#32
  let v1174 : BitVec 1 := Scalar.cmpi .slt v1170 c0_i32_296
  let v1175 : BitVec 1 := Scalar.xori v1173 v1174
  let c0_i32_294 : BitVec 32 := 0#32
  let v1172 : BitVec 1 := Scalar.cmpi .ne v1171 c0_i32_294
  let v1176 : BitVec 1 := Scalar.andi v1175 v1172
  let v1177 : BitVec 32 := Scalar.addi v1171 v1170
  let v1178 : BitVec 32 := Scalar.select v1176 v1177 v1171
  let v1179 : Index := Scalar.indexCast v1178
  let c208 : Index := 208#32
  let c0_297 : Index := 0#32
  ![v1179.toNat, 208, 0]
def k0_off37 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v1185 : Index := Scalar.indexCast v217
  let c0_300 : Index := 0#32
  let c3584 : Index := 3584#32
  ![v1185.toNat, 0, 3584]
def k0_off38 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_302 : BitVec 32 := 2#32
  let c0_i32_303 : BitVec 32 := 0#32
  let v1236 : BitVec 1 := Scalar.cmpi .eq c2_i32_302 c0_i32_303
  let c1_i32_304 : BitVec 32 := 1#32
  let v1237 : BitVec 32 := Scalar.select v1236 c1_i32_304 c2_i32_302
  let v1238 : BitVec 32 := Scalar.remsi arg16 v1237
  let c0_i32_306 : BitVec 32 := 0#32
  let v1240 : BitVec 1 := Scalar.cmpi .slt v1238 c0_i32_306
  let c0_i32_307 : BitVec 32 := 0#32
  let v1241 : BitVec 1 := Scalar.cmpi .slt v1237 c0_i32_307
  let v1242 : BitVec 1 := Scalar.xori v1240 v1241
  let c0_i32_305 : BitVec 32 := 0#32
  let v1239 : BitVec 1 := Scalar.cmpi .ne v1238 c0_i32_305
  let v1243 : BitVec 1 := Scalar.andi v1242 v1239
  let v1244 : BitVec 32 := Scalar.addi v1238 v1237
  let v1245 : BitVec 32 := Scalar.select v1243 v1244 v1238
  let v1246 : Index := Scalar.indexCast v1245
  let c224 : Index := 224#32
  let c0_308 : Index := 0#32
  ![v1246.toNat, 224, 0]
def k0_off39 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c18_i32 : BitVec 32 := 18#32
  let c0_i32_119 : BitVec 32 := 0#32
  let v208 : BitVec 1 := Scalar.cmpi .eq c18_i32 c0_i32_119
  let c1_i32_120 : BitVec 32 := 1#32
  let v209 : BitVec 32 := Scalar.select v208 c1_i32_120 c18_i32
  let v210 : BitVec 32 := Scalar.remsi arg16 v209
  let c0_i32_122 : BitVec 32 := 0#32
  let v212 : BitVec 1 := Scalar.cmpi .slt v210 c0_i32_122
  let c0_i32_123 : BitVec 32 := 0#32
  let v213 : BitVec 1 := Scalar.cmpi .slt v209 c0_i32_123
  let v214 : BitVec 1 := Scalar.xori v212 v213
  let c0_i32_121 : BitVec 32 := 0#32
  let v211 : BitVec 1 := Scalar.cmpi .ne v210 c0_i32_121
  let v215 : BitVec 1 := Scalar.andi v214 v211
  let v216 : BitVec 32 := Scalar.addi v210 v209
  let v217 : BitVec 32 := Scalar.select v215 v216 v210
  let v1252 : Index := Scalar.indexCast v217
  let c0_311 : Index := 0#32
  let c3840 : Index := 3840#32
  ![v1252.toNat, 0, 3840]
def k0_off40 (k0_t1 : Fin k0_t1_loop.trips) : Fin 3 → Nat :=
  let c0_i32_52 : BitVec 32 := 0#32
  let c1_i32_54 : BitVec 32 := 1#32
  let arg16 : BitVec 32 := Scf.iv c0_i32_52 c1_i32_54 k0_t1
  let c2_i32_313 : BitVec 32 := 2#32
  let c0_i32_314 : BitVec 32 := 0#32
  let v1303 : BitVec 1 := Scalar.cmpi .eq c2_i32_313 c0_i32_314
  let c1_i32_315 : BitVec 32 := 1#32
  let v1304 : BitVec 32 := Scalar.select v1303 c1_i32_315 c2_i32_313
  let v1305 : BitVec 32 := Scalar.remsi arg16 v1304
  let c0_i32_317 : BitVec 32 := 0#32
  let v1307 : BitVec 1 := Scalar.cmpi .slt v1305 c0_i32_317
  let c0_i32_318 : BitVec 32 := 0#32
  let v1308 : BitVec 1 := Scalar.cmpi .slt v1304 c0_i32_318
  let v1309 : BitVec 1 := Scalar.xori v1307 v1308
  let c0_i32_316 : BitVec 32 := 0#32
  let v1306 : BitVec 1 := Scalar.cmpi .ne v1305 c0_i32_316
  let v1310 : BitVec 1 := Scalar.andi v1309 v1306
  let v1311 : BitVec 32 := Scalar.addi v1305 v1304
  let v1312 : BitVec 32 := Scalar.select v1310 v1311 v1305
  let v1313 : Index := Scalar.indexCast v1312
  let c240 : Index := 240#32
  let c0_319 : Index := 0#32
  ![v1313.toNat, 240, 0]
def k0_off41 : Fin 3 → Nat :=
  let v_false : BitVec 1 := 0#1
  let c_m18_i32 : BitVec 32 := 4294967278#32
  let c110_i32 : BitVec 32 := 110#32
  let v147 : BitVec 32 := Scalar.select v_false c_m18_i32 c110_i32
  let v148 : Index := Scalar.indexCast v147
  let c0_69 : Index := 0#32
  let c0_70 : Index := 0#32
  ![v148.toNat, 0, 0]
def k0_off42 (false_82 : BitVec 1) (c_m18_i32_83 : BitVec 32) (c110_i32_84 : BitVec 32) : Fin 2 → Nat :=
  let v174 : BitVec 32 := Scalar.select false_82 c_m18_i32_83 c110_i32_84
  let c256_i32_85 : BitVec 32 := 256#32
  let v175 : BitVec 32 := Scalar.muli v174 c256_i32_85
  let c0_i32_88 : BitVec 32 := 0#32
  ![v175.toNat, 0]
def k0_off42_at (r : Fin 2) : BitVec 1 × BitVec 32 × BitVec 32 :=
  if r.val < 1 then
    (0#1, 4294967278#32, 110#32)
  else
    (1#1, 109#32, 237#32)
@[reducible] def k0_t2_loop : Scf.Loop 32 :=
  let c0_i32_91 : BitVec 32 := 0#32
  let c128_i32_92 : BitVec 32 := 128#32
  let v182 : BitVec 32 := Scalar.addi c0_i32_91 c128_i32_92
  let c1_i32_93 : BitVec 32 := 1#32
  ⟨c0_i32_91, v182, c1_i32_93⟩
def k0_cond2 (k0_t2 : Fin k0_t2_loop.trips) : BitVec 1 :=
  let c0_i32_91 : BitVec 32 := 0#32
  let c1_i32_93 : BitVec 32 := 1#32
  let arg16 : BitVec 32 := Scf.iv c0_i32_91 c1_i32_93 k0_t2
  let c18_i32_134 : BitVec 32 := 18#32
  let v231 : BitVec 1 := Scalar.cmpi .sge arg16 c18_i32_134
  let v232 : BitVec 32 := Scalar.extui v231
  let c0_i32_135 : BitVec 32 := 0#32
  let v233 : BitVec 1 := Scalar.cmpi .ne v232 c0_i32_135
  v233

def k0_off43 (k0_t2 : Fin k0_t2_loop.trips) : Fin 1 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  ![v215.toNat]
def k0_off44 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let c0_i32_909 : BitVec 32 := 0#32
  let c0_i32_910 : BitVec 32 := 0#32
  ![v215.toNat, 0, 0]
def k0_off45 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let c128_i32_130 : BitVec 32 := 128#32
  let v226 : BitVec 32 := Scalar.addi arg16 c128_i32_130
  let c18_i32_131 : BitVec 32 := 18#32
  let v227 : BitVec 32 := Scalar.subi v226 c18_i32_131
  let c128_i32_132 : BitVec 32 := 128#32
  let v228 : BitVec 1 := Scalar.cmpi .sge v227 c128_i32_132
  let c128_i32_133 : BitVec 32 := 128#32
  let v229 : BitVec 32 := Scalar.subi v227 c128_i32_133
  let v230 : BitVec 32 := Scalar.select v228 v229 v227
  let c256_i32_908 : BitVec 32 := 256#32
  let v2650 : BitVec 32 := Scalar.muli v230 c256_i32_908
  let c0_i32_911 : BitVec 32 := 0#32
  ![v2650.toNat, 0]
def k0_cond3 (k0_t2 : Fin k0_t2_loop.trips) : BitVec 1 :=
  let c0_i32_91 : BitVec 32 := 0#32
  let c1_i32_93 : BitVec 32 := 1#32
  let arg16 : BitVec 32 := Scf.iv c0_i32_91 c1_i32_93 k0_t2
  let c2_i32_136 : BitVec 32 := 2#32
  let v234 : BitVec 1 := Scalar.cmpi .sge arg16 c2_i32_136
  let v235 : BitVec 32 := Scalar.extui v234
  let c0_i32_137 : BitVec 32 := 0#32
  let v236 : BitVec 1 := Scalar.cmpi .ne v235 c0_i32_137
  v236

def k0_off46 (k0_t2 : Fin k0_t2_loop.trips) : Fin 1 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  ![v225.toNat]
def k0_off47 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let c2_i32_908 : BitVec 32 := 2#32
  let v2650 : BitVec 32 := Scalar.subi arg16 c2_i32_908
  let c128_i32_909 : BitVec 32 := 128#32
  let v2651 : BitVec 32 := Scalar.addi v2650 c128_i32_909
  let c18_i32_910 : BitVec 32 := 18#32
  let v2652 : BitVec 32 := Scalar.subi v2651 c18_i32_910
  let c128_i32_911 : BitVec 32 := 128#32
  let v2653 : BitVec 1 := Scalar.cmpi .sge v2652 c128_i32_911
  let c128_i32_912 : BitVec 32 := 128#32
  let v2654 : BitVec 32 := Scalar.subi v2652 c128_i32_912
  let v2655 : BitVec 32 := Scalar.select v2653 v2654 v2652
  let c256_i32_913 : BitVec 32 := 256#32
  let v2656 : BitVec 32 := Scalar.muli v2655 c256_i32_913
  let c0_i32_914 : BitVec 32 := 0#32
  ![v2656.toNat, 0]
def k0_off48 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let c0_i32_915 : BitVec 32 := 0#32
  let c0_i32_916 : BitVec 32 := 0#32
  ![v225.toNat, 0, 0]
def k0_cond4 (k0_t2 : Fin k0_t2_loop.trips) : BitVec 1 :=
  let c0_i32_91 : BitVec 32 := 0#32
  let c1_i32_93 : BitVec 32 := 1#32
  let arg16 : BitVec 32 := Scf.iv c0_i32_91 c1_i32_93 k0_t2
  let c1_i32_138 : BitVec 32 := 1#32
  let v237 : BitVec 1 := Scalar.cmpi .sge arg16 c1_i32_138
  let v238 : BitVec 32 := Scalar.extui v237
  let c0_i32_139 : BitVec 32 := 0#32
  let v239 : BitVec 1 := Scalar.cmpi .ne v238 c0_i32_139
  v239

def k0_off49 (k0_t2 : Fin k0_t2_loop.trips) : Fin 1 → Nat :=
  let c1_i32_913 : BitVec 32 := 1#32
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v2656 : BitVec 32 := Scalar.subi c1_i32_913 v225
  ![v2656.toNat]
def k0_off50 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let c1_i32_908 : BitVec 32 := 1#32
  let v2650 : BitVec 32 := Scalar.subi arg16 c1_i32_908
  let c128_i32_909 : BitVec 32 := 128#32
  let v2651 : BitVec 32 := Scalar.addi v2650 c128_i32_909
  let c18_i32_910 : BitVec 32 := 18#32
  let v2652 : BitVec 32 := Scalar.subi v2651 c18_i32_910
  let c128_i32_911 : BitVec 32 := 128#32
  let v2653 : BitVec 1 := Scalar.cmpi .sge v2652 c128_i32_911
  let c128_i32_912 : BitVec 32 := 128#32
  let v2654 : BitVec 32 := Scalar.subi v2652 c128_i32_912
  let v2655 : BitVec 32 := Scalar.select v2653 v2654 v2652
  let c256_i32_914 : BitVec 32 := 256#32
  let v2657 : BitVec 32 := Scalar.muli v2655 c256_i32_914
  let c0_i32_915 : BitVec 32 := 0#32
  ![v2657.toNat, 0]
def k0_off51 (k0_t2 : Fin k0_t2_loop.trips) : Fin 3 → Nat :=
  let c1_i32_913 : BitVec 32 := 1#32
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v2656 : BitVec 32 := Scalar.subi c1_i32_913 v225
  let c0_i32_916 : BitVec 32 := 0#32
  let c0_i32_917 : BitVec 32 := 0#32
  ![v2656.toNat, 0, 0]
def k0_off52 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c1_i32_140 : BitVec 32 := 1#32
  let v240 : BitVec 32 := Scalar.addi arg16 c1_i32_140
  let c127_i32 : BitVec 32 := 127#32
  let v241 : BitVec 32 := Scalar.minsi v240 c127_i32
  let c128_i32_143 : BitVec 32 := 128#32
  let v245 : BitVec 32 := Scalar.addi v241 c128_i32_143
  let c18_i32_144 : BitVec 32 := 18#32
  let v246 : BitVec 32 := Scalar.subi v245 c18_i32_144
  let c128_i32_145 : BitVec 32 := 128#32
  let v247 : BitVec 1 := Scalar.cmpi .sge v246 c128_i32_145
  let c128_i32_146 : BitVec 32 := 128#32
  let v248 : BitVec 32 := Scalar.subi v246 c128_i32_146
  let v249 : BitVec 32 := Scalar.select v247 v248 v246
  let v250 : Index := Scalar.indexCast v249
  let c0_147 : Index := 0#32
  let c0_148 : Index := 0#32
  ![v250.toNat, 0, 0]
def k0_off53 (k0_t2 : Fin k0_t2_loop.trips) : Fin 3 → Nat :=
  let c1_i32_141 : BitVec 32 := 1#32
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v242 : BitVec 32 := Scalar.subi c1_i32_141 v225
  let v261 : Index := Scalar.indexCast v242
  let c0_151 : Index := 0#32
  let c0_152 : Index := 0#32
  ![v261.toNat, 0, 0]
def k0_off54 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v278 : Index := Scalar.indexCast v225
  let c0_158 : Index := 0#32
  let c0_159 : Index := 0#32
  ![v278.toNat, 0, 0]
def k0_off55 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v281 : Index := Scalar.indexCast v215
  let c0_160 : Index := 0#32
  let c0_161 : Index := 0#32
  ![v281.toNat, 0, 0]
def k0_off56 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v424 : Index := Scalar.indexCast v225
  let c0_203 : Index := 0#32
  let c0_204 : Index := 0#32
  ![v424.toNat, 0, 0]
def k0_off57 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v428 : Index := Scalar.indexCast v215
  let c0_205 : Index := 0#32
  let c256 : Index := 256#32
  ![v428.toNat, 0, 256]
def k0_off58 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v571 : Index := Scalar.indexCast v225
  let c0_250 : Index := 0#32
  let c128 : Index := 128#32
  ![v571.toNat, 0, 128]
def k0_off59 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v575 : Index := Scalar.indexCast v215
  let c0_251 : Index := 0#32
  let c512 : Index := 512#32
  ![v575.toNat, 0, 512]
def k0_off60 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v718 : Index := Scalar.indexCast v225
  let c0_295 : Index := 0#32
  let c256_296 : Index := 256#32
  ![v718.toNat, 0, 256]
def k0_off61 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v722 : Index := Scalar.indexCast v215
  let c0_297 : Index := 0#32
  let c768 : Index := 768#32
  ![v722.toNat, 0, 768]
def k0_off62 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v865 : Index := Scalar.indexCast v225
  let c0_341 : Index := 0#32
  let c384 : Index := 384#32
  ![v865.toNat, 0, 384]
def k0_off63 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v869 : Index := Scalar.indexCast v215
  let c0_342 : Index := 0#32
  let c1024 : Index := 1024#32
  ![v869.toNat, 0, 1024]
def k0_off64 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v1012 : Index := Scalar.indexCast v225
  let c0_386 : Index := 0#32
  let c512_387 : Index := 512#32
  ![v1012.toNat, 0, 512]
def k0_off65 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v1016 : Index := Scalar.indexCast v215
  let c0_388 : Index := 0#32
  let c1280 : Index := 1280#32
  ![v1016.toNat, 0, 1280]
def k0_off66 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v1159 : Index := Scalar.indexCast v225
  let c0_432 : Index := 0#32
  let c640 : Index := 640#32
  ![v1159.toNat, 0, 640]
def k0_off67 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v1163 : Index := Scalar.indexCast v215
  let c0_433 : Index := 0#32
  let c1536 : Index := 1536#32
  ![v1163.toNat, 0, 1536]
def k0_off68 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v1306 : Index := Scalar.indexCast v225
  let c0_477 : Index := 0#32
  let c768_478 : Index := 768#32
  ![v1306.toNat, 0, 768]
def k0_off69 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v1310 : Index := Scalar.indexCast v215
  let c0_479 : Index := 0#32
  let c1792 : Index := 1792#32
  ![v1310.toNat, 0, 1792]
def k0_off70 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v1453 : Index := Scalar.indexCast v225
  let c0_523 : Index := 0#32
  let c896 : Index := 896#32
  ![v1453.toNat, 0, 896]
def k0_off71 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v1457 : Index := Scalar.indexCast v225
  let c0_524 : Index := 0#32
  let c128_525 : Index := 128#32
  ![v1457.toNat, 0, 128]
def k0_off72 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v1460 : Index := Scalar.indexCast v215
  let c0_526 : Index := 0#32
  let c2048 : Index := 2048#32
  ![v1460.toNat, 0, 2048]
def k0_off73 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v1603 : Index := Scalar.indexCast v225
  let c0_571 : Index := 0#32
  let c1024_572 : Index := 1024#32
  ![v1603.toNat, 0, 1024]
def k0_off74 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v1607 : Index := Scalar.indexCast v215
  let c0_573 : Index := 0#32
  let c2304 : Index := 2304#32
  ![v1607.toNat, 0, 2304]
def k0_off75 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v1750 : Index := Scalar.indexCast v225
  let c0_618 : Index := 0#32
  let c1152 : Index := 1152#32
  ![v1750.toNat, 0, 1152]
def k0_off76 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v1754 : Index := Scalar.indexCast v215
  let c0_619 : Index := 0#32
  let c2560 : Index := 2560#32
  ![v1754.toNat, 0, 2560]
def k0_off77 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v1897 : Index := Scalar.indexCast v225
  let c0_664 : Index := 0#32
  let c1280_665 : Index := 1280#32
  ![v1897.toNat, 0, 1280]
def k0_off78 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v1901 : Index := Scalar.indexCast v215
  let c0_666 : Index := 0#32
  let c2816 : Index := 2816#32
  ![v1901.toNat, 0, 2816]
def k0_off79 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v2044 : Index := Scalar.indexCast v225
  let c0_711 : Index := 0#32
  let c1408 : Index := 1408#32
  ![v2044.toNat, 0, 1408]
def k0_off80 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v2048 : Index := Scalar.indexCast v215
  let c0_712 : Index := 0#32
  let c3072 : Index := 3072#32
  ![v2048.toNat, 0, 3072]
def k0_off81 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v2191 : Index := Scalar.indexCast v225
  let c0_757 : Index := 0#32
  let c1536_758 : Index := 1536#32
  ![v2191.toNat, 0, 1536]
def k0_off82 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v2195 : Index := Scalar.indexCast v215
  let c0_759 : Index := 0#32
  let c3328 : Index := 3328#32
  ![v2195.toNat, 0, 3328]
def k0_off83 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v2338 : Index := Scalar.indexCast v225
  let c0_804 : Index := 0#32
  let c1664 : Index := 1664#32
  ![v2338.toNat, 0, 1664]
def k0_off84 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v2342 : Index := Scalar.indexCast v215
  let c0_805 : Index := 0#32
  let c3584 : Index := 3584#32
  ![v2342.toNat, 0, 3584]
def k0_off85 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v2485 : Index := Scalar.indexCast v225
  let c0_850 : Index := 0#32
  let c1792_851 : Index := 1792#32
  ![v2485.toNat, 0, 1792]
def k0_off86 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let v2489 : Index := Scalar.indexCast v215
  let c0_852 : Index := 0#32
  let c3840 : Index := 3840#32
  ![v2489.toNat, 0, 3840]
def k0_off87 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v2632 : Index := Scalar.indexCast v225
  let c0_897 : Index := 0#32
  let c1920 : Index := 1920#32
  ![v2632.toNat, 0, 1920]
def k0_off88 (k0_t2 : Fin k0_t2_loop.trips) : Fin 1 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  ![v225.toNat]
def k0_off89 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let c128_i32_130 : BitVec 32 := 128#32
  let v226 : BitVec 32 := Scalar.addi arg16 c128_i32_130
  let c18_i32_131 : BitVec 32 := 18#32
  let v227 : BitVec 32 := Scalar.subi v226 c18_i32_131
  let c128_i32_132 : BitVec 32 := 128#32
  let v228 : BitVec 1 := Scalar.cmpi .sge v227 c128_i32_132
  let c128_i32_133 : BitVec 32 := 128#32
  let v229 : BitVec 32 := Scalar.subi v227 c128_i32_133
  let v230 : BitVec 32 := Scalar.select v228 v229 v227
  let c256_i32_898 : BitVec 32 := 256#32
  let v2636 : BitVec 32 := Scalar.muli v230 c256_i32_898
  let c0_i32_899 : BitVec 32 := 0#32
  ![v2636.toNat, 0]
def k0_off90 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let c0_i32_900 : BitVec 32 := 0#32
  let c0_i32_901 : BitVec 32 := 0#32
  ![v225.toNat, 0, 0]
def k0_cond5 (k0_t2 : Fin k0_t2_loop.trips) : BitVec 1 :=
  let c0_i32_91 : BitVec 32 := 0#32
  let c1_i32_93 : BitVec 32 := 1#32
  let arg16 : BitVec 32 := Scf.iv c0_i32_91 c1_i32_93 k0_t2
  let c1_i32_902 : BitVec 32 := 1#32
  let v2642 : BitVec 32 := Scalar.addi arg16 c1_i32_902
  let c128_i32_903 : BitVec 32 := 128#32
  let v2643 : BitVec 1 := Scalar.cmpi .slt v2642 c128_i32_903
  let v2644 : BitVec 32 := Scalar.extui v2643
  let c0_i32_904 : BitVec 32 := 0#32
  let v2645 : BitVec 1 := Scalar.cmpi .ne v2644 c0_i32_904
  v2645

def k0_off91 (k0_t2 : Fin k0_t2_loop.trips) : Fin 1 → Nat :=
  let c1_i32_913 : BitVec 32 := 1#32
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v2656 : BitVec 32 := Scalar.subi c1_i32_913 v225
  ![v2656.toNat]
def k0_off92 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let c1_i32_908 : BitVec 32 := 1#32
  let v2650 : BitVec 32 := Scalar.addi arg16 c1_i32_908
  let c128_i32_909 : BitVec 32 := 128#32
  let v2651 : BitVec 32 := Scalar.addi v2650 c128_i32_909
  let c18_i32_910 : BitVec 32 := 18#32
  let v2652 : BitVec 32 := Scalar.subi v2651 c18_i32_910
  let c128_i32_911 : BitVec 32 := 128#32
  let v2653 : BitVec 1 := Scalar.cmpi .sge v2652 c128_i32_911
  let c128_i32_912 : BitVec 32 := 128#32
  let v2654 : BitVec 32 := Scalar.subi v2652 c128_i32_912
  let v2655 : BitVec 32 := Scalar.select v2653 v2654 v2652
  let c256_i32_914 : BitVec 32 := 256#32
  let v2657 : BitVec 32 := Scalar.muli v2655 c256_i32_914
  let c0_i32_915 : BitVec 32 := 0#32
  ![v2657.toNat, 0]
def k0_off93 (k0_t2 : Fin k0_t2_loop.trips) : Fin 3 → Nat :=
  let c1_i32_913 : BitVec 32 := 1#32
  let c0_i32_91 : BitVec 32 := 0#32
  let c1_i32_93 : BitVec 32 := 1#32
  let arg16 : BitVec 32 := Scf.iv c0_i32_91 c1_i32_93 k0_t2
  let c2_i32_124 : BitVec 32 := 2#32
  let c0_i32_125 : BitVec 32 := 0#32
  let v216 : BitVec 1 := Scalar.cmpi .eq c2_i32_124 c0_i32_125
  let c1_i32_126 : BitVec 32 := 1#32
  let v217 : BitVec 32 := Scalar.select v216 c1_i32_126 c2_i32_124
  let v218 : BitVec 32 := Scalar.remsi arg16 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let v2656 : BitVec 32 := Scalar.subi c1_i32_913 v225
  let c0_i32_916 : BitVec 32 := 0#32
  let c0_i32_917 : BitVec 32 := 0#32
  ![v2656.toNat, 0, 0]
def k0_cond6 (k0_t2 : Fin k0_t2_loop.trips) : BitVec 1 :=
  let c0_i32_91 : BitVec 32 := 0#32
  let c1_i32_93 : BitVec 32 := 1#32
  let arg16 : BitVec 32 := Scf.iv c0_i32_91 c1_i32_93 k0_t2
  let c18_i32_905 : BitVec 32 := 18#32
  let v2646 : BitVec 32 := Scalar.addi arg16 c18_i32_905
  let c128_i32_906 : BitVec 32 := 128#32
  let v2647 : BitVec 1 := Scalar.cmpi .slt v2646 c128_i32_906
  let v2648 : BitVec 32 := Scalar.extui v2647
  let c0_i32_907 : BitVec 32 := 0#32
  let v2649 : BitVec 1 := Scalar.cmpi .ne v2648 c0_i32_907
  v2649

def k0_off94 (k0_t2 : Fin k0_t2_loop.trips) : Fin 1 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  ![v215.toNat]
def k0_off95 (k0_t2 : Fin k0_t2_loop.trips) : Fin 3 → Nat :=
  let c0_i32_91 : BitVec 32 := 0#32
  let c1_i32_93 : BitVec 32 := 1#32
  let arg16 : BitVec 32 := Scf.iv c0_i32_91 c1_i32_93 k0_t2
  let c128_i32_117 : BitVec 32 := 128#32
  let v204 : BitVec 32 := Scalar.addi arg16 c128_i32_117
  let c18_i32 : BitVec 32 := 18#32
  let v205 : BitVec 32 := Scalar.subi v204 c18_i32
  let c18_i32_118 : BitVec 32 := 18#32
  let c0_i32_119 : BitVec 32 := 0#32
  let v206 : BitVec 1 := Scalar.cmpi .eq c18_i32_118 c0_i32_119
  let c1_i32_120 : BitVec 32 := 1#32
  let v207 : BitVec 32 := Scalar.select v206 c1_i32_120 c18_i32_118
  let v208 : BitVec 32 := Scalar.remsi v205 v207
  let c0_i32_122 : BitVec 32 := 0#32
  let v210 : BitVec 1 := Scalar.cmpi .slt v208 c0_i32_122
  let c0_i32_123 : BitVec 32 := 0#32
  let v211 : BitVec 1 := Scalar.cmpi .slt v207 c0_i32_123
  let v212 : BitVec 1 := Scalar.xori v210 v211
  let c0_i32_121 : BitVec 32 := 0#32
  let v209 : BitVec 1 := Scalar.cmpi .ne v208 c0_i32_121
  let v213 : BitVec 1 := Scalar.andi v212 v209
  let v214 : BitVec 32 := Scalar.addi v208 v207
  let v215 : BitVec 32 := Scalar.select v213 v214 v208
  let c0_i32_914 : BitVec 32 := 0#32
  let c0_i32_915 : BitVec 32 := 0#32
  ![v215.toNat, 0, 0]
def k0_off96 (k0_t2 : Fin k0_t2_loop.trips) : Fin 2 → Nat :=
  let c0_i32_91 : BitVec 32 := 0#32
  let c1_i32_93 : BitVec 32 := 1#32
  let arg16 : BitVec 32 := Scf.iv c0_i32_91 c1_i32_93 k0_t2
  let c18_i32_908 : BitVec 32 := 18#32
  let v2650 : BitVec 32 := Scalar.addi arg16 c18_i32_908
  let c128_i32_909 : BitVec 32 := 128#32
  let v2651 : BitVec 32 := Scalar.addi v2650 c128_i32_909
  let c18_i32_910 : BitVec 32 := 18#32
  let v2652 : BitVec 32 := Scalar.subi v2651 c18_i32_910
  let c128_i32_911 : BitVec 32 := 128#32
  let v2653 : BitVec 1 := Scalar.cmpi .sge v2652 c128_i32_911
  let c128_i32_912 : BitVec 32 := 128#32
  let v2654 : BitVec 32 := Scalar.subi v2652 c128_i32_912
  let v2655 : BitVec 32 := Scalar.select v2653 v2654 v2652
  let c256_i32_913 : BitVec 32 := 256#32
  let v2656 : BitVec 32 := Scalar.muli v2655 c256_i32_913
  let c0_i32_916 : BitVec 32 := 0#32
  ![v2656.toNat, 0]
def k0_off97 (c108_i32 : BitVec 32) (c236_i32 : BitVec 32) : Fin 2 → Nat :=
  let v_true : BitVec 1 := 1#1
  let v183 : BitVec 32 := Scalar.select v_true c108_i32 c236_i32
  let c256_i32_95 : BitVec 32 := 256#32
  let v184 : BitVec 32 := Scalar.muli v183 c256_i32_95
  let c0_i32_98 : BitVec 32 := 0#32
  ![v184.toNat, 0]
def k0_off97_at (r : Fin 2) : BitVec 32 × BitVec 32 :=
  if r.val < 1 then
    (108#32, 236#32)
  else
    (109#32, 237#32)
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "inv_2688" => some ((1 / 2688 : ℝ) : EReal)
  | _ => none
-- ==== ReferenceIdeal.lean ====
abbrev S16x2048x4096 : Shape := ⟨3, ![16, 2048, 4096]⟩
abbrev S_ : Shape := ⟨0, ![]⟩
abbrev S16x2048x256x16 : Shape := ⟨4, ![16, 2048, 256, 16]⟩
abbrev S16x2048x256 : Shape := ⟨3, ![16, 2048, 256]⟩
abbrev S16x2048x256x1 : Shape := ⟨4, ![16, 2048, 256, 1]⟩
abbrev S16x2048x2048x2 : Shape := ⟨4, ![16, 2048, 2048, 2]⟩
abbrev S16x2048x2048x1 : Shape := ⟨4, ![16, 2048, 2048, 1]⟩
abbrev S16x2048x2048 : Shape := ⟨3, ![16, 2048, 2048]⟩

abbrev nBuf : Space → Nat
  | .hbm => 156
  | .vmem => 3
  | .smem => 0
  | _ => 0

abbrev hbmTy0_0 (i : Nat) : BufTy := match i % 128 with
  | 0 => ⟨S16x2048x4096, .bf16⟩
  | 1 => ⟨S16x2048x4096, .f32⟩
  | 2 => ⟨S16x2048x4096, .f32⟩
  | 3 => ⟨S_, .f32⟩
  | 4 => ⟨S_, .f32⟩
  | 5 => ⟨S_, .f32⟩
  | 6 => ⟨S_, .i1⟩
  | 7 => ⟨S_, .f32⟩
  | 8 => ⟨S_, .f32⟩
  | 9 => ⟨S_, .f32⟩
  | 10 => ⟨S_, .f32⟩
  | 11 => ⟨S16x2048x256x16, .f32⟩
  | 12 => ⟨S16x2048x256x16, .f32⟩
  | 13 => ⟨S_, .f32⟩
  | 14 => ⟨S16x2048x256, .f32⟩
  | 15 => ⟨S_, .f32⟩
  | 16 => ⟨S_, .f32⟩
  | 17 => ⟨S16x2048x256, .f32⟩
  | 18 => ⟨S16x2048x256, .f32⟩
  | 19 => ⟨S_, .f32⟩
  | 20 => ⟨S_, .f32⟩
  | 21 => ⟨S_, .f32⟩
  | 22 => ⟨S16x2048x256, .f32⟩
  | 23 => ⟨S16x2048x256, .f32⟩
  | 24 => ⟨S_, .f32⟩
  | 25 => ⟨S16x2048x256, .f32⟩
  | 26 => ⟨S16x2048x256, .f32⟩
  | 27 => ⟨S16x2048x256, .fp8e4m3⟩
  | 28 => ⟨S16x2048x256, .f32⟩
  | 29 => ⟨S16x2048x256, .f32⟩
  | 30 => ⟨S16x2048x256, .f32⟩
  | 31 => ⟨S_, .f32⟩
  | 32 => ⟨S16x2048x256, .f32⟩
  | 33 => ⟨S16x2048x256, .i1⟩
  | 34 => ⟨S_, .f32⟩
  | 35 => ⟨S16x2048x256, .f32⟩
  | 36 => ⟨S16x2048x256, .f32⟩
  | 37 => ⟨S16x2048x256x1, .f32⟩
  | 38 => ⟨S16x2048x256x16, .f32⟩
  | 39 => ⟨S16x2048x256x16, .f32⟩
  | 40 => ⟨S_, .f32⟩
  | 41 => ⟨S_, .f32⟩
  | 42 => ⟨S_, .f32⟩
  | 43 => ⟨S16x2048x256x16, .f32⟩
  | 44 => ⟨S16x2048x256x16, .f32⟩
  | 45 => ⟨S_, .f32⟩
  | 46 => ⟨S16x2048x256x16, .f32⟩
  | 47 => ⟨S16x2048x256x16, .f32⟩
  | 48 => ⟨S16x2048x256x16, .f32⟩
  | 49 => ⟨S_, .f32⟩
  | 50 => ⟨S16x2048x256x16, .f32⟩
  | 51 => ⟨S16x2048x256x16, .i1⟩
  | 52 => ⟨S_, .f32⟩
  | 53 => ⟨S16x2048x256x16, .f32⟩
  | 54 => ⟨S16x2048x256x16, .i1⟩
  | 55 => ⟨S_, .f32⟩
  | 56 => ⟨S16x2048x256x16, .f32⟩
  | 57 => ⟨S16x2048x256x16, .i1⟩
  | 58 => ⟨S_, .f32⟩
  | 59 => ⟨S16x2048x256x16, .f32⟩
  | 60 => ⟨S16x2048x256x16, .i1⟩
  | 61 => ⟨S_, .f32⟩
  | 62 => ⟨S16x2048x256x16, .f32⟩
  | 63 => ⟨S16x2048x256x16, .i1⟩
  | 64 => ⟨S_, .f32⟩
  | 65 => ⟨S16x2048x256x16, .f32⟩
  | 66 => ⟨S16x2048x256x16, .i1⟩
  | 67 => ⟨S_, .f32⟩
  | 68 => ⟨S16x2048x256x16, .f32⟩
  | 69 => ⟨S16x2048x256x16, .i1⟩
  | 70 => ⟨S_, .f32⟩
  | 71 => ⟨S_, .f32⟩
  | 72 => ⟨S16x2048x256x16, .f32⟩
  | 73 => ⟨S16x2048x256x16, .f32⟩
  | 74 => ⟨S16x2048x256x16, .f32⟩
  | 75 => ⟨S_, .f32⟩
  | 76 => ⟨S16x2048x256x16, .f32⟩
  | 77 => ⟨S16x2048x256x16, .f32⟩
  | 78 => ⟨S_, .f32⟩
  | 79 => ⟨S16x2048x256x16, .f32⟩
  | 80 => ⟨S16x2048x256x16, .f32⟩
  | 81 => ⟨S_, .f32⟩
  | 82 => ⟨S16x2048x256x16, .f32⟩
  | 83 => ⟨S16x2048x256x16, .f32⟩
  | 84 => ⟨S_, .f32⟩
  | 85 => ⟨S16x2048x256x16, .f32⟩
  | 86 => ⟨S16x2048x256x16, .f32⟩
  | 87 => ⟨S_, .f32⟩
  | 88 => ⟨S16x2048x256x16, .f32⟩
  | 89 => ⟨S16x2048x256x16, .f32⟩
  | 90 => ⟨S_, .f32⟩
  | 91 => ⟨S16x2048x256x16, .f32⟩
  | 92 => ⟨S16x2048x256x16, .f32⟩
  | 93 => ⟨S_, .f32⟩
  | 94 => ⟨S16x2048x256x16, .f32⟩
  | 95 => ⟨S16x2048x256x16, .i1⟩
  | 96 => ⟨S16x2048x256x16, .f32⟩
  | 97 => ⟨S16x2048x256x16, .f32⟩
  | 98 => ⟨S16x2048x256x16, .f32⟩
  | 99 => ⟨S_, .f32⟩
  | 100 => ⟨S16x2048x256x16, .f32⟩
  | 101 => ⟨S16x2048x256x16, .i1⟩
  | 102 => ⟨S16x2048x256x16, .i32⟩
  | 103 => ⟨S_, .i32⟩
  | 104 => ⟨S16x2048x256x16, .i32⟩
  | 105 => ⟨S16x2048x256x16, .i32⟩
  | 106 => ⟨S_, .f32⟩
  | 107 => ⟨S16x2048x256x16, .f32⟩
  | 108 => ⟨S16x2048x256x16, .i1⟩
  | 109 => ⟨S16x2048x256x16, .i32⟩
  | 110 => ⟨S16x2048x256x16, .i32⟩
  | 111 => ⟨S_, .f32⟩
  | 112 => ⟨S16x2048x256x16, .f32⟩
  | 113 => ⟨S16x2048x256x16, .i1⟩
  | 114 => ⟨S16x2048x256x16, .i32⟩
  | 115 => ⟨S16x2048x256x16, .i32⟩
  | 116 => ⟨S_, .f32⟩
  | 117 => ⟨S16x2048x256x16, .f32⟩
  | 118 => ⟨S16x2048x256x16, .i1⟩
  | 119 => ⟨S16x2048x256x16, .i32⟩
  | 120 => ⟨S16x2048x256x16, .i32⟩
  | 121 => ⟨S_, .f32⟩
  | 122 => ⟨S16x2048x256x16, .f32⟩
  | 123 => ⟨S16x2048x256x16, .i1⟩
  | 124 => ⟨S16x2048x256x16, .i32⟩
  | 125 => ⟨S16x2048x256x16, .i32⟩
  | 126 => ⟨S_, .f32⟩
  | 127 => ⟨S16x2048x256x16, .f32⟩
  | _ => ⟨S16x2048x4096, .bf16⟩

abbrev hbmTy0_1 (i : Nat) : BufTy := match i % 128 with
  | 0 => ⟨S16x2048x256x16, .i1⟩
  | 1 => ⟨S16x2048x256x16, .i32⟩
  | 2 => ⟨S16x2048x256x16, .i32⟩
  | 3 => ⟨S_, .f32⟩
  | 4 => ⟨S16x2048x256x16, .f32⟩
  | 5 => ⟨S16x2048x256x16, .i1⟩
  | 6 => ⟨S16x2048x256x16, .i32⟩
  | 7 => ⟨S16x2048x256x16, .i32⟩
  | 8 => ⟨S_, .f32⟩
  | 9 => ⟨S16x2048x256x16, .f32⟩
  | 10 => ⟨S16x2048x256x16, .i1⟩
  | 11 => ⟨S_, .i32⟩
  | 12 => ⟨S_, .i32⟩
  | 13 => ⟨S16x2048x256x16, .i32⟩
  | 14 => ⟨S16x2048x256x16, .i32⟩
  | 15 => ⟨S16x2048x256x16, .i32⟩
  | 16 => ⟨S16x2048x256x16, .i32⟩
  | 17 => ⟨S16x2048x256x16, .i32⟩
  | 18 => ⟨S16x2048x2048x2, .i32⟩
  | 19 => ⟨S16x2048x2048x1, .i32⟩
  | 20 => ⟨S16x2048x2048, .i32⟩
  | 21 => ⟨S16x2048x2048x1, .i32⟩
  | 22 => ⟨S16x2048x2048, .i32⟩
  | 23 => ⟨S_, .i32⟩
  | 24 => ⟨S16x2048x2048, .i32⟩
  | 25 => ⟨S16x2048x2048, .i32⟩
  | 26 => ⟨S16x2048x2048, .i32⟩
  | 27 => ⟨S16x2048x2048, .i8⟩
  | _ => ⟨S16x2048x4096, .bf16⟩

abbrev hbmTy (i : Nat) : BufTy := match i / 128 with
  | 0 => hbmTy0_0 i
  | 1 => hbmTy0_1 i
  | _ => ⟨S16x2048x4096, .bf16⟩

abbrev bufTy : (tb : Table) → Fin (tcTables nBuf tb) → BufTy
  | .hbm, ⟨i, _⟩ => hbmTy i
  | .local _ .vmem, ⟨0, _⟩ => ⟨S16x2048x256, .f32⟩
  | .local _ .vmem, ⟨1, _⟩ => ⟨S16x2048x256, .fp8e4m3⟩
  | .local _ .vmem, ⟨2, _⟩ => ⟨S16x2048x256, .f32⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_cst_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_5 : Ref sig .tc := ⟨.hbm, 19, rfl⟩
abbrev main_cst_6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_call2_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_9 : Ref sig .tc := ⟨.hbm, 40, rfl⟩
abbrev main_cst_10 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v22 : Ref sig .tc := ⟨.hbm, 47, rfl⟩
abbrev main_v23 : Ref sig .tc := ⟨.hbm, 48, rfl⟩
abbrev main_cst_11 : Ref sig .tc := ⟨.hbm, 49, rfl⟩
abbrev main_v24 : Ref sig .tc := ⟨.hbm, 50, rfl⟩
abbrev main_v25 : Ref sig .tc := ⟨.hbm, 51, rfl⟩
abbrev main_cst_12 : Ref sig .tc := ⟨.hbm, 52, rfl⟩
abbrev main_v26 : Ref sig .tc := ⟨.hbm, 53, rfl⟩
abbrev main_v27 : Ref sig .tc := ⟨.hbm, 54, rfl⟩
abbrev main_cst_13 : Ref sig .tc := ⟨.hbm, 55, rfl⟩
abbrev main_v28 : Ref sig .tc := ⟨.hbm, 56, rfl⟩
abbrev main_v29 : Ref sig .tc := ⟨.hbm, 57, rfl⟩
abbrev main_cst_14 : Ref sig .tc := ⟨.hbm, 58, rfl⟩
abbrev main_v30 : Ref sig .tc := ⟨.hbm, 59, rfl⟩
abbrev main_v31 : Ref sig .tc := ⟨.hbm, 60, rfl⟩
abbrev main_cst_15 : Ref sig .tc := ⟨.hbm, 61, rfl⟩
abbrev main_v32 : Ref sig .tc := ⟨.hbm, 62, rfl⟩
abbrev main_v33 : Ref sig .tc := ⟨.hbm, 63, rfl⟩
abbrev main_cst_16 : Ref sig .tc := ⟨.hbm, 64, rfl⟩
abbrev main_v34 : Ref sig .tc := ⟨.hbm, 65, rfl⟩
abbrev main_v35 : Ref sig .tc := ⟨.hbm, 66, rfl⟩
abbrev main_cst_17 : Ref sig .tc := ⟨.hbm, 67, rfl⟩
abbrev main_v36 : Ref sig .tc := ⟨.hbm, 68, rfl⟩
abbrev main_v37 : Ref sig .tc := ⟨.hbm, 69, rfl⟩
abbrev main_cst_18 : Ref sig .tc := ⟨.hbm, 70, rfl⟩
abbrev main_cst_19 : Ref sig .tc := ⟨.hbm, 71, rfl⟩
abbrev main_call4_v0 : Ref sig .tc := ⟨.hbm, 72, rfl⟩
abbrev main_call4_v1 : Ref sig .tc := ⟨.hbm, 73, rfl⟩
abbrev main_v38 : Ref sig .tc := ⟨.hbm, 74, rfl⟩
abbrev main_cst_20 : Ref sig .tc := ⟨.hbm, 75, rfl⟩
abbrev main_call5_v0 : Ref sig .tc := ⟨.hbm, 76, rfl⟩
abbrev main_v39 : Ref sig .tc := ⟨.hbm, 77, rfl⟩
abbrev main_cst_21 : Ref sig .tc := ⟨.hbm, 78, rfl⟩
abbrev main_call6_v0 : Ref sig .tc := ⟨.hbm, 79, rfl⟩
abbrev main_v40 : Ref sig .tc := ⟨.hbm, 80, rfl⟩
abbrev main_cst_22 : Ref sig .tc := ⟨.hbm, 81, rfl⟩
abbrev main_call7_v0 : Ref sig .tc := ⟨.hbm, 82, rfl⟩
abbrev main_v41 : Ref sig .tc := ⟨.hbm, 83, rfl⟩
abbrev main_cst_23 : Ref sig .tc := ⟨.hbm, 84, rfl⟩
abbrev main_call8_v0 : Ref sig .tc := ⟨.hbm, 85, rfl⟩
abbrev main_v42 : Ref sig .tc := ⟨.hbm, 86, rfl⟩
abbrev main_cst_24 : Ref sig .tc := ⟨.hbm, 87, rfl⟩
abbrev main_call9_v0 : Ref sig .tc := ⟨.hbm, 88, rfl⟩
abbrev main_v43 : Ref sig .tc := ⟨.hbm, 89, rfl⟩
abbrev main_cst_25 : Ref sig .tc := ⟨.hbm, 90, rfl⟩
abbrev main_call10_v0 : Ref sig .tc := ⟨.hbm, 91, rfl⟩
abbrev main_v44 : Ref sig .tc := ⟨.hbm, 92, rfl⟩
abbrev main_cst_26 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_27 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_c : Ref sig .tc := ⟨.hbm, 103, rfl⟩
abbrev main_v53 : Ref sig .tc := ⟨.hbm, 104, rfl⟩
abbrev main_v54 : Ref sig .tc := ⟨.hbm, 105, rfl⟩
abbrev main_cst_28 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_29 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_30 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_31 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_32 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_33 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_34 : Ref sig .tc := ⟨.hbm, 136, rfl⟩
abbrev main_v79 : Ref sig .tc := ⟨.hbm, 137, rfl⟩
abbrev main_v80 : Ref sig .tc := ⟨.hbm, 138, rfl⟩
abbrev main_c_35 : Ref sig .tc := ⟨.hbm, 139, rfl⟩
abbrev main_c_36 : Ref sig .tc := ⟨.hbm, 140, rfl⟩
abbrev main_call12_v0 : Ref sig .tc := ⟨.hbm, 141, rfl⟩
abbrev main_call12_v1 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_c_37 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Offsets.lean ====
/-
  The offsets of the quantiser's two loops in closed form. Every printed offset is a function of the trip alone, and each
  loop runs 128 trips, so each equation is decided trip by trip. Pass 1 reads tile `k` in slot `k % 18` and starts
  tile `k + 4`; pass 2 visits tile `tp k = (k + 110) % 128` in slot `(k + 110) % 18`.
-/
module

public import proofs.«01_k».proof.Proof.Gen.Kernel.Skeleton
public import Idealize.ShloMosaic.Lib.Affine
public import Idealize.ShloMosaic.Lib.Ring
public import Idealize.ShloMosaic.Lib.Tactic
public import Idealize.ShloMosaic.Lib.Exec

@[expose] public section

set_option maxRecDepth 16384

namespace Cert.Proof.K

open Cert.Kernel Cert.Kernel.Gen Idealize.ShloMosaic Idealize.ShloMosaic.Tactic

/-- The tile that pass 2 quantises at trip `p`. -/
abbrev tp (p : ℕ) : ℕ := (p + 110) % 128

/-- The slot of the 18-slot ring that `p` falls in. -/
def s18 (p : ℕ) : Fin 18 := ⟨p % 18, Nat.mod_lt _ (by decide)⟩
/-- The slot of a two-slot ring that `p` falls in. -/
def s2 (p : ℕ) : Fin 2 := ⟨p % 2, Nat.mod_lt _ (by decide)⟩
/-- Tile `p`, counted modulo the 128 tiles. -/
def tl (p : ℕ) : Fin 128 := ⟨p % 128, Nat.mod_lt _ (by decide)⟩

theorem trips1 : k0_t1_loop.trips = 128 := by decide +kernel
theorem trips2 : k0_t2_loop.trips = 128 := by decide +kernel

/-! ## The guards -/

theorem cond1_iff : ∀ k : Fin k0_t1_loop.trips, k0_cond1 k = 1#1 ↔ k.val + 4 < 128 := by decide +kernel
theorem cond2_iff : ∀ k : Fin k0_t2_loop.trips, k0_cond2 k = 1#1 ↔ 18 ≤ k.val := by decide +kernel
theorem cond3_iff : ∀ k : Fin k0_t2_loop.trips, k0_cond3 k = 1#1 ↔ 2 ≤ k.val := by decide +kernel
theorem cond4_iff : ∀ k : Fin k0_t2_loop.trips, k0_cond4 k = 1#1 ↔ 1 ≤ k.val := by decide +kernel
theorem cond5_iff : ∀ k : Fin k0_t2_loop.trips, k0_cond5 k = 1#1 ↔ k.val + 1 < 128 := by decide +kernel
theorem cond6_iff : ∀ k : Fin k0_t2_loop.trips, k0_cond6 k = 1#1 ↔ k.val + 18 < 128 := by decide +kernel

/-! ## The closed forms -/

theorem off1_eq : ∀ k : Fin k0_t1_loop.trips, k0_off1 k = ![(k.val + 4) % 18] := by decide +kernel
theorem off2_eq : ∀ k : Fin k0_t1_loop.trips, k0_off2 k = ![(k.val + 4) % 18, 0, 0] := by decide +kernel
theorem off3_eq : ∀ k : Fin k0_t1_loop.trips, k0_off3 k = ![256 * (k.val + 4), 0] := by decide +kernel
theorem off4_eq : ∀ k : Fin k0_t1_loop.trips, k0_off4 k = ![k.val % 18] := by decide +kernel
theorem off5_eq : ∀ k : Fin k0_t1_loop.trips, k0_off5 k = ![k.val % 18, 0, 0] := by decide +kernel
theorem off6_eq : ∀ k : Fin k0_t1_loop.trips, k0_off6 k = ![256 * k.val, 0] := by decide +kernel
theorem off7_eq : ∀ k : Fin k0_t1_loop.trips, k0_off7 k = ![(k.val - 1) % 2, 0, 0] := by decide +kernel
theorem off8_eq : ∀ k : Fin k0_t1_loop.trips, k0_off8 k = ![k.val - 1, 0, 0] := by decide +kernel
theorem off9_eq : ∀ k : Fin k0_t1_loop.trips, k0_off9 k = ![k.val % 18, 0, 0] := by decide +kernel
theorem off10_eq : ∀ k : Fin k0_t1_loop.trips, k0_off10 k = ![k.val % 2, 0, 0] := by decide +kernel
theorem off11_eq : ∀ k : Fin k0_t1_loop.trips, k0_off11 k = ![k.val % 18, 0, 256] := by decide +kernel
theorem off12_eq : ∀ k : Fin k0_t1_loop.trips, k0_off12 k = ![k.val % 2, 16, 0] := by decide +kernel
theorem off13_eq : ∀ k : Fin k0_t1_loop.trips, k0_off13 k = ![k.val % 18, 0, 512] := by decide +kernel
theorem off14_eq : ∀ k : Fin k0_t1_loop.trips, k0_off14 k = ![k.val % 2, 32, 0] := by decide +kernel
theorem off15_eq : ∀ k : Fin k0_t1_loop.trips, k0_off15 k = ![k.val % 18, 0, 768] := by decide +kernel
theorem off16_eq : ∀ k : Fin k0_t1_loop.trips, k0_off16 k = ![k.val % 2, 48, 0] := by decide +kernel
theorem off17_eq : ∀ k : Fin k0_t1_loop.trips, k0_off17 k = ![k.val % 18, 0, 1024] := by decide +kernel
theorem off18_eq : ∀ k : Fin k0_t1_loop.trips, k0_off18 k = ![k.val % 2, 64, 0] := by decide +kernel
theorem off19_eq : ∀ k : Fin k0_t1_loop.trips, k0_off19 k = ![k.val % 18, 0, 1280] := by decide +kernel
theorem off20_eq : ∀ k : Fin k0_t1_loop.trips, k0_off20 k = ![k.val % 2, 80, 0] := by decide +kernel
theorem off21_eq : ∀ k : Fin k0_t1_loop.trips, k0_off21 k = ![k.val % 18, 0, 1536] := by decide +kernel
theorem off22_eq : ∀ k : Fin k0_t1_loop.trips, k0_off22 k = ![k.val % 2, 96, 0] := by decide +kernel
theorem off23_eq : ∀ k : Fin k0_t1_loop.trips, k0_off23 k = ![k.val % 18, 0, 1792] := by decide +kernel
theorem off24_eq : ∀ k : Fin k0_t1_loop.trips, k0_off24 k = ![k.val % 2, 112, 0] := by decide +kernel
theorem off25_eq : ∀ k : Fin k0_t1_loop.trips, k0_off25 k = ![k.val % 18, 0, 2048] := by decide +kernel
theorem off26_eq : ∀ k : Fin k0_t1_loop.trips, k0_off26 k = ![k.val % 2, 128, 0] := by decide +kernel
theorem off27_eq : ∀ k : Fin k0_t1_loop.trips, k0_off27 k = ![k.val % 18, 0, 2304] := by decide +kernel
theorem off28_eq : ∀ k : Fin k0_t1_loop.trips, k0_off28 k = ![k.val % 2, 144, 0] := by decide +kernel
theorem off29_eq : ∀ k : Fin k0_t1_loop.trips, k0_off29 k = ![k.val % 18, 0, 2560] := by decide +kernel
theorem off30_eq : ∀ k : Fin k0_t1_loop.trips, k0_off30 k = ![k.val % 2, 160, 0] := by decide +kernel
theorem off31_eq : ∀ k : Fin k0_t1_loop.trips, k0_off31 k = ![k.val % 18, 0, 2816] := by decide +kernel
theorem off32_eq : ∀ k : Fin k0_t1_loop.trips, k0_off32 k = ![k.val % 2, 176, 0] := by decide +kernel
theorem off33_eq : ∀ k : Fin k0_t1_loop.trips, k0_off33 k = ![k.val % 18, 0, 3072] := by decide +kernel
theorem off34_eq : ∀ k : Fin k0_t1_loop.trips, k0_off34 k = ![k.val % 2, 192, 0] := by decide +kernel
theorem off35_eq : ∀ k : Fin k0_t1_loop.trips, k0_off35 k = ![k.val % 18, 0, 3328] := by decide +kernel
theorem off36_eq : ∀ k : Fin k0_t1_loop.trips, k0_off36 k = ![k.val % 2, 208, 0] := by decide +kernel
theorem off37_eq : ∀ k : Fin k0_t1_loop.trips, k0_off37 k = ![k.val % 18, 0, 3584] := by decide +kernel
theorem off38_eq : ∀ k : Fin k0_t1_loop.trips, k0_off38 k = ![k.val % 2, 224, 0] := by decide +kernel
theorem off39_eq : ∀ k : Fin k0_t1_loop.trips, k0_off39 k = ![k.val % 18, 0, 3840] := by decide +kernel
theorem off40_eq : ∀ k : Fin k0_t1_loop.trips, k0_off40 k = ![k.val % 2, 240, 0] := by decide +kernel
theorem off43_eq : ∀ k : Fin k0_t2_loop.trips, k0_off43 k = ![(k.val + 110) % 18] := by decide +kernel
theorem off44_eq : ∀ k : Fin k0_t2_loop.trips, k0_off44 k = ![(k.val + 110) % 18, 0, 0] := by decide +kernel
theorem off45_eq : ∀ k : Fin k0_t2_loop.trips, k0_off45 k = ![256 * tp k.val, 0] := by decide +kernel
theorem off46_eq : ∀ k : Fin k0_t2_loop.trips, k0_off46 k = ![k.val % 2] := by decide +kernel
theorem off47_eq : ∀ k : Fin k0_t2_loop.trips, 2 ≤ k.val → k0_off47 k = ![256 * tp (k.val - 2), 0] := by decide +kernel
theorem off48_eq : ∀ k : Fin k0_t2_loop.trips, k0_off48 k = ![k.val % 2, 0, 0] := by decide +kernel
theorem off49_eq : ∀ k : Fin k0_t2_loop.trips, k0_off49 k = ![(k.val + 1) % 2] := by decide +kernel
theorem off50_eq : ∀ k : Fin k0_t2_loop.trips, 1 ≤ k.val → k0_off50 k = ![256 * tp (k.val - 1), 0] := by decide +kernel
theorem off51_eq : ∀ k : Fin k0_t2_loop.trips, k0_off51 k = ![(k.val + 1) % 2, 0, 0] := by decide +kernel
theorem off52_eq : ∀ k : Fin k0_t2_loop.trips, k0_off52 k = ![tp (min (k.val + 1) 127), 0, 0] := by decide +kernel
theorem off53_eq : ∀ k : Fin k0_t2_loop.trips, k0_off53 k = ![(k.val + 1) % 2, 0, 0] := by decide +kernel
theorem off54_eq : ∀ k : Fin k0_t2_loop.trips, k0_off54 k = ![k.val % 2, 0, 0] := by decide +kernel
theorem off55_eq : ∀ k : Fin k0_t2_loop.trips, k0_off55 k = ![(k.val + 110) % 18, 0, 0] := by decide +kernel
theorem off56_eq : ∀ k : Fin k0_t2_loop.trips, k0_off56 k = ![k.val % 2, 0, 0] := by decide +kernel
theorem off57_eq : ∀ k : Fin k0_t2_loop.trips, k0_off57 k = ![(k.val + 110) % 18, 0, 256] := by decide +kernel
theorem off58_eq : ∀ k : Fin k0_t2_loop.trips, k0_off58 k = ![k.val % 2, 0, 128] := by decide +kernel
theorem off59_eq : ∀ k : Fin k0_t2_loop.trips, k0_off59 k = ![(k.val + 110) % 18, 0, 512] := by decide +kernel
theorem off60_eq : ∀ k : Fin k0_t2_loop.trips, k0_off60 k = ![k.val % 2, 0, 256] := by decide +kernel
theorem off61_eq : ∀ k : Fin k0_t2_loop.trips, k0_off61 k = ![(k.val + 110) % 18, 0, 768] := by decide +kernel
theorem off62_eq : ∀ k : Fin k0_t2_loop.trips, k0_off62 k = ![k.val % 2, 0, 384] := by decide +kernel
theorem off63_eq : ∀ k : Fin k0_t2_loop.trips, k0_off63 k = ![(k.val + 110) % 18, 0, 1024] := by decide +kernel
theorem off64_eq : ∀ k : Fin k0_t2_loop.trips, k0_off64 k = ![k.val % 2, 0, 512] := by decide +kernel
theorem off65_eq : ∀ k : Fin k0_t2_loop.trips, k0_off65 k = ![(k.val + 110) % 18, 0, 1280] := by decide +kernel
theorem off66_eq : ∀ k : Fin k0_t2_loop.trips, k0_off66 k = ![k.val % 2, 0, 640] := by decide +kernel
theorem off67_eq : ∀ k : Fin k0_t2_loop.trips, k0_off67 k = ![(k.val + 110) % 18, 0, 1536] := by decide +kernel
theorem off68_eq : ∀ k : Fin k0_t2_loop.trips, k0_off68 k = ![k.val % 2, 0, 768] := by decide +kernel
theorem off69_eq : ∀ k : Fin k0_t2_loop.trips, k0_off69 k = ![(k.val + 110) % 18, 0, 1792] := by decide +kernel
theorem off70_eq : ∀ k : Fin k0_t2_loop.trips, k0_off70 k = ![k.val % 2, 0, 896] := by decide +kernel
theorem off71_eq : ∀ k : Fin k0_t2_loop.trips, k0_off71 k = ![k.val % 2, 0, 128] := by decide +kernel
theorem off72_eq : ∀ k : Fin k0_t2_loop.trips, k0_off72 k = ![(k.val + 110) % 18, 0, 2048] := by decide +kernel
theorem off73_eq : ∀ k : Fin k0_t2_loop.trips, k0_off73 k = ![k.val % 2, 0, 1024] := by decide +kernel
theorem off74_eq : ∀ k : Fin k0_t2_loop.trips, k0_off74 k = ![(k.val + 110) % 18, 0, 2304] := by decide +kernel
theorem off75_eq : ∀ k : Fin k0_t2_loop.trips, k0_off75 k = ![k.val % 2, 0, 1152] := by decide +kernel
theorem off76_eq : ∀ k : Fin k0_t2_loop.trips, k0_off76 k = ![(k.val + 110) % 18, 0, 2560] := by decide +kernel
theorem off77_eq : ∀ k : Fin k0_t2_loop.trips, k0_off77 k = ![k.val % 2, 0, 1280] := by decide +kernel
theorem off78_eq : ∀ k : Fin k0_t2_loop.trips, k0_off78 k = ![(k.val + 110) % 18, 0, 2816] := by decide +kernel
theorem off79_eq : ∀ k : Fin k0_t2_loop.trips, k0_off79 k = ![k.val % 2, 0, 1408] := by decide +kernel
theorem off80_eq : ∀ k : Fin k0_t2_loop.trips, k0_off80 k = ![(k.val + 110) % 18, 0, 3072] := by decide +kernel
theorem off81_eq : ∀ k : Fin k0_t2_loop.trips, k0_off81 k = ![k.val % 2, 0, 1536] := by decide +kernel
theorem off82_eq : ∀ k : Fin k0_t2_loop.trips, k0_off82 k = ![(k.val + 110) % 18, 0, 3328] := by decide +kernel
theorem off83_eq : ∀ k : Fin k0_t2_loop.trips, k0_off83 k = ![k.val % 2, 0, 1664] := by decide +kernel
theorem off84_eq : ∀ k : Fin k0_t2_loop.trips, k0_off84 k = ![(k.val + 110) % 18, 0, 3584] := by decide +kernel
theorem off85_eq : ∀ k : Fin k0_t2_loop.trips, k0_off85 k = ![k.val % 2, 0, 1792] := by decide +kernel
theorem off86_eq : ∀ k : Fin k0_t2_loop.trips, k0_off86 k = ![(k.val + 110) % 18, 0, 3840] := by decide +kernel
theorem off87_eq : ∀ k : Fin k0_t2_loop.trips, k0_off87 k = ![k.val % 2, 0, 1920] := by decide +kernel
theorem off88_eq : ∀ k : Fin k0_t2_loop.trips, k0_off88 k = ![k.val % 2] := by decide +kernel
theorem off89_eq : ∀ k : Fin k0_t2_loop.trips, k0_off89 k = ![256 * tp k.val, 0] := by decide +kernel
theorem off90_eq : ∀ k : Fin k0_t2_loop.trips, k0_off90 k = ![k.val % 2, 0, 0] := by decide +kernel
theorem off91_eq : ∀ k : Fin k0_t2_loop.trips, k0_off91 k = ![(k.val + 1) % 2] := by decide +kernel
theorem off92_eq : ∀ k : Fin k0_t2_loop.trips, k.val + 1 < 128 → k0_off92 k = ![256 * tp (k.val + 1), 0] := by decide +kernel
theorem off93_eq : ∀ k : Fin k0_t2_loop.trips, k0_off93 k = ![(k.val + 1) % 2, 0, 0] := by decide +kernel
theorem off94_eq : ∀ k : Fin k0_t2_loop.trips, k0_off94 k = ![(k.val + 110) % 18] := by decide +kernel
theorem off95_eq : ∀ k : Fin k0_t2_loop.trips, k0_off95 k = ![(k.val + 110) % 18, 0, 0] := by decide +kernel
theorem off96_eq : ∀ k : Fin k0_t2_loop.trips, k.val + 18 < 128 → k0_off96 k = ![256 * tp (k.val + 18), 0] := by decide +kernel

/-! ## The offsets of loads and stores through a whole buffer, as the executor reads them -/

instance (k : Fin k0_t1_loop.trips) : ClosedOff (k0_off2 k) := ⟨![(s18 (k.val + 4)).val, 0, 0], off2_eq k⟩
instance (k : Fin k0_t1_loop.trips) : ClosedOff (k0_off5 k) := ⟨![(s18 k.val).val, 0, 0], off5_eq k⟩
instance (k : Fin k0_t1_loop.trips) : ClosedOff (k0_off7 k) := ⟨![(s2 (k.val - 1)).val, 0, 0], off7_eq k⟩
instance (k : Fin k0_t1_loop.trips) : ClosedOff (k0_off8 k) := ⟨![k.val - 1, 0, 0], off8_eq k⟩
instance (k : Fin k0_t1_loop.trips) : ClosedOff (k0_off9 k) := ⟨![(s18 k.val).val, 0, 0], off9_eq k⟩
instance (k : Fin k0_t1_loop.trips) : ClosedOff (k0_off10 k) := ⟨![(s2 k.val).val, 0, 0], off10_eq k⟩
instance (k : Fin k0_t1_loop.trips) : ClosedOff (k0_off11 k) := ⟨![(s18 k.val).val, 0, 256], off11_eq k⟩
instance (k : Fin k0_t1_loop.trips) : ClosedOff (k0_off12 k) := ⟨![(s2 k.val).val, 16, 0], off12_eq k⟩
instance (k : Fin k0_t1_loop.trips) : ClosedOff (k0_off13 k) := ⟨![(s18 k.val).val, 0, 512], off13_eq k⟩
instance (k : Fin k0_t1_loop.trips) : ClosedOff (k0_off14 k) := ⟨![(s2 k.val).val, 32, 0], off14_eq k⟩
instance (k : Fin k0_t1_loop.trips) : ClosedOff (k0_off15 k) := ⟨![(s18 k.val).val, 0, 768], off15_eq k⟩
instance (k : Fin k0_t1_loop.trips) : ClosedOff (k0_off16 k) := ⟨![(s2 k.val).val, 48, 0], off16_eq k⟩
instance (k : Fin k0_t1_loop.trips) : ClosedOff (k0_off17 k) := ⟨![(s18 k.val).val, 0, 1024], off17_eq k⟩
instance (k : Fin k0_t1_loop.trips) : ClosedOff (k0_off18 k) := ⟨![(s2 k.val).val, 64, 0], off18_eq k⟩
instance (k : Fin k0_t1_loop.trips) : ClosedOff (k0_off19 k) := ⟨![(s18 k.val).val, 0, 1280], off19_eq k⟩
instance (k : Fin k0_t1_loop.trips) : ClosedOff (k0_off20 k) := ⟨![(s2 k.val).val, 80, 0], off20_eq k⟩
instance (k : Fin k0_t1_loop.trips) : ClosedOff (k0_off21 k) := ⟨![(s18 k.val).val, 0, 1536], off21_eq k⟩
instance (k : Fin k0_t1_loop.trips) : ClosedOff (k0_off22 k) := ⟨![(s2 k.val).val, 96, 0], off22_eq k⟩
instance (k : Fin k0_t1_loop.trips) : ClosedOff (k0_off23 k) := ⟨![(s18 k.val).val, 0, 1792], off23_eq k⟩
instance (k : Fin k0_t1_loop.trips) : ClosedOff (k0_off24 k) := ⟨![(s2 k.val).val, 112, 0], off24_eq k⟩
instance (k : Fin k0_t1_loop.trips) : ClosedOff (k0_off25 k) := ⟨![(s18 k.val).val, 0, 2048], off25_eq k⟩
instance (k : Fin k0_t1_loop.trips) : ClosedOff (k0_off26 k) := ⟨![(s2 k.val).val, 128, 0], off26_eq k⟩
instance (k : Fin k0_t1_loop.trips) : ClosedOff (k0_off27 k) := ⟨![(s18 k.val).val, 0, 2304], off27_eq k⟩
instance (k : Fin k0_t1_loop.trips) : ClosedOff (k0_off28 k) := ⟨![(s2 k.val).val, 144, 0], off28_eq k⟩
instance (k : Fin k0_t1_loop.trips) : ClosedOff (k0_off29 k) := ⟨![(s18 k.val).val, 0, 2560], off29_eq k⟩
instance (k : Fin k0_t1_loop.trips) : ClosedOff (k0_off30 k) := ⟨![(s2 k.val).val, 160, 0], off30_eq k⟩
instance (k : Fin k0_t1_loop.trips) : ClosedOff (k0_off31 k) := ⟨![(s18 k.val).val, 0, 2816], off31_eq k⟩
instance (k : Fin k0_t1_loop.trips) : ClosedOff (k0_off32 k) := ⟨![(s2 k.val).val, 176, 0], off32_eq k⟩
instance (k : Fin k0_t1_loop.trips) : ClosedOff (k0_off33 k) := ⟨![(s18 k.val).val, 0, 3072], off33_eq k⟩
instance (k : Fin k0_t1_loop.trips) : ClosedOff (k0_off34 k) := ⟨![(s2 k.val).val, 192, 0], off34_eq k⟩
instance (k : Fin k0_t1_loop.trips) : ClosedOff (k0_off35 k) := ⟨![(s18 k.val).val, 0, 3328], off35_eq k⟩
instance (k : Fin k0_t1_loop.trips) : ClosedOff (k0_off36 k) := ⟨![(s2 k.val).val, 208, 0], off36_eq k⟩
instance (k : Fin k0_t1_loop.trips) : ClosedOff (k0_off37 k) := ⟨![(s18 k.val).val, 0, 3584], off37_eq k⟩
instance (k : Fin k0_t1_loop.trips) : ClosedOff (k0_off38 k) := ⟨![(s2 k.val).val, 224, 0], off38_eq k⟩
instance (k : Fin k0_t1_loop.trips) : ClosedOff (k0_off39 k) := ⟨![(s18 k.val).val, 0, 3840], off39_eq k⟩
instance (k : Fin k0_t1_loop.trips) : ClosedOff (k0_off40 k) := ⟨![(s2 k.val).val, 240, 0], off40_eq k⟩
instance (k : Fin k0_t2_loop.trips) : ClosedOff (k0_off44 k) := ⟨![(s18 (k.val + 110)).val, 0, 0], off44_eq k⟩
instance (k : Fin k0_t2_loop.trips) : ClosedOff (k0_off48 k) := ⟨![(s2 k.val).val, 0, 0], off48_eq k⟩
instance (k : Fin k0_t2_loop.trips) : ClosedOff (k0_off51 k) := ⟨![(s2 (k.val + 1)).val, 0, 0], off51_eq k⟩
instance (k : Fin k0_t2_loop.trips) : ClosedOff (k0_off52 k) := ⟨![tp (min (k.val + 1) 127), 0, 0], off52_eq k⟩
instance (k : Fin k0_t2_loop.trips) : ClosedOff (k0_off53 k) := ⟨![(s2 (k.val + 1)).val, 0, 0], off53_eq k⟩
instance (k : Fin k0_t2_loop.trips) : ClosedOff (k0_off54 k) := ⟨![(s2 k.val).val, 0, 0], off54_eq k⟩
instance (k : Fin k0_t2_loop.trips) : ClosedOff (k0_off55 k) := ⟨![(s18 (k.val + 110)).val, 0, 0], off55_eq k⟩
instance (k : Fin k0_t2_loop.trips) : ClosedOff (k0_off56 k) := ⟨![(s2 k.val).val, 0, 0], off56_eq k⟩
instance (k : Fin k0_t2_loop.trips) : ClosedOff (k0_off57 k) := ⟨![(s18 (k.val + 110)).val, 0, 256], off57_eq k⟩
instance (k : Fin k0_t2_loop.trips) : ClosedOff (k0_off58 k) := ⟨![(s2 k.val).val, 0, 128], off58_eq k⟩
instance (k : Fin k0_t2_loop.trips) : ClosedOff (k0_off59 k) := ⟨![(s18 (k.val + 110)).val, 0, 512], off59_eq k⟩
instance (k : Fin k0_t2_loop.trips) : ClosedOff (k0_off60 k) := ⟨![(s2 k.val).val, 0, 256], off60_eq k⟩
instance (k : Fin k0_t2_loop.trips) : ClosedOff (k0_off61 k) := ⟨![(s18 (k.val + 110)).val, 0, 768], off61_eq k⟩
instance (k : Fin k0_t2_loop.trips) : ClosedOff (k0_off62 k) := ⟨![(s2 k.val).val, 0, 384], off62_eq k⟩
instance (k : Fin k0_t2_loop.trips) : ClosedOff (k0_off63 k) := ⟨![(s18 (k.val + 110)).val, 0, 1024], off63_eq k⟩
instance (k : Fin k0_t2_loop.trips) : ClosedOff (k0_off64 k) := ⟨![(s2 k.val).val, 0, 512], off64_eq k⟩
instance (k : Fin k0_t2_loop.trips) : ClosedOff (k0_off65 k) := ⟨![(s18 (k.val + 110)).val, 0, 1280], off65_eq k⟩
instance (k : Fin k0_t2_loop.trips) : ClosedOff (k0_off66 k) := ⟨![(s2 k.val).val, 0, 640], off66_eq k⟩
instance (k : Fin k0_t2_loop.trips) : ClosedOff (k0_off67 k) := ⟨![(s18 (k.val + 110)).val, 0, 1536], off67_eq k⟩
instance (k : Fin k0_t2_loop.trips) : ClosedOff (k0_off68 k) := ⟨![(s2 k.val).val, 0, 768], off68_eq k⟩
instance (k : Fin k0_t2_loop.trips) : ClosedOff (k0_off69 k) := ⟨![(s18 (k.val + 110)).val, 0, 1792], off69_eq k⟩
instance (k : Fin k0_t2_loop.trips) : ClosedOff (k0_off70 k) := ⟨![(s2 k.val).val, 0, 896], off70_eq k⟩
instance (k : Fin k0_t2_loop.trips) : ClosedOff (k0_off71 k) := ⟨![(s2 k.val).val, 0, 128], off71_eq k⟩
instance (k : Fin k0_t2_loop.trips) : ClosedOff (k0_off72 k) := ⟨![(s18 (k.val + 110)).val, 0, 2048], off72_eq k⟩
instance (k : Fin k0_t2_loop.trips) : ClosedOff (k0_off73 k) := ⟨![(s2 k.val).val, 0, 1024], off73_eq k⟩
instance (k : Fin k0_t2_loop.trips) : ClosedOff (k0_off74 k) := ⟨![(s18 (k.val + 110)).val, 0, 2304], off74_eq k⟩
instance (k : Fin k0_t2_loop.trips) : ClosedOff (k0_off75 k) := ⟨![(s2 k.val).val, 0, 1152], off75_eq k⟩
instance (k : Fin k0_t2_loop.trips) : ClosedOff (k0_off76 k) := ⟨![(s18 (k.val + 110)).val, 0, 2560], off76_eq k⟩
instance (k : Fin k0_t2_loop.trips) : ClosedOff (k0_off77 k) := ⟨![(s2 k.val).val, 0, 1280], off77_eq k⟩
instance (k : Fin k0_t2_loop.trips) : ClosedOff (k0_off78 k) := ⟨![(s18 (k.val + 110)).val, 0, 2816], off78_eq k⟩
instance (k : Fin k0_t2_loop.trips) : ClosedOff (k0_off79 k) := ⟨![(s2 k.val).val, 0, 1408], off79_eq k⟩
instance (k : Fin k0_t2_loop.trips) : ClosedOff (k0_off80 k) := ⟨![(s18 (k.val + 110)).val, 0, 3072], off80_eq k⟩
instance (k : Fin k0_t2_loop.trips) : ClosedOff (k0_off81 k) := ⟨![(s2 k.val).val, 0, 1536], off81_eq k⟩
instance (k : Fin k0_t2_loop.trips) : ClosedOff (k0_off82 k) := ⟨![(s18 (k.val + 110)).val, 0, 3328], off82_eq k⟩
instance (k : Fin k0_t2_loop.trips) : ClosedOff (k0_off83 k) := ⟨![(s2 k.val).val, 0, 1664], off83_eq k⟩
instance (k : Fin k0_t2_loop.trips) : ClosedOff (k0_off84 k) := ⟨![(s18 (k.val + 110)).val, 0, 3584], off84_eq k⟩
instance (k : Fin k0_t2_loop.trips) : ClosedOff (k0_off85 k) := ⟨![(s2 k.val).val, 0, 1792], off85_eq k⟩
instance (k : Fin k0_t2_loop.trips) : ClosedOff (k0_off86 k) := ⟨![(s18 (k.val + 110)).val, 0, 3840], off86_eq k⟩
instance (k : Fin k0_t2_loop.trips) : ClosedOff (k0_off87 k) := ⟨![(s2 k.val).val, 0, 1920], off87_eq k⟩
instance (k : Fin k0_t2_loop.trips) : ClosedOff (k0_off90 k) := ⟨![(s2 k.val).val, 0, 0], off90_eq k⟩
instance (k : Fin k0_t2_loop.trips) : ClosedOff (k0_off93 k) := ⟨![(s2 (k.val + 1)).val, 0, 0], off93_eq k⟩
instance (k : Fin k0_t2_loop.trips) : ClosedOff (k0_off95 k) := ⟨![(s18 (k.val + 110)).val, 0, 0], off95_eq k⟩

end Cert.Proof.K

end
-- ==== Proof.Names.lean ====
/-
  The names of the quantiser's slices — tiles of the operand and of the two results, ring slots, semaphore cells — the
  equations that bring each printed slice to its name, and what is held of each in every state of the pipeline.
-/
module

public import proofs.«01_k».proof.Proof.Offsets
public import proofs.«01_k».proof.Proof.Gen.Kernel.Launch
public import proofs.«01_k».proof.Proof.Gen.Kernel.Loops
public import Idealize.ShloMosaic.Lib.Ring.Tabled
public import Idealize.ShloMosaic.Lib.Pipeline.KitQuiescent
public import Idealize.ShloMosaic.Lib.Pipeline.FrameSuffixV

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

/-! ## The names -/

abbrev xM : Memref sig .tc .hbm S32768x4096 .bf16 := Memref.whole main_v0
abbrev pkM : Memref sig .tc .hbm S32768x2048 .i8 := Memref.whole main_v1_0
abbrev sbM : Memref sig .tc .hbm S32768x256 .fp8e4m3 := Memref.whole main_v1_1
abbrev xbM : Memref sig .tc .vmem S18x256x4096 .bf16 := Memref.whole cc0_scratch0
abbrev bmM : Memref sig .tc .vmem S128x256x256 .bf16 := Memref.whole cc0_scratch1
abbrev btM : Memref sig .tc .vmem S2x256x256 .f32 := Memref.whole cc0_scratch2
abbrev ivM : Memref sig .tc .vmem S2x256x256 .f32 := Memref.whole cc0_scratch3
abbrev obM : Memref sig .tc .vmem S2x256x2048 .i8 := Memref.whole cc0_scratch4
abbrev wbM : Memref sig .tc .vmem S2x256x256 .fp8e4m3 := Memref.whole cc0_scratch5
abbrev acM : Memref sig .tc .vmem S16x256 .f32 := Memref.whole cc0_scratch6
abbrev pmM : Memref sig .tc .vmem S256x256 .bf16 := Memref.whole cc0_scratch7
abbrev ppM : Memref sig .tc .vmem S256x256 .bf16 := Memref.whole cc0_scratch8

/-- The first element of tile `t` of an array cut in blocks of 256 rows. -/
abbrev tOff (t : Fin 128) : Fin 2 → Nat := ![256 * t.val, 0]
abbrev s18Off (s : Fin 18) : Fin 3 → Nat := ![s.val, 0, 0]
abbrev s2Off (s : Fin 2) : Fin 3 → Nat := ![s.val, 0, 0]
abbrev c18Off (s : Fin 18) : Fin 1 → Nat := ![s.val]
abbrev c2Off (s : Fin 2) : Fin 1 → Nat := ![s.val]

theorem tOff_x (t : Fin 128) : ∀ a, tOff t a + S256x4096.size a ≤ S32768x4096.size a := by
  have := t.isLt; intro a; fin_cases a
  · show 256 * t.val + 256 ≤ 32768; omega
  · show 0 + 4096 ≤ 4096; omega
theorem tOff_pk (t : Fin 128) : ∀ a, tOff t a + S256x2048.size a ≤ S32768x2048.size a := by
  have := t.isLt; intro a; fin_cases a
  · show 256 * t.val + 256 ≤ 32768; omega
  · show 0 + 2048 ≤ 2048; omega
theorem tOff_sb (t : Fin 128) : ∀ a, tOff t a + S256x256.size a ≤ S32768x256.size a := by
  have := t.isLt; intro a; fin_cases a
  · show 256 * t.val + 256 ≤ 32768; omega
  · show 0 + 256 ≤ 256; omega
theorem s18Off_x (s : Fin 18) : ∀ a, s18Off s a + S1x256x4096.size a ≤ S18x256x4096.size a := by
  have := s.isLt; intro a; fin_cases a
  · show s.val + 1 ≤ 18; omega
  · show 0 + 256 ≤ 256; omega
  · show 0 + 4096 ≤ 4096; omega
theorem s2Off_o (s : Fin 2) : ∀ a, s2Off s a + S1x256x2048.size a ≤ S2x256x2048.size a := by
  have := s.isLt; intro a; fin_cases a
  · show s.val + 1 ≤ 2; omega
  · show 0 + 256 ≤ 256; omega
  · show 0 + 2048 ≤ 2048; omega
theorem s2Off_w (s : Fin 2) : ∀ a, s2Off s a + S1x256x256.size a ≤ S2x256x256.size a := by
  have := s.isLt; intro a; fin_cases a
  · show s.val + 1 ≤ 2; omega
  · show 0 + 256 ≤ 256; omega
  · show 0 + 256 ≤ 256; omega
theorem c18Off_inb (s : Fin 18) : ∀ a, c18Off s a + S1.size a ≤ S18.size a := by
  have := s.isLt; intro a; fin_cases a; show s.val + 1 ≤ 18; omega
theorem c2Off_inb (s : Fin 2) : ∀ a, c2Off s a + S1.size a ≤ S2.size a := by
  have := s.isLt; intro a; fin_cases a; show s.val + 1 ≤ 2; omega

/-- Tile `t` of the operand, of the packed codes and of the block scales. -/
def xtile (t : Fin 128) : Memref sig .tc .hbm S256x4096 .bf16 :=
  xM.slice (Rect.unit (s := S32768x4096) (tOff t) S256x4096.size (tOff_x t)) (fun _ => rfl)
def pktile (t : Fin 128) : Memref sig .tc .hbm S256x2048 .i8 :=
  pkM.slice (Rect.unit (s := S32768x2048) (tOff t) S256x2048.size (tOff_pk t)) (fun _ => rfl)
def sbtile (t : Fin 128) : Memref sig .tc .hbm S256x256 .fp8e4m3 :=
  sbM.slice (Rect.unit (s := S32768x256) (tOff t) S256x256.size (tOff_sb t)) (fun _ => rfl)
/-- Slot `s` of the operand's ring, of the packed codes' and of the block scales'. -/
def xslot (s : Fin 18) : Memref sig .tc .vmem S256x4096 .bf16 :=
  (xbM.slice (Rect.unit (s := S18x256x4096) (s18Off s) S1x256x4096.size (s18Off_x s)) (fun _ => rfl)).squeeze S256x4096 squeezes_S1x256x4096_S256x4096
def oslot (s : Fin 2) : Memref sig .tc .vmem S256x2048 .i8 :=
  (obM.slice (Rect.unit (s := S2x256x2048) (s2Off s) S1x256x2048.size (s2Off_o s)) (fun _ => rfl)).squeeze S256x2048 squeezes_S1x256x2048_S256x2048
def wslot (s : Fin 2) : Memref sig .tc .vmem S256x256 .fp8e4m3 :=
  (wbM.slice (Rect.unit (s := S2x256x256) (s2Off s) S1x256x256.size (s2Off_w s)) (fun _ => rfl)).squeeze S256x256 squeezes_S1x256x256_S256x256
/-- The cell each slot's copies signal. -/
def xcell (s : Fin 18) : DmaSems sig S_ := (cc0_scratch9.slice (Rect.unit (s := S18) (c18Off s) S1.size (c18Off_inb s))).squeeze S_ squeezes_S1_S_
def ocell (s : Fin 2) : DmaSems sig S_ := (cc0_scratch10.slice (Rect.unit (s := S2) (c2Off s) S1.size (c2Off_inb s))).squeeze S_ squeezes_S1_S_
def wcell (s : Fin 2) : DmaSems sig S_ := (cc0_scratch11.slice (Rect.unit (s := S2) (c2Off s) S1.size (c2Off_inb s))).squeeze S_ squeezes_S1_S_

instance (t : Fin 128) : ClosedOff (tOff t) := ⟨tOff t, rfl⟩
instance (s : Fin 18) : ClosedOff (s18Off s) := ⟨s18Off s, rfl⟩
instance (s : Fin 2) : ClosedOff (s2Off s) := ⟨s2Off s, rfl⟩

/-! ## The printed slices are these names -/

theorem xtile_congr {off : Fin 2 → Nat} {t : Fin 128} (e : off = tOff t) (hh hs) :
    xM.slice (Rect.unit (s := S32768x4096) off S256x4096.size hh) hs = xtile t := Memref.slice_unit_congr _ e _ _ _ (fun _ => rfl)
theorem pktile_congr {off : Fin 2 → Nat} {t : Fin 128} (e : off = tOff t) (hh hs) :
    pkM.slice (Rect.unit (s := S32768x2048) off S256x2048.size hh) hs = pktile t := Memref.slice_unit_congr _ e _ _ _ (fun _ => rfl)
theorem sbtile_congr {off : Fin 2 → Nat} {t : Fin 128} (e : off = tOff t) (hh hs) :
    sbM.slice (Rect.unit (s := S32768x256) off S256x256.size hh) hs = sbtile t := Memref.slice_unit_congr _ e _ _ _ (fun _ => rfl)
theorem xslot_congr {off : Fin 3 → Nat} {s : Fin 18} (e : off = s18Off s) (hh hs) :
    (xbM.slice (Rect.unit (s := S18x256x4096) off S1x256x4096.size hh) hs).squeeze S256x4096 squeezes_S1x256x4096_S256x4096 = xslot s :=
  congrArg (fun M : Memref sig .tc .vmem S1x256x4096 .bf16 => M.squeeze S256x4096 squeezes_S1x256x4096_S256x4096) (Memref.slice_unit_congr _ e _ _ _ _)
theorem oslot_congr {off : Fin 3 → Nat} {s : Fin 2} (e : off = s2Off s) (hh hs) :
    (obM.slice (Rect.unit (s := S2x256x2048) off S1x256x2048.size hh) hs).squeeze S256x2048 squeezes_S1x256x2048_S256x2048 = oslot s :=
  congrArg (fun M : Memref sig .tc .vmem S1x256x2048 .i8 => M.squeeze S256x2048 squeezes_S1x256x2048_S256x2048) (Memref.slice_unit_congr _ e _ _ _ _)
theorem wslot_congr {off : Fin 3 → Nat} {s : Fin 2} (e : off = s2Off s) (hh hs) :
    (wbM.slice (Rect.unit (s := S2x256x256) off S1x256x256.size hh) hs).squeeze S256x256 squeezes_S1x256x256_S256x256 = wslot s :=
  congrArg (fun M : Memref sig .tc .vmem S1x256x256 .fp8e4m3 => M.squeeze S256x256 squeezes_S1x256x256_S256x256) (Memref.slice_unit_congr _ e _ _ _ _)
theorem xcell_congr {off : Fin 1 → Nat} {s : Fin 18} (e : off = c18Off s) (hh) :
    (cc0_scratch9.slice (Rect.unit (s := S18) off S1.size hh)).squeeze S_ squeezes_S1_S_ = xcell s :=
  congrArg (fun A : DmaSems sig S1 => A.squeeze S_ squeezes_S1_S_) (SemArray.slice_unit_congr _ e _ _)
theorem ocell_congr {off : Fin 1 → Nat} {s : Fin 2} (e : off = c2Off s) (hh) :
    (cc0_scratch10.slice (Rect.unit (s := S2) off S1.size hh)).squeeze S_ squeezes_S1_S_ = ocell s :=
  congrArg (fun A : DmaSems sig S1 => A.squeeze S_ squeezes_S1_S_) (SemArray.slice_unit_congr _ e _ _)
theorem wcell_congr {off : Fin 1 → Nat} {s : Fin 2} (e : off = c2Off s) (hh) :
    (cc0_scratch11.slice (Rect.unit (s := S2) off S1.size hh)).squeeze S_ squeezes_S1_S_ = wcell s :=
  congrArg (fun A : DmaSems sig S1 => A.squeeze S_ squeezes_S1_S_) (SemArray.slice_unit_congr _ e _ _)

theorem tOff_tp (p : ℕ) : (![256 * tp p, 0] : Fin 2 → Nat) = tOff (tl (p + 110)) := rfl
theorem s2Off_of (p : ℕ) : (![p % 2, 0, 0] : Fin 3 → Nat) = s2Off (s2 p) := rfl
theorem s18Off_of (p : ℕ) : (![p % 18, 0, 0] : Fin 3 → Nat) = s18Off (s18 p) := rfl
theorem tOff_of {p : ℕ} (h : p < 128) : (![256 * p, 0] : Fin 2 → Nat) = tOff (tl p) := by
  simp [tOff, tl, Nat.mod_eq_of_lt h]

theorem lt1 (k : Fin k0_t1_loop.trips) : k.val < 128 := Nat.lt_of_lt_of_eq k.isLt trips1
theorem lt2 (k : Fin k0_t2_loop.trips) : k.val < 128 := Nat.lt_of_lt_of_eq k.isLt trips2

@[sl_canon] theorem cn1 (k : Fin k0_t1_loop.trips) (hh) :
    (cc0_scratch9.slice (Rect.unit (s := S18) (k0_off1 k) S1.size hh)).squeeze S_ squeezes_S1_S_ = xcell (s18 (k.val + 4)) := xcell_congr (off1_eq k) _
@[sl_canon] theorem cn2 (k : Fin k0_t1_loop.trips) (hh hs) :
    (xbM.slice (Rect.unit (s := S18x256x4096) (k0_off2 k) S1x256x4096.size hh) hs).squeeze S256x4096 squeezes_S1x256x4096_S256x4096 = xslot (s18 (k.val + 4)) := xslot_congr (off2_eq k) _ _
@[sl_canon] theorem cn3 (k : Fin k0_t1_loop.trips) (h : k.val + 4 < 128) (hh hs) :
    xM.slice (Rect.unit (s := S32768x4096) (k0_off3 k) S256x4096.size hh) hs = xtile (tl (k.val + 4)) := xtile_congr ((off3_eq k).trans (tOff_of h)) _ _
@[sl_canon] theorem cn4 (k : Fin k0_t1_loop.trips) (hh) :
    (cc0_scratch9.slice (Rect.unit (s := S18) (k0_off4 k) S1.size hh)).squeeze S_ squeezes_S1_S_ = xcell (s18 k.val) := xcell_congr (off4_eq k) _
@[sl_canon] theorem cn5 (k : Fin k0_t1_loop.trips) (hh hs) :
    (xbM.slice (Rect.unit (s := S18x256x4096) (k0_off5 k) S1x256x4096.size hh) hs).squeeze S256x4096 squeezes_S1x256x4096_S256x4096 = xslot (s18 k.val) := xslot_congr (off5_eq k) _ _
@[sl_canon] theorem cn6 (k : Fin k0_t1_loop.trips) (hh hs) :
    xM.slice (Rect.unit (s := S32768x4096) (k0_off6 k) S256x4096.size hh) hs = xtile (tl k.val) := xtile_congr ((off6_eq k).trans (tOff_of (lt1 k))) _ _
@[sl_canon] theorem cn43 (k : Fin k0_t2_loop.trips) (hh) :
    (cc0_scratch9.slice (Rect.unit (s := S18) (k0_off43 k) S1.size hh)).squeeze S_ squeezes_S1_S_ = xcell (s18 (k.val + 110)) := xcell_congr (off43_eq k) _
@[sl_canon] theorem cn44 (k : Fin k0_t2_loop.trips) (hh hs) :
    (xbM.slice (Rect.unit (s := S18x256x4096) (k0_off44 k) S1x256x4096.size hh) hs).squeeze S256x4096 squeezes_S1x256x4096_S256x4096 = xslot (s18 (k.val + 110)) := xslot_congr (off44_eq k) _ _
@[sl_canon] theorem cn45 (k : Fin k0_t2_loop.trips) (hh hs) :
    xM.slice (Rect.unit (s := S32768x4096) (k0_off45 k) S256x4096.size hh) hs = xtile (tl (k.val + 110)) := xtile_congr (off45_eq k) _ _
@[sl_canon] theorem cn46 (k : Fin k0_t2_loop.trips) (hh) :
    (cc0_scratch10.slice (Rect.unit (s := S2) (k0_off46 k) S1.size hh)).squeeze S_ squeezes_S1_S_ = ocell (s2 k.val) := ocell_congr (off46_eq k) _
@[sl_canon] theorem cn47 (k : Fin k0_t2_loop.trips) (h : 2 ≤ k.val) (hh hs) :
    pkM.slice (Rect.unit (s := S32768x2048) (k0_off47 k) S256x2048.size hh) hs = pktile (tl (k.val - 2 + 110)) := pktile_congr (off47_eq k h) _ _
@[sl_canon] theorem cn48 (k : Fin k0_t2_loop.trips) (hh hs) :
    (obM.slice (Rect.unit (s := S2x256x2048) (k0_off48 k) S1x256x2048.size hh) hs).squeeze S256x2048 squeezes_S1x256x2048_S256x2048 = oslot (s2 k.val) := oslot_congr (off48_eq k) _ _
@[sl_canon] theorem cn49 (k : Fin k0_t2_loop.trips) (hh) :
    (cc0_scratch11.slice (Rect.unit (s := S2) (k0_off49 k) S1.size hh)).squeeze S_ squeezes_S1_S_ = wcell (s2 (k.val + 1)) := wcell_congr (off49_eq k) _
@[sl_canon] theorem cn50 (k : Fin k0_t2_loop.trips) (h : 1 ≤ k.val) (hh hs) :
    sbM.slice (Rect.unit (s := S32768x256) (k0_off50 k) S256x256.size hh) hs = sbtile (tl (k.val - 1 + 110)) := sbtile_congr (off50_eq k h) _ _
@[sl_canon] theorem cn51 (k : Fin k0_t2_loop.trips) (hh hs) :
    (wbM.slice (Rect.unit (s := S2x256x256) (k0_off51 k) S1x256x256.size hh) hs).squeeze S256x256 squeezes_S1x256x256_S256x256 = wslot (s2 (k.val + 1)) := wslot_congr (off51_eq k) _ _
@[sl_canon] theorem cn88 (k : Fin k0_t2_loop.trips) (hh) :
    (cc0_scratch10.slice (Rect.unit (s := S2) (k0_off88 k) S1.size hh)).squeeze S_ squeezes_S1_S_ = ocell (s2 k.val) := ocell_congr (off88_eq k) _
@[sl_canon] theorem cn89 (k : Fin k0_t2_loop.trips) (hh hs) :
    pkM.slice (Rect.unit (s := S32768x2048) (k0_off89 k) S256x2048.size hh) hs = pktile (tl (k.val + 110)) := pktile_congr (off89_eq k) _ _
@[sl_canon] theorem cn90 (k : Fin k0_t2_loop.trips) (hh hs) :
    (obM.slice (Rect.unit (s := S2x256x2048) (k0_off90 k) S1x256x2048.size hh) hs).squeeze S256x2048 squeezes_S1x256x2048_S256x2048 = oslot (s2 k.val) := oslot_congr (off90_eq k) _ _
@[sl_canon] theorem cn91 (k : Fin k0_t2_loop.trips) (hh) :
    (cc0_scratch11.slice (Rect.unit (s := S2) (k0_off91 k) S1.size hh)).squeeze S_ squeezes_S1_S_ = wcell (s2 (k.val + 1)) := wcell_congr (off91_eq k) _
@[sl_canon] theorem cn92 (k : Fin k0_t2_loop.trips) (h : k.val + 1 < 128) (hh hs) :
    sbM.slice (Rect.unit (s := S32768x256) (k0_off92 k) S256x256.size hh) hs = sbtile (tl (k.val + 1 + 110)) := sbtile_congr (off92_eq k h) _ _
@[sl_canon] theorem cn93 (k : Fin k0_t2_loop.trips) (hh hs) :
    (wbM.slice (Rect.unit (s := S2x256x256) (k0_off93 k) S1x256x256.size hh) hs).squeeze S256x256 squeezes_S1x256x256_S256x256 = wslot (s2 (k.val + 1)) := wslot_congr (off93_eq k) _ _
@[sl_canon] theorem cn94 (k : Fin k0_t2_loop.trips) (hh) :
    (cc0_scratch9.slice (Rect.unit (s := S18) (k0_off94 k) S1.size hh)).squeeze S_ squeezes_S1_S_ = xcell (s18 (k.val + 110)) := xcell_congr (off94_eq k) _
@[sl_canon] theorem cn95 (k : Fin k0_t2_loop.trips) (hh hs) :
    (xbM.slice (Rect.unit (s := S18x256x4096) (k0_off95 k) S1x256x4096.size hh) hs).squeeze S256x4096 squeezes_S1x256x4096_S256x4096 = xslot (s18 (k.val + 110)) := xslot_congr (off95_eq k) _ _
@[sl_canon] theorem cn96 (k : Fin k0_t2_loop.trips) (h : k.val + 18 < 128) (hh hs) :
    xM.slice (Rect.unit (s := S32768x4096) (k0_off96 k) S256x4096.size hh) hs = xtile (tl (k.val + 18 + 110)) := xtile_congr (off96_eq k h) _ _
@[sl_canon] theorem lxcell0 (hh) :
    (cc0_scratch9.slice (Rect.unit (s := S18) (![0]) S1.size hh)).squeeze S_ squeezes_S1_S_ = xcell (0) := xcell_congr (by decide) _
@[sl_canon] theorem lxslot0 (hh hs) :
    (xbM.slice (Rect.unit (s := S18x256x4096) (![0, 0, 0]) S1x256x4096.size hh) hs).squeeze S256x4096 squeezes_S1x256x4096_S256x4096 = xslot (0) := xslot_congr (by decide) _ _
@[sl_canon] theorem lxtile0 (hh hs) :
    xM.slice (Rect.unit (s := S32768x4096) (![0, 0]) S256x4096.size hh) hs = xtile (0) := xtile_congr (by decide) _ _
@[sl_canon] theorem lxcell1 (hh) :
    (cc0_scratch9.slice (Rect.unit (s := S18) (![1]) S1.size hh)).squeeze S_ squeezes_S1_S_ = xcell (1) := xcell_congr (by decide) _
@[sl_canon] theorem lxslot1 (hh hs) :
    (xbM.slice (Rect.unit (s := S18x256x4096) (![1, 0, 0]) S1x256x4096.size hh) hs).squeeze S256x4096 squeezes_S1x256x4096_S256x4096 = xslot (1) := xslot_congr (by decide) _ _
@[sl_canon] theorem lxtile1 (hh hs) :
    xM.slice (Rect.unit (s := S32768x4096) (![256, 0]) S256x4096.size hh) hs = xtile (1) := xtile_congr (by decide) _ _
@[sl_canon] theorem lxcell2 (hh) :
    (cc0_scratch9.slice (Rect.unit (s := S18) (![2]) S1.size hh)).squeeze S_ squeezes_S1_S_ = xcell (2) := xcell_congr (by decide) _
@[sl_canon] theorem lxslot2 (hh hs) :
    (xbM.slice (Rect.unit (s := S18x256x4096) (![2, 0, 0]) S1x256x4096.size hh) hs).squeeze S256x4096 squeezes_S1x256x4096_S256x4096 = xslot (2) := xslot_congr (by decide) _ _
@[sl_canon] theorem lxtile2 (hh hs) :
    xM.slice (Rect.unit (s := S32768x4096) (![512, 0]) S256x4096.size hh) hs = xtile (2) := xtile_congr (by decide) _ _
@[sl_canon] theorem lxcell3 (hh) :
    (cc0_scratch9.slice (Rect.unit (s := S18) (![3]) S1.size hh)).squeeze S_ squeezes_S1_S_ = xcell (3) := xcell_congr (by decide) _
@[sl_canon] theorem lxslot3 (hh hs) :
    (xbM.slice (Rect.unit (s := S18x256x4096) (![3, 0, 0]) S1x256x4096.size hh) hs).squeeze S256x4096 squeezes_S1x256x4096_S256x4096 = xslot (3) := xslot_congr (by decide) _ _
@[sl_canon] theorem lxtile3 (hh hs) :
    xM.slice (Rect.unit (s := S32768x4096) (![768, 0]) S256x4096.size hh) hs = xtile (3) := xtile_congr (by decide) _ _
@[sl_canon] theorem locell0 (hh) :
    (cc0_scratch10.slice (Rect.unit (s := S2) (![0]) S1.size hh)).squeeze S_ squeezes_S1_S_ = ocell (0) := ocell_congr (by decide) _
@[sl_canon] theorem lwcell0 (hh) :
    (cc0_scratch11.slice (Rect.unit (s := S2) (![0]) S1.size hh)).squeeze S_ squeezes_S1_S_ = wcell (0) := wcell_congr (by decide) _
@[sl_canon] theorem loslot0 (hh hs) :
    (obM.slice (Rect.unit (s := S2x256x2048) (![0, 0, 0]) S1x256x2048.size hh) hs).squeeze S256x2048 squeezes_S1x256x2048_S256x2048 = oslot (0) := oslot_congr (by decide) _ _
@[sl_canon] theorem lwslot0 (hh hs) :
    (wbM.slice (Rect.unit (s := S2x256x256) (![0, 0, 0]) S1x256x256.size hh) hs).squeeze S256x256 squeezes_S1x256x256_S256x256 = wslot (0) := wslot_congr (by decide) _ _
@[sl_canon] theorem locell1 (hh) :
    (cc0_scratch10.slice (Rect.unit (s := S2) (![1]) S1.size hh)).squeeze S_ squeezes_S1_S_ = ocell (1) := ocell_congr (by decide) _
@[sl_canon] theorem lwcell1 (hh) :
    (cc0_scratch11.slice (Rect.unit (s := S2) (![1]) S1.size hh)).squeeze S_ squeezes_S1_S_ = wcell (1) := wcell_congr (by decide) _
@[sl_canon] theorem loslot1 (hh hs) :
    (obM.slice (Rect.unit (s := S2x256x2048) (![1, 0, 0]) S1x256x2048.size hh) hs).squeeze S256x2048 squeezes_S1x256x2048_S256x2048 = oslot (1) := oslot_congr (by decide) _ _
@[sl_canon] theorem lwslot1 (hh hs) :
    (wbM.slice (Rect.unit (s := S2x256x256) (![1, 0, 0]) S1x256x256.size hh) hs).squeeze S256x256 squeezes_S1x256x256_S256x256 = wslot (1) := wslot_congr (by decide) _ _
@[sl_canon] theorem lsb0 (hh hs) :
    sbM.slice (Rect.unit (s := S32768x256) (k0_off42 0#1 4294967278#32 110#32) S256x256.size hh) hs = sbtile (110) := sbtile_congr (by decide +kernel) _ _
@[sl_canon] theorem lsb127 (hh hs) :
    sbM.slice (Rect.unit (s := S32768x256) (k0_off42 1#1 109#32 237#32) S256x256.size hh) hs = sbtile (109) := sbtile_congr (by decide +kernel) _ _
@[sl_canon] theorem lpk126 (hh hs) :
    pkM.slice (Rect.unit (s := S32768x2048) (k0_off97 108#32 236#32) S256x2048.size hh) hs = pktile (108) := pktile_congr (by decide +kernel) _ _
@[sl_canon] theorem lpk127 (hh hs) :
    pkM.slice (Rect.unit (s := S32768x2048) (k0_off97 109#32 237#32) S256x2048.size hh) hs = pktile (109) := pktile_congr (by decide +kernel) _ _

/-! ## What is held -/

section Held
variable (c : Dev nD) (XA : Buf (Elt F) (xM.view.loc (c : Thread nD τ)))

abbrev xhome (t : Fin 128) : sProp 𝕄 := (xtile t).view.loc (c : Thread nD τ) ↦[(xtile t).view.set]{fullShare} XA
abbrev xheld (s : Fin 18) (f : Buf (Elt F) ((xslot s).view.loc (c : Thread nD τ))) : sProp 𝕄 :=
  (xslot s).view.loc (c : Thread nD τ) ↦[(xslot s).view.set]{fullShare} f
abbrev oheld (s : Fin 2) (f : Buf (Elt F) ((oslot s).view.loc (c : Thread nD τ))) : sProp 𝕄 :=
  (oslot s).view.loc (c : Thread nD τ) ↦[(oslot s).view.set]{fullShare} f
abbrev wheld (s : Fin 2) (f : Buf (Elt F) ((wslot s).view.loc (c : Thread nD τ))) : sProp 𝕄 :=
  (wslot s).view.loc (c : Thread nD τ) ↦[(wslot s).view.set]{fullShare} f
abbrev pkheld (t : Fin 128) (f : Buf (Elt F) ((pktile t).view.loc (c : Thread nD τ))) : sProp 𝕄 :=
  (pktile t).view.loc (c : Thread nD τ) ↦[(pktile t).view.set]{fullShare} f
abbrev sbheld (t : Fin 128) (f : Buf (Elt F) ((sbtile t).view.loc (c : Thread nD τ))) : sProp 𝕄 :=
  (sbtile t).view.loc (c : Thread nD τ) ↦[(sbtile t).view.set]{fullShare} f
abbrev xidle (s : Fin 18) : sProp 𝕄 := semVal ((c : Thread nD τ), SemLoc.dma (xcell s).sem) 0
abbrev oidle (s : Fin 2) : sProp 𝕄 := semVal ((c : Thread nD τ), SemLoc.dma (ocell s).sem) 0
abbrev widle (s : Fin 2) : sProp 𝕄 := semVal ((c : Thread nD τ), SemLoc.dma (wcell s).sem) 0

end Held

end Cert.Proof.K

end
-- ==== Proof.Rings.lean ====
/-
  The rings of the quantiser as families of states read off tables: the 18 operand slots and the 128 operand tiles in both
  passes, the two code slots and the two scale slots in pass 2, and the 128 tiles of each result. Each table is a function
  of the trip; that a trip moves from one row to the next is decided over the 128 trips.
-/
module

public import proofs.«01_k».proof.Proof.Names

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- A slot of a ring: nothing of use in it, a tile in it, or a copy of tile `t` in flight. -/
inductive SS where
  | free
  | res (t : Fin 128)
  | fly (t : Fin 128)
  deriving DecidableEq

/-- A tile of a result: not written yet, lent to a copy in flight, or written. -/
inductive TS where
  | todo
  | away
  | done
  deriving DecidableEq

section Families
variable {M : Type _} [URA M] {n : ℕ} {σ : Type _} (Φ : Fin n → σ → sProp M)

theorem focus1 (st : Fin n → σ) (i : Fin n) (a : σ) (h : st i = a) :
    Ring.AtW (σ := fun _ => σ) Φ st ⊢ iprop(Φ i a ∗ Ring.restL Φ st [i]) := by
  rw [Ring.AtW_focusL Φ st [i] (by simp), show bigSepL [i] (fun k => Φ k (st k)) = Φ i (st i) from rfl, h]

theorem refocus1 (st st' : Fin n → σ) (i : Fin n) (a : σ) (h : st' i = a) (hr : ∀ k, k ≠ i → st' k = st k) :
    iprop(Φ i a ∗ Ring.restL Φ st [i]) ⊢ Ring.AtW (σ := fun _ => σ) Φ st' := by
  have e := Ring.AtW_refocusL Φ st st' [i] (by simp) (fun k hk => hr k (by simpa using hk))
  rw [show bigSepL [i] (fun k => Φ k (st' k)) = Φ i (st' i) from rfl, h] at e
  exact e

theorem atw_congr (st st' : Fin n → σ) (h : ∀ k, st' k = st k) :
    Ring.AtW (σ := fun _ => σ) Φ st ⊢ Ring.AtW (σ := fun _ => σ) Φ st' := by
  rw [Ring.AtW_congr Φ h]

end Families

/-! ## What each state holds -/

section States
variable (c : Dev nD) (XA : Buf (Elt F) (xM.view.loc (c : Thread nD τ)))
  (PO : (t : Fin 128) → Buf (Elt F) ((pktile t).view.loc (c : Thread nD τ)) → Prop)
  (SO : (t : Fin 128) → Buf (Elt F) ((sbtile t).view.loc (c : Thread nD τ)) → Prop)

/-- The slot's words are the tile's. -/
def XOK (s : Fin 18) (t : Fin 128) (f : Buf (Elt F) ((xslot s).view.loc (c : Thread nD τ))) : Prop :=
  (xslot s).view.read (Elt F) f = (xtile t).view.read (Elt F) XA

/-- The units a copy of one tile of the operand, of the codes and of the scales moves. -/
abbrev NX : ℕ := 65536
abbrev NO : ℕ := 16384
abbrev NW : ℕ := 2048

def Φx (s : Fin 18) : SS → sProp 𝕄
  | .free => iprop(xidle (F := F) c s ∗ ∃ f, xheld c s f)
  | .res t => iprop(xidle (F := F) c s ∗ ∃ f, ⌜XOK c XA s t f⌝ ∗ xheld c s f)
  | .fly t => iprop(∃ f, ⌜XOK c XA s t f⌝ ∗ Transfers.Flight countersEmb (c : Thread nD τ) (SemLoc.dma (xcell s).sem) () NX iprop(xheld c s f ∗ xhome c XA t))

def Φo (s : Fin 2) : SS → sProp 𝕄
  | .free => iprop(oidle (F := F) c s ∗ ∃ f, oheld c s f)
  | .res t => iprop(emp)
  | .fly t => iprop(∃ g f, ⌜PO t g⌝ ∗ Transfers.Flight countersEmb (c : Thread nD τ) (SemLoc.dma (ocell s).sem) () NO iprop(pkheld c t g ∗ oheld c s f))

def Φw (s : Fin 2) : SS → sProp 𝕄
  | .free => iprop(widle (F := F) c s ∗ ∃ f, wheld c s f)
  | .res t => iprop(emp)
  | .fly t => iprop(∃ g f, ⌜SO t g⌝ ∗ Transfers.Flight countersEmb (c : Thread nD τ) (SemLoc.dma (wcell s).sem) () NW iprop(sbheld c t g ∗ wheld c s f))

def Φp (t : Fin 128) : TS → sProp 𝕄
  | .todo => iprop(∃ g, pkheld c t g)
  | .away => iprop(emp)
  | .done => iprop(∃ g, ⌜PO t g⌝ ∗ pkheld c t g)

def Φs (t : Fin 128) : TS → sProp 𝕄
  | .todo => iprop(∃ g, sbheld c t g)
  | .away => iprop(emp)
  | .done => iprop(∃ g, ⌜SO t g⌝ ∗ sbheld c t g)

end States

/-! ## The tables -/

/-- Pass 1, before trip `k`: the slot holds the last tile below `k + 4` that falls in it. -/
def xt1 (k : ℕ) (s : Fin 18) : SS :=
  let q := k + 4 + (s.val + 36000 - (k + 4)) % 18
  let t := if q < 146 then q - 18 else q - 36
  if q < 18 then .free else if k ≤ t then .fly (tl t) else .res (tl t)
def xh1 (k : ℕ) (t : Fin 128) : Bool := !(decide (k ≤ t.val) && decide (t.val < k + 4))
/-- Pass 1, the trip's copy started: the slots, the tiles. -/
def xt1' (k : ℕ) (s : Fin 18) : SS := if k + 4 < 128 ∧ s = s18 (k + 4) then .fly (tl (k + 4)) else xt1 k s
def xh1' (k : ℕ) (t : Fin 128) : Bool := !(decide (k ≤ t.val) && decide (t.val < k + 5))

/-- The trip of pass 2 that visits tile `t`. -/
def pos (t : Fin 128) : ℕ := (t.val + 18) % 128

/-- Pass 2, before trip `k`. -/
def xt2 (k : ℕ) (s : Fin 18) : SS :=
  let p := k + (s.val + 36000 - (k + 110)) % 18
  if p < 18 then .res (tl (p + 110)) else if p < 128 then .fly (tl (p + 110)) else .res (tl (p - 18 + 110))
def xh2 (k : ℕ) (t : Fin 128) : Bool := !(decide (18 ≤ pos t) && decide (k ≤ pos t) && decide (pos t < k + 18))
/-- Pass 2, the trip's tile arrived. -/
def xt2' (k : ℕ) (s : Fin 18) : SS := if s = s18 (k + 110) then .res (tl (k + 110)) else xt2 k s
def xh2' (k : ℕ) (t : Fin 128) : Bool := xh2 k t || decide (t = tl (k + 110))

def ot (k : ℕ) (s : Fin 2) : SS :=
  if s = s2 (k + 1) then (if 1 ≤ k then .fly (tl (k - 1 + 110)) else .free) else (if 2 ≤ k then .fly (tl (k - 2 + 110)) else .free)
def ot' (k : ℕ) (s : Fin 2) : SS := if s = s2 k then .free else ot k s
def pt (k : ℕ) (t : Fin 128) : TS := if k ≤ pos t then .todo else if k ≤ pos t + 2 then .away else .done
def pt' (k : ℕ) (t : Fin 128) : TS := if 2 ≤ k ∧ t = tl (k - 2 + 110) then .done else pt k t

def wt (k : ℕ) (s : Fin 2) : SS :=
  if s = s2 k then (if k < 128 then .fly (tl (k + 110)) else .free) else if k = 0 then .free else .fly (tl (k - 1 + 110))
def wt' (k : ℕ) (s : Fin 2) : SS := if s = s2 (k + 1) then .free else wt k s
def st (k : ℕ) (t : Fin 128) : TS := if k < pos t then .todo else if k ≤ pos t + 1 then .away else .done
def st' (k : ℕ) (t : Fin 128) : TS := if 1 ≤ k ∧ t = tl (k - 1 + 110) then .done else st k t

/-! ## The tables' steps, decided over the trips -/

theorem x1_free : ∀ k : Fin 128, k.val + 4 < 128 → xt1 k.val (s18 (k.val + 4)) = (if k.val < 14 then .free else .res (tl (k.val - 14))) := by
  decide +kernel
theorem x1_upd (k : ℕ) (h : k + 4 < 128) : xt1' k (s18 (k + 4)) = .fly (tl (k + 4)) := by simp [xt1', h]
theorem x1_off (k : ℕ) (s : Fin 18) (h : s ≠ s18 (k + 4)) : xt1' k s = xt1 k s := by simp [xt1', h]
theorem x1_no (k : ℕ) (h : ¬ k + 4 < 128) (s : Fin 18) : xt1' k s = xt1 k s := by simp [xt1', h]
theorem h1_in : ∀ k : Fin 128, k.val + 4 < 128 → xh1 k.val (tl (k.val + 4)) = true := by decide +kernel
theorem h1_out : ∀ k : Fin 128, k.val + 4 < 128 → xh1' k.val (tl (k.val + 4)) = false := by decide +kernel
theorem h1_off : ∀ k : Fin 128, ∀ t : Fin 128, t ≠ tl (k.val + 4) → xh1' k.val t = xh1 k.val t := by decide +kernel
theorem h1_no : ∀ k : Fin 128, ¬ k.val + 4 < 128 → ∀ t : Fin 128, xh1' k.val t = xh1 k.val t := by decide +kernel
theorem x1_fly : ∀ k : Fin 128, xt1' k.val (s18 k.val) = .fly (tl k.val) := by decide +kernel
theorem x1_res : ∀ k : Fin 128, xt1 (k.val + 1) (s18 k.val) = .res (tl k.val) := by decide +kernel
theorem x1_step : ∀ k : Fin 128, ∀ s : Fin 18, s ≠ s18 k.val → xt1 (k.val + 1) s = xt1' k.val s := by decide +kernel
theorem h1_away : ∀ k : Fin 128, xh1' k.val (tl k.val) = false := by decide +kernel
theorem h1_back : ∀ k : Fin 128, xh1 (k.val + 1) (tl k.val) = true := by decide +kernel
theorem h1_step : ∀ k : Fin 128, ∀ t : Fin 128, t ≠ tl k.val → xh1 (k.val + 1) t = xh1' k.val t := by decide +kernel
theorem x_turn : ∀ s : Fin 18, xt2 0 s = xt1 128 s := by decide +kernel
theorem h_turn : ∀ t : Fin 128, xh2 0 t = xh1 128 t := by decide +kernel
theorem x_end : ∀ s : Fin 18, ∃ t, xt2 128 s = .res t := by decide +kernel
theorem h_end : ∀ t : Fin 128, xh2 128 t = true := by decide +kernel

theorem x2_fly : ∀ k : Fin 128, 18 ≤ k.val → xt2 k.val (s18 (k.val + 110)) = .fly (tl (k.val + 110)) := by decide +kernel
theorem x2_in : ∀ k : Fin 128, ¬ 18 ≤ k.val → ∀ s : Fin 18, xt2' k.val s = xt2 k.val s := by decide +kernel
theorem x2_upd (k : ℕ) : xt2' k (s18 (k + 110)) = .res (tl (k + 110)) := by simp [xt2']
theorem x2_off (k : ℕ) (s : Fin 18) (h : s ≠ s18 (k + 110)) : xt2' k s = xt2 k s := by simp [xt2', h]
theorem h2_away : ∀ k : Fin 128, 18 ≤ k.val → xh2 k.val (tl (k.val + 110)) = false := by decide +kernel
theorem h2_back (k : ℕ) : xh2' k (tl (k + 110)) = true := by simp [xh2']
theorem h2_off (k : ℕ) (t : Fin 128) (h : t ≠ tl (k + 110)) : xh2' k t = xh2 k t := by simp [xh2', h]
theorem h2_in : ∀ k : Fin 128, ¬ 18 ≤ k.val → ∀ t : Fin 128, xh2' k.val t = xh2 k.val t := by decide +kernel
theorem x2_next : ∀ k : Fin 128, k.val + 18 < 128 → xt2 (k.val + 1) (s18 (k.val + 110)) = .fly (tl (k.val + 18 + 110)) := by decide +kernel
theorem x2_stay : ∀ k : Fin 128, ¬ k.val + 18 < 128 → ∀ s : Fin 18, xt2 (k.val + 1) s = xt2' k.val s := by decide +kernel
theorem x2_step : ∀ k : Fin 128, ∀ s : Fin 18, s ≠ s18 (k.val + 110) → xt2 (k.val + 1) s = xt2' k.val s := by decide +kernel
theorem h2_home : ∀ k : Fin 128, k.val + 18 < 128 → xh2' k.val (tl (k.val + 18 + 110)) = true := by decide +kernel
theorem h2_gone : ∀ k : Fin 128, k.val + 18 < 128 → xh2 (k.val + 1) (tl (k.val + 18 + 110)) = false := by decide +kernel
theorem h2_step : ∀ k : Fin 128, ∀ t : Fin 128, t ≠ tl (k.val + 18 + 110) → xh2 (k.val + 1) t = xh2' k.val t := by decide +kernel
theorem h2_stay : ∀ k : Fin 128, ¬ k.val + 18 < 128 → ∀ t : Fin 128, xh2 (k.val + 1) t = xh2' k.val t := by decide +kernel

theorem o_fly : ∀ k : Fin 128, 2 ≤ k.val → ot k.val (s2 k.val) = .fly (tl (k.val - 2 + 110)) := by decide +kernel
theorem o_upd (k : ℕ) : ot' k (s2 k) = .free := by simp [ot']
theorem o_off (k : ℕ) (s : Fin 2) (h : s ≠ s2 k) : ot' k s = ot k s := by simp [ot', h]
theorem o_in : ∀ k : Fin 128, ¬ 2 ≤ k.val → ∀ s : Fin 2, ot' k.val s = ot k.val s := by decide +kernel
theorem o_next : ∀ k : Fin 128, ot (k.val + 1) (s2 k.val) = .fly (tl (k.val + 110)) := by decide +kernel
theorem o_step : ∀ k : Fin 128, ∀ s : Fin 2, s ≠ s2 k.val → ot (k.val + 1) s = ot' k.val s := by decide +kernel
theorem p_away : ∀ k : Fin 128, 2 ≤ k.val → pt k.val (tl (k.val - 2 + 110)) = .away := by decide +kernel
theorem p_done : ∀ k : Fin 128, 2 ≤ k.val → pt' k.val (tl (k.val - 2 + 110)) = .done := by decide +kernel
theorem p_off (k : ℕ) (t : Fin 128) (h : t ≠ tl (k - 2 + 110)) : pt' k t = pt k t := by simp [pt', h]
theorem p_in (k : ℕ) (h : ¬ 2 ≤ k) (t : Fin 128) : pt' k t = pt k t := by simp [pt', h]
theorem p_todo : ∀ k : Fin 128, pt' k.val (tl (k.val + 110)) = .todo := by decide +kernel
theorem p_next : ∀ k : Fin 128, pt (k.val + 1) (tl (k.val + 110)) = .away := by decide +kernel
theorem p_step : ∀ k : Fin 128, ∀ t : Fin 128, t ≠ tl (k.val + 110) → pt (k.val + 1) t = pt' k.val t := by decide +kernel

theorem w_fly : ∀ k : Fin 128, 1 ≤ k.val → wt k.val (s2 (k.val + 1)) = .fly (tl (k.val - 1 + 110)) := by decide +kernel
theorem w_upd (k : ℕ) : wt' k (s2 (k + 1)) = .free := by simp [wt']
theorem w_off (k : ℕ) (s : Fin 2) (h : s ≠ s2 (k + 1)) : wt' k s = wt k s := by simp [wt', h]
theorem w_in : ∀ k : Fin 128, ¬ 1 ≤ k.val → ∀ s : Fin 2, wt' k.val s = wt k.val s := by decide +kernel
theorem w_next : ∀ k : Fin 128, k.val + 1 < 128 → wt (k.val + 1) (s2 (k.val + 1)) = .fly (tl (k.val + 1 + 110)) := by decide +kernel
theorem w_step : ∀ k : Fin 128, ∀ s : Fin 2, s ≠ s2 (k.val + 1) → wt (k.val + 1) s = wt' k.val s := by decide +kernel
theorem w_stay : ∀ k : Fin 128, ¬ k.val + 1 < 128 → ∀ s : Fin 2, wt (k.val + 1) s = wt' k.val s := by decide +kernel
theorem s_away : ∀ k : Fin 128, 1 ≤ k.val → st k.val (tl (k.val - 1 + 110)) = .away := by decide +kernel
theorem s_done : ∀ k : Fin 128, 1 ≤ k.val → st' k.val (tl (k.val - 1 + 110)) = .done := by decide +kernel
theorem s_off (k : ℕ) (t : Fin 128) (h : t ≠ tl (k - 1 + 110)) : st' k t = st k t := by simp [st', h]
theorem s_in (k : ℕ) (h : ¬ 1 ≤ k) (t : Fin 128) : st' k t = st k t := by simp [st', h]
theorem s_todo : ∀ k : Fin 128, k.val + 1 < 128 → st' k.val (tl (k.val + 1 + 110)) = .todo := by decide +kernel
theorem s_next : ∀ k : Fin 128, k.val + 1 < 128 → st (k.val + 1) (tl (k.val + 1 + 110)) = .away := by decide +kernel
theorem s_step : ∀ k : Fin 128, ∀ t : Fin 128, t ≠ tl (k.val + 1 + 110) → st (k.val + 1) t = st' k.val t := by decide +kernel
theorem s_stay : ∀ k : Fin 128, ¬ k.val + 1 < 128 → ∀ t : Fin 128, st (k.val + 1) t = st' k.val t := by decide +kernel

end Cert.Proof.K

end
-- ==== Proof.Moves.lean ====
/-
  How a trip moves the rings: the copies it starts and the copies it waits for, each as one step from a table row to the
  next, and the rule that joins the two ways through a guarded statement.
-/
module

public import proofs.«01_k».proof.Proof.Rings

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

attribute [local irreducible] tl s18 s2

section Families
variable {M : Type _} [URA M] {n : ℕ} {σ : Type _} (Φ : Fin n → σ → sProp M)

/-- A member taken out whose next state holds nothing. -/
theorem take1 (st st' : Fin n → σ) (i : Fin n) (a b : σ) (h : st i = a) (h' : st' i = b) (hb : (emp : sProp M) ⊢ Φ i b)
    (hr : ∀ k, k ≠ i → st' k = st k) :
    Ring.AtW (σ := fun _ => σ) Φ st ⊢ iprop(Φ i a ∗ Ring.AtW (σ := fun _ => σ) Φ st') := by
  iintro H
  ihave H := (focus1 Φ st i a h) $$ H
  icases H with ⟨H, Hr⟩
  isplitl [H]; · iexact H
  iapply (refocus1 Φ st st' i b h' hr)
  isplitr
  · iapply hb
    iempintro
  · iexact Hr

/-- A member put back, whatever its last state held. -/
theorem put1 (st st' : Fin n → σ) (i : Fin n) (b : σ) (h' : st' i = b) (hr : ∀ k, k ≠ i → st' k = st k) :
    iprop(Φ i b ∗ Ring.AtW (σ := fun _ => σ) Φ st) ⊢ Ring.AtW (σ := fun _ => σ) Φ st' := by
  iintro ⟨Hb, H⟩
  ihave H := (focus1 Φ st i _ rfl) $$ H
  icases H with ⟨-, Hr⟩
  iapply (refocus1 Φ st st' i b h' hr)
  isplitl [Hb]; · iexact Hb
  iexact Hr

end Families

/-- The two ways through a guarded statement meet in `M`. -/
theorem dite_join (c : Dev nD) {β : Type} {C : Prop} [Decidable C] (P M : sProp 𝕄)
    (A : C → Prog (TpuEff nD τ sig (Elt F) Λ₀ .tc) Unit) (J : Prog (TpuEff nD τ sig (Elt F) Λ₀ .tc) β) (Q : β → sProp 𝕄)
    (h1 : ∀ hc : C, P ⊢ wp frame (wpE (defs₀ (F := F)) 𝒱₀ (c : Thread nD τ) none) Set.univ (A hc) (fun _ => M)) (h0 : ¬ C → P ⊢ M) :
    iprop(P ∗ (M -∗ wp frame (wpE (defs₀ (F := F)) 𝒱₀ (c : Thread nD τ) none) Set.univ J Q)) ⊢ wp frame (wpE (defs₀ (F := F)) 𝒱₀ (c : Thread nD τ) none) Set.univ (if hc : C then (A hc >>= fun _ => J) else J) Q := by
  by_cases hc : C
  · rw [dif_pos hc, wp_bind]
    iintro ⟨HP, HJ⟩
    iapply (wp_wand_r Idealize.ShloMosaic.frame (wpE (defs₀ (F := F)) 𝒱₀ (c : Thread nD τ) none) Set.univ)
    isplitl [HP]
    · iapply (h1 hc); iexact HP
    · iintro %_ HM
      iapply HJ; iexact HM
  · rw [dif_neg hc]
    iintro ⟨HP, HJ⟩
    iapply HJ
    iapply (h0 hc); iexact HP

section Copies
variable (c : Dev nD) (XA : Buf (Elt F) (xM.view.loc (c : Thread nD τ)))
  (PO : (t : Fin 128) → Buf (Elt F) ((pktile t).view.loc (c : Thread nD τ)) → Prop)
  (SO : (t : Fin 128) → Buf (Elt F) ((sbtile t).view.loc (c : Thread nD τ)) → Prop)

abbrev XR (k : Fin 18 → SS) : sProp 𝕄 := Ring.AtW (σ := fun _ => SS) (Φx c XA) k
abbrev XH (k : Fin 128 → Bool) : sProp 𝕄 := Ring.AtW (σ := fun _ => Bool) (Ring.atHome (xhome c XA)) k
abbrev OR (k : Fin 2 → SS) : sProp 𝕄 := Ring.AtW (σ := fun _ => SS) (Φo c PO) k
abbrev WR (k : Fin 2 → SS) : sProp 𝕄 := Ring.AtW (σ := fun _ => SS) (Φw c SO) k
abbrev PR (k : Fin 128 → TS) : sProp 𝕄 := Ring.AtW (σ := fun _ => TS) (Φp c PO) k
abbrev SR (k : Fin 128 → TS) : sProp 𝕄 := Ring.AtW (σ := fun _ => TS) (Φs c SO) k

theorem fly_x_open (s : Fin 18) (t : Fin 128) : Φx c XA s (.fly t) ⊢ iprop(∃ f, ⌜XOK c XA s t f⌝ ∗ Transfers.Flight countersEmb (c : Thread nD τ) (SemLoc.dma (xcell s).sem) () NX iprop(xheld c s f ∗ xhome c XA t)) := .rfl
theorem fly_o_open (s : Fin 2) (t : Fin 128) : Φo c PO s (.fly t) ⊢ iprop(∃ g f, ⌜PO t g⌝ ∗ Transfers.Flight countersEmb (c : Thread nD τ) (SemLoc.dma (ocell s).sem) () NO iprop(pkheld c t g ∗ oheld c s f)) := .rfl
theorem fly_w_open (s : Fin 2) (t : Fin 128) : Φw c SO s (.fly t) ⊢ iprop(∃ g f, ⌜SO t g⌝ ∗ Transfers.Flight countersEmb (c : Thread nD τ) (SemLoc.dma (wcell s).sem) () NW iprop(sbheld c t g ∗ wheld c s f)) := .rfl
theorem res_x_open (s : Fin 18) (t : Fin 128) : Φx c XA s (.res t) ⊢ iprop(xidle (F := F) c s ∗ ∃ f, ⌜XOK c XA s t f⌝ ∗ xheld c s f) := .rfl
theorem free_o_open (s : Fin 2) : Φo c PO s .free ⊢ iprop(oidle (F := F) c s ∗ ∃ f, oheld c s f) := .rfl
theorem free_w_open (s : Fin 2) : Φw c SO s .free ⊢ iprop(widle (F := F) c s ∗ ∃ f, wheld c s f) := .rfl
theorem free_w_close (s : Fin 2) : iprop(widle (F := F) c s ∗ ∃ f, wheld c s f) ⊢ Φw c SO s .free := .rfl
theorem todo_p_open (t : Fin 128) : Φp c PO t .todo ⊢ iprop(∃ g, pkheld c t g) := .rfl
theorem todo_s_open (t : Fin 128) : Φs c SO t .todo ⊢ iprop(∃ g, sbheld c t g) := .rfl
theorem home_open (t : Fin 128) : Ring.atHome (xhome c XA) t true ⊢ xhome c XA t := .rfl
theorem home_close (t : Fin 128) : xhome c XA t ⊢ Ring.atHome (xhome c XA) t true := .rfl

/-- A copy of tile `t` started into slot `s`. -/
theorem fly_x (s : Fin 18) (t : Fin 128) (f : Buf (Elt F) ((xslot s).view.loc (c : Thread nD τ))) (w : S256x4096.Idx → Elt F .bf16)
    (hw : w = (xtile t).view.read (Elt F) XA) :
    Transfers.Flight countersEmb (c : Thread nD τ) (SemLoc.dma (xcell s).sem) () NX
      iprop(xheld c s ((xslot s).view.writes (Elt F) f [⟨Rect.whole S256x4096, w⟩]) ∗ xhome c XA t) ⊢ Φx c XA s (.fly t) := by
  unfold Φx
  iintro H
  iexists _
  isplitr [H]
  rotate_left
  · iexact H
  · ipureintro
    unfold XOK; rw [View.read_writes_whole, hw]

/-- A slot that is free or holds a tile is idle. -/
theorem idle_x (s : Fin 18) (a : SS) (ha : ∀ t, a ≠ .fly t) :
    Φx c XA s a ⊢ iprop(xidle (F := F) c s ∗ ∃ f, xheld c s f) := by
  cases a with
  | free => exact .rfl
  | res t =>
    unfold Φx; iintro ⟨HS, %f, -, Hf⟩
    isplitl [HS]; · iexact HS
    iexists f; iexact Hf
  | fly t => exact absurd rfl (ha t)

/-- A copy of tile `t`'s codes started from slot `s`. -/
theorem fly_o (s : Fin 2) (t : Fin 128) (g : Buf (Elt F) ((pktile t).view.loc (c : Thread nD τ))) (f : Buf (Elt F) ((oslot s).view.loc (c : Thread nD τ)))
    (hg : PO t g) :
    Transfers.Flight countersEmb (c : Thread nD τ) (SemLoc.dma (ocell s).sem) () NO iprop(pkheld c t g ∗ oheld c s f) ⊢ Φo c PO s (.fly t) := by
  unfold Φo
  iintro H
  iexists g; iexists f
  isplitr [H]
  rotate_left
  · iexact H
  · ipureintro; exact hg
theorem fly_w (s : Fin 2) (t : Fin 128) (g : Buf (Elt F) ((sbtile t).view.loc (c : Thread nD τ))) (f : Buf (Elt F) ((wslot s).view.loc (c : Thread nD τ)))
    (hg : SO t g) :
    Transfers.Flight countersEmb (c : Thread nD τ) (SemLoc.dma (wcell s).sem) () NW iprop(sbheld c t g ∗ wheld c s f) ⊢ Φw c SO s (.fly t) := by
  unfold Φw
  iintro H
  iexists g; iexists f
  isplitr [H]
  rotate_left
  · iexact H
  · ipureintro; exact hg

/-- Pass 1 starts the copy of tile `k + 4`. -/
theorem issue1 (k : Fin k0_t1_loop.trips) (h : k.val + 4 < 128) (p1 p2 p3 p4 p5 p6) :
    iprop(XR c XA (xt1 k.val) ∗ XH c XA (xh1 k.val)) ⊢ wp frame (wpE (defs₀ (F := F)) 𝒱₀ (c : Thread nD τ) none) Set.univ
        (Prog.lift (.enqueueDma (xM.slice (Rect.unit (s := S32768x4096) (k0_off3 k) S256x4096.size p1) (fun _ => rfl))
          (.here ((xbM.slice (Rect.unit (s := S18x256x4096) (k0_off2 k) S1x256x4096.size p2) (fun _ => rfl)).squeeze S256x4096 squeezes_S1x256x4096_S256x4096))
          (.dma ((cc0_scratch9.slice (Rect.unit (s := S18) (k0_off1 k) S1.size p3)).squeeze S_ squeezes_S1_S_).sem) p4 p5 p6))
        (fun _ => iprop(XR c XA (xt1' k.val) ∗ XH c XA (xh1' k.val))) := by
  have hx := x1_free ⟨k.val, lt1 k⟩ h
  iintro ⟨HX, HH⟩
  ihave HX := (focus1 (Φx c XA) (xt1 k.val) (s18 (k.val + 4)) _ hx) $$ HX
  icases HX with ⟨HX, HXr⟩
  ihave HH := (take1 (Ring.atHome (xhome c XA)) (xh1 k.val) (xh1' k.val) (tl (k.val + 4)) true false (h1_in ⟨k.val, lt1 k⟩ h) (h1_out ⟨k.val, lt1 k⟩ h) .rfl (h1_off ⟨k.val, lt1 k⟩)) $$ HH
  icases HH with ⟨HH, HHr⟩
  ihave HH := (home_open c XA _) $$ HH
  ihave HX := (idle_x c XA _ _ (by intro t; split <;> simp)) $$ HX
  icases HX with ⟨HS, %f, Hf⟩
  sl_exec
  sl_step
  isplitl [HS HXr]
  · iapply (refocus1 (Φx c XA) (xt1 k.val) (xt1' k.val) (s18 (k.val + 4)) _ (x1_upd k.val h) (x1_off k.val))
    isplitl [HS]
    · iapply (fly_x c XA (s18 (k.val + 4)) (tl (k.val + 4)) f (issue1.sl.dma0 c XA k p1) (by unfold issue1.sl.dma0; rfl))
      iexact HS
    · iexact HXr
  · iexact HHr

/-- Pass 2 waits for the copy of its tile. -/
theorem waitX2 (k : Fin k0_t2_loop.trips) (h : 18 ≤ k.val) (p1 p2 p3 p4 p5) :
    iprop((XR c XA (xt2 k.val) ∗ XH c XA (xh2 k.val)) ∗ ∃ W, owes (c : Thread nD τ) 0 W) ⊢ wp frame (wpE (defs₀ (F := F)) 𝒱₀ (c : Thread nD τ) none) Set.univ
        (Prog.lift (.waitDma2 ((cc0_scratch9.slice (Rect.unit (s := S18) (k0_off43 k) S1.size p3)).squeeze S_ squeezes_S1_S_).sem
          (xM.slice (Rect.unit (s := S32768x4096) (k0_off45 k) S256x4096.size p1) (fun _ => rfl))
          ((xbM.slice (Rect.unit (s := S18x256x4096) (k0_off44 k) S1x256x4096.size p2) (fun _ => rfl)).squeeze S256x4096 squeezes_S1x256x4096_S256x4096) p4 p5))
        (fun _ => iprop((XR c XA (xt2' k.val) ∗ XH c XA (xh2' k.val)) ∗ ∃ W, owes (c : Thread nD τ) 0 W)) := by
  have hx := x2_fly ⟨k.val, lt2 k⟩ h
  iintro ⟨⟨HX, HH⟩, ⟨%W, HW⟩⟩
  ihave HX := (focus1 (Φx c XA) (xt2 k.val) (s18 (k.val + 110)) _ hx) $$ HX
  icases HX with ⟨HX, HXr⟩
  ihave HX := (fly_x_open c XA _ _) $$ HX
  icases HX with ⟨%f, %hf, HF⟩
  sl_exec
  sl_step
  isplitr [HW]
  · isplitl [HF HF_dst HXr]
    · iapply (refocus1 (Φx c XA) (xt2 k.val) (xt2' k.val) (s18 (k.val + 110)) _ (x2_upd k.val) (x2_off k.val))
      isplitr [HXr]
      · unfold Φx
        isplitl [HF]; · iexact HF
        iexists f
        isplitr; · ipureintro; exact hf
        iexact HF_dst
      · iexact HXr
    · iapply (put1 (Ring.atHome (xhome c XA)) (xh2 k.val) (xh2' k.val) (tl (k.val + 110)) true (h2_back k.val) (h2_off k.val))
      isplitl [HF_src]
      · iapply (home_close c XA); iexact HF_src
      iexact HH
  · iexists _; iexact HW

/-- Pass 2 waits for the copy of the codes of two trips before. -/
theorem waitO2 (k : Fin k0_t2_loop.trips) (h : 2 ≤ k.val) (p1 p2 p3 p4 p5) :
    iprop((OR c PO (ot k.val) ∗ PR c PO (pt k.val)) ∗ ∃ W, owes (c : Thread nD τ) 0 W) ⊢ wp frame (wpE (defs₀ (F := F)) 𝒱₀ (c : Thread nD τ) none) Set.univ
        (Prog.lift (.waitDma2 ((cc0_scratch10.slice (Rect.unit (s := S2) (k0_off46 k) S1.size p3)).squeeze S_ squeezes_S1_S_).sem
          ((obM.slice (Rect.unit (s := S2x256x2048) (k0_off48 k) S1x256x2048.size p1) (fun _ => rfl)).squeeze S256x2048 squeezes_S1x256x2048_S256x2048)
          (pkM.slice (Rect.unit (s := S32768x2048) (k0_off47 k) S256x2048.size p2) (fun _ => rfl)) p4 p5))
        (fun _ => iprop((OR c PO (ot' k.val) ∗ PR c PO (pt' k.val)) ∗ ∃ W, owes (c : Thread nD τ) 0 W)) := by
  have hx := o_fly ⟨k.val, lt2 k⟩ h
  iintro ⟨⟨HX, HH⟩, ⟨%W, HW⟩⟩
  ihave HX := (focus1 (Φo c PO) (ot k.val) (s2 k.val) _ hx) $$ HX
  icases HX with ⟨HX, HXr⟩
  ihave HX := (fly_o_open c PO _ _) $$ HX
  icases HX with ⟨%g, %f, %hf, HF⟩
  sl_exec
  sl_step
  isplitr [HW]
  · isplitl [HF HF_src HXr]
    · iapply (refocus1 (Φo c PO) (ot k.val) (ot' k.val) (s2 k.val) _ (o_upd k.val) (o_off k.val))
      isplitr [HXr]
      · unfold Φo
        isplitl [HF]; · iexact HF
        iexists f
        iexact HF_src
      · iexact HXr
    · iapply (put1 (Φp c PO) (pt k.val) (pt' k.val) (tl (k.val - 2 + 110)) .done (p_done ⟨k.val, lt2 k⟩ h) (p_off k.val))
      isplitl [HF_dst]
      · unfold Φp
        iexists g
        isplitr; · ipureintro; exact hf
        iexact HF_dst
      iexact HH
  · iexists _; iexact HW

/-- Pass 2 waits for the copy of the scales of the trip before. -/
theorem waitW2 (k : Fin k0_t2_loop.trips) (h : 1 ≤ k.val) (p1 p2 p3 p4 p5) :
    iprop((WR c SO (wt k.val) ∗ SR c SO (st k.val)) ∗ ∃ W, owes (c : Thread nD τ) 0 W) ⊢ wp frame (wpE (defs₀ (F := F)) 𝒱₀ (c : Thread nD τ) none) Set.univ
        (Prog.lift (.waitDma2 ((cc0_scratch11.slice (Rect.unit (s := S2) (k0_off49 k) S1.size p3)).squeeze S_ squeezes_S1_S_).sem
          ((wbM.slice (Rect.unit (s := S2x256x256) (k0_off51 k) S1x256x256.size p1) (fun _ => rfl)).squeeze S256x256 squeezes_S1x256x256_S256x256)
          (sbM.slice (Rect.unit (s := S32768x256) (k0_off50 k) S256x256.size p2) (fun _ => rfl)) p4 p5))
        (fun _ => iprop((WR c SO (wt' k.val) ∗ SR c SO (st' k.val)) ∗ ∃ W, owes (c : Thread nD τ) 0 W)) := by
  have hx := w_fly ⟨k.val, lt2 k⟩ h
  iintro ⟨⟨HX, HH⟩, ⟨%W, HW⟩⟩
  ihave HX := (focus1 (Φw c SO) (wt k.val) (s2 (k.val + 1)) _ hx) $$ HX
  icases HX with ⟨HX, HXr⟩
  ihave HX := (fly_w_open c SO _ _) $$ HX
  icases HX with ⟨%g, %f, %hf, HF⟩
  sl_exec
  sl_step
  isplitr [HW]
  · isplitl [HF HF_src HXr]
    · iapply (refocus1 (Φw c SO) (wt k.val) (wt' k.val) (s2 (k.val + 1)) _ (w_upd k.val) (w_off k.val))
      isplitr [HXr]
      · unfold Φw
        isplitl [HF]; · iexact HF
        iexists f
        iexact HF_src
      · iexact HXr
    · iapply (put1 (Φs c SO) (st k.val) (st' k.val) (tl (k.val - 1 + 110)) .done (s_done ⟨k.val, lt2 k⟩ h) (s_off k.val))
      isplitl [HF_dst]
      · unfold Φs
        iexists g
        isplitr; · ipureintro; exact hf
        iexact HF_dst
      iexact HH
  · iexists _; iexact HW

/-- Pass 2 starts the copy of the next trip's scales: `f` is what their slot holds, and the copy leaves in the result what
    the slot reads. -/
theorem issueW2 (k : Fin k0_t2_loop.trips) (h : k.val + 1 < 128) (p1 p2 p3 p4 p5 p6)
    (f : Buf (Elt F) ((wslot (s2 (k.val + 1))).view.loc (c : Thread nD τ)))
    (hS : ∀ g : Buf (Elt F) ((sbtile (tl (k.val + 1 + 110))).view.loc (c : Thread nD τ)),
      (sbtile (tl (k.val + 1 + 110))).view.read (Elt F) g = (wslot (s2 (k.val + 1))).view.read (Elt F) f → SO (tl (k.val + 1 + 110)) g) :
    iprop((widle (F := F) c (s2 (k.val + 1)) ∗ wheld c (s2 (k.val + 1)) f) ∗ Ring.restL (Φw c SO) (wt' k.val) [s2 (k.val + 1)] ∗ SR c SO (st' k.val)) ⊢ wp frame (wpE (defs₀ (F := F)) 𝒱₀ (c : Thread nD τ) none) Set.univ
        (Prog.lift (.enqueueDma ((wbM.slice (Rect.unit (s := S2x256x256) (k0_off93 k) S1x256x256.size p1) (fun _ => rfl)).squeeze S256x256 squeezes_S1x256x256_S256x256)
          (.here (sbM.slice (Rect.unit (s := S32768x256) (k0_off92 k) S256x256.size p2) (fun _ => rfl)))
          (.dma ((cc0_scratch11.slice (Rect.unit (s := S2) (k0_off91 k) S1.size p3)).squeeze S_ squeezes_S1_S_).sem) p4 p5 p6))
        (fun _ => iprop(WR c SO (wt (k.val + 1)) ∗ SR c SO (st (k.val + 1)))) := by
  iintro ⟨⟨HS, Hf⟩, HXr, HH⟩
  ihave HH := (take1 (Φs c SO) (st' k.val) (st (k.val + 1)) (tl (k.val + 1 + 110)) .todo .away (s_todo ⟨k.val, lt2 k⟩ h) (s_next ⟨k.val, lt2 k⟩ h) .rfl (s_step ⟨k.val, lt2 k⟩)) $$ HH
  icases HH with ⟨HH, HHr⟩
  ihave HH := (todo_s_open c SO _) $$ HH
  icases HH with ⟨%g, HH⟩
  sl_exec
  sl_step
  isplitl [HS HXr]
  · iapply (refocus1 (Φw c SO) (wt' k.val) (wt (k.val + 1)) (s2 (k.val + 1)) _ (w_next ⟨k.val, lt2 k⟩ h) (w_step ⟨k.val, lt2 k⟩))
    isplitl [HS]
    · iapply (fly_w c SO (s2 (k.val + 1)) (tl (k.val + 1 + 110)) ((sbtile (tl (k.val + 1 + 110))).view.writes (Elt F) g [⟨Rect.whole S256x256, issueW2.sl.dma0 c k f⟩]) f
        (hS _ ((View.read_writes_whole _ _ _).trans (by unfold issueW2.sl.dma0; rfl))))
      iexact HS
    · iexact HXr
  · iexact HHr

/-- Pass 2 starts the copy of the tile of 18 trips on into the slot just used. -/
theorem issueX2 (k : Fin k0_t2_loop.trips) (h : k.val + 18 < 128) (p1 p2 p3 p4 p5 p6) :
    iprop(XR c XA (xt2' k.val) ∗ XH c XA (xh2' k.val)) ⊢ wp frame (wpE (defs₀ (F := F)) 𝒱₀ (c : Thread nD τ) none) Set.univ
        (Prog.lift (.enqueueDma (xM.slice (Rect.unit (s := S32768x4096) (k0_off96 k) S256x4096.size p1) (fun _ => rfl))
          (.here ((xbM.slice (Rect.unit (s := S18x256x4096) (k0_off95 k) S1x256x4096.size p2) (fun _ => rfl)).squeeze S256x4096 squeezes_S1x256x4096_S256x4096))
          (.dma ((cc0_scratch9.slice (Rect.unit (s := S18) (k0_off94 k) S1.size p3)).squeeze S_ squeezes_S1_S_).sem) p4 p5 p6))
        (fun _ => iprop(XR c XA (xt2 (k.val + 1)) ∗ XH c XA (xh2 (k.val + 1)))) := by
  iintro ⟨HX, HH⟩
  ihave HX := (focus1 (Φx c XA) (xt2' k.val) (s18 (k.val + 110)) _ (x2_upd k.val)) $$ HX
  icases HX with ⟨HX, HXr⟩
  ihave HH := (take1 (Ring.atHome (xhome c XA)) (xh2' k.val) (xh2 (k.val + 1)) (tl (k.val + 18 + 110)) true false (h2_home ⟨k.val, lt2 k⟩ h) (h2_gone ⟨k.val, lt2 k⟩ h) .rfl (h2_step ⟨k.val, lt2 k⟩)) $$ HH
  icases HH with ⟨HH, HHr⟩
  ihave HH := (home_open c XA _) $$ HH
  ihave HX := (idle_x c XA _ _ (by intro t; simp)) $$ HX
  icases HX with ⟨HS, %f, Hf⟩
  sl_exec
  sl_step
  isplitl [HS HXr]
  · iapply (refocus1 (Φx c XA) (xt2' k.val) (xt2 (k.val + 1)) (s18 (k.val + 110)) _ (x2_next ⟨k.val, lt2 k⟩ h) (x2_step ⟨k.val, lt2 k⟩))
    isplitl [HS]
    · iapply (fly_x c XA (s18 (k.val + 110)) (tl (k.val + 18 + 110)) f (issueX2.sl.dma0 c XA k p1) (by unfold issueX2.sl.dma0; rfl))
      iexact HS
    · iexact HXr
  · iexact HHr

end Copies

end Cert.Proof.K

end
-- ==== Proof.Spec.lean ====
/-
  What the quantiser computes, tile by tile, as functions of the operand's words: the block maxima of a group of 256
  channels, the running maximum, the global scale, the block scales and their reciprocals, the two codes of a byte.
-/
module

public import proofs.«01_k».proof.Proof.Rings

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ
attribute [local irreducible] tl s18 s2

/-- An index of a `d × 256 × m` array as one of its blocks `1 × 256 × m`. -/
def drop3 {d m : ℕ} (j : (⟨3, ![d, 256, m]⟩ : Shape).Idx) : (⟨3, ![1, 256, m]⟩ : Shape).Idx := fun a => match a with
  | 0 => ⟨0, Nat.one_pos⟩
  | 1 => ⟨(j 1).val, (j 1).isLt⟩
  | 2 => ⟨(j 2).val, (j 2).isLt⟩
def up3 {n m : ℕ} (j : (⟨2, ![n, m]⟩ : Shape).Idx) : (⟨3, ![1, n, m]⟩ : Shape).Idx := fun a => match a with
  | 0 => ⟨0, Nat.one_pos⟩
  | 1 => ⟨(j 0).val, (j 0).isLt⟩
  | 2 => ⟨(j 1).val, (j 1).isLt⟩
/-- Two coordinates as an index. -/
def ix2 {n m : ℕ} (a b : ℕ) (ha : a < n) (hb : b < m) : (⟨2, ![n, m]⟩ : Shape).Idx := fun i => match i with
  | 0 => ⟨a, ha⟩
  | 1 => ⟨b, hb⟩
/-- Three coordinates as an index, the first 0. -/
def ix3 {n m : ℕ} (a b : ℕ) (ha : a < n) (hb : b < m) : (⟨3, ![1, n, m]⟩ : Shape).Idx := fun i => match i with
  | 0 => ⟨0, Nat.one_pos⟩
  | 1 => ⟨a, ha⟩
  | 2 => ⟨b, hb⟩

/-- Channels `256 g` to `256 g + 255` of a tile. -/
def xg (X : S256x4096.Idx → Elt F .bf16) (g : Fin 16) : Vec F S1x256x256 .bf16 :=
  fun i => X (ix2 (i 1).val (256 * g.val + (i 2).val) (i 1).isLt (by have h : (i 2).val < 256 := (i 2).isLt; have := g.isLt; omega))

/-- The block maxima of a group of 256 channels: row `b` for block `b` of the group, column `r` for row `r` of the tile. -/
def zb (pm : Vec F S256x256 .bf16) (x : Vec F S1x256x256 .bf16) : FVec F S16x256 .f32 :=
  k0_pay5 (k0_pay2 pm x) (k0_pay3 pm x) (k0_pay4 pm x)

/-- The running maximum after the first `n` groups of a tile. -/
def accN (pm : Vec F S256x256 .bf16) (X : S256x4096.Idx → Elt F .bf16) (a : FVec F S16x256 .f32) : (n : ℕ) → n ≤ 16 → FVec F S16x256 .f32
  | 0, _ => a
  | n + 1, h => maximumf (accN pm X a n (Nat.le_of_succ_le h)) (zb pm (xg X ⟨n, h⟩))
def accG (pm : Vec F S256x256 .bf16) (X : S256x4096.Idx → Elt F .bf16) (a : FVec F S16x256 .f32) : FVec F S16x256 .f32 := accN pm X a 16 le_rfl

/-- The block maxima of a tile, block by row, and turned. -/
def btV (pm : Vec F S256x256 .bf16) (X : S256x4096.Idx → Elt F .bf16) : Vec F S1x256x256 .f32 :=
  fun i => zb pm (xg X ⟨(i 1).val / 16, by have h : (i 1).val < 256 := (i 1).isLt; omega⟩)
    (ix2 ((i 1).val % 16) (i 2).val (Nat.mod_lt _ (by decide)) (i 2).isLt)
def bmV (pm : Vec F S256x256 .bf16) (X : S256x4096.Idx → Elt F .bf16) : Vec F S1x256x256 .bf16 := k0_pay1 (btV pm X)

/-- The running maximum before trip `k`. -/
def accV (pm : Vec F S256x256 .bf16) (X : Fin 128 → S256x4096.Idx → Elt F .bf16) : ℕ → FVec F S16x256 .f32
  | 0 => k0_pay287
  | k + 1 => accG pm (X (tl k)) (accV pm X k)

/-- The global scale. -/
def sgV (pm : Vec F S256x256 .bf16) (X : Fin 128 → S256x4096.Idx → Elt F .bf16) : F .f32 := k0_pay291 (accV pm X 128)

/-- The block scales of a tile and their reciprocals. -/
def sbV (sg : F .f32) (bm : Vec F S1x256x256 .bf16) : FVec F S1x256x256 .fp8e4m3 := k0_pay88 sg bm
def ivV (sg : F .f32) (bm : Vec F S1x256x256 .bf16) : FVec F S1x256x256 .f32 := k0_pay90 (k0_pay89 sg bm)

/-- Half `h` of the reciprocals of a tile. -/
def ivh (iv : Vec F S1x256x256 .f32) (h : Fin 2) : Vec F S1x256x128 .f32 :=
  fun i => iv (ix3 (i 1).val (128 * h.val + (i 2).val) (i 1).isLt (by have h2 : (i 2).val < 128 := (i 2).isLt; have := h.isLt; omega))

/-- The column of a half of the reciprocals that a column of byte-pairs reads: `o` plus an eighth of the column. -/
def idxK (v181 : IVec S256x128 32) (o : BitVec 32) : IVec S256x128 32 :=
  have v286 : IVec S256x128 32 := broadcast S256x128 8#32
  have v287 : IVec S256x128 32 := divsi v181 v286
  have v288 : IVec S256x128 32 := broadcast S256x128 0#32
  have v289 : IVec S256x128 1 := cmpi .sgt v181 v288
  have v290 : IVec S256x128 32 := extui 32 v289 natLt_1_32
  have v291 : IVec S256x128 32 := broadcast S256x128 0#32
  have v292 : IVec S256x128 1 := cmpi .slt v181 v291
  have v293 : IVec S256x128 32 := extui 32 v292 natLt_1_32
  have v294 : IVec S256x128 32 := subi v290 v293
  let v295 : BitVec 1 := Scalar.cmpi .sgt 8#32 0#32
  let v296 : BitVec 32 := Scalar.extui v295
  let v297 : BitVec 1 := Scalar.cmpi .slt 8#32 0#32
  let v298 : BitVec 32 := Scalar.extui v297
  let v299 : BitVec 32 := Scalar.subi v296 v298
  have v300 : IVec S256x128 32 := broadcast S256x128 v299
  have v301 : IVec S256x128 1 := cmpi .ne v294 v300
  have v302 : IVec S256x128 32 := broadcast S256x128 8#32
  have v303 : IVec S256x128 32 := remsi v181 v302
  have v304 : IVec S256x128 32 := broadcast S256x128 0#32
  have v305 : IVec S256x128 1 := cmpi .ne v303 v304
  have v306 : IVec S256x128 1 := andi v301 v305
  have v307 : IVec S256x128 32 := broadcast S256x128 1#32
  have v308 : IVec S256x128 32 := subi v287 v307
  have v309 : IVec S256x128 32 := select v306 v308 v287
  have v310 : IVec S256x128 32 := broadcast S256x128 o
  have v311 : IVec S256x128 32 := addi v310 v309
  have v312 : IVec S256x128 32 := broadcast S256x128 0#32
  have v313 : IVec S256x128 1 := cmpi .slt v311 v312
  have v314 : IVec S256x128 32 := broadcast S256x128 128#32
  have v315 : IVec S256x128 32 := addi v311 v314
  have v316 : IVec S256x128 32 := select v313 v315 v311
  have v317 : IVec S256x128x1 32 := shapeCast S256x128x1 v316 shapeCasts_S256x128_S256x128x1
  have v318 : IVec S256x128 32 := shapeCast S256x128 v317 shapeCasts_S256x128x1_S256x128
  v318

/-- The four-bit code of each scaled element, one to a byte. -/
def codeK (v369 v319 : FVec F S256x128 .f32) : IVec S256x128 8 :=
  have v370 : FVec F S256x128 .f32 := mulf v369 v319
  have cst_188 : F .f32 := Scalar.ofBits .f32 0xC0C00000#32
  have cst_189 : F .f32 := Scalar.ofBits .f32 0x40C00000#32
  have v371 : FVec F S256x128 .f32 := broadcast S256x128 cst_188
  have v372 : FVec F S256x128 .f32 := maximumf v371 v370
  have v373 : FVec F S256x128 .f32 := broadcast S256x128 cst_189
  have v374 : FVec F S256x128 .f32 := minimumf v373 v372
  have v375 : FVec F S256x128 .f32 := absf v374
  have v376 : IVec S256x128 32 := broadcast S256x128 0#32
  have cst_191 : F .f32 := Scalar.ofBits .f32 0x3F400000#32
  have v377 : FVec F S256x128 .f32 := broadcast S256x128 cst_191
  have v378 : IVec S256x128 1 := cmpf .oge v375 v377
  have v379 : IVec S256x128 32 := extui 32 v378 natLt_1_32
  have v380 : IVec S256x128 32 := addi v376 v379
  have cst_192 : F .f32 := Scalar.ofBits .f32 0x3FE00000#32
  have v381 : FVec F S256x128 .f32 := broadcast S256x128 cst_192
  have v382 : IVec S256x128 1 := cmpf .oge v375 v381
  have v383 : IVec S256x128 32 := extui 32 v382 natLt_1_32
  have v384 : IVec S256x128 32 := addi v380 v383
  have cst_193 : F .f32 := Scalar.ofBits .f32 0x40600000#32
  have v385 : FVec F S256x128 .f32 := broadcast S256x128 cst_193
  have v386 : IVec S256x128 1 := cmpf .oge v375 v385
  have v387 : IVec S256x128 32 := extui 32 v386 natLt_1_32
  have v388 : IVec S256x128 32 := addi v384 v387
  have cst_194 : F .f32 := Scalar.ofBits .f32 0x3E800000#32
  have v389 : FVec F S256x128 .f32 := broadcast S256x128 cst_194
  have v390 : IVec S256x128 1 := cmpf .ogt v375 v389
  have v391 : IVec S256x128 32 := extui 32 v390 natLt_1_32
  have v392 : IVec S256x128 32 := addi v388 v391
  have cst_195 : F .f32 := Scalar.ofBits .f32 0x3FA00000#32
  have v393 : FVec F S256x128 .f32 := broadcast S256x128 cst_195
  have v394 : IVec S256x128 1 := cmpf .ogt v375 v393
  have v395 : IVec S256x128 32 := extui 32 v394 natLt_1_32
  have v396 : IVec S256x128 32 := addi v392 v395
  have cst_196 : F .f32 := Scalar.ofBits .f32 0x40200000#32
  have v397 : FVec F S256x128 .f32 := broadcast S256x128 cst_196
  have v398 : IVec S256x128 1 := cmpf .ogt v375 v397
  have v399 : IVec S256x128 32 := extui 32 v398 natLt_1_32
  have v400 : IVec S256x128 32 := addi v396 v399
  have cst_197 : F .f32 := Scalar.ofBits .f32 0x40A00000#32
  have v401 : FVec F S256x128 .f32 := broadcast S256x128 cst_197
  have v402 : IVec S256x128 1 := cmpf .ogt v375 v401
  have v403 : IVec S256x128 32 := extui 32 v402 natLt_1_32
  have v404 : IVec S256x128 32 := addi v400 v403
  have cst_198 : F .f32 := Scalar.ofBits .f32 0x00000000#32
  have v405 : FVec F S256x128 .f32 := broadcast S256x128 cst_198
  have v406 : IVec S256x128 1 := cmpf .olt v374 v405
  have v407 : IVec S256x128 32 := broadcast S256x128 8#32
  have v408 : IVec S256x128 32 := addi v404 v407
  have v409 : IVec S256x128 32 := select v406 v408 v404
  have v410 : IVec S256x128 32 := broadcast S256x128 7#32
  have v411 : IVec S256x128 32 := andi v409 v410
  have v412 : IVec S256x128 32 := broadcast S256x128 7#32
  have v413 : IVec S256x128 32 := addi v411 v412
  have v414 : IVec S256x128 32 := broadcast S256x128 7#32
  have v415 : IVec S256x128 32 := ori v413 v414
  have v416 : IVec S256x128 32 := andi v409 v415
  have v417 : IVec S256x128 8 := trunci 8 v416 natLt_8_32
  v417

/-- Two codes in a byte. -/
def packK (v368 v417 : IVec S256x128 8) : IVec S1x256x128 8 :=
  have v418 : IVec S64x128 32 := bitcast S64x128 32 v368 bitcasts_S256x128_w8_S64x128_w32
  have v419 : IVec S64x128 32 := bitcast S64x128 32 v417 bitcasts_S256x128_w8_S64x128_w32
  have v420 : IVec S64x128 32 := broadcast S64x128 4#32
  have v421 : IVec S64x128 32 := shli v419 v420
  have v422 : IVec S64x128 32 := ori v418 v421
  have v423 : IVec S256x128 8 := bitcast S256x128 8 v422 bitcasts_S64x128_w32_S256x128_w8
  have v427 : IVec S1x256x128 8 := shapeCast S1x256x128 v423 shapeCasts_S256x128_S1x256x128
  v427

/-- The bytes of one group of 256 channels. -/
def grpK (v181 : IVec S256x128 32) (pp : Vec F S256x256 .bf16) (iv : Vec F S1x256x128 .f32) (x : Vec F S1x256x256 .bf16) (o : BitVec 32) : IVec S1x256x128 8 :=
  packK (codeK (extractStridedSlice S256x128 ![0, 0] (k0_pay92 x pp) slices_S256x256_o0_0_S256x128) (dynamicGather 1 (k0_pay91 iv) (idxK v181 o)))
    (codeK (extractStridedSlice S256x128 ![0, 128] (k0_pay92 x pp) slices_S256x256_o0_128_S256x128) (dynamicGather 1 (k0_pay91 iv) (idxK v181 o)))

/-- The bytes of a tile. -/
def obV (v181 : IVec S256x128 32) (pp : Vec F S256x256 .bf16) (iv : Vec F S1x256x256 .f32) (X : S256x4096.Idx → Elt F .bf16) :
    S256x2048.Idx → Elt F .i8 :=
  fun j => grpK v181 pp (ivh iv ⟨(j 1).val / 128 / 8, by have h : (j 1).val < 2048 := (j 1).isLt; omega⟩)
    (xg X ⟨(j 1).val / 128, by have h : (j 1).val < 2048 := (j 1).isLt; omega⟩)
    (BitVec.ofNat 32 (16 * ((j 1).val / 128 % 8)))
    (ix3 (j 0).val ((j 1).val % 128) (j 0).isLt (Nat.mod_lt _ (by decide)))

end Cert.Proof.K

end
-- ==== Proof.Facts.lean ====
/-
  What a load of a slot of the operand's ring reads, and what a list of 16 stores of 16 rows leaves.
-/
module

public import proofs.«01_k».proof.Proof.Spec
public import Idealize.ShloMosaic.Lib.WritesUnit
public import Idealize.ShloMosaic.Lib.VecWindow
public import Idealize.ShloMosaic.Lib.Pipeline.Value

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ
attribute [local irreducible] tl s18 s2

theorem s18_val (p : ℕ) : (s18 p).val = p % 18 := by unfold s18; rfl
theorem s2_val (p : ℕ) : (s2 p).val = p % 2 := by unfold s2; rfl
theorem tl_val (p : ℕ) : (tl p).val = p % 128 := by unfold tl; rfl

/-- Two pieces of a list of stores are the same when their offsets and payloads are. -/
theorem piece_congr {s : Shape} {e : EltTy} {Val : EltTy → Type} {off off' size : Fin s.rank → ℕ} (inb : ∀ a, off a + size a ≤ s.size a)
    (inb' : ∀ a, off' a + size a ≤ s.size a) (h : off = off') (w w' : (⟨s.rank, size⟩ : Shape).Idx → Val e) (hw : w = w') :
    (⟨Rect.unit off size inb, w⟩ : View.Piece Val s e) = ⟨Rect.unit off' size inb', w'⟩ := by
  subst h hw; rfl

theorem pieces_congr {s : Shape} {e : EltTy} {Val : EltTy → Type} {off off' size : Fin s.rank → ℕ} (inb : ∀ a, off a + size a ≤ s.size a)
    (inb' : ∀ a, off' a + size a ≤ s.size a) (h : off = off') (w w' : (⟨s.rank, size⟩ : Shape).Idx → Val e) (hw : w = w')
    {L L' : List (View.Piece Val s e)} (hL : L = L') :
    (⟨Rect.unit off size inb, w⟩ : View.Piece Val s e) :: L = ⟨Rect.unit off' size inb', w'⟩ :: L' := by
  subst h hw hL; rfl

section
variable (c : Dev nD) (XA : Buf (Elt F) (xM.view.loc (c : Thread nD τ)))

/-- A load of 256 channels of a slot that holds tile `t` reads those channels of tile `t`. -/
theorem xload {s : Fin 18} {t : Fin 128} {f : Buf (Elt F) ((xslot s).view.loc (c : Thread nD τ))} (h : XOK c XA s t f) (g : Fin 16)
    {off : Fin 3 → ℕ} (inb : ∀ a, off a + S1x256x256.size a ≤ S18x256x4096.size a) (ho : off = ![s.val, 0, 256 * g.val]) :
    xbM.view.readAt (Elt F) (Rect.unit (s := S18x256x4096) off S1x256x256.size inb).toLoadRect f = xg ((xtile t).view.read (Elt F) XA) g := by
  subst ho
  unfold XOK at h
  rw [← h]
  funext i
  refine Eq.trans ?_ (congrFun (Memref.read_squeeze_slice xbM (Rect.unit (s := S18x256x4096) (s18Off s) S1x256x4096.size (s18Off_x s)) (fun _ => rfl)
    squeezes_S1x256x4096_S256x4096 squeezes_S1x256x4096_S256x4096.numel_eq f) _).symm
  refine Eq.trans ?_ (shapeCast_apply _ _ _ (ix3 (n := 256) (m := 4096) (i 1).val (256 * g.val + (i 2).val) (i 1).isLt
      (by have h : (i 2).val < 256 := (i 2).isLt; have := g.isLt; omega)) (by
    rw [Shape.rowMajor_val_three, Shape.rowMajor_val_two]
    show (0 * 256 + (i 1).val) * 4096 + (256 * g.val + (i 2).val) = (i 1).val * 4096 + (256 * g.val + (i 2).val)
    omega)).symm
  refine congrArg f (funext fun a => Fin.ext ?_)
  have h0 : (i 0).val < 1 := (i 0).isLt
  match a with
  | 0 => show s.val + 1 * (i 0).val = s.val + 1 * 0; omega
  | 1 => show 0 + 1 * (i 1).val = 0 + 1 * (i 1).val; rfl
  | 2 => show 256 * g.val + 1 * (i 2).val = 0 + 1 * (256 * g.val + (i 2).val); omega

/-- Sixteen stores of sixteen rows each to slot `s` of the block maxima leave, at row `j`, row `j % 16` of payload `j / 16`. -/
theorem read_rows16 (s : ℕ) (inb : ∀ (g : Fin 16) (a : Fin 3), (![s, 16 * g.val, 0] : Fin 3 → ℕ) a + S1x16x256.size a ≤ S2x256x256.size a)
    (P : Fin 16 → S1x16x256.Idx → Elt F .f32) (f : Buf (Elt F) (btM.view.loc (c : Thread nD τ))) (j : S2x256x256.Idx) (hj : (j 0).val = s) :
    btM.view.read (Elt F) (btM.view.writes (Elt F) f (View.tilePieces (s := S2x256x256) S1x16x256.size (fun g : Fin 16 => ![s, 16 * g.val, 0]) inb P 16 le_rfl)) j
      = P ⟨(j 1).val / 16, by have h : (j 1).val < 256 := (j 1).isLt; omega⟩
          (ix3 ((j 1).val % 16) (j 2).val (Nat.mod_lt _ (by decide)) (j 2).isLt) := by
  have h1 : (j 1).val < 256 := (j 1).isLt
  refine View.read_tilePieces btM.view f S1x16x256.size _ inb P 16 le_rfl j ⟨(j 1).val / 16, by omega⟩ (by show (j 1).val / 16 < 16; omega) _ ?_ 1 ?_
  · intro a
    match a with
    | 0 => show (j 0).val = s + 0; omega
    | 1 => show (j 1).val = 16 * ((j 1).val / 16) + (j 1).val % 16; omega
    | 2 => show (j 2).val = 0 + (j 2).val; omega
  · intro g hg
    have hne : g.val ≠ (j 1).val / 16 := fun h => hg (Fin.ext h)
    show (j 1).val < 16 * g.val ∨ 16 * g.val + 16 ≤ (j 1).val
    omega

end

end Cert.Proof.K

end
-- ==== Proof.Pass1.lean ====
/-
  Pass 1, one trip: the copy of tile `k + 4` starts, tile `k` arrives, its block maxima go to the scratch.
-/
module

public import proofs.«01_k».proof.Proof.Moves
public import proofs.«01_k».proof.Proof.Facts

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ
attribute [local irreducible] tl s18 s2

section Trip
variable (c : Dev nD) (XA : Buf (Elt F) (xM.view.loc (c : Thread nD τ)))
variable (arg3 : Memref sig .tc .smem S1x1 .f32) (harg3 : arg3.IsWhole) (v116 : IVec S256x256 1) (cst_45 cst_46 : F .f32)

abbrev held {m : Space} {sh : Shape} {e : EltTy} (M : Memref sig .tc m sh e) (f : Buf (Elt F) (M.view.loc (c : Thread nD τ))) : sProp 𝕄 :=
  M.view.loc (c : Thread nD τ) ↦[M.view.set]{fullShare} f

abbrev trip1 (k : Fin k0_t1_loop.trips) : Prog (TpuEff nD τ sig (Elt F) Λ₀ .tc) Unit :=
  k0_t1_body (F := F) xM (Memref.isWhole_whole _) pkM (Memref.isWhole_whole _) sbM (Memref.isWhole_whole _) arg3 harg3
    xbM (Memref.isWhole_whole _) bmM (Memref.isWhole_whole _) btM (Memref.isWhole_whole _) ivM (Memref.isWhole_whole _)
    obM (Memref.isWhole_whole _) wbM (Memref.isWhole_whole _) acM (Memref.isWhole_whole _) pmM (Memref.isWhole_whole _)
    ppM (Memref.isWhole_whole _) cc0_scratch9 cc0_scratch10 cc0_scratch11 v116 cst_45 cst_46 k ()

/-- The words of tile `t`. -/
abbrev XT (t : Fin 128) : S256x4096.Idx → Elt F .bf16 := (xtile t).view.read (Elt F) XA

/-- What is known of the pass-1 scratch before trip `k`: the permutation, the running maximum, the block maxima of the last tile,
and those of all tiles before it, turned. -/
structure Facts1 (PM : Vec F S256x256 .bf16) (k : ℕ) (fbt : Buf (Elt F) (btM.view.loc (c : Thread nD τ))) (fbm : Buf (Elt F) (bmM.view.loc (c : Thread nD τ)))
    (fac : Buf (Elt F) (acM.view.loc (c : Thread nD τ))) (fpm : Buf (Elt F) (pmM.view.loc (c : Thread nD τ))) : Prop where
  pm : pmM.view.read (Elt F) fpm = PM
  ac : acM.view.read (Elt F) fac = accV PM (XT c XA) k
  bt : ∀ t, t + 1 = k → ∀ j : S2x256x256.Idx, (j 0).val = t % 2 → btM.view.read (Elt F) fbt j = btV PM (XT c XA (tl t)) (drop3 j)
  bm : ∀ t, t + 1 < k → ∀ j : S128x256x256.Idx, (j 0).val = t → bmM.view.read (Elt F) fbm j = bmV PM (XT c XA (tl t)) (drop3 j)

def inv1 (PM : Vec F S256x256 .bf16) (k : ℕ) : sProp 𝕄 :=
  iprop(XR c XA (xt1 k) ∗ XH c XA (xh1 k) ∗ (∃ fbt, ∃ fbm, ∃ fac, ∃ fpm, ⌜Facts1 c XA PM k fbt fbm fac fpm⌝ ∗
    held c btM fbt ∗ held c bmM fbm ∗ held c acM fac ∗ held c pmM fpm)
    ∗ ∃ W, owes (c : Thread nD τ) 0 W)

theorem off_s2 (k : ℕ) (hk : k < 128) : ∀ (g : Fin 16) (a : Fin 3), (![k % 2, 16 * g.val, 0] : Fin 3 → ℕ) a + S1x16x256.size a ≤ S2x256x256.size a := by
  intro g a
  have := g.isLt
  match a with
  | 0 => show k % 2 + 1 ≤ 2; omega
  | 1 => show 16 * g.val + 16 ≤ 256; omega
  | 2 => show 0 + 256 ≤ 256; omega

/-- A trip of pass 1 keeps what is known of the scratch. -/
theorem facts1_step (PM : Vec F S256x256 .bf16) (k : ℕ) (hk : k < 128) {fbt fbm fac fpm} (h : Facts1 c XA PM k fbt fbm fac fpm)
    (fbt' fbm' fac') (o7 : Fin 3 → ℕ) (i7) (o8 : Fin 3 → ℕ) (i8) (h7 : o7 = ![(k - 1) % 2, 0, 0]) (h8 : o8 = ![k - 1, 0, 0])
    (hbt : fbt' = btM.view.writes (Elt F) fbt (View.tilePieces (s := S2x256x256) S1x16x256.size (fun g : Fin 16 => ![k % 2, 16 * g.val, 0]) (off_s2 k hk)
      (fun g => k0_pay288 (zb PM (xg (XT c XA (tl k)) g))) 16 le_rfl))
    (hbm : fbm' = bmM.view.writes (Elt F) fbm [⟨Rect.unit (s := S128x256x256) o8 S1x256x256.size i8,
      k0_pay1 (btM.view.readAt (Elt F) (Rect.unit (s := S2x256x256) o7 S1x256x256.size i7).toLoadRect fbt)⟩])
    (hac : acM.view.read (Elt F) fac' = accG PM (XT c XA (tl k)) (acM.view.read (Elt F) fac)) :
    Facts1 c XA PM (k + 1) fbt' fbm' fac' fpm := by
  refine ⟨h.pm, ?_, ?_, ?_⟩
  · rw [hac, h.ac]; rfl
  · intro t ht j hj
    obtain rfl : t = k := by omega
    rw [hbt, read_rows16 c (t % 2) _ _ fbt j hj]
    unfold k0_pay288 btV
    refine (shapeCast_addUnit_apply _ _ _ _).trans ?_
    refine congrArg _ (funext fun a => Fin.ext ?_)
    match a with
    | 0 => rfl
    | 1 => rfl
  · intro t ht j hj
    subst h7 h8
    by_cases e : t + 1 = k
    · subst e
      rw [hbm, View.read_writes_cons_unit_of_mem bmM.view fbm i8 _ [] j (drop3 j) rfl (fun a => match a with
        | 0 => by show (j 0).val = t + 1 - 1 + 0; omega
        | 1 => by show (j 1).val = 0 + (j 1).val; omega
        | 2 => by show (j 2).val = 0 + (j 2).val; omega)]
      unfold bmV
      refine congrFun (congrArg k0_pay1 (funext fun y => ?_)) _
      have h0 : (y 0).val < 1 := (y 0).isLt
      refine (h.bt t rfl _ ?_).trans (congrArg _ (funext fun a => Fin.ext ?_))
      · show (t + 1 - 1) % 2 + 1 * (y 0).val = t % 2
        rw [Nat.add_sub_cancel]; omega
      · match a with
        | 0 => show 0 = (y 0).val; omega
        | 1 => show 0 + 1 * (y 1).val = (y 1).val; omega
        | 2 => show 0 + 1 * (y 2).val = (y 2).val; omega
    · rw [hbm, View.read_writes_cons_unit_of_not_mem bmM.view fbm i8 _ [] j rfl 0 (by
        left; show (j 0).val < k - 1; omega)]
      exact h.bm t (by omega) j hj

theorem run1 (PM : Vec F S256x256 .bf16) (k : Fin k0_t1_loop.trips) :
    inv1 c XA PM k.val ⊢ wp frame (wpE (defs₀ (F := F)) 𝒱₀ (c : Thread nD τ) none) Set.univ
      (trip1 arg3 harg3 v116 cst_45 cst_46 k) (fun _ => inv1 c XA PM (k.val + 1)) := by
  unfold inv1
  iintro ⟨HX, HH, ⟨%fbt, %fbm, %fac, %fpm, %HF1, Hbt, Hbm, Hac, Hpm⟩, ⟨%W, HW⟩⟩
  dsimp only [trip1]
  sl_unfold [k0_t1_body]
  set_option sl_exec.stopBefore "k0_cond1" in sl_exec
  iapply (dite_join c iprop(XR c XA (xt1 k.val) ∗ XH c XA (xh1 k.val)) iprop(XR c XA (xt1' k.val) ∗ XH c XA (xh1' k.val)) _ _ _
    (fun hc => issue1 c XA k ((cond1_iff k).1 hc) _ _ _ _ _ _)
    (fun hn => by
      have hn' := fun h => hn ((cond1_iff k).2 h)
      iintro ⟨HX, HH⟩
      isplitl [HX]
      · iapply (atw_congr _ _ _ (x1_no k.val hn')); iexact HX
      · iapply (atw_congr _ _ _ (h1_no ⟨k.val, lt1 k⟩ hn')); iexact HH))
  isplitl [HX HH]
  · isplitl [HX]; · iexact HX
    iexact HH
  iintro ⟨HX, HH⟩
  ihave HX := (focus1 (Φx c XA) (xt1' k.val) (s18 k.val) _ (x1_fly ⟨k.val, lt1 k⟩)) $$ HX
  icases HX with ⟨HX, HXr⟩
  ihave HX := (fly_x_open c XA _ _) $$ HX
  icases HX with ⟨%fx, %hfx, HF⟩
  sl_exec
  sl_step
  isplitl [HXr HF_dst HF]
  · iapply (refocus1 (Φx c XA) (xt1' k.val) (xt1 (k.val + 1)) (s18 k.val) _ (x1_res ⟨k.val, lt1 k⟩) (x1_step ⟨k.val, lt1 k⟩))
    isplitl [HF_dst HF]
    · unfold Φx
      isplitl [HF]; · iexact HF
      iexists _
      isplitr
      · ipureintro; exact hfx
      · iexact HF_dst
    · iexact HXr
  isplitl [HH HF_src]
  · iapply (put1 (Ring.atHome (xhome c XA)) (xh1' k.val) (xh1 (k.val + 1)) (tl k.val) true (h1_back ⟨k.val, lt1 k⟩) (h1_step ⟨k.val, lt1 k⟩))
    isplitl [HF_src]
    · iapply (home_close c XA _); iexact HF_src
    · iexact HH
  isplitl [Hbt Hbm Hac Hpm]
  · iexists _, _, _, _
    isplitr
    swap
    · isplitl [Hbt]; · iexact Hbt
      isplitl [Hbm]; · iexact Hbm
      isplitl [Hac]; · iexact Hac
      iexact Hpm
    · ipureintro
      have hx := xload c XA hfx
      have hpm : pmM.view.readAt (Elt F) (Rect.unit (s := S256x256) ![0, 0] S256x256.size inb_S256x256_S256x256_0_0).toLoadRect fpm = PM :=
        (View.readAt_full pmM.view fpm inb_S256x256_S256x256_0_0).trans HF1.pm
      have hz := fun (g : Fin 16) {off : Fin 3 → ℕ} (inb : ∀ a, off a + S1x256x256.size a ≤ S18x256x4096.size a) (ho : off = ![k.val % 18, 0, 256 * g.val]) =>
        congr (congrArg (zb (F := F)) hpm) (hx g inb (ho.trans (by rw [s18_val])))
      refine facts1_step c XA PM k.val (lt1 k) HF1 _ _ _ (k0_off7 k) (k0_off7_inb k) (k0_off8 k) (k0_off8_inb k) (off7_eq k) (off8_eq k) ?_ rfl ?_
      · refine congrArg (btM.view.writes (Elt F) fbt) ?_
        have cc := fun {o o' : Fin 3 → ℕ} (i : ∀ a, o a + S1x16x256.size a ≤ S2x256x256.size a) (i' : ∀ a, o' a + S1x16x256.size a ≤ S2x256x256.size a) (h : o = o') (w w' : S1x16x256.Idx → Elt F .f32) (hw : w = w') {L L' : List (View.Piece (Elt F) S2x256x256 .f32)} =>
          pieces_congr (s := S2x256x256) (e := .f32) (Val := Elt F) (size := S1x16x256.size) i i' h w w' hw (L := L) (L' := L')
        refine cc _ (off_s2 k.val (lt1 k) 15) (off40_eq k) _ _ (congrArg k0_pay288 (hz 15 (k0_off39_inb k) (off39_eq k))) ?_
        refine cc _ (off_s2 k.val (lt1 k) 14) (off38_eq k) _ _ (congrArg k0_pay288 (hz 14 (k0_off37_inb k) (off37_eq k))) ?_
        refine cc _ (off_s2 k.val (lt1 k) 13) (off36_eq k) _ _ (congrArg k0_pay288 (hz 13 (k0_off35_inb k) (off35_eq k))) ?_
        refine cc _ (off_s2 k.val (lt1 k) 12) (off34_eq k) _ _ (congrArg k0_pay288 (hz 12 (k0_off33_inb k) (off33_eq k))) ?_
        refine cc _ (off_s2 k.val (lt1 k) 11) (off32_eq k) _ _ (congrArg k0_pay288 (hz 11 (k0_off31_inb k) (off31_eq k))) ?_
        refine cc _ (off_s2 k.val (lt1 k) 10) (off30_eq k) _ _ (congrArg k0_pay288 (hz 10 (k0_off29_inb k) (off29_eq k))) ?_
        refine cc _ (off_s2 k.val (lt1 k) 9) (off28_eq k) _ _ (congrArg k0_pay288 (hz 9 (k0_off27_inb k) (off27_eq k))) ?_
        refine cc _ (off_s2 k.val (lt1 k) 8) (off26_eq k) _ _ (congrArg k0_pay288 (hz 8 (k0_off25_inb k) (off25_eq k))) ?_
        refine cc _ (off_s2 k.val (lt1 k) 7) (off24_eq k) _ _ (congrArg k0_pay288 (hz 7 (k0_off23_inb k) (off23_eq k))) ?_
        refine cc _ (off_s2 k.val (lt1 k) 6) (off22_eq k) _ _ (congrArg k0_pay288 (hz 6 (k0_off21_inb k) (off21_eq k))) ?_
        refine cc _ (off_s2 k.val (lt1 k) 5) (off20_eq k) _ _ (congrArg k0_pay288 (hz 5 (k0_off19_inb k) (off19_eq k))) ?_
        refine cc _ (off_s2 k.val (lt1 k) 4) (off18_eq k) _ _ (congrArg k0_pay288 (hz 4 (k0_off17_inb k) (off17_eq k))) ?_
        refine cc _ (off_s2 k.val (lt1 k) 3) (off16_eq k) _ _ (congrArg k0_pay288 (hz 3 (k0_off15_inb k) (off15_eq k))) ?_
        refine cc _ (off_s2 k.val (lt1 k) 2) (off14_eq k) _ _ (congrArg k0_pay288 (hz 2 (k0_off13_inb k) (off13_eq k))) ?_
        refine cc _ (off_s2 k.val (lt1 k) 1) (off12_eq k) _ _ (congrArg k0_pay288 (hz 1 (k0_off11_inb k) (off11_eq k))) ?_
        refine cc _ (off_s2 k.val (lt1 k) 0) (off10_eq k) _ _ (congrArg k0_pay288 (hz 0 (k0_off9_inb k) (off9_eq k))) ?_
        rfl
      · refine (View.read_writes_full acM.view fac inb_S16x256_S16x256_0_0 _ []).trans ?_
        unfold k0_pay289
        refine (shapeCast_self _ _).trans ?_
        have hac := View.readAt_full acM.view fac inb_S16x256_S16x256_0_0
        have mm := fun (a a' b b' : FVec F S16x256 .f32) (h : a = a') (h' : b = b') => congr (congrArg (maximumf (F := F) (s := S16x256) (φ := .f32)) h) h'
        refine mm _ _ _ _ ?_ (hz 15 (k0_off39_inb k) (off39_eq k))
        refine mm _ _ _ _ ?_ (hz 14 (k0_off37_inb k) (off37_eq k))
        refine mm _ _ _ _ ?_ (hz 13 (k0_off35_inb k) (off35_eq k))
        refine mm _ _ _ _ ?_ (hz 12 (k0_off33_inb k) (off33_eq k))
        refine mm _ _ _ _ ?_ (hz 11 (k0_off31_inb k) (off31_eq k))
        refine mm _ _ _ _ ?_ (hz 10 (k0_off29_inb k) (off29_eq k))
        refine mm _ _ _ _ ?_ (hz 9 (k0_off27_inb k) (off27_eq k))
        refine mm _ _ _ _ ?_ (hz 8 (k0_off25_inb k) (off25_eq k))
        refine mm _ _ _ _ ?_ (hz 7 (k0_off23_inb k) (off23_eq k))
        refine mm _ _ _ _ ?_ (hz 6 (k0_off21_inb k) (off21_eq k))
        refine mm _ _ _ _ ?_ (hz 5 (k0_off19_inb k) (off19_eq k))
        refine mm _ _ _ _ ?_ (hz 4 (k0_off17_inb k) (off17_eq k))
        refine mm _ _ _ _ ?_ (hz 3 (k0_off15_inb k) (off15_eq k))
        refine mm _ _ _ _ ?_ (hz 2 (k0_off13_inb k) (off13_eq k))
        refine mm _ _ _ _ ?_ (hz 1 (k0_off11_inb k) (off11_eq k))
        refine mm _ _ _ _ ?_ (hz 0 (k0_off9_inb k) (off9_eq k))
        exact hac
  · iexists _; iexact HW

end Trip

end Cert.Proof.K

end
-- ==== Proof.Facts2.lean ====
/-
  What the slots of the two results' rings read, what sixteen stores of 128 columns leave in a slot, what the loads of pass 2 read.
-/
module

public import proofs.«01_k».proof.Proof.Facts

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ
attribute [local irreducible] tl s18 s2

section
variable (c : Dev nD)

theorem read_oslot (s : Fin 2) (f : Buf (Elt F) (obM.view.loc (c : Thread nD τ))) (j : S256x2048.Idx) (y : S2x256x2048.Idx)
    (h0 : (y 0).val = s.val) (h1 : (y 1).val = (j 0).val) (h2 : (y 2).val = (j 1).val) :
    (oslot s).view.read (Elt F) f j = obM.view.read (Elt F) f y := by
  refine (congrFun (Memref.read_squeeze_slice obM (Rect.unit (s := S2x256x2048) (s2Off s) S1x256x2048.size (s2Off_o s)) (fun _ => rfl)
    squeezes_S1x256x2048_S256x2048 squeezes_S1x256x2048_S256x2048.numel_eq f) j).trans ?_
  refine (shapeCast_apply _ _ _ (ix3 (n := 256) (m := 2048) (j 0).val (j 1).val (j 0).isLt (j 1).isLt) (by
    rw [Shape.rowMajor_val_three, Shape.rowMajor_val_two]
    show (0 * 256 + (j 0).val) * 2048 + (j 1).val = (j 0).val * 2048 + (j 1).val
    omega)).trans ?_
  refine congrArg f (funext fun a => Fin.ext ?_)
  match a with
  | 0 => show s.val + 1 * 0 = (y 0).val; omega
  | 1 => show 0 + 1 * (j 0).val = (y 1).val; omega
  | 2 => show 0 + 1 * (j 1).val = (y 2).val; omega

theorem read_wslot (s : Fin 2) (f : Buf (Elt F) (wbM.view.loc (c : Thread nD τ))) (j : S256x256.Idx) (y : S2x256x256.Idx)
    (h0 : (y 0).val = s.val) (h1 : (y 1).val = (j 0).val) (h2 : (y 2).val = (j 1).val) :
    (wslot s).view.read (Elt F) f j = wbM.view.read (Elt F) f y := by
  refine (congrFun (Memref.read_squeeze_slice wbM (Rect.unit (s := S2x256x256) (s2Off s) S1x256x256.size (s2Off_w s)) (fun _ => rfl)
    squeezes_S1x256x256_S256x256 squeezes_S1x256x256_S256x256.numel_eq f) j).trans ?_
  refine (shapeCast_apply _ _ _ (ix3 (n := 256) (m := 256) (j 0).val (j 1).val (j 0).isLt (j 1).isLt) (by
    rw [Shape.rowMajor_val_three, Shape.rowMajor_val_two]
    show (0 * 256 + (j 0).val) * 256 + (j 1).val = (j 0).val * 256 + (j 1).val
    omega)).trans ?_
  refine congrArg f (funext fun a => Fin.ext ?_)
  match a with
  | 0 => show s.val + 1 * 0 = (y 0).val; omega
  | 1 => show 0 + 1 * (j 0).val = (y 1).val; omega
  | 2 => show 0 + 1 * (j 1).val = (y 2).val; omega

theorem off_g128 (k : ℕ) : ∀ (g : Fin 16) (a : Fin 3), (![k % 2, 0, 128 * g.val] : Fin 3 → ℕ) a + S1x256x128.size a ≤ S2x256x2048.size a := by
  intro g a
  have := g.isLt
  match a with
  | 0 => show k % 2 + 1 ≤ 2; omega
  | 1 => show 0 + 256 ≤ 256; omega
  | 2 => show 128 * g.val + 128 ≤ 2048; omega

/-- Sixteen stores of 128 columns each to a slot of the codes' ring leave the tile whose group `g` of columns is payload `g`. -/
theorem obuf_fact (k : ℕ) (v181 : IVec S256x128 32) (pp : Vec F S256x256 .bf16) (iv : Vec F S1x256x256 .f32) (X : S256x4096.Idx → Elt F .bf16)
    (f : Buf (Elt F) (obM.view.loc (c : Thread nD τ))) :
    (oslot (s2 k)).view.read (Elt F) (obM.view.writes (Elt F) f (View.tilePieces (s := S2x256x2048) S1x256x128.size
      (fun g : Fin 16 => ![k % 2, 0, 128 * g.val]) (off_g128 k)
      (fun g => grpK v181 pp (ivh iv ⟨g.val / 8, by have := g.isLt; omega⟩) (xg X g) (BitVec.ofNat 32 (16 * (g.val % 8)))) 16 le_rfl)) = obV v181 pp iv X := by
  funext j
  have h0 : (j 0).val < 256 := (j 0).isLt
  have h1 : (j 1).val < 2048 := (j 1).isLt
  have hs := s2_val k
  let y : S2x256x2048.Idx := fun a => match a with
    | 0 => ⟨(s2 k).val, (s2 k).isLt⟩
    | 1 => ⟨(j 0).val, h0⟩
    | 2 => ⟨(j 1).val, h1⟩
  refine (read_oslot c (s2 k) _ j y rfl rfl rfl).trans ?_
  refine (View.read_tilePieces obM.view f S1x256x128.size _ (off_g128 k) _ 16 le_rfl y ⟨(j 1).val / 128, by omega⟩ (by show (j 1).val / 128 < 16; omega)
    (ix3 (j 0).val ((j 1).val % 128) (j 0).isLt (Nat.mod_lt _ (by decide))) ?_ 2 ?_).trans rfl
  · intro a
    match a with
    | 0 => show (s2 k).val = k % 2 + 0; omega
    | 1 => show (j 0).val = 0 + (j 0).val; omega
    | 2 => show (j 1).val = 128 * ((j 1).val / 128) + (j 1).val % 128; omega
  · intro g hg
    have hne : g.val ≠ (j 1).val / 128 := fun h => hg (Fin.ext h)
    show (j 1).val < 128 * g.val ∨ 128 * g.val + 128 ≤ (j 1).val
    omega

/-- A store of a whole slot of the block scales' ring reads as what was stored. -/
theorem wbuf_fact (k : ℕ) (w : FVec F S1x256x256 .fp8e4m3) (f : Buf (Elt F) (wbM.view.loc (c : Thread nD τ)))
    (o : Fin 3 → ℕ) (i : ∀ a, o a + S1x256x256.size a ≤ S2x256x256.size a) (h : o = ![k % 2, 0, 0]) :
    (wslot (s2 k)).view.read (Elt F) (wbM.view.writes (Elt F) f [⟨Rect.unit (s := S2x256x256) o S1x256x256.size i, w⟩]) = fun j => w (up3 j) := by
  subst h
  funext j
  have hs := s2_val k
  let y : S2x256x256.Idx := fun a => match a with
    | 0 => ⟨(s2 k).val, (s2 k).isLt⟩
    | 1 => ⟨(j 0).val, (j 0).isLt⟩
    | 2 => ⟨(j 1).val, (j 1).isLt⟩
  refine (read_wslot c (s2 k) _ j y rfl rfl rfl).trans ?_
  exact View.read_writes_cons_unit_of_mem wbM.view f i w [] y (up3 j) rfl (fun a => match a with
    | 0 => by show (s2 k).val = k % 2 + 0; omega
    | 1 => by show (j 0).val = 0 + (j 0).val; omega
    | 2 => by show (j 1).val = 0 + (j 1).val; omega)

/-- A load of a tile's block maxima. -/
theorem bmload (W : Fin 128 → Vec F S1x256x256 .bf16) (f : Buf (Elt F) (bmM.view.loc (c : Thread nD τ)))
    (h : ∀ j : S128x256x256.Idx, bmM.view.read (Elt F) f j = W (tl (j 0).val) (drop3 j)) (t : ℕ)
    {o : Fin 3 → ℕ} (i : ∀ a, o a + S1x256x256.size a ≤ S128x256x256.size a) (ho : o = ![t, 0, 0]) :
    bmM.view.readAt (Elt F) (Rect.unit (s := S128x256x256) o S1x256x256.size i).toLoadRect f = W (tl t) := by
  subst ho
  funext y
  have h0 : (y 0).val < 1 := (y 0).isLt
  refine (h _).trans (congr (congrArg (fun t => W (tl t)) ?_) (funext fun a => Fin.ext ?_))
  · show t + 1 * (y 0).val = t; omega
  · match a with
    | 0 => show 0 = (y 0).val; omega
    | 1 => show 0 + 1 * (y 1).val = (y 1).val; omega
    | 2 => show 0 + 1 * (y 2).val = (y 2).val; omega

/-- The slot of the reciprocals after a store of one of its two. -/
theorem iv_other (w : Vec F S1x256x256 .f32) (f : Buf (Elt F) (ivM.view.loc (c : Thread nD τ))) (k : ℕ)
    {o : Fin 3 → ℕ} (i : ∀ a, o a + S1x256x256.size a ≤ S2x256x256.size a) (ho : o = ![(k + 1) % 2, 0, 0]) (j : S2x256x256.Idx) :
    ivM.view.read (Elt F) (ivM.view.writes (Elt F) f [⟨Rect.unit (s := S2x256x256) o S1x256x256.size i, w⟩]) j
      = if (j 0).val = (k + 1) % 2 then w (drop3 j) else ivM.view.read (Elt F) f j := by
  subst ho
  have h0 : (j 0).val < 2 := (j 0).isLt
  split
  · exact View.read_writes_cons_unit_of_mem ivM.view f i w [] j (drop3 j) rfl (fun a => match a with
      | 0 => by show (j 0).val = (k + 1) % 2 + 0; omega
      | 1 => by show (j 1).val = 0 + (j 1).val; omega
      | 2 => by show (j 2).val = 0 + (j 2).val; omega)
  · exact View.read_writes_cons_unit_of_not_mem ivM.view f i w [] j rfl 0 (by
      show (j 0).val < (k + 1) % 2 ∨ (k + 1) % 2 + 1 ≤ (j 0).val; omega)

/-- A load of half `h` of the current slot of the reciprocals. -/
theorem ivload (W : Vec F S1x256x256 .f32) (f : Buf (Elt F) (ivM.view.loc (c : Thread nD τ))) (k : ℕ)
    (hf : ∀ j : S2x256x256.Idx, (j 0).val = k % 2 → ivM.view.read (Elt F) f j = W (drop3 j)) (h : Fin 2)
    {o : Fin 3 → ℕ} (i : ∀ a, o a + S1x256x128.size a ≤ S2x256x256.size a) (ho : o = ![k % 2, 0, 128 * h.val]) :
    ivM.view.readAt (Elt F) (Rect.unit (s := S2x256x256) o S1x256x128.size i).toLoadRect f = ivh W h := by
  subst ho
  funext y
  have h0 : (y 0).val < 1 := (y 0).isLt
  refine (hf _ ?_).trans (congrArg W (funext fun a => Fin.ext ?_))
  · show k % 2 + 1 * (y 0).val = k % 2; omega
  · match a with
    | 0 => rfl
    | 1 => show 0 + 1 * (y 1).val = (y 1).val; omega
    | 2 => show 128 * h.val + 1 * (y 2).val = 128 * h.val + (y 2).val; omega

end

end Cert.Proof.K

end
-- ==== Proof.Pass2.lean ====
/-
  Pass 2, one trip: tile `k + 110` (modulo 128) is quantised from its slot and its codes start on their way; the scales of the
  next tile are made and start on theirs; the slot is refilled.
-/
module

public import proofs.«01_k».proof.Proof.Pass1
public import proofs.«01_k».proof.Proof.Facts2

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ
attribute [local irreducible] tl s18 s2

section Trip
variable (c : Dev nD) (XA : Buf (Elt F) (xM.view.loc (c : Thread nD τ)))
variable (arg3 : Memref sig .tc .smem S1x1 .f32) (harg3 : arg3.IsWhole) (sg : F .f32) (v181 : IVec S256x128 32)

abbrev trip2 (k : Fin k0_t2_loop.trips) : Prog (TpuEff nD τ sig (Elt F) Λ₀ .tc) Unit :=
  k0_t2_body (F := F) xM (Memref.isWhole_whole _) pkM (Memref.isWhole_whole _) sbM (Memref.isWhole_whole _) arg3 harg3
    xbM (Memref.isWhole_whole _) bmM (Memref.isWhole_whole _) btM (Memref.isWhole_whole _) ivM (Memref.isWhole_whole _)
    obM (Memref.isWhole_whole _) wbM (Memref.isWhole_whole _) acM (Memref.isWhole_whole _) pmM (Memref.isWhole_whole _)
    ppM (Memref.isWhole_whole _) cc0_scratch9 cc0_scratch10 cc0_scratch11 sg v181 k ()

variable (PM PP : Vec F S256x256 .bf16)

/-- The block maxima, the reciprocals and the bytes of tile `t`. -/
abbrev BMT (t : Fin 128) : Vec F S1x256x256 .bf16 := bmV PM (XT c XA t)
abbrev IVT (t : Fin 128) : Vec F S1x256x256 .f32 := ivV sg (BMT c XA PM t)
/-- The result tiles hold what the kernel computes. -/
def PO (t : Fin 128) (g : Buf (Elt F) ((pktile t).view.loc (c : Thread nD τ))) : Prop :=
  (pktile t).view.read (Elt F) g = obV v181 PP (IVT c XA sg PM t) (XT c XA t)
def SO (t : Fin 128) (g : Buf (Elt F) ((sbtile t).view.loc (c : Thread nD τ))) : Prop :=
  (sbtile t).view.read (Elt F) g = fun j => sbV sg (BMT c XA PM t) (up3 j)

/-- What is known of the pass-2 scratch before trip `k`: the block maxima of all tiles, the permutation, the reciprocals of the trip's tile. -/
structure Facts2 (k : ℕ) (fbm : Buf (Elt F) (bmM.view.loc (c : Thread nD τ))) (fiv : Buf (Elt F) (ivM.view.loc (c : Thread nD τ)))
    (fpp : Buf (Elt F) (ppM.view.loc (c : Thread nD τ))) : Prop where
  pp : ppM.view.read (Elt F) fpp = PP
  bm : ∀ j : S128x256x256.Idx, bmM.view.read (Elt F) fbm j = BMT c XA PM (tl (j 0).val) (drop3 j)
  iv : k < 128 → ∀ j : S2x256x256.Idx, (j 0).val = k % 2 → ivM.view.read (Elt F) fiv j = IVT c XA sg PM (tl (k + 110)) (drop3 j)

def inv2 (k : ℕ) : sProp 𝕄 :=
  iprop(XR c XA (xt2 k) ∗ XH c XA (xh2 k) ∗ OR c (PO c XA sg v181 PM PP) (ot k) ∗ PR c (PO c XA sg v181 PM PP) (pt k)
    ∗ WR c (SO c XA sg PM) (wt k) ∗ SR c (SO c XA sg PM) (st k) ∗ (∃ fbm, ∃ fiv, ∃ fpp, ⌜Facts2 c XA sg PM PP k fbm fiv fpp⌝ ∗
    held c bmM fbm ∗ held c ivM fiv ∗ held c ppM fpp) ∗ ∃ W, owes (c : Thread nD τ) 0 W)

set_option maxHeartbeats 2000000 in
theorem run2 (k : Fin k0_t2_loop.trips) :
    inv2 c XA sg v181 PM PP k.val ⊢ wp frame (wpE (defs₀ (F := F)) 𝒱₀ (c : Thread nD τ) none) Set.univ
      (trip2 arg3 harg3 sg v181 k) (fun _ => inv2 c XA sg v181 PM PP (k.val + 1)) := by
  unfold inv2
  generalize hPO : PO c XA sg v181 PM PP = PO'
  generalize hSO : SO c XA sg PM = SO'
  iintro ⟨HX, HH, HO, HP, HWR, HS, ⟨%fbm, %fiv, %fpp, %HF2, Hbm, Hiv, Hpp⟩, HW⟩
  dsimp only [trip2]
  sl_unfold [k0_t2_body]
  set_option sl_exec.stopBefore "k0_cond2" in sl_exec
  iapply (dite_join c iprop((XR c XA (xt2 k.val) ∗ XH c XA (xh2 k.val)) ∗ ∃ W, owes (c : Thread nD τ) 0 W)
    iprop((XR c XA (xt2' k.val) ∗ XH c XA (xh2' k.val)) ∗ ∃ W, owes (c : Thread nD τ) 0 W) _ _ _
    (fun hc => waitX2 c XA k ((cond2_iff k).1 hc) _ _ _ _ _)
    (fun hn => by
      have hn' := fun h => hn ((cond2_iff k).2 h)
      iintro ⟨⟨HX, HH⟩, HW⟩
      isplitr [HW]
      · isplitl [HX]
        · iapply (atw_congr _ _ _ (x2_in ⟨k.val, lt2 k⟩ hn')); iexact HX
        · iapply (atw_congr _ _ _ (h2_in ⟨k.val, lt2 k⟩ hn')); iexact HH
      · iexact HW))
  isplitl [HX HH HW]
  · isplitr [HW]
    · isplitl [HX]; · iexact HX
      iexact HH
    · iexact HW
  iintro ⟨⟨HX, HH⟩, HW⟩
  set_option sl_exec.stopBefore "k0_cond3" in sl_exec
  iapply (dite_join c iprop((OR c PO' (ot k.val) ∗ PR c PO' (pt k.val)) ∗ ∃ W, owes (c : Thread nD τ) 0 W)
    iprop((OR c PO' (ot' k.val) ∗ PR c PO' (pt' k.val)) ∗ ∃ W, owes (c : Thread nD τ) 0 W) _ _ _
    (fun hc => waitO2 c PO' k ((cond3_iff k).1 hc) _ _ _ _ _)
    (fun hn => by
      have hn' := fun h => hn ((cond3_iff k).2 h)
      iintro ⟨⟨HX, HH⟩, HW⟩
      isplitr [HW]
      · isplitl [HX]
        · iapply (atw_congr _ _ _ (o_in ⟨k.val, lt2 k⟩ hn')); iexact HX
        · iapply (atw_congr _ _ _ (p_in k.val hn')); iexact HH
      · iexact HW))
  isplitl [HO HP HW]
  · isplitr [HW]
    · isplitl [HO]; · iexact HO
      iexact HP
    · iexact HW
  iintro ⟨⟨HO, HP⟩, HW⟩
  set_option sl_exec.stopBefore "k0_cond4" in sl_exec
  iapply (dite_join c iprop((WR c SO' (wt k.val) ∗ SR c SO' (st k.val)) ∗ ∃ W, owes (c : Thread nD τ) 0 W)
    iprop((WR c SO' (wt' k.val) ∗ SR c SO' (st' k.val)) ∗ ∃ W, owes (c : Thread nD τ) 0 W) _ _ _
    (fun hc => waitW2 c SO' k ((cond4_iff k).1 hc) _ _ _ _ _)
    (fun hn => by
      have hn' := fun h => hn ((cond4_iff k).2 h)
      iintro ⟨⟨HX, HH⟩, HW⟩
      isplitr [HW]
      · isplitl [HX]
        · iapply (atw_congr _ _ _ (w_in ⟨k.val, lt2 k⟩ hn')); iexact HX
        · iapply (atw_congr _ _ _ (s_in k.val hn')); iexact HH
      · iexact HW))
  isplitl [HWR HS HW]
  · isplitr [HW]
    · isplitl [HWR]; · iexact HWR
      iexact HS
    · iexact HW
  iintro ⟨⟨HWR, HS⟩, HW⟩
  ihave HX := (focus1 (Φx c XA) (xt2' k.val) (s18 (k.val + 110)) _ (x2_upd k.val)) $$ HX
  icases HX with ⟨HX, HXr⟩
  ihave HX := (res_x_open c XA _ _) $$ HX
  icases HX with ⟨HXi, %fx, %hfx, HX⟩
  ihave HO := (focus1 (Φo c PO') (ot' k.val) (s2 k.val) _ (o_upd k.val)) $$ HO
  icases HO with ⟨HO, HOr⟩
  ihave HO := (free_o_open c PO' _) $$ HO
  icases HO with ⟨HOi, %fo, HO⟩
  ihave HWR := (focus1 (Φw c SO') (wt' k.val) (s2 (k.val + 1)) _ (w_upd k.val)) $$ HWR
  icases HWR with ⟨HWR, HWRr⟩
  ihave HWR := (free_w_open c SO' _) $$ HWR
  icases HWR with ⟨HWi, %fw, HWs⟩
  ihave HP := (take1 (Φp c PO') (pt' k.val) (pt (k.val + 1)) (tl (k.val + 110)) .todo .away (p_todo ⟨k.val, lt2 k⟩) (p_next ⟨k.val, lt2 k⟩) .rfl (p_step ⟨k.val, lt2 k⟩)) $$ HP
  icases HP with ⟨HPt, HP⟩
  ihave HPt := (todo_p_open c PO' _) $$ HPt
  icases HPt with ⟨%gp, HPt⟩
  set_option sl_exec.stopBefore "k0_cond5" in sl_exec
  have hSO' : k.val + 1 < 128 → ∀ g : Buf (Elt F) ((sbtile (tl (k.val + 1 + 110))).view.loc (c : Thread nD τ)),
      (sbtile (tl (k.val + 1 + 110))).view.read (Elt F) g = (wslot (s2 (k.val + 1))).view.read (Elt F) (run2.sl.HWs_w1 c sg k fbm fw) → SO' (tl (k.val + 1 + 110)) g := by
    intro hk g hg
    subst hSO
    unfold SO
    refine hg.trans ((wbuf_fact c (k.val + 1) _ fw (k0_off53 k) (k0_off53_inb k) (off53_eq k)).trans ?_)
    funext j
    unfold sbV
    refine congrFun (congrArg (k0_pay88 sg) (bmload c (BMT c XA PM) fbm HF2.bm _ (k0_off52_inb k) (off52_eq k) |>.trans (congrArg _ (by
      apply Fin.ext; rw [tl_val, tl_val]; unfold tp; omega)))) _
  have hPO' : PO' (tl (k.val + 110)) ((pktile (tl (k.val + 110))).view.writes (Elt F) gp [⟨Rect.whole S256x2048, run2.sl.dma71 c sg v181 k fbm fiv fpp fx fo⟩]) := by
    subst hPO
    unfold PO
    refine (View.read_writes_whole _ _ _).trans ?_
    unfold run2.sl.dma71
    refine Eq.trans ?_ (obuf_fact c k.val v181 PP (IVT c XA sg PM (tl (k.val + 110))) (XT c XA (tl (k.val + 110))) fo)
    refine congrArg (View.read (Elt F) (oslot (s2 k.val)).view) ?_
    have hpp : ppM.view.readAt (Elt F) (Rect.unit (s := S256x256) ![0, 0] S256x256.size inb_S256x256_S256x256_0_0).toLoadRect fpp = PP :=
      (View.readAt_full ppM.view fpp inb_S256x256_S256x256_0_0).trans HF2.pp
    have hiv : ∀ j : S2x256x256.Idx, (j 0).val = k.val % 2 → ivM.view.read (Elt F) (ivM.view.writes (Elt F) fiv (run2.sl.Hiv_1 c sg k fbm)) j = IVT c XA sg PM (tl (k.val + 110)) (drop3 j) := fun j hj => by
      unfold run2.sl.Hiv_1
      rw [iv_other c _ fiv k.val (k0_off53_inb k) (off53_eq k) j, if_neg (by omega)]
      exact HF2.iv (lt2 k) j hj
    have hx := xload c XA hfx
    have hi := ivload c _ _ k.val hiv
    have hz := fun (g : Fin 16) {off : Fin 3 → ℕ} (inb : ∀ a, off a + S1x256x256.size a ≤ S18x256x4096.size a) (ho : off = ![(k.val + 110) % 18, 0, 256 * g.val])
        (h : Fin 2) {oi : Fin 3 → ℕ} (iin : ∀ a, oi a + S1x256x128.size a ≤ S2x256x256.size a) (hoi : oi = ![k.val % 2, 0, 128 * h.val]) (o : BitVec 32) =>
      congrFun (congr (congr (congrArg (grpK v181) hpp) (hi h iin hoi)) (hx g inb (ho.trans (by rw [s18_val])))) o
    have ww := fun {o o' : Fin 3 → ℕ} (i : ∀ a, o a + S1x256x128.size a ≤ S2x256x2048.size a) (i' : ∀ a, o' a + S1x256x128.size a ≤ S2x256x2048.size a) (h : o = o')
        (w w' : S1x256x128.Idx → Elt F .i8) (hw : w = w') (f f' : Buf (Elt F) (obM.view.loc (c : Thread nD τ))) (hf : f = f') =>
      (by subst h hw hf; rfl : View.write (Elt F) (obM.access (Rect.unit (s := S2x256x2048) o S1x256x128.size i)) f w Finset.univ
        = View.write (Elt F) (obM.access (Rect.unit (s := S2x256x2048) o' S1x256x128.size i')) f' w' Finset.univ)
    refine ww (k0_off87_inb k) (off_g128 k.val 15) (off87_eq k) _ _ (hz 15 (k0_off86_inb k) (off86_eq k) 1 (k0_off71_inb k) (off71_eq k) 112#32) _ _ ?_
    refine ww (k0_off85_inb k) (off_g128 k.val 14) (off85_eq k) _ _ (hz 14 (k0_off84_inb k) (off84_eq k) 1 (k0_off71_inb k) (off71_eq k) 96#32) _ _ ?_
    refine ww (k0_off83_inb k) (off_g128 k.val 13) (off83_eq k) _ _ (hz 13 (k0_off82_inb k) (off82_eq k) 1 (k0_off71_inb k) (off71_eq k) 80#32) _ _ ?_
    refine ww (k0_off81_inb k) (off_g128 k.val 12) (off81_eq k) _ _ (hz 12 (k0_off80_inb k) (off80_eq k) 1 (k0_off71_inb k) (off71_eq k) 64#32) _ _ ?_
    refine ww (k0_off79_inb k) (off_g128 k.val 11) (off79_eq k) _ _ (hz 11 (k0_off78_inb k) (off78_eq k) 1 (k0_off71_inb k) (off71_eq k) 48#32) _ _ ?_
    refine ww (k0_off77_inb k) (off_g128 k.val 10) (off77_eq k) _ _ (hz 10 (k0_off76_inb k) (off76_eq k) 1 (k0_off71_inb k) (off71_eq k) 32#32) _ _ ?_
    refine ww (k0_off75_inb k) (off_g128 k.val 9) (off75_eq k) _ _ (hz 9 (k0_off74_inb k) (off74_eq k) 1 (k0_off71_inb k) (off71_eq k) 16#32) _ _ ?_
    refine ww (k0_off73_inb k) (off_g128 k.val 8) (off73_eq k) _ _ (hz 8 (k0_off72_inb k) (off72_eq k) 1 (k0_off71_inb k) (off71_eq k) 0#32) _ _ ?_
    refine ww (k0_off70_inb k) (off_g128 k.val 7) (off70_eq k) _ _ (hz 7 (k0_off69_inb k) (off69_eq k) 0 (k0_off54_inb k) (off54_eq k) 112#32) _ _ ?_
    refine ww (k0_off68_inb k) (off_g128 k.val 6) (off68_eq k) _ _ (hz 6 (k0_off67_inb k) (off67_eq k) 0 (k0_off54_inb k) (off54_eq k) 96#32) _ _ ?_
    refine ww (k0_off66_inb k) (off_g128 k.val 5) (off66_eq k) _ _ (hz 5 (k0_off65_inb k) (off65_eq k) 0 (k0_off54_inb k) (off54_eq k) 80#32) _ _ ?_
    refine ww (k0_off64_inb k) (off_g128 k.val 4) (off64_eq k) _ _ (hz 4 (k0_off63_inb k) (off63_eq k) 0 (k0_off54_inb k) (off54_eq k) 64#32) _ _ ?_
    refine ww (k0_off62_inb k) (off_g128 k.val 3) (off62_eq k) _ _ (hz 3 (k0_off61_inb k) (off61_eq k) 0 (k0_off54_inb k) (off54_eq k) 48#32) _ _ ?_
    refine ww (k0_off60_inb k) (off_g128 k.val 2) (off60_eq k) _ _ (hz 2 (k0_off59_inb k) (off59_eq k) 0 (k0_off54_inb k) (off54_eq k) 32#32) _ _ ?_
    refine ww (k0_off58_inb k) (off_g128 k.val 1) (off58_eq k) _ _ (hz 1 (k0_off57_inb k) (off57_eq k) 0 (k0_off54_inb k) (off54_eq k) 16#32) _ _ ?_
    refine ww (k0_off56_inb k) (off_g128 k.val 0) (off56_eq k) _ _ (hz 0 (k0_off55_inb k) (off55_eq k) 0 (k0_off54_inb k) (off54_eq k) 0#32) _ _ ?_
    rfl
  have hF2' : Facts2 c XA sg PM PP (k.val + 1) fbm (ivM.view.writes (Elt F) fiv (run2.sl.Hiv_1 c sg k fbm)) fpp := by
    unfold run2.sl.Hiv_1
    try unfold run2.sl.r
    refine ⟨HF2.pp, HF2.bm, fun hk j hj => ?_⟩
    rw [iv_other c _ fiv k.val (k0_off53_inb k) (off53_eq k) j, if_pos hj]
    unfold IVT ivV
    refine congrFun (congrArg (fun b => k0_pay90 (k0_pay89 sg b)) (bmload c (BMT c XA PM) fbm HF2.bm _ (k0_off52_inb k) (off52_eq k) |>.trans (congrArg _ (by
      apply Fin.ext; rw [tl_val, tl_val]; unfold tp; omega)))) _
  ihave HO := (refocus1 (Φo c PO') (ot' k.val) (ot (k.val + 1)) (s2 k.val) _ (o_next ⟨k.val, lt2 k⟩) (o_step ⟨k.val, lt2 k⟩)) $$ [HOi HOr]
  · isplitl [HOi]
    · iapply (fly_o c PO' _ _ _ _ hPO'); iexact HOi
    · iexact HOr
  ihave HX := (refocus1 (Φx c XA) (xt2' k.val) (xt2' k.val) (s18 (k.val + 110)) _ (x2_upd k.val) (fun _ _ => rfl)) $$ [HX HXi HXr]
  · isplitl [HX HXi]
    · unfold Φx
      isplitl [HXi]; · iexact HXi
      iexists _
      isplitr
      · ipureintro; exact hfx
      · iexact HX
    · iexact HXr
  iapply (dite_join c iprop((widle (F := F) c (s2 (k.val + 1)) ∗ wheld c (s2 (k.val + 1)) (run2.sl.HWs_w1 c sg k fbm fw)) ∗ Ring.restL (Φw c SO') (wt' k.val) [s2 (k.val + 1)] ∗ SR c SO' (st' k.val))
    iprop(WR c SO' (wt (k.val + 1)) ∗ SR c SO' (st (k.val + 1))) _ _ _
    (fun hc => issueW2 c SO' k ((cond5_iff k).1 hc) _ _ _ _ _ _ _ (hSO' ((cond5_iff k).1 hc)))
    (fun hn => by
      have hn' := fun h => hn ((cond5_iff k).2 h)
      iintro ⟨⟨HS, Hf⟩, HXr, HH⟩
      isplitr [HH]
      · iapply (refocus1 (Φw c SO') (wt' k.val) (wt (k.val + 1)) (s2 (k.val + 1)) _ ((w_stay ⟨k.val, lt2 k⟩ hn' _).trans (w_upd k.val)) (w_step ⟨k.val, lt2 k⟩))
        isplitr [HXr]
        · iapply (free_w_close c SO' _)
          isplitl [HS]; · iexact HS
          iexists _; iexact Hf
        · iexact HXr
      · iapply (atw_congr _ _ _ (s_stay ⟨k.val, lt2 k⟩ hn')); iexact HH))
  isplitl [HWi HWs HWRr HS]
  · isplitl [HWi HWs]
    · isplitl [HWi]; · iexact HWi
      iexact HWs
    · isplitl [HWRr]; · iexact HWRr
      iexact HS
  iintro ⟨HWR, HS⟩
  iapply (dite_join c iprop(XR c XA (xt2' k.val) ∗ XH c XA (xh2' k.val)) iprop(XR c XA (xt2 (k.val + 1)) ∗ XH c XA (xh2 (k.val + 1))) _ _ _
    (fun hc => issueX2 c XA k ((cond6_iff k).1 hc) _ _ _ _ _ _)
    (fun hn => by
      have hn' := fun h => hn ((cond6_iff k).2 h)
      iintro ⟨HX, HH⟩
      isplitl [HX]
      · iapply (atw_congr _ _ _ (x2_stay ⟨k.val, lt2 k⟩ hn')); iexact HX
      · iapply (atw_congr _ _ _ (h2_stay ⟨k.val, lt2 k⟩ hn')); iexact HH))
  isplitl [HX HH]
  · isplitl [HX]; · iexact HX
    iexact HH
  iintro ⟨HX, HH⟩
  sl_step
  isplitl [HX]; · iexact HX
  isplitl [HH]; · iexact HH
  isplitl [HO]; · iexact HO
  isplitl [HP]; · iexact HP
  isplitl [HWR]; · iexact HWR
  isplitl [HS]; · iexact HS
  isplitl [Hbm Hiv Hpp]
  · iexists _, _, _
    isplitr
    swap
    · isplitl [Hbm]; · iexact Hbm
      isplitl [Hiv]; · iexact Hiv
      iexact Hpp
    · ipureintro; exact hF2'
  · iexact HW

end Trip

end Cert.Proof.K

end
-- ==== Proof.Body.lean ====
/-
  The whole kernel body: the first four copies, pass 1, the global scale and the first block scales, pass 2, the last waits.
-/
module

public import proofs.«01_k».proof.Proof.Pass2

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ
attribute [local irreducible] tl s18 s2
attribute [local irreducible] xt1 xh1 xt2 xh2 ot pt wt st

/-! ## The constants the body makes -/

abbrev iotaR : IVec S256x256 32 := iota .tc S256x256 32 [0] iota_S256x256_d0_w32
abbrev iotaC : IVec S256x256 32 := iota .tc S256x256 32 [1] iota_S256x256_d1_w32
/-- The permutation that brings the sixteen channels of each block apart, for the maxima. -/
def pmK : Vec F S256x256 .bf16 := k0_pay284 (F := F) iotaR iotaC (Scalar.select (Scalar.cmpi .eq 16#32 0#32) 1#32 16#32) k0_pay282 k0_pay283
/-- The permutation that brings even channels left and odd channels right, for the bytes. -/
def ppK : Vec F S256x256 .bf16 := k0_pay286 (F := F) (k0_pay285 iotaR iotaC) (Scalar.ofBits .f32 0x3F800000#32) (Scalar.ofBits .f32 0x00000000#32)
abbrev v181K : IVec S256x128 32 := iota .tc S256x128 32 [1] iota_S256x128_d1_w32

/-! ## The tables at the boundaries -/

theorem x1_start : ∀ s : Fin 18, s ∉ [(0 : Fin 18), 1, 2, 3] → xt1 0 s = .free := by decide +kernel
theorem h1_start : ∀ t : Fin 128, t ∉ [(0 : Fin 128), 1, 2, 3] → xh1 0 t = true := by decide +kernel
theorem x1_s0 : xt1 0 0 = .fly 0 := by decide +kernel
theorem x1_s1 : xt1 0 1 = .fly 1 := by decide +kernel
theorem x1_s2 : xt1 0 2 = .fly 2 := by decide +kernel
theorem x1_s3 : xt1 0 3 = .fly 3 := by decide +kernel
theorem h1_s0 : xh1 0 0 = false := by decide +kernel
theorem h1_s1 : xh1 0 1 = false := by decide +kernel
theorem h1_s2 : xh1 0 2 = false := by decide +kernel
theorem h1_s3 : xh1 0 3 = false := by decide +kernel
theorem o_start : ∀ s : Fin 2, ot 0 s = .free := by decide +kernel
theorem p_start : ∀ t : Fin 128, pt 0 t = .todo := by decide +kernel
theorem w_start : ∀ s : Fin 2, s ≠ 0 → wt 0 s = .free := by decide +kernel
theorem w_s0 : wt 0 0 = .fly 110 := by decide +kernel
theorem s_start : ∀ t : Fin 128, t ≠ 110 → st 0 t = .todo := by decide +kernel
theorem s_s0 : st 0 110 = .away := by decide +kernel
theorem o_last0 : ot 128 0 = .fly 108 := by decide +kernel
theorem o_last1 : ot 128 1 = .fly 109 := by decide +kernel
theorem p_last : ∀ t : Fin 128, t ∉ [(108 : Fin 128), 109] → pt 128 t = .done := by decide +kernel
theorem w_last0 : wt 128 0 = .free := by decide +kernel
theorem w_last1 : wt 128 1 = .fly 109 := by decide +kernel
theorem o_all : ∀ s : Fin 2, s ∉ [(0 : Fin 2), 1] → (SS.free : SS) = ot 128 s := by decide +kernel
theorem w_all : ∀ s : Fin 2, s ≠ 1 → (SS.free : SS) = wt 128 s := by decide +kernel
theorem s_last : ∀ t : Fin 128, t ≠ 109 → st 128 t = .done := by decide +kernel

theorem of_eq {M : Type _} [URA M] {P Q : sProp M} (e : P = Q) : P ⊢ Q := e ▸ .rfl
@[sl_canon] theorem msb0 (hh hs) :
    sbM.slice (Rect.unit (s := S32768x256) (![28160, 0]) S256x256.size hh) hs = sbtile 110 := sbtile_congr (by decide) _ _
@[sl_canon] theorem msb127 (hh hs) :
    sbM.slice (Rect.unit (s := S32768x256) (![27904, 0]) S256x256.size hh) hs = sbtile 109 := sbtile_congr (by decide) _ _
@[sl_canon] theorem mpk126 (hh hs) :
    pkM.slice (Rect.unit (s := S32768x2048) (![27648, 0]) S256x2048.size hh) hs = pktile 108 := pktile_congr (by decide) _ _
@[sl_canon] theorem mpk127 (hh hs) :
    pkM.slice (Rect.unit (s := S32768x2048) (![27904, 0]) S256x2048.size hh) hs = pktile 109 := pktile_congr (by decide) _ _

/-- A family of fewer states: `Ring.AtW_focusL` in one direction, at a table by value. -/
theorem focusL {M : Type _} [URA M] {n : ℕ} {σ : Type _} (Φ : Fin n → σ → sProp M) (st : Fin n → σ) (l : List (Fin n)) (hn : l.Nodup) :
    Ring.AtW (σ := fun _ => σ) Φ st ⊢ iprop(bigSepL l (fun k => Φ k (st k)) ∗ Ring.restL Φ st l) := by
  rw [Ring.AtW_focusL Φ st l hn]

section Body
variable (c : Dev nD)

theorem x_free (XA : Buf (Elt F) (xM.view.loc (c : Thread nD τ))) : XR c XA (xt2 128) ⊢ XR c XA (fun _ => .free) :=
  BI.bigSep_mono fun s _ => by
    obtain ⟨t, ht⟩ := x_end s
    rw [ht]
    exact idle_x c XA s (.res t) (fun _ => by simp)

/-- A load of one tile's block maxima, of which alone something is known. -/
theorem bmload1 (W : Vec F S1x256x256 .bf16) (f : Buf (Elt F) (bmM.view.loc (c : Thread nD τ))) (t : ℕ)
    (h : ∀ j : S128x256x256.Idx, (j 0).val = t → bmM.view.read (Elt F) f j = W (drop3 j))
    {o : Fin 3 → ℕ} (i : ∀ a, o a + S1x256x256.size a ≤ S128x256x256.size a) (ho : o = ![t, 0, 0]) :
    bmM.view.readAt (Elt F) (Rect.unit (s := S128x256x256) o S1x256x256.size i).toLoadRect f = W := by
  subst ho
  funext y
  have h0 : (y 0).val < 1 := (y 0).isLt
  refine (h _ ?_).trans (congrArg W (funext fun a => Fin.ext ?_))
  · show t + 1 * (y 0).val = t; omega
  · match a with
    | 0 => show 0 = (y 0).val; omega
    | 1 => show 0 + 1 * (y 1).val = (y 1).val; omega
    | 2 => show 0 + 1 * (y 2).val = (y 2).val; omega

/-- A load of a slot of the turned block maxima. -/
theorem btload1 (W : Vec F S1x256x256 .f32) (f : Buf (Elt F) (btM.view.loc (c : Thread nD τ))) (t : ℕ)
    (h : ∀ j : S2x256x256.Idx, (j 0).val = t → btM.view.read (Elt F) f j = W (drop3 j))
    {o : Fin 3 → ℕ} (i : ∀ a, o a + S1x256x256.size a ≤ S2x256x256.size a) (ho : o = ![t, 0, 0]) :
    btM.view.readAt (Elt F) (Rect.unit (s := S2x256x256) o S1x256x256.size i).toLoadRect f = W := by
  subst ho
  funext y
  have h0 : (y 0).val < 1 := (y 0).isLt
  refine (h _ ?_).trans (congrArg W (funext fun a => Fin.ext ?_))
  · show t + 1 * (y 0).val = t; omega
  · match a with
    | 0 => show 0 = (y 0).val; omega
    | 1 => show 0 + 1 * (y 1).val = (y 1).val; omega
    | 2 => show 0 + 1 * (y 2).val = (y 2).val; omega

/-- Slot 0 of the block scales' ring after a store of it. -/
theorem wbuf_fact0 (w : FVec F S1x256x256 .fp8e4m3) (f : Buf (Elt F) (wbM.view.loc (c : Thread nD τ)))
    (i : ∀ a, (![0, 0, 0] : Fin 3 → ℕ) a + S1x256x256.size a ≤ S2x256x256.size a) :
    (wslot 0).view.read (Elt F) (wbM.view.writes (Elt F) f [⟨Rect.unit (s := S2x256x256) ![0, 0, 0] S1x256x256.size i, w⟩]) = fun j => w (up3 j) := by
  have h := wbuf_fact c 0 w f _ i rfl
  have e : s2 0 = 0 := Fin.ext (s2_val 0)
  rw [e] at h
  exact h

/-- The block maxima after the last tile's are stored. -/
theorem bm_last (W : Fin 128 → Vec F S1x256x256 .bf16) (w : Vec F S1x256x256 .bf16) (f : Buf (Elt F) (bmM.view.loc (c : Thread nD τ)))
    (i : ∀ a, (![127, 0, 0] : Fin 3 → ℕ) a + S1x256x256.size a ≤ S128x256x256.size a) (hw : w = W (tl 127))
    (h : ∀ t, t + 1 < 128 → ∀ j : S128x256x256.Idx, (j 0).val = t → bmM.view.read (Elt F) f j = W (tl t) (drop3 j)) (j : S128x256x256.Idx) :
    bmM.view.read (Elt F) (bmM.view.writes (Elt F) f [⟨Rect.unit (s := S128x256x256) ![127, 0, 0] S1x256x256.size i, w⟩]) j = W (tl (j 0).val) (drop3 j) := by
  have h0 : (j 0).val < 128 := (j 0).isLt
  by_cases e : (j 0).val = 127
  · rw [e, ← hw]
    exact View.read_writes_cons_unit_of_mem bmM.view f i w [] j (drop3 j) rfl (fun a => match a with
      | 0 => by show (j 0).val = 127 + 0; omega
      | 1 => by show (j 1).val = 0 + (j 1).val; omega
      | 2 => by show (j 2).val = 0 + (j 2).val; omega)
  · refine (View.read_writes_cons_unit_of_not_mem bmM.view f i w [] j rfl 0 (by
      show (j 0).val < 127 ∨ 127 + 1 ≤ (j 0).val; omega)).trans (h _ (by omega) j rfl)

end Body

section Body
variable (c : Dev nD) (XA : Buf (Elt F) (xM.view.loc (c : Thread nD τ)))
variable (arg3 : Memref sig .tc .smem S1x1 .f32) (harg3 : arg3.IsWhole)

abbrev bodyG : Prog (TpuEff nD τ sig (Elt F) Λ₀ .tc) PUnit :=
  cc0_nvfp4_quantise (F := F) xM (Memref.isWhole_whole _) pkM (Memref.isWhole_whole _) sbM (Memref.isWhole_whole _) arg3 harg3
    xbM (Memref.isWhole_whole _) bmM (Memref.isWhole_whole _) btM (Memref.isWhole_whole _) ivM (Memref.isWhole_whole _)
    obM (Memref.isWhole_whole _) wbM (Memref.isWhole_whole _) acM (Memref.isWhole_whole _) pmM (Memref.isWhole_whole _)
    ppM (Memref.isWhole_whole _) cc0_scratch9 cc0_scratch10 cc0_scratch11

/-- The global scale of the operand, and what the two results must hold, tile by tile. -/
def SGK : F .f32 := sgV pmK (XT c XA)
abbrev POK : (t : Fin 128) → Buf (Elt F) ((pktile t).view.loc (c : Thread nD τ)) → Prop := PO c XA (SGK c XA) v181K pmK ppK
abbrev SOK : (t : Fin 128) → Buf (Elt F) ((sbtile t).view.loc (c : Thread nD τ)) → Prop := SO c XA (SGK c XA) pmK

/-- The scratch that is neither a ring nor a table of tiles, at anything. -/
def SCR : sProp 𝕄 := iprop((∃ f, held c bmM f) ∗ (∃ f, held c btM f) ∗ (∃ f, held c ivM f) ∗ (∃ f, held c acM f) ∗ (∃ f, held c pmM f) ∗ (∃ f, held c ppM f))

/-- Before the body: every tile of the operand home, every slot free, the results to be written. -/
def PRE (PO' : (t : Fin 128) → Buf (Elt F) ((pktile t).view.loc (c : Thread nD τ)) → Prop) (SO' : (t : Fin 128) → Buf (Elt F) ((sbtile t).view.loc (c : Thread nD τ)) → Prop) (a : TS) : sProp 𝕄 :=
  iprop(XR c XA (fun _ => .free) ∗ XH c XA (fun _ => true) ∗ OR c PO' (fun _ => .free) ∗ PR c PO' (fun _ => a)
    ∗ WR c SO' (fun _ => .free) ∗ SR c SO' (fun _ => a) ∗ SCR c)

set_option maxHeartbeats 4000000 in
theorem bodyRun (g3 : Buf (Elt F) (arg3.view.loc (c : Thread nD τ))) (W : Waits sig Unit) (Q : PUnit → sProp 𝕄) :
    iprop((PRE c XA (POK c XA) (SOK c XA) .todo ∗ held c arg3 g3 ∗ owes (c : Thread nD τ) 0 W)
      ∗ ((PRE c XA (POK c XA) (SOK c XA) .done ∗ (∃ g, ⌜arg3.view.read (Elt F) g = fun _ => SGK c XA⌝ ∗ held c arg3 g) ∗ ∃ W, owes (c : Thread nD τ) 0 W) -∗ Q ⟨⟩))
      ⊢ wp frame (wpE (defs₀ (F := F)) 𝒱₀ (c : Thread nD τ) none) Set.univ (bodyG arg3 harg3) Q := by
  unfold PRE SCR
  generalize hPO : POK c XA = PO'
  generalize hSO : SOK c XA = SO'
  iintro ⟨⟨⟨HX, HH, HO, HP, HWR, HS, ⟨%fbm, Hbm⟩, ⟨%fbt, Hbt⟩, ⟨%fiv, Hiv⟩, ⟨%fac, Hac⟩, ⟨%fpm, Hpm⟩, ⟨%fpp, Hpp⟩⟩, H3, HW⟩, Hk⟩
  ihave HX := (focusL (Φx c XA) (fun _ => .free) [0, 1, 2, 3] (by decide)) $$ HX
  icases HX with ⟨HX, HXr⟩
  ihave HX := (of_eq (show bigSepL [(0 : Fin 18), 1, 2, 3] (fun k => Φx c XA k .free) = iprop((xidle (F := F) c 0 ∗ ∃ f, xheld c 0 f) ∗ (xidle (F := F) c 1 ∗ ∃ f, xheld c 1 f) ∗ (xidle (F := F) c 2 ∗ ∃ f, xheld c 2 f) ∗ (xidle (F := F) c 3 ∗ ∃ f, xheld c 3 f)) from rfl)) $$ HX
  icases HX with ⟨⟨Hi0, %f0, Hf0⟩, ⟨Hi1, %f1, Hf1⟩, ⟨Hi2, %f2, Hf2⟩, ⟨Hi3, %f3, Hf3⟩⟩
  ihave HH := (focusL (Ring.atHome (xhome c XA)) (fun _ => true) [0, 1, 2, 3] (by decide)) $$ HH
  icases HH with ⟨HH, HHr⟩
  ihave HH := (of_eq (show bigSepL [(0 : Fin 128), 1, 2, 3] (fun k => Ring.atHome (xhome c XA) k true) = iprop(xhome c XA 0 ∗ xhome c XA 1 ∗ xhome c XA 2 ∗ xhome c XA 3) from rfl)) $$ HH
  icases HH with ⟨Hx0, Hx1, Hx2, Hx3⟩
  sl_exec
  ihave HX := (Ring.AtW_refocusL (Φx c XA) (fun _ => .free) (xt1 0) [0, 1, 2, 3] (by decide) x1_start) $$ [Hi0 Hi1 Hi2 Hi3 HXr]
  · isplitr [HXr]
    · iapply (of_eq (show iprop(Φx c XA 0 (.fly 0) ∗ Φx c XA 1 (.fly 1) ∗ Φx c XA 2 (.fly 2) ∗ Φx c XA 3 (.fly 3)) = bigSepL [(0 : Fin 18), 1, 2, 3] (fun k => Φx c XA k (xt1 0 k)) from by
        rw [show bigSepL [(0 : Fin 18), 1, 2, 3] (fun k => Φx c XA k (xt1 0 k)) = iprop(Φx c XA 0 (xt1 0 0) ∗ Φx c XA 1 (xt1 0 1) ∗ Φx c XA 2 (xt1 0 2) ∗ Φx c XA 3 (xt1 0 3)) from rfl, x1_s0, x1_s1, x1_s2, x1_s3]))
      isplitl [Hi0]
      · iapply (fly_x c XA 0 0 f0 (bodyRun.sl.dma0 c XA) (by unfold bodyRun.sl.dma0; rfl)); iexact Hi0
      isplitl [Hi1]
      · iapply (fly_x c XA 1 1 f1 (bodyRun.sl.dma0_1 c XA) (by unfold bodyRun.sl.dma0_1; rfl)); iexact Hi1
      isplitl [Hi2]
      · iapply (fly_x c XA 2 2 f2 (bodyRun.sl.dma0_2 c XA) (by unfold bodyRun.sl.dma0_2; rfl)); iexact Hi2
      · iapply (fly_x c XA 3 3 f3 (bodyRun.sl.dma0_3 c XA) (by unfold bodyRun.sl.dma0_3; rfl)); iexact Hi3
    · iexact HXr
  ihave HH := (Ring.AtW_refocusL (Ring.atHome (xhome c XA)) (fun _ => true) (xh1 0) [0, 1, 2, 3] (by decide) h1_start) $$ [HHr]
  · isplitr [HHr]
    · iapply (of_eq (show (iprop(emp ∗ emp ∗ emp ∗ emp) : sProp 𝕄) = bigSepL [(0 : Fin 128), 1, 2, 3] (fun k => Ring.atHome (xhome c XA) k (xh1 0 k)) from by
        rw [show bigSepL [(0 : Fin 128), 1, 2, 3] (fun k => Ring.atHome (xhome c XA) k (xh1 0 k)) = iprop(Ring.atHome (xhome c XA) 0 (xh1 0 0) ∗ Ring.atHome (xhome c XA) 1 (xh1 0 1) ∗ Ring.atHome (xhome c XA) 2 (xh1 0 2) ∗ Ring.atHome (xhome c XA) 3 (xh1 0 3)) from rfl, h1_s0, h1_s1, h1_s2, h1_s3]; rfl))
      isplitl []; · iempintro
      isplitl []; · iempintro
      isplitl []; · iempintro
      iempintro
    · iexact HHr
  iapply (Scf.wp_for_bind Idealize.ShloMosaic.frame (wpE (defs₀ (F := F)) 𝒱₀ (c : Thread nD τ) none) Set.univ _ _ _ _ _ _ (fun k _ => inv1 c XA pmK k) (fun k _ => run1 c XA arg3 harg3 _ _ _ pmK k)) $$ [HX HH Hbt Hbm Hac Hpm HW]
  · unfold inv1
    isplitl [HX]; · iexact HX
    isplitl [HH]; · iexact HH
    isplitr [HW]
    · iexists _, _, _, _
      isplitr
      swap
      · isplitl [Hbt]; · iexact Hbt
        isplitl [Hbm]; · iexact Hbm
        isplitl [Hac]; · iexact Hac
        iexact Hpm
      · ipureintro
        refine ⟨?_, ?_, fun t h => absurd h (Nat.succ_ne_zero t), fun t h => absurd h (Nat.not_lt_zero _)⟩
        · exact View.read_writes_full pmM.view _ inb_S256x256_S256x256_0_0 _ []
        · exact View.read_writes_full acM.view _ inb_S16x256_S16x256_0_0 _ []
    · iexists _; iexact HW
  iintro %_ HI
  rw [show Scf.trips k0_t1_loop.lb k0_t1_loop.ub k0_t1_loop.st = 128 from trips1]
  unfold inv1
  icases HI with ⟨HX, HH, ⟨%fbt, %fbm, %fac, %fpm, %HF1, Hbt, Hbm, Hac, Hpm⟩, ⟨%W, HW⟩⟩
  ihave HX := (atw_congr _ _ _ x_turn) $$ HX
  ihave HH := (atw_congr _ _ _ h_turn) $$ HH
  ihave HWR := (focus1 (Φw c SO') (fun _ => .free) 0 .free rfl) $$ HWR
  icases HWR with ⟨HWR, HWRr⟩
  ihave HWR := (free_w_open c SO' _) $$ HWR
  icases HWR with ⟨HWi, %fw, HWs⟩
  ihave HS := (take1 (Φs c SO') (fun _ => .todo) (st 0) 110 .todo .away rfl s_s0 .rfl s_start) $$ HS
  icases HS with ⟨HSt, HS⟩
  ihave HSt := (todo_s_open c SO' _) $$ HSt
  icases HSt with ⟨%gs, HSt⟩
  sl_exec
  have hsg : bodyRun.sl.r_1 c fac = SGK c XA := by
    unfold bodyRun.sl.r_1
    exact congrArg (k0_pay291 (F := F)) ((View.readAt_full acM.view fac inb_S16x256_S16x256_0_0).trans HF1.ac)
  have hbm110 : bodyRun.sl.v149 c fbm = BMT c XA pmK 110 := by
    unfold bodyRun.sl.v149
    refine bmload1 c _ fbm 110 (fun j hj => (HF1.bm 110 (by omega) j hj).trans ?_) _ rfl
    rw [show tl 110 = 110 from Fin.ext (tl_val 110)]
  have hSO' : SO' 110 ((sbtile 110).view.writes (Elt F) gs [⟨Rect.whole S256x256, bodyRun.sl.dma11 c fbm fac fw⟩]) := by
    subst hSO
    unfold SOK SO
    refine (View.read_writes_whole _ _ _).trans ?_
    unfold bodyRun.sl.dma11
    refine (wbuf_fact0 c _ fw inb_S2x256x256_S1x256x256_0_0_0).trans ?_
    funext j
    unfold sbV
    exact congrFun (congr (congrArg (k0_pay88 (F := F)) hsg) hbm110) _
  have hF2 : Facts2 c XA (SGK c XA) pmK ppK 0 (bmM.view.writes (Elt F) fbm
      [⟨Rect.unit (s := S128x256x256) ![127, 0, 0] S1x256x256.size inb_S128x256x256_S1x256x256_127_0_0,
          k0_pay290 (btM.view.readAt (Elt F) (Rect.unit (s := S2x256x256) ![1, 0, 0] S1x256x256.size inb_S2x256x256_S1x256x256_1_0_0).toLoadRect fbt)⟩])
      (ivM.view.writes (Elt F) fiv [⟨Rect.unit (s := S2x256x256) ![0, 0, 0] S1x256x256.size inb_S2x256x256_S1x256x256_0_0_0,
          k0_pay295 (bodyRun.sl.r_1 c fac) (bodyRun.sl.r_2 c fac) (bodyRun.sl.v149 c fbm)⟩])
      (ppM.view.writes (Elt F) ppM.view.junk bodyRun.sl.Hpp_1) := by
    refine ⟨?_, bm_last c (BMT c XA pmK) _ fbm _ ?_ HF1.bm, fun _ j hj => ?_⟩
    · exact View.read_writes_full ppM.view _ inb_S256x256_S256x256_0_0 _ []
    · exact congrArg (k0_pay1 (F := F)) (btload1 c (btV pmK (XT c XA (tl 127))) fbt 1 (fun j hj => HF1.bt 127 rfl j hj) inb_S2x256x256_S1x256x256_1_0_0 rfl)
    · refine (iv_other c _ fiv 1 _ rfl j).trans ?_
      rw [if_pos hj, show tl (0 + 110) = 110 from Fin.ext (tl_val 110)]
      unfold IVT ivV
      exact congrFun (congr (congrArg (fun s b => k0_pay90 (k0_pay89 (F := F) s b)) hsg) hbm110) _
  have hsgR : arg3.view.read (Elt F) (arg3.view.writes (Elt F) arg3.view.junk (bodyRun.sl.H3_1 c fac)) = fun _ => SGK c XA := by
    unfold bodyRun.sl.H3_1
    refine (View.read_writes_full arg3.view _ inb_S1x1_S1x1_0_0 _ []).trans ?_
    funext _; exact hsg
  rw [hsg] at hF2 ⊢
  ihave HWR := (refocus1 (Φw c SO') (fun _ => .free) (wt 0) 0 _ w_s0 w_start) $$ [HWi HWRr]
  · isplitl [HWi]
    · iapply (fly_w c SO' _ _ _ _ hSO'); iexact HWi
    · iexact HWRr
  ihave HO := (atw_congr _ (fun _ => .free) (ot 0) o_start) $$ HO
  ihave HP := (atw_congr _ (fun _ => .todo) (pt 0) p_start) $$ HP
  subst hPO hSO
  iapply (Scf.wp_for_bind Idealize.ShloMosaic.frame (wpE (defs₀ (F := F)) 𝒱₀ (c : Thread nD τ) none) Set.univ _ _ _ _ _ _
    (fun k _ => inv2 c XA (SGK c XA) v181K pmK ppK k) (fun k _ => run2 c XA arg3 harg3 (SGK c XA) v181K pmK ppK k)) $$ [HX HH HO HP HWR HS Hbm Hiv Hpp HW]
  · unfold inv2
    isplitl [HX]; · iexact HX
    isplitl [HH]; · iexact HH
    isplitl [HO]; · iexact HO
    isplitl [HP]; · iexact HP
    isplitl [HWR]; · iexact HWR
    isplitl [HS]; · iexact HS
    isplitr [HW]
    · iexists _, _, _
      isplitr
      swap
      · isplitl [Hbm]; · iexact Hbm
        isplitl [Hiv]; · iexact Hiv
        iexact Hpp
      · ipureintro; exact hF2
    · iexists _; iexact HW
  iintro %_ HI
  rw [show Scf.trips k0_t2_loop.lb k0_t2_loop.ub k0_t2_loop.st = 128 from trips2]
  unfold inv2
  icases HI with ⟨HX, HH, HO, HP, HWR, HS, ⟨%fbm, %fiv, %fpp, -, Hbm, Hiv, Hpp⟩, ⟨%W, HW⟩⟩
  ihave HO := (focusL (Φo c (POK c XA)) (ot 128) [0, 1] (by decide)) $$ HO
  icases HO with ⟨HO, HOr⟩
  ihave HO := (of_eq (show bigSepL [(0 : Fin 2), 1] (fun k => Φo c (POK c XA) k (ot 128 k)) = iprop(Φo c (POK c XA) 0 (.fly 108) ∗ Φo c (POK c XA) 1 (.fly 109)) from by
    rw [show bigSepL [(0 : Fin 2), 1] (fun k => Φo c (POK c XA) k (ot 128 k)) = iprop(Φo c (POK c XA) 0 (ot 128 0) ∗ Φo c (POK c XA) 1 (ot 128 1)) from rfl, o_last0, o_last1])) $$ HO
  icases HO with ⟨HO0, HO1⟩
  ihave HO0 := (fly_o_open c (POK c XA) _ _) $$ HO0
  icases HO0 with ⟨%g0, %e0, %hg0, HO0⟩
  ihave HO1 := (fly_o_open c (POK c XA) _ _) $$ HO1
  icases HO1 with ⟨%g1, %e1, %hg1, HO1⟩
  ihave HWR := (focus1 (Φw c (SOK c XA)) (wt 128) 1 _ w_last1) $$ HWR
  icases HWR with ⟨HW1, HWRr⟩
  ihave HW1 := (fly_w_open c (SOK c XA) _ _) $$ HW1
  icases HW1 with ⟨%g2, %e2, %hg2, HW1⟩
  sl_exec
  sl_step
  iapply Hk
  isplitr [H3 HW]
  · isplitl [HX]; · iapply (x_free c XA); iexact HX
    isplitl [HH]; · iapply (atw_congr _ (xh2 128) (fun _ => true) (fun t => (h_end t).symm)); iexact HH
    isplitl [HO0 HO0_src HO1 HO1_src HOr]
    · iapply (Ring.AtW_refocusL (Φo c (POK c XA)) (ot 128) (fun _ => .free) [0, 1] (by decide) o_all)
      isplitr [HOr]
      · iapply (of_eq (show iprop((oidle (F := F) c 0 ∗ ∃ f, oheld c 0 f) ∗ (oidle (F := F) c 1 ∗ ∃ f, oheld c 1 f)) = bigSepL [(0 : Fin 2), 1] (fun k => Φo c (POK c XA) k .free) from rfl))
        isplitl [HO0 HO0_src]
        · isplitl [HO0]; · iexact HO0
          iexists _; iexact HO0_src
        · isplitl [HO1]; · iexact HO1
          iexists _; iexact HO1_src
      · iexact HOr
    isplitl [HP HO0_dst HO1_dst]
    · iapply (put1 (Φp c (POK c XA)) (fun t => if t = 109 then pt 128 t else .done) (fun _ => .done) 109 .done rfl (fun k hk => (if_neg hk).symm))
      isplitl [HO1_dst]
      · unfold Φp
        iexists g1
        isplitr; · ipureintro; exact hg1
        iexact HO1_dst
      iapply (put1 (Φp c (POK c XA)) (pt 128) (fun t => if t = 109 then pt 128 t else .done) 108 .done (if_neg (by decide)) (fun k hk => by
        by_cases e : k = 109
        · exact if_pos e
        · exact (if_neg e).trans (p_last k (by simp [hk, e])).symm))
      isplitl [HO0_dst]
      · unfold Φp
        iexists g0
        isplitr; · ipureintro; exact hg0
        iexact HO0_dst
      iexact HP
    isplitl [HW1 HW1_src HWRr]
    · iapply (refocus1 (Φw c (SOK c XA)) (wt 128) (fun _ => .free) 1 .free rfl w_all)
      isplitl [HW1 HW1_src]
      · iapply (free_w_close c (SOK c XA) _)
        isplitl [HW1]; · iexact HW1
        iexists _; iexact HW1_src
      · iexact HWRr
    isplitl [HS HW1_dst]
    · iapply (put1 (Φs c (SOK c XA)) (st 128) (fun _ => .done) 109 .done rfl (fun k hk => (s_last k hk).symm))
      isplitl [HW1_dst]
      · unfold Φs
        iexists g2
        isplitr; · ipureintro; exact hg2
        iexact HW1_dst
      iexact HS
    isplitl [Hbm]; · iexists _; iexact Hbm
    isplitl [Hbt]; · iexists _; iexact Hbt
    isplitl [Hiv]; · iexists _; iexact Hiv
    isplitl [Hac]; · iexists _; iexact Hac
    isplitl [Hpm]; · iexists _; iexact Hpm
    iexists _; iexact Hpp
  · isplitl [H3]
    · iexists _
      isplitr
      · ipureintro; exact hsgR
      · iexact H3
    · iexists _; iexact HW

end Body

end Cert.Proof.K

end
-- ==== Proof.Split.lean ====
/-
  The arrays and the scratch buffers cut into tiles and slots at the launch, and put together again at its end, the two
  results at what their tiles hold.
-/
module

public import proofs.«01_k».proof.Proof.Body

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ
attribute [local irreducible] tl s18 s2

theorem entails_eq {M : Type _} [URA M] {P Q : sProp M} (e : P = Q) : P ⊢ Q := e ▸ .rfl

/-! ## Element sets -/

abbrev XT' (t : Fin 128) : Finset S32768x4096.Idx := (Rect.unit (s := S32768x4096) (tOff t) S256x4096.size (tOff_x t)).set
abbrev PT' (t : Fin 128) : Finset S32768x2048.Idx := (Rect.unit (s := S32768x2048) (tOff t) S256x2048.size (tOff_pk t)).set
abbrev ST' (t : Fin 128) : Finset S32768x256.Idx := (Rect.unit (s := S32768x256) (tOff t) S256x256.size (tOff_sb t)).set
abbrev XS' (s : Fin 18) : Finset S18x256x4096.Idx := (Rect.unit (s := S18x256x4096) (s18Off s) S1x256x4096.size (s18Off_x s)).set
abbrev OS' (s : Fin 2) : Finset S2x256x2048.Idx := (Rect.unit (s := S2x256x2048) (s2Off s) S1x256x2048.size (s2Off_o s)).set
abbrev WS' (s : Fin 2) : Finset S2x256x256.Idx := (Rect.unit (s := S2x256x256) (s2Off s) S1x256x256.size (s2Off_w s)).set

theorem xtile_set (t : Fin 128) : (xtile t : Memref sig .tc .hbm _ _).view.set = XT' t := View.set_slice_whole _ _
theorem pktile_set (t : Fin 128) : (pktile t : Memref sig .tc .hbm _ _).view.set = PT' t := View.set_slice_whole _ _
theorem sbtile_set (t : Fin 128) : (sbtile t : Memref sig .tc .hbm _ _).view.set = ST' t := View.set_slice_whole _ _
theorem xslot_set (s : Fin 18) : (xslot s : Memref sig .tc .vmem _ _).view.set = XS' s := (View.set_reshape _ _).trans (View.set_slice_whole _ _)
theorem oslot_set (s : Fin 2) : (oslot s : Memref sig .tc .vmem _ _).view.set = OS' s := (View.set_reshape _ _).trans (View.set_slice_whole _ _)
theorem wslot_set (s : Fin 2) : (wslot s : Memref sig .tc .vmem _ _).view.set = WS' s := (View.set_reshape _ _).trans (View.set_slice_whole _ _)

theorem two_ne {a : Fin 2} (h : a ≠ 0) : a = 1 := by omega
theorem three_ne {a : Fin 3} (h : a ≠ 0) : a = 1 ∨ a = 2 := by omega

theorem tOff_zero (t : Fin 128) (a : Fin 2) (h : a ≠ 0) : tOff t a = 0 := by rw [two_ne h]; rfl
theorem s18Off_zero (t : Fin 18) (a : Fin 3) (h : a ≠ 0) : s18Off t a = 0 := by rcases three_ne h with rfl | rfl <;> rfl
theorem s2Off_zero (t : Fin 2) (a : Fin 3) (h : a ≠ 0) : s2Off t a = 0 := by rcases three_ne h with rfl | rfl <;> rfl

theorem XT_disjoint : ∀ b b' : Fin 128, b ≠ b' → Disjoint (XT' b) (XT' b') :=
  Ring.lead_disjoint (s := S32768x4096) 0 256 (fun b => tOff b) S256x4096.size tOff_x (fun b => rfl) rfl
theorem XT_cover : (Finset.univ : Finset (Fin 128)).biUnion XT' = Finset.univ :=
  Ring.lead_cover (s := S32768x4096) 0 256 (fun b => tOff b) S256x4096.size tOff_x (fun b => rfl) tOff_zero rfl (fun a h => by rw [two_ne h]; rfl) rfl
theorem PT_disjoint : ∀ b b' : Fin 128, b ≠ b' → Disjoint (PT' b) (PT' b') :=
  Ring.lead_disjoint (s := S32768x2048) 0 256 (fun b => tOff b) S256x2048.size tOff_pk (fun b => rfl) rfl
theorem PT_cover : (Finset.univ : Finset (Fin 128)).biUnion PT' = Finset.univ :=
  Ring.lead_cover (s := S32768x2048) 0 256 (fun b => tOff b) S256x2048.size tOff_pk (fun b => rfl) tOff_zero rfl (fun a h => by rw [two_ne h]; rfl) rfl
theorem ST_disjoint : ∀ b b' : Fin 128, b ≠ b' → Disjoint (ST' b) (ST' b') :=
  Ring.lead_disjoint (s := S32768x256) 0 256 (fun b => tOff b) S256x256.size tOff_sb (fun b => rfl) rfl
theorem ST_cover : (Finset.univ : Finset (Fin 128)).biUnion ST' = Finset.univ :=
  Ring.lead_cover (s := S32768x256) 0 256 (fun b => tOff b) S256x256.size tOff_sb (fun b => rfl) tOff_zero rfl (fun a h => by rw [two_ne h]; rfl) rfl
theorem XS_disjoint : ∀ b b' : Fin 18, b ≠ b' → Disjoint (XS' b) (XS' b') :=
  Ring.lead_disjoint (s := S18x256x4096) 0 1 (fun b => s18Off b) S1x256x4096.size s18Off_x (fun b => (Nat.one_mul _).symm) rfl
theorem XS_cover : (Finset.univ : Finset (Fin 18)).biUnion XS' = Finset.univ :=
  Ring.lead_cover (s := S18x256x4096) 0 1 (fun b => s18Off b) S1x256x4096.size s18Off_x (fun b => (Nat.one_mul _).symm) s18Off_zero rfl (fun a h => by rcases three_ne h with rfl | rfl <;> rfl) rfl
theorem OS_disjoint : ∀ b b' : Fin 2, b ≠ b' → Disjoint (OS' b) (OS' b') :=
  Ring.lead_disjoint (s := S2x256x2048) 0 1 (fun b => s2Off b) S1x256x2048.size s2Off_o (fun b => (Nat.one_mul _).symm) rfl
theorem OS_cover : (Finset.univ : Finset (Fin 2)).biUnion OS' = Finset.univ :=
  Ring.lead_cover (s := S2x256x2048) 0 1 (fun b => s2Off b) S1x256x2048.size s2Off_o (fun b => (Nat.one_mul _).symm) s2Off_zero rfl (fun a h => by rcases three_ne h with rfl | rfl <;> rfl) rfl
theorem WS_disjoint : ∀ b b' : Fin 2, b ≠ b' → Disjoint (WS' b) (WS' b') :=
  Ring.lead_disjoint (s := S2x256x256) 0 1 (fun b => s2Off b) S1x256x256.size s2Off_w (fun b => (Nat.one_mul _).symm) rfl
theorem WS_cover : (Finset.univ : Finset (Fin 2)).biUnion WS' = Finset.univ :=
  Ring.lead_cover (s := S2x256x256) 0 1 (fun b => s2Off b) S1x256x256.size s2Off_w (fun b => (Nat.one_mul _).symm) s2Off_zero rfl (fun a h => by rcases three_ne h with rfl | rfl <;> rfl) rfl

section Split
variable (c : Dev nD)

/-! ## The operand -/

theorem x_home (XA : Buf (Elt F) (xM.view.loc (c : Thread nD τ))) :
    (((c : Thread nD τ).loc main_v0) ↦{fullShare} XA : sProp 𝕄) = XH c XA (fun _ => true) := by
  refine (Ring.pointsTo_blocks (ℓ := (c : Thread nD τ).loc main_v0) XT' XT_disjoint XT_cover XA).trans ?_
  exact bigSep_congr fun t _ => by rw [← xtile_set]; rfl

/-! ## The slots -/

theorem xheld_eq (s : Fin 18) (f) : xheld c s f = (((c : Thread nD τ).loc cc0_scratch0) ↦[XS' s]{fullShare} f : sProp 𝕄) :=
  congrArg (fun S => (_ ↦[S]{fullShare} f : sProp 𝕄)) (xslot_set s)
theorem oheld_eq (s : Fin 2) (f) : oheld c s f = (((c : Thread nD τ).loc cc0_scratch4) ↦[OS' s]{fullShare} f : sProp 𝕄) :=
  congrArg (fun S => (_ ↦[S]{fullShare} f : sProp 𝕄)) (oslot_set s)
theorem wheld_eq (s : Fin 2) (f) : wheld c s f = (((c : Thread nD τ).loc cc0_scratch5) ↦[WS' s]{fullShare} f : sProp 𝕄) :=
  congrArg (fun S => (_ ↦[S]{fullShare} f : sProp 𝕄)) (wslot_set s)

theorem x_split :
    iprop(∃ f : Buf (Elt F) ((c : Thread nD τ).loc cc0_scratch0), ((c : Thread nD τ).loc cc0_scratch0) ↦{fullShare} f)
      ⊢ (bigSep Finset.univ (fun s => iprop(∃ f, xheld c s f)) : sProp 𝕄) := by
  have one : ∀ (f) (s), ((((c : Thread nD τ).loc cc0_scratch0) ↦[XS' s]{fullShare} f : sProp 𝕄)) ⊢ iprop(∃ f, xheld c s f) := fun f s => by
    iintro H; iexists f; iapply (entails_eq (xheld_eq c s f).symm); iexact H
  have key : ∀ f : Buf (Elt F) ((c : Thread nD τ).loc cc0_scratch0), (((c : Thread nD τ).loc cc0_scratch0) ↦{fullShare} f : sProp 𝕄)
      ⊢ bigSep Finset.univ (fun s => iprop(∃ f, xheld c s f)) := fun f =>
    (entails_eq (Ring.pointsTo_blocks (ℓ := (c : Thread nD τ).loc cc0_scratch0) XS' XS_disjoint XS_cover f)).trans (BI.bigSep_mono fun s _ => one f s)
  iintro ⟨%f, H⟩
  iapply (key f); iexact H
theorem x_join :
    (bigSep Finset.univ (fun s => iprop(∃ f, xheld c s f)) : sProp 𝕄)
      ⊢ iprop(∃ f : Buf (Elt F) ((c : Thread nD τ).loc cc0_scratch0), ((c : Thread nD τ).loc cc0_scratch0) ↦{fullShare} f) := by
  have one : ∀ s, iprop(∃ f, xheld c s f) ⊢ (iprop(∃ f, ((c : Thread nD τ).loc cc0_scratch0) ↦[XS' s]{fullShare} f) : sProp 𝕄) := fun s => by
    iintro ⟨%f, H⟩; iexists f; iapply (entails_eq (xheld_eq c s f)); iexact H
  exact (BI.bigSep_mono fun s _ => one s).trans (Ring.pointsTo_blocks_join_exists (ℓ := (c : Thread nD τ).loc cc0_scratch0) XS' XS_disjoint XS_cover (Memref.whole cc0_scratch0).view.junk)
/-- The ring's slots free are its cells at zero and its buffer at anything. -/
theorem x_ring (XA : Buf (Elt F) (xM.view.loc (c : Thread nD τ))) :
    (XR c XA (fun _ => .free) : sProp 𝕄) = iprop(bigSep Finset.univ (fun s => xidle (F := F) c s) ∗ bigSep Finset.univ (fun s => iprop(∃ f, xheld c s f))) :=
  BI.bigSep_sep _ _ _

theorem o_split :
    iprop(∃ f : Buf (Elt F) ((c : Thread nD τ).loc cc0_scratch4), ((c : Thread nD τ).loc cc0_scratch4) ↦{fullShare} f)
      ⊢ (bigSep Finset.univ (fun s => iprop(∃ f, oheld c s f)) : sProp 𝕄) := by
  have one : ∀ (f) (s), ((((c : Thread nD τ).loc cc0_scratch4) ↦[OS' s]{fullShare} f : sProp 𝕄)) ⊢ iprop(∃ f, oheld c s f) := fun f s => by
    iintro H; iexists f; iapply (entails_eq (oheld_eq c s f).symm); iexact H
  have key : ∀ f : Buf (Elt F) ((c : Thread nD τ).loc cc0_scratch4), (((c : Thread nD τ).loc cc0_scratch4) ↦{fullShare} f : sProp 𝕄)
      ⊢ bigSep Finset.univ (fun s => iprop(∃ f, oheld c s f)) := fun f =>
    (entails_eq (Ring.pointsTo_blocks (ℓ := (c : Thread nD τ).loc cc0_scratch4) OS' OS_disjoint OS_cover f)).trans (BI.bigSep_mono fun s _ => one f s)
  iintro ⟨%f, H⟩
  iapply (key f); iexact H
theorem o_join :
    (bigSep Finset.univ (fun s => iprop(∃ f, oheld c s f)) : sProp 𝕄)
      ⊢ iprop(∃ f : Buf (Elt F) ((c : Thread nD τ).loc cc0_scratch4), ((c : Thread nD τ).loc cc0_scratch4) ↦{fullShare} f) := by
  have one : ∀ s, iprop(∃ f, oheld c s f) ⊢ (iprop(∃ f, ((c : Thread nD τ).loc cc0_scratch4) ↦[OS' s]{fullShare} f) : sProp 𝕄) := fun s => by
    iintro ⟨%f, H⟩; iexists f; iapply (entails_eq (oheld_eq c s f)); iexact H
  exact (BI.bigSep_mono fun s _ => one s).trans (Ring.pointsTo_blocks_join_exists (ℓ := (c : Thread nD τ).loc cc0_scratch4) OS' OS_disjoint OS_cover (Memref.whole cc0_scratch4).view.junk)
/-- The ring's slots free are its cells at zero and its buffer at anything. -/
theorem o_ring (PO' : (t : Fin 128) → Buf (Elt F) ((pktile t).view.loc (c : Thread nD τ)) → Prop) :
    (OR c PO' (fun _ => .free) : sProp 𝕄) = iprop(bigSep Finset.univ (fun s => oidle (F := F) c s) ∗ bigSep Finset.univ (fun s => iprop(∃ f, oheld c s f))) :=
  BI.bigSep_sep _ _ _

theorem w_split :
    iprop(∃ f : Buf (Elt F) ((c : Thread nD τ).loc cc0_scratch5), ((c : Thread nD τ).loc cc0_scratch5) ↦{fullShare} f)
      ⊢ (bigSep Finset.univ (fun s => iprop(∃ f, wheld c s f)) : sProp 𝕄) := by
  have one : ∀ (f) (s), ((((c : Thread nD τ).loc cc0_scratch5) ↦[WS' s]{fullShare} f : sProp 𝕄)) ⊢ iprop(∃ f, wheld c s f) := fun f s => by
    iintro H; iexists f; iapply (entails_eq (wheld_eq c s f).symm); iexact H
  have key : ∀ f : Buf (Elt F) ((c : Thread nD τ).loc cc0_scratch5), (((c : Thread nD τ).loc cc0_scratch5) ↦{fullShare} f : sProp 𝕄)
      ⊢ bigSep Finset.univ (fun s => iprop(∃ f, wheld c s f)) := fun f =>
    (entails_eq (Ring.pointsTo_blocks (ℓ := (c : Thread nD τ).loc cc0_scratch5) WS' WS_disjoint WS_cover f)).trans (BI.bigSep_mono fun s _ => one f s)
  iintro ⟨%f, H⟩
  iapply (key f); iexact H
theorem w_join :
    (bigSep Finset.univ (fun s => iprop(∃ f, wheld c s f)) : sProp 𝕄)
      ⊢ iprop(∃ f : Buf (Elt F) ((c : Thread nD τ).loc cc0_scratch5), ((c : Thread nD τ).loc cc0_scratch5) ↦{fullShare} f) := by
  have one : ∀ s, iprop(∃ f, wheld c s f) ⊢ (iprop(∃ f, ((c : Thread nD τ).loc cc0_scratch5) ↦[WS' s]{fullShare} f) : sProp 𝕄) := fun s => by
    iintro ⟨%f, H⟩; iexists f; iapply (entails_eq (wheld_eq c s f)); iexact H
  exact (BI.bigSep_mono fun s _ => one s).trans (Ring.pointsTo_blocks_join_exists (ℓ := (c : Thread nD τ).loc cc0_scratch5) WS' WS_disjoint WS_cover (Memref.whole cc0_scratch5).view.junk)
/-- The ring's slots free are its cells at zero and its buffer at anything. -/
theorem w_ring (SO' : (t : Fin 128) → Buf (Elt F) ((sbtile t).view.loc (c : Thread nD τ)) → Prop) :
    (WR c SO' (fun _ => .free) : sProp 𝕄) = iprop(bigSep Finset.univ (fun s => widle (F := F) c s) ∗ bigSep Finset.univ (fun s => iprop(∃ f, wheld c s f))) :=
  BI.bigSep_sep _ _ _

/-! ## The results -/

variable (XA : Buf (Elt F) (xM.view.loc (c : Thread nD τ)))

/-- The two results, tile by tile: what tile `t` of each holds at the end, and the whole arrays. -/
def obT (t : Fin 128) : S256x2048.Idx → Elt F .i8 := obV v181K ppK (IVT c XA (SGK c XA) pmK t) (XT c XA t)
def sbT (t : Fin 128) : S256x256.Idx → Elt F .fp8e4m3 := fun j => sbV (SGK c XA) (BMT c XA pmK t) (up3 j)
def GP : S32768x2048.Idx → Elt F .i8 := fun y =>
  obT c XA ⟨(y 0).val / 256, by have h : (y 0).val < 32768 := (y 0).isLt; omega⟩ (ix2 ((y 0).val % 256) (y 1).val (Nat.mod_lt _ (by decide)) (y 1).isLt)
def GS : S32768x256.Idx → Elt F .fp8e4m3 := fun y =>
  sbT c XA ⟨(y 0).val / 256, by have h : (y 0).val < 32768 := (y 0).isLt; omega⟩ (ix2 ((y 0).val % 256) (y 1).val (Nat.mod_lt _ (by decide)) (y 1).isLt)

/-- What a tile's rows are in the array. -/
theorem rows_eq {m : ℕ} {β : Type} (T : Fin 128 → (⟨2, ![256, m]⟩ : Shape).Idx → β) (t : Fin 128) (j : (⟨2, ![256, m]⟩ : Shape).Idx) (y : (⟨2, ![32768, m]⟩ : Shape).Idx)
    (h0 : (y 0).val = 256 * t.val + (j 0).val) (h1 : (y 1).val = (j 1).val) :
    T ⟨(y 0).val / 256, by have h : (y 0).val < 32768 := (y 0).isLt; omega⟩ (ix2 ((y 0).val % 256) (y 1).val (Nat.mod_lt _ (by decide)) (y 1).isLt) = T t j := by
  have hj : (j 0).val < 256 := (j 0).isLt
  have ht := t.isLt
  refine congr (congrArg T (Fin.ext ?_)) (funext fun a => Fin.ext ?_)
  · show (y 0).val / 256 = t.val; omega
  · match a with
    | 0 => show (y 0).val % 256 = (j 0).val; omega
    | 1 => exact h1

section Reads
attribute [local irreducible] obT sbT

theorem GP_at (t : Fin 128) (j : S256x2048.Idx) (y : S32768x2048.Idx) (h0 : (y 0).val = 256 * t.val + (j 0).val) (h1 : (y 1).val = (j 1).val) :
    GP c XA y = obT c XA t j := rows_eq (obT c XA) t j y h0 h1
theorem GP_read (t : Fin 128) : (pktile t).view.read (Elt F) (GP c XA) = obT c XA t :=
  funext fun (j : S256x2048.Idx) => GP_at c XA t j ((pktile t).view.emb j)
    (by show 256 * t.val + 1 * (j 0).val = 256 * t.val + (j 0).val; omega) (by show 0 + 1 * (j 1).val = (j 1).val; omega)
theorem GS_at (t : Fin 128) (j : S256x256.Idx) (y : S32768x256.Idx) (h0 : (y 0).val = 256 * t.val + (j 0).val) (h1 : (y 1).val = (j 1).val) :
    GS c XA y = sbT c XA t j := rows_eq (sbT c XA) t j y h0 h1
theorem GS_read (t : Fin 128) : (sbtile t).view.read (Elt F) (GS c XA) = sbT c XA t :=
  funext fun (j : S256x256.Idx) => GS_at c XA t j ((sbtile t).view.emb j)
    (by show 256 * t.val + 1 * (j 0).val = 256 * t.val + (j 0).val; omega) (by show 0 + 1 * (j 1).val = (j 1).val; omega)
end Reads

theorem pkheld_eq (t : Fin 128) (f) : pkheld c t f = (((c : Thread nD τ).loc main_v1_0) ↦[PT' t]{fullShare} f : sProp 𝕄) :=
  congrArg (fun S => (_ ↦[S]{fullShare} f : sProp 𝕄)) (pktile_set t)
theorem pk_split (f : Buf (Elt F) ((c : Thread nD τ).loc main_v1_0)) :
    (((c : Thread nD τ).loc main_v1_0) ↦{fullShare} f : sProp 𝕄) ⊢ PR c (POK c XA) (fun _ => .todo) := by
  have one : ∀ s, ((((c : Thread nD τ).loc main_v1_0) ↦[PT' s]{fullShare} f : sProp 𝕄)) ⊢ iprop(∃ f, pkheld c s f) := fun s => by
    iintro H; iexists f; iapply (entails_eq (pkheld_eq c s f).symm); iexact H
  exact (entails_eq (Ring.pointsTo_blocks (ℓ := (c : Thread nD τ).loc main_v1_0) PT' PT_disjoint PT_cover f)).trans (BI.bigSep_mono fun s _ => one s)
theorem pk_join :
    PR c (POK c XA) (fun _ => .done) ⊢ (((c : Thread nD τ).loc main_v1_0) ↦{fullShare} GP c XA : sProp 𝕄) := by
  have one : ∀ t, iprop(∃ g, ⌜POK c XA t g⌝ ∗ pkheld c t g) ⊢ (((c : Thread nD τ).loc main_v1_0) ↦[PT' t]{fullShare} GP c XA : sProp 𝕄) := fun t => by
    iintro ⟨%g, %hg, H⟩
    iapply (entails_eq (pkheld_eq c t (GP c XA)))
    have e : pkheld c t g = pkheld c t (GP c XA) :=
      (pointsTo_rep (c : Thread nD τ) (pktile t) g fullShare).trans
        ((congrArg (fun X => ((pktile t).view.loc (c : Thread nD τ) ↦[(pktile t).view.set]{fullShare} (pktile t).view.rep X : sProp 𝕄)) (hg.trans (GP_read c XA t).symm)).trans
          (pointsTo_rep (c : Thread nD τ) (pktile t) (GP c XA) fullShare).symm)
    iapply (entails_eq e); iexact H
  exact (BI.bigSep_mono fun t _ => one t).trans (entails_eq (Ring.pointsTo_blocks (ℓ := (c : Thread nD τ).loc main_v1_0) PT' PT_disjoint PT_cover (GP c XA)).symm)

theorem sbheld_eq (t : Fin 128) (f) : sbheld c t f = (((c : Thread nD τ).loc main_v1_1) ↦[ST' t]{fullShare} f : sProp 𝕄) :=
  congrArg (fun S => (_ ↦[S]{fullShare} f : sProp 𝕄)) (sbtile_set t)
theorem sb_split (f : Buf (Elt F) ((c : Thread nD τ).loc main_v1_1)) :
    (((c : Thread nD τ).loc main_v1_1) ↦{fullShare} f : sProp 𝕄) ⊢ SR c (SOK c XA) (fun _ => .todo) := by
  have one : ∀ s, ((((c : Thread nD τ).loc main_v1_1) ↦[ST' s]{fullShare} f : sProp 𝕄)) ⊢ iprop(∃ f, sbheld c s f) := fun s => by
    iintro H; iexists f; iapply (entails_eq (sbheld_eq c s f).symm); iexact H
  exact (entails_eq (Ring.pointsTo_blocks (ℓ := (c : Thread nD τ).loc main_v1_1) ST' ST_disjoint ST_cover f)).trans (BI.bigSep_mono fun s _ => one s)
theorem sb_join :
    SR c (SOK c XA) (fun _ => .done) ⊢ (((c : Thread nD τ).loc main_v1_1) ↦{fullShare} GS c XA : sProp 𝕄) := by
  have one : ∀ t, iprop(∃ g, ⌜SOK c XA t g⌝ ∗ sbheld c t g) ⊢ (((c : Thread nD τ).loc main_v1_1) ↦[ST' t]{fullShare} GS c XA : sProp 𝕄) := fun t => by
    iintro ⟨%g, %hg, H⟩
    iapply (entails_eq (sbheld_eq c t (GS c XA)))
    have e : sbheld c t g = sbheld c t (GS c XA) :=
      (pointsTo_rep (c : Thread nD τ) (sbtile t) g fullShare).trans
        ((congrArg (fun X => ((sbtile t).view.loc (c : Thread nD τ) ↦[(sbtile t).view.set]{fullShare} (sbtile t).view.rep X : sProp 𝕄)) (hg.trans (GS_read c XA t).symm)).trans
          (pointsTo_rep (c : Thread nD τ) (sbtile t) (GS c XA) fullShare).symm)
    iapply (entails_eq e); iexact H
  exact (BI.bigSep_mono fun t _ => one t).trans (entails_eq (Ring.pointsTo_blocks (ℓ := (c : Thread nD τ).loc main_v1_1) ST' ST_disjoint ST_cover (GS c XA)).symm)

end Split

end Cert.Proof.K

end
-- ==== Proof.Launch.lean ====
/-
  The launch: the region's proof data, the body's obligation, and the run of the whole program. It ends with the two
  arrays left in place at what their tiles hold, the staged scalar at the global scale, and every counter at zero.
-/
module

public import proofs.«01_k».proof.Proof.Split
public import proofs.«01_k».proof.Proof.Gen.Kernel.Frame
public import Idealize.ShloMosaic.Lib.Pipeline.FrameSuffixV

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ
attribute [local irreducible] tl s18 s2

open Idealize.ShloMosaic.Pipeline (Dat Cfg Window BodyObligation cellOf)
open Idealize.ShloMosaic.Rounds

/-! ## The kernel's own semaphores -/

/-- The 18 cells of the operand's ring, the two of the packed ring, the two of the scales' ring. -/
abbrev osem : Fin 18 ⊕ Fin 2 ⊕ Fin 2 → SemLoc sig := fun k => match k with
  | .inl s => .dma (xcell s).sem
  | .inr (.inl s) => .dma (ocell s).sem
  | .inr (.inr s) => .dma (wcell s).sem
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(bigSep Finset.univ (fun s => xidle (F := F) c s) ∗ bigSep Finset.univ (fun s => oidle (F := F) c s) ∗ bigSep Finset.univ (fun s => widle (F := F) c s)) := by
  unfold Pipeline.ownSems0
  rw [BI.bigSep_univ_sum, BI.bigSep_univ_sum]; rfl

section Launch

variable (m : (ℓ : Loc nD τ sig) → Buf (Elt F) ℓ) (ρ : Dev nD → PrngReg)

/-! ## The region's proof data -/

/-- The operand's rows as the region finds them. -/
abbrev XA (c : Dev nD) : Buf (Elt F) (xM.view.loc (c : Thread nD τ)) := V m c main_v0

abbrev st0 (t : Fin cfg0.N) : Memref sig .tc .smem S1x1 .f32 := win0_0.stage (cfg0.slots t 0)
abbrev hst0 (t : Fin cfg0.N) : (st0 t).IsWhole := hstage0_0 0

def dats (_ : Fin 1) (c : Dev nD) : Dat τ (Elt F) Unit ℕ (UU nD τ) ℕ cfg0 c where
  A w := V m c (Pipeline.arrRef spec0 w)
  after w t := match w with
    | ⟨0, _⟩ => fun _ => SGK c (XA m c)
  Φ i := PRE c (XA m c) (POK c (XA m c)) (SOK c (XA m c)) (if i.val = 0 then .todo else .done)
  q _ := fullShare
  owed _ := 0

theorem after_w0 (c : Dev nD) (t : Fin cfg0.N) : (dats m 0 c).after 0 t = fun _ => SGK c (XA m c) := by dsimp only [dats]

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

theorem dat_start (c : Dev nD) (t : Fin cfg0.N) : (dats m 0 c).Φ t.castSucc = PRE c (XA m c) (POK c (XA m c)) (SOK c (XA m c)) .todo := by
  have h : t.castSucc.val = 0 := by rw [fin_N0 t]; rfl
  dsimp only [dats]; rw [if_pos h]
theorem dat_end (c : Dev nD) (t : Fin cfg0.N) : (dats m 0 c).Φ t.succ = PRE c (XA m c) (POK c (XA m c)) (SOK c (XA m c)) .done := by
  dsimp only [dats]; rw [if_neg (by simp)]

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0]
  rw [dat_start, dat_end]
  unfold Dat.owesAt Pipeline.owesWithin
  rw [show (dats m 0 c).owed t.castSucc = 0 from rfl, show (dats m 0 c).owed t.succ = 0 from rfl]
  unfold owns
  iintro ⟨Hp, ⟨%W, -, HW⟩, ⟨%d0, %g0, -, H0⟩⟩
  sl_rw [prog_eq t]
  iapply (bodyRun c (XA m c) (st0 t) (hst0 t) g0 W)
  isplitl [Hp H0 HW]
  · isplitl [Hp]; · iexact Hp
    isplitl [H0]; · iexact H0
    iexact HW
  · iintro ⟨Hp, ⟨%g, %hg, H0⟩, ⟨%W', HW⟩⟩
    isplitl [Hp]; · iexact Hp
    isplitl [HW]
    · iexists W'; isplitr; · ipureintro; exact fun _ _ => Or.inl trivial
      iexact HW
    iexists g; isplitr; · ipureintro; exact hg
    iexact H0

/-! ## Into the region and out of it -/

/-- What the two arrays hold after the region; elsewhere as launched. -/
def GA (c : Dev nD) : (b : Ref sig .tc) → Buf (Elt F) ((c : Thread nD τ).loc b) :=
  Function.update (Function.update (V m c) main_v1_0 (GP c (XA m c))) main_v1_1 (GS c (XA m c))
theorem GA_pk (c : Dev nD) : GA m c main_v1_0 = GP c (XA m c) := by
  unfold GA; rw [Function.update_of_ne (by decide), Function.update_self]
theorem GA_sb (c : Dev nD) : GA m c main_v1_1 = GS c (XA m c) := by
  unfold GA; rw [Function.update_self]

abbrev HH : Finset (Ref sig .tc) := {main_v0}
abbrev RR : Finset (Ref sig .tc) := {main_v1_0, main_v1_1}

theorem two_refs (Φ : Ref sig .tc → sProp 𝕄) : bigSep RR Φ = iprop(Φ main_v1_0 ∗ Φ main_v1_1) := by
  rw [bigSep_insert (by decide), bigSep_singleton]; rfl

/-- The scratch that is neither ring nor table, as whole buffers. -/
theorem scr_eq (c : Dev nD) : (SCR c : sProp 𝕄) = iprop(
    (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)) := by
  unfold SCR held
  rw [show bmM.view.set = Finset.univ from View.set_whole _, show btM.view.set = Finset.univ from View.set_whole _, show ivM.view.set = Finset.univ from View.set_whole _,
    show acM.view.set = Finset.univ from View.set_whole _, show pmM.view.set = Finset.univ from View.set_whole _, show ppM.view.set = Finset.univ from View.set_whole _]

theorem hin (c : Dev nD) : Pipeline.ΦDRV osem spec0 HH RR (V m) (V m) c ⊢ (dats m 0 c).Φ 0 := by
  rw [show (dats m 0 c).Φ 0 = PRE c (XA m c) (POK c (XA m c)) (SOK c (XA m c)) .todo from rfl]
  unfold Pipeline.ΦDRV PRE
  rw [scopedRest0_eq, ownSems0_eq, bigSep_singleton, two_refs, x_ring, o_ring, w_ring, scr_eq, ← x_home]
  iintro ⟨⟨B0, B1, B2, B3, B4, B5, B6, B7, B8⟩, ⟨Sx, So, Sw⟩, HX, HP, HS⟩
  isplitl [B0 Sx]
  · isplitl [Sx]; · iexact Sx
    iapply (x_split c); iexact B0
  isplitl [HX]; · iexact HX
  isplitl [B4 So]
  · isplitl [So]; · iexact So
    iapply (o_split c); iexact B4
  isplitl [HP]; · iapply (pk_split c (XA m c) _); iexact HP
  isplitl [B5 Sw]
  · isplitl [Sw]; · iexact Sw
    iapply (w_split c); iexact B5
  isplitl [HS]; · iapply (sb_split c (XA m c) _); iexact HS
  isplitl [B1]; · iexact B1
  isplitl [B2]; · iexact B2
  isplitl [B3]; · iexact B3
  isplitl [B6]; · iexact B6
  isplitl [B7]; · iexact B7
  iexact B8

theorem hout (c : Dev nD) : (dats m 0 c).Φ (Fin.last cfg0.N) ⊢ Pipeline.ΦDRV osem spec0 HH RR (V m) (GA m) c := by
  rw [show (dats m 0 c).Φ (Fin.last cfg0.N) = PRE c (XA m c) (POK c (XA m c)) (SOK c (XA m c)) .done from dat_end m c t0_0]
  unfold Pipeline.ΦDRV PRE
  rw [scopedRest0_eq, ownSems0_eq, bigSep_singleton, two_refs, x_ring, o_ring, w_ring, scr_eq, ← x_home, GA_pk, GA_sb]
  iintro ⟨⟨Sx, B0⟩, HX, ⟨So, B4⟩, HP, ⟨Sw, B5⟩, HS, ⟨B1, B2, B3, B6, B7, B8⟩⟩
  isplitl [B0 B1 B2 B3 B4 B5 B6 B7 B8]
  · isplitl [B0]; · iapply (x_join c); iexact B0
    isplitl [B1]; · iexact B1
    isplitl [B2]; · iexact B2
    isplitl [B3]; · iexact B3
    isplitl [B4]; · iapply (o_join c); iexact B4
    isplitl [B5]; · iapply (w_join c); iexact B5
    isplitl [B6]; · iexact B6
    isplitl [B7]; · iexact B7
    iexact B8
  isplitl [Sx So Sw]
  · isplitl [Sx]; · iexact Sx
    isplitl [So]; · iexact So
    iexact Sw
  isplitl [HX]; · iexact HX
  isplitl [HP]; · iapply (pk_join c (XA m c)); iexact HP
  iapply (sb_join c (XA m c)); iexact HS

/-! ## The run -/

set_option maxHeartbeats 800000 in
theorem hmainD : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What an unscoped buffer holds at the end: the lines after the region run from the region's results. -/
def endV (c : Dev nD) : Valuation τ sig (Elt F) :=
  StableHlo.after (List.flatten [hostOps1]) (Pipeline.withArrays spec0 c (Pipeline.withR (V0 m c) RR c (GA m c)) fun w => (dats m 0 c).arrAt w cfg0.N)

set_option backward.isDefEq.respectTransparency.types false in
set_option maxHeartbeats 1600000 in
theorem run_main : θ_run defs (onTc (τ := τ) (main (F := F))) (s₀ m ρ)
    (fun r => (∀ c : Dev nD, ∀ b ∈ Pipeline.restRefs sig spec0, r.2.mem ((c : Thread nD τ).loc b) = endV m c (Proc.devRef .tc b)) ∧ r.2.sem = fun _ => 0) :=
  Pipeline.θ_run_frame_dmaR_aroundV cfgs (dats m) (0 : Fin 1) launch0 osem defs₀ 𝒱₀ ownSemFacts HH RR (by decide) (by decide) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := GA m) (hmain := hmainD m) (hA := fun _ _ => rfl) (hin := hin m) (hout := hout m)
    (Q' := _) (hQ' := fun _ h => ⟨fun c => (h.1 c).2, h.2⟩)

end Launch

end Cert.Proof.K

end
-- ==== Proof.Ends.lean ====
/-
  What the whole program leaves: the operand as launched, the two arrays of results reshaped, the global scale as a scalar,
  every counter at zero.
-/
module

public import proofs.«01_k».proof.Proof.Launch

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ
attribute [local irreducible] tl s18 s2

open Idealize.ShloMosaic.Pipeline (Dat Cfg Window BodyObligation cellOf)
open Idealize.ShloMosaic.Rounds

section Ends

variable (m : (ℓ : Loc nD τ sig) → Buf (Elt F) ℓ) (ρ : Dev nD → PrngReg)

/-- The operand's rows: its first two axes as one. -/
theorem XA_eq (c : Dev nD) : XA m c = shapeCast S32768x4096 (m ((c : Thread nD τ).loc main_arg0)) shapeCasts_S16x2048x4096_S32768x4096 := by
  show StableHlo.after (List.flatten [hostOps0]) (fun b => m (c, b)) (Proc.devRef .tc main_v0) = _
  simp only [hostOps0, List.flatten_cons, List.flatten_nil, List.append_nil, StableHlo.after_cons, StableHlo.after_nil]
  rw [StableHlo.reshape_result]; rfl

theorem one_eq (x y : S1x1.Idx) : x = y := funext fun a => by fin_cases a <;> exact Subsingleton.elim (α := Fin 1) _ _

theorem flushed_w0 (c : Dev nD) (t : Fin cfg0.N) : (dats m 0 c).flushed 0 t = fun _ => SGK c (XA m c) := rfl

/-- The staged scalar's array at the end. -/
theorem arr_w0 (c : Dev nD) : (dats m 0 c).arrAt 0 cfg0.N = fun _ => SGK c (XA m c) :=
  (dats m 0 c).arrAt_eq_of_cover 0 (fun _ => SGK c (XA m c)) (fun t _ => rfl)
    (fun i => ⟨t0_0, rfl, one_eq ((((cfg0.win 0).blk t0_0).view.emb (show ((cfg0.win 0).xblock (cfg0.grid.coords t0_0)).Idx from (ix2 0 0 (by decide) (by decide) : S1x1.Idx)) : S1x1.Idx)) i ▸ View.emb_mem_set _ _⟩)

/-- Before the lines after the region, a reference's contents. -/
def exitV (c : Dev nD) : Valuation τ sig (Elt F) :=
  Pipeline.withArrays spec0 c (Pipeline.withR (V0 m c) RR c (GA m c)) fun w => (dats m 0 c).arrAt w cfg0.N

theorem exit_pk (c : Dev nD) : exitV m c (Proc.devRef .tc main_v1_0) = GP c (XA m c) :=
  (Pipeline.withArrays_of_ne spec0 c _ _ main_v1_0 (by decide)).trans ((Pipeline.withR_of_mem _ RR c (GA m c) main_v1_0 (by decide)).trans (GA_pk m c))
theorem exit_sb (c : Dev nD) : exitV m c (Proc.devRef .tc main_v1_1) = GS c (XA m c) :=
  (Pipeline.withArrays_of_ne spec0 c _ _ main_v1_1 (by decide)).trans ((Pipeline.withR_of_mem _ RR c (GA m c) main_v1_1 (by decide)).trans (GA_sb m c))
theorem exit_sg (c : Dev nD) : exitV m c (Proc.devRef .tc main_v1_2) = fun _ => SGK c (XA m c) :=
  (Pipeline.withArrays_arr spec0 launch0.win.arr_inj c _ _ 0).trans (arr_w0 m c)
theorem exit_arg (c : Dev nD) : exitV m c (Proc.devRef .tc main_arg0) = m ((c : Thread nD τ).loc main_arg0) :=
  (Pipeline.withArrays_of_ne spec0 c _ _ main_arg0 (by decide)).trans ((Pipeline.withR_of_not_mem _ RR c (GA m c) main_arg0 (by decide)).trans (V_main_arg0 m c))

theorem after_ops (W : Valuation τ sig (Elt F)) :
    StableHlo.after (List.flatten [hostOps1]) W (Proc.devRef .tc main_arg0) = W (Proc.devRef .tc main_arg0)
    ∧ StableHlo.after (List.flatten [hostOps1]) W (Proc.devRef .tc main_v2) = shapeCast S16x2048x2048 (W (Proc.devRef .tc main_v1_0)) shapeCasts_S32768x2048_S16x2048x2048
    ∧ StableHlo.after (List.flatten [hostOps1]) W (Proc.devRef .tc main_v3) = shapeCast S16x2048x256 (W (Proc.devRef .tc main_v1_1)) shapeCasts_S32768x256_S16x2048x256
    ∧ StableHlo.after (List.flatten [hostOps1]) W (Proc.devRef .tc main_v4) = shapeCast S_ (W (Proc.devRef .tc main_v1_2)) shapeCasts_S1x1_S_ := by
  simp only [hostOps1, List.flatten_cons, List.flatten_nil, List.append_nil, StableHlo.after_cons, StableHlo.after_nil]
  refine ⟨?_, ?_, ?_, ?_⟩
  · rw [StableHlo.reshape_result_ne (h := by decide), StableHlo.reshape_result_ne (h := by decide), StableHlo.reshape_result_ne (h := by decide)]
  · rw [StableHlo.reshape_result_ne (h := by decide), StableHlo.reshape_result_ne (h := by decide), StableHlo.reshape_result]; rfl
  · rw [StableHlo.reshape_result_ne (h := by decide), StableHlo.reshape_result, StableHlo.reshape_result_ne (h := by decide)]; rfl
  · rw [StableHlo.reshape_result, StableHlo.reshape_result_ne (h := by decide), StableHlo.reshape_result_ne (h := by decide)]; rfl

/-- The three results. -/
def R2 (c : Dev nD) : Buf (Elt F) ((c : Thread nD τ).loc main_v2) := shapeCast S16x2048x2048 (GP c (XA m c)) shapeCasts_S32768x2048_S16x2048x2048
def R3 (c : Dev nD) : Buf (Elt F) ((c : Thread nD τ).loc main_v3) := shapeCast S16x2048x256 (GS c (XA m c)) shapeCasts_S32768x256_S16x2048x256
def R4 (c : Dev nD) : Buf (Elt F) ((c : Thread nD τ).loc main_v4) := fun _ => SGK c (XA m c)

theorem run_value : θ_run defs (onTc (τ := τ) (main (F := F))) ⟨m, fun _ => 0, ρ⟩ (fun r => (∀ c : Dev nD,
      r.2.mem ((c.tc : Thread nD τ).loc main_v2) = R2 m c ∧ r.2.mem ((c.tc : Thread nD τ).loc main_v3) = R3 m c
      ∧ r.2.mem ((c.tc : Thread nD τ).loc main_v4) = R4 m c ∧ r.2.mem ((c.tc : Thread nD τ).loc main_arg0) = m ((c.tc : Thread nD τ).loc main_arg0))
      ∧ r.2.sem = fun _ => 0) :=
  (θ_run defs _ _).mono (fun r h => ⟨fun c => by
    have A := after_ops (exitV m c)
    refine ⟨?_, ?_, ?_, ?_⟩
    · exact (h.1 c main_v2 (Pipeline.mem_restRefs_of main_v2 (by decide) (by decide))).trans (A.2.1.trans (by rw [exit_pk]; rfl))
    · exact (h.1 c main_v3 (Pipeline.mem_restRefs_of main_v3 (by decide) (by decide))).trans (A.2.2.1.trans (by rw [exit_sb]; rfl))
    · exact (h.1 c main_v4 (Pipeline.mem_restRefs_of main_v4 (by decide) (by decide))).trans (A.2.2.2.trans (by rw [exit_sg]; rfl))
    · exact (h.1 c main_arg0 (Pipeline.mem_restRefs_of main_arg0 (by decide) (by decide))).trans (A.1.trans (exit_arg m c)), h.2⟩)
    (run_main m ρ)

/-- The frame: the program ends, its operand unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c).2.2.2, h.2⟩) (run_value m ρ)

end Ends

end Cert.Proof.K

end
-- ==== Proof.Ideal.Offsets.lean ====
/-
  The offsets of the quantiser's two loops in closed form. Every printed offset is a function of the trip alone, and each
  loop runs 128 trips, so each equation is decided trip by trip. Pass 1 reads tile `k` in slot `k % 18` and starts
  tile `k + 4`; pass 2 visits tile `tp k = (k + 110) % 128` in slot `(k + 110) % 18`.
-/
module

public import proofs.«01_k».proof.Proof.Gen.KernelIdeal.Skeleton
public import Idealize.ShloMosaic.Lib.Affine
public import Idealize.ShloMosaic.Lib.Ring
public import Idealize.ShloMosaic.Lib.Tactic
public import Idealize.ShloMosaic.Lib.Exec

@[expose] public section

set_option maxRecDepth 16384

namespace Cert.Proof.KI

open Cert.KernelIdeal Cert.KernelIdeal.Gen Idealize.ShloMosaic Idealize.ShloMosaic.Tactic

/-- The tile that pass 2 quantises at trip `p`. -/
abbrev tp (p : ℕ) : ℕ := (p + 110) % 128

/-- The slot of the 18-slot ring that `p` falls in. -/
def s18 (p : ℕ) : Fin 18 := ⟨p % 18, Nat.mod_lt _ (by decide)⟩
/-- The slot of a two-slot ring that `p` falls in. -/
def s2 (p : ℕ) : Fin 2 := ⟨p % 2, Nat.mod_lt _ (by decide)⟩
/-- Tile `p`, counted modulo the 128 tiles. -/
def tl (p : ℕ) : Fin 128 := ⟨p % 128, Nat.mod_lt _ (by decide)⟩

theorem trips1 : k0_t1_loop.trips = 128 := by decide +kernel
theorem trips2 : k0_t2_loop.trips = 128 := by decide +kernel

/-! ## The guards -/

theorem cond1_iff : ∀ k : Fin k0_t1_loop.trips, k0_cond1 k = 1#1 ↔ k.val + 4 < 128 := by decide +kernel
theorem cond2_iff : ∀ k : Fin k0_t2_loop.trips, k0_cond2 k = 1#1 ↔ 18 ≤ k.val := by decide +kernel
theorem cond3_iff : ∀ k : Fin k0_t2_loop.trips, k0_cond3 k = 1#1 ↔ 2 ≤ k.val := by decide +kernel
theorem cond4_iff : ∀ k : Fin k0_t2_loop.trips, k0_cond4 k = 1#1 ↔ 1 ≤ k.val := by decide +kernel
theorem cond5_iff : ∀ k : Fin k0_t2_loop.trips, k0_cond5 k = 1#1 ↔ k.val + 1 < 128 := by decide +kernel
theorem cond6_iff : ∀ k : Fin k0_t2_loop.trips, k0_cond6 k = 1#1 ↔ k.val + 18 < 128 := by decide +kernel

/-! ## The closed forms -/

theorem off1_eq : ∀ k : Fin k0_t1_loop.trips, k0_off1 k = ![(k.val + 4) % 18] := by decide +kernel
theorem off2_eq : ∀ k : Fin k0_t1_loop.trips, k0_off2 k = ![(k.val + 4) % 18, 0, 0] := by decide +kernel
theorem off3_eq : ∀ k : Fin k0_t1_loop.trips, k0_off3 k = ![256 * (k.val + 4), 0] := by decide +kernel
theorem off4_eq : ∀ k : Fin k0_t1_loop.trips, k0_off4 k = ![k.val % 18] := by decide +kernel
theorem off5_eq : ∀ k : Fin k0_t1_loop.trips, k0_off5 k = ![k.val % 18, 0, 0] := by decide +kernel
theorem off6_eq : ∀ k : Fin k0_t1_loop.trips, k0_off6 k = ![256 * k.val, 0] := by decide +kernel
theorem off7_eq : ∀ k : Fin k0_t1_loop.trips, k0_off7 k = ![(k.val - 1) % 2, 0, 0] := by decide +kernel
theorem off8_eq : ∀ k : Fin k0_t1_loop.trips, k0_off8 k = ![k.val - 1, 0, 0] := by decide +kernel
theorem off9_eq : ∀ k : Fin k0_t1_loop.trips, k0_off9 k = ![k.val % 18, 0, 0] := by decide +kernel
theorem off10_eq : ∀ k : Fin k0_t1_loop.trips, k0_off10 k = ![k.val % 2, 0, 0] := by decide +kernel
theorem off11_eq : ∀ k : Fin k0_t1_loop.trips, k0_off11 k = ![k.val % 18, 0, 256] := by decide +kernel
theorem off12_eq : ∀ k : Fin k0_t1_loop.trips, k0_off12 k = ![k.val % 2, 16, 0] := by decide +kernel
theorem off13_eq : ∀ k : Fin k0_t1_loop.trips, k0_off13 k = ![k.val % 18, 0, 512] := by decide +kernel
theorem off14_eq : ∀ k : Fin k0_t1_loop.trips, k0_off14 k = ![k.val % 2, 32, 0] := by decide +kernel
theorem off15_eq : ∀ k : Fin k0_t1_loop.trips, k0_off15 k = ![k.val % 18, 0, 768] := by decide +kernel
theorem off16_eq : ∀ k : Fin k0_t1_loop.trips, k0_off16 k = ![k.val % 2, 48, 0] := by decide +kernel
theorem off17_eq : ∀ k : Fin k0_t1_loop.trips, k0_off17 k = ![k.val % 18, 0, 1024] := by decide +kernel
theorem off18_eq : ∀ k : Fin k0_t1_loop.trips, k0_off18 k = ![k.val % 2, 64, 0] := by decide +kernel
theorem off19_eq : ∀ k : Fin k0_t1_loop.trips, k0_off19 k = ![k.val % 18, 0, 1280] := by decide +kernel
theorem off20_eq : ∀ k : Fin k0_t1_loop.trips, k0_off20 k = ![k.val % 2, 80, 0] := by decide +kernel
theorem off21_eq : ∀ k : Fin k0_t1_loop.trips, k0_off21 k = ![k.val % 18, 0, 1536] := by decide +kernel
theorem off22_eq : ∀ k : Fin k0_t1_loop.trips, k0_off22 k = ![k.val % 2, 96, 0] := by decide +kernel
theorem off23_eq : ∀ k : Fin k0_t1_loop.trips, k0_off23 k = ![k.val % 18, 0, 1792] := by decide +kernel
theorem off24_eq : ∀ k : Fin k0_t1_loop.trips, k0_off24 k = ![k.val % 2, 112, 0] := by decide +kernel
theorem off25_eq : ∀ k : Fin k0_t1_loop.trips, k0_off25 k = ![k.val % 18, 0, 2048] := by decide +kernel
theorem off26_eq : ∀ k : Fin k0_t1_loop.trips, k0_off26 k = ![k.val % 2, 128, 0] := by decide +kernel
theorem off27_eq : ∀ k : Fin k0_t1_loop.trips, k0_off27 k = ![k.val % 18, 0, 2304] := by decide +kernel
theorem off28_eq : ∀ k : Fin k0_t1_loop.trips, k0_off28 k = ![k.val % 2, 144, 0] := by decide +kernel
theorem off29_eq : ∀ k : Fin k0_t1_loop.trips, k0_off29 k = ![k.val % 18, 0, 2560] := by decide +kernel
theorem off30_eq : ∀ k : Fin k0_t1_loop.trips, k0_off30 k = ![k.val % 2, 160, 0] := by decide +kernel
theorem off31_eq : ∀ k : Fin k0_t1_loop.trips, k0_off31 k = ![k.val % 18, 0, 2816] := by decide +kernel
theorem off32_eq : ∀ k : Fin k0_t1_loop.trips, k0_off32 k = ![k.val % 2, 176, 0] := by decide +kernel
theorem off33_eq : ∀ k : Fin k0_t1_loop.trips, k0_off33 k = ![k.val % 18, 0, 3072] := by decide +kernel
theorem off34_eq : ∀ k : Fin k0_t1_loop.trips, k0_off34 k = ![k.val % 2, 192, 0] := by decide +kernel
theorem off35_eq : ∀ k : Fin k0_t1_loop.trips, k0_off35 k = ![k.val % 18, 0, 3328] := by decide +kernel
theorem off36_eq : ∀ k : Fin k0_t1_loop.trips, k0_off36 k = ![k.val % 2, 208, 0] := by decide +kernel
theorem off37_eq : ∀ k : Fin k0_t1_loop.trips, k0_off37 k = ![k.val % 18, 0, 3584] := by decide +kernel
theorem off38_eq : ∀ k : Fin k0_t1_loop.trips, k0_off38 k = ![k.val % 2, 224, 0] := by decide +kernel
theorem off39_eq : ∀ k : Fin k0_t1_loop.trips, k0_off39 k = ![k.val % 18, 0, 3840] := by decide +kernel
theorem off40_eq : ∀ k : Fin k0_t1_loop.trips, k0_off40 k = ![k.val % 2, 240, 0] := by decide +kernel
theorem off43_eq : ∀ k : Fin k0_t2_loop.trips, k0_off43 k = ![(k.val + 110) % 18] := by decide +kernel
theorem off44_eq : ∀ k : Fin k0_t2_loop.trips, k0_off44 k = ![(k.val + 110) % 18, 0, 0] := by decide +kernel
theorem off45_eq : ∀ k : Fin k0_t2_loop.trips, k0_off45 k = ![256 * tp k.val, 0] := by decide +kernel
theorem off46_eq : ∀ k : Fin k0_t2_loop.trips, k0_off46 k = ![k.val % 2] := by decide +kernel
theorem off47_eq : ∀ k : Fin k0_t2_loop.trips, 2 ≤ k.val → k0_off47 k = ![256 * tp (k.val - 2), 0] := by decide +kernel
theorem off48_eq : ∀ k : Fin k0_t2_loop.trips, k0_off48 k = ![k.val % 2, 0, 0] := by decide +kernel
theorem off49_eq : ∀ k : Fin k0_t2_loop.trips, k0_off49 k = ![(k.val + 1) % 2] := by decide +kernel
theorem off50_eq : ∀ k : Fin k0_t2_loop.trips, 1 ≤ k.val → k0_off50 k = ![256 * tp (k.val - 1), 0] := by decide +kernel
theorem off51_eq : ∀ k : Fin k0_t2_loop.trips, k0_off51 k = ![(k.val + 1) % 2, 0, 0] := by decide +kernel
theorem off52_eq : ∀ k : Fin k0_t2_loop.trips, k0_off52 k = ![tp (min (k.val + 1) 127), 0, 0] := by decide +kernel
theorem off53_eq : ∀ k : Fin k0_t2_loop.trips, k0_off53 k = ![(k.val + 1) % 2, 0, 0] := by decide +kernel
theorem off54_eq : ∀ k : Fin k0_t2_loop.trips, k0_off54 k = ![k.val % 2, 0, 0] := by decide +kernel
theorem off55_eq : ∀ k : Fin k0_t2_loop.trips, k0_off55 k = ![(k.val + 110) % 18, 0, 0] := by decide +kernel
theorem off56_eq : ∀ k : Fin k0_t2_loop.trips, k0_off56 k = ![k.val % 2, 0, 0] := by decide +kernel
theorem off57_eq : ∀ k : Fin k0_t2_loop.trips, k0_off57 k = ![(k.val + 110) % 18, 0, 256] := by decide +kernel
theorem off58_eq : ∀ k : Fin k0_t2_loop.trips, k0_off58 k = ![k.val % 2, 0, 128] := by decide +kernel
theorem off59_eq : ∀ k : Fin k0_t2_loop.trips, k0_off59 k = ![(k.val + 110) % 18, 0, 512] := by decide +kernel
theorem off60_eq : ∀ k : Fin k0_t2_loop.trips, k0_off60 k = ![k.val % 2, 0, 256] := by decide +kernel
theorem off61_eq : ∀ k : Fin k0_t2_loop.trips, k0_off61 k = ![(k.val + 110) % 18, 0, 768] := by decide +kernel
theorem off62_eq : ∀ k : Fin k0_t2_loop.trips, k0_off62 k = ![k.val % 2, 0, 384] := by decide +kernel
theorem off63_eq : ∀ k : Fin k0_t2_loop.trips, k0_off63 k = ![(k.val + 110) % 18, 0, 1024] := by decide +kernel
theorem off64_eq : ∀ k : Fin k0_t2_loop.trips, k0_off64 k = ![k.val % 2, 0, 512] := by decide +kernel
theorem off65_eq : ∀ k : Fin k0_t2_loop.trips, k0_off65 k = ![(k.val + 110) % 18, 0, 1280] := by decide +kernel
theorem off66_eq : ∀ k : Fin k0_t2_loop.trips, k0_off66 k = ![k.val % 2, 0, 640] := by decide +kernel
theorem off67_eq : ∀ k : Fin k0_t2_loop.trips, k0_off67 k = ![(k.val + 110) % 18, 0, 1536] := by decide +kernel
theorem off68_eq : ∀ k : Fin k0_t2_loop.trips, k0_off68 k = ![k.val % 2, 0, 768] := by decide +kernel
theorem off69_eq : ∀ k : Fin k0_t2_loop.trips, k0_off69 k = ![(k.val + 110) % 18, 0, 1792] := by decide +kernel
theorem off70_eq : ∀ k : Fin k0_t2_loop.trips, k0_off70 k = ![k.val % 2, 0, 896] := by decide +kernel
theorem off71_eq : ∀ k : Fin k0_t2_loop.trips, k0_off71 k = ![k.val % 2, 0, 128] := by decide +kernel
theorem off72_eq : ∀ k : Fin k0_t2_loop.trips, k0_off72 k = ![(k.val + 110) % 18, 0, 2048] := by decide +kernel
theorem off73_eq : ∀ k : Fin k0_t2_loop.trips, k0_off73 k = ![k.val % 2, 0, 1024] := by decide +kernel
theorem off74_eq : ∀ k : Fin k0_t2_loop.trips, k0_off74 k = ![(k.val + 110) % 18, 0, 2304] := by decide +kernel
theorem off75_eq : ∀ k : Fin k0_t2_loop.trips, k0_off75 k = ![k.val % 2, 0, 1152] := by decide +kernel
theorem off76_eq : ∀ k : Fin k0_t2_loop.trips, k0_off76 k = ![(k.val + 110) % 18, 0, 2560] := by decide +kernel
theorem off77_eq : ∀ k : Fin k0_t2_loop.trips, k0_off77 k = ![k.val % 2, 0, 1280] := by decide +kernel
theorem off78_eq : ∀ k : Fin k0_t2_loop.trips, k0_off78 k = ![(k.val + 110) % 18, 0, 2816] := by decide +kernel
theorem off79_eq : ∀ k : Fin k0_t2_loop.trips, k0_off79 k = ![k.val % 2, 0, 1408] := by decide +kernel
theorem off80_eq : ∀ k : Fin k0_t2_loop.trips, k0_off80 k = ![(k.val + 110) % 18, 0, 3072] := by decide +kernel
theorem off81_eq : ∀ k : Fin k0_t2_loop.trips, k0_off81 k = ![k.val % 2, 0, 1536] := by decide +kernel
theorem off82_eq : ∀ k : Fin k0_t2_loop.trips, k0_off82 k = ![(k.val + 110) % 18, 0, 3328] := by decide +kernel
theorem off83_eq : ∀ k : Fin k0_t2_loop.trips, k0_off83 k = ![k.val % 2, 0, 1664] := by decide +kernel
theorem off84_eq : ∀ k : Fin k0_t2_loop.trips, k0_off84 k = ![(k.val + 110) % 18, 0, 3584] := by decide +kernel
theorem off85_eq : ∀ k : Fin k0_t2_loop.trips, k0_off85 k = ![k.val % 2, 0, 1792] := by decide +kernel
theorem off86_eq : ∀ k : Fin k0_t2_loop.trips, k0_off86 k = ![(k.val + 110) % 18, 0, 3840] := by decide +kernel
theorem off87_eq : ∀ k : Fin k0_t2_loop.trips, k0_off87 k = ![k.val % 2, 0, 1920] := by decide +kernel
theorem off88_eq : ∀ k : Fin k0_t2_loop.trips, k0_off88 k = ![k.val % 2] := by decide +kernel
theorem off89_eq : ∀ k : Fin k0_t2_loop.trips, k0_off89 k = ![256 * tp k.val, 0] := by decide +kernel
theorem off90_eq : ∀ k : Fin k0_t2_loop.trips, k0_off90 k = ![k.val % 2, 0, 0] := by decide +kernel
theorem off91_eq : ∀ k : Fin k0_t2_loop.trips, k0_off91 k = ![(k.val + 1) % 2] := by decide +kernel
theorem off92_eq : ∀ k : Fin k0_t2_loop.trips, k.val + 1 < 128 → k0_off92 k = ![256 * tp (k.val + 1), 0] := by decide +kernel
theorem off93_eq : ∀ k : Fin k0_t2_loop.trips, k0_off93 k = ![(k.val + 1) % 2, 0, 0] := by decide +kernel
theorem off94_eq : ∀ k : Fin k0_t2_loop.trips, k0_off94 k = ![(k.val + 110) % 18] := by decide +kernel
theorem off95_eq : ∀ k : Fin k0_t2_loop.trips, k0_off95 k = ![(k.val + 110) % 18, 0, 0] := by decide +kernel
theorem off96_eq : ∀ k : Fin k0_t2_loop.trips, k.val + 18 < 128 → k0_off96 k = ![256 * tp (k.val + 18), 0] := by decide +kernel

/-! ## The offsets of loads and stores through a whole buffer, as the executor reads them -/

instance (k : Fin k0_t1_loop.trips) : ClosedOff (k0_off2 k) := ⟨![(s18 (k.val + 4)).val, 0, 0], off2_eq k⟩
instance (k : Fin k0_t1_loop.trips) : ClosedOff (k0_off5 k) := ⟨![(s18 k.val).val, 0, 0], off5_eq k⟩
instance (k : Fin k0_t1_loop.trips) : ClosedOff (k0_off7 k) := ⟨![(s2 (k.val - 1)).val, 0, 0], off7_eq k⟩
instance (k : Fin k0_t1_loop.trips) : ClosedOff (k0_off8 k) := ⟨![k.val - 1, 0, 0], off8_eq k⟩
instance (k : Fin k0_t1_loop.trips) : ClosedOff (k0_off9 k) := ⟨![(s18 k.val).val, 0, 0], off9_eq k⟩
instance (k : Fin k0_t1_loop.trips) : ClosedOff (k0_off10 k) := ⟨![(s2 k.val).val, 0, 0], off10_eq k⟩
instance (k : Fin k0_t1_loop.trips) : ClosedOff (k0_off11 k) := ⟨![(s18 k.val).val, 0, 256], off11_eq k⟩
instance (k : Fin k0_t1_loop.trips) : ClosedOff (k0_off12 k) := ⟨![(s2 k.val).val, 16, 0], off12_eq k⟩
instance (k : Fin k0_t1_loop.trips) : ClosedOff (k0_off13 k) := ⟨![(s18 k.val).val, 0, 512], off13_eq k⟩
instance (k : Fin k0_t1_loop.trips) : ClosedOff (k0_off14 k) := ⟨![(s2 k.val).val, 32, 0], off14_eq k⟩
instance (k : Fin k0_t1_loop.trips) : ClosedOff (k0_off15 k) := ⟨![(s18 k.val).val, 0, 768], off15_eq k⟩
instance (k : Fin k0_t1_loop.trips) : ClosedOff (k0_off16 k) := ⟨![(s2 k.val).val, 48, 0], off16_eq k⟩
instance (k : Fin k0_t1_loop.trips) : ClosedOff (k0_off17 k) := ⟨![(s18 k.val).val, 0, 1024], off17_eq k⟩
instance (k : Fin k0_t1_loop.trips) : ClosedOff (k0_off18 k) := ⟨![(s2 k.val).val, 64, 0], off18_eq k⟩
instance (k : Fin k0_t1_loop.trips) : ClosedOff (k0_off19 k) := ⟨![(s18 k.val).val, 0, 1280], off19_eq k⟩
instance (k : Fin k0_t1_loop.trips) : ClosedOff (k0_off20 k) := ⟨![(s2 k.val).val, 80, 0], off20_eq k⟩
instance (k : Fin k0_t1_loop.trips) : ClosedOff (k0_off21 k) := ⟨![(s18 k.val).val, 0, 1536], off21_eq k⟩
instance (k : Fin k0_t1_loop.trips) : ClosedOff (k0_off22 k) := ⟨![(s2 k.val).val, 96, 0], off22_eq k⟩
instance (k : Fin k0_t1_loop.trips) : ClosedOff (k0_off23 k) := ⟨![(s18 k.val).val, 0, 1792], off23_eq k⟩
instance (k : Fin k0_t1_loop.trips) : ClosedOff (k0_off24 k) := ⟨![(s2 k.val).val, 112, 0], off24_eq k⟩
instance (k : Fin k0_t1_loop.trips) : ClosedOff (k0_off25 k) := ⟨![(s18 k.val).val, 0, 2048], off25_eq k⟩
instance (k : Fin k0_t1_loop.trips) : ClosedOff (k0_off26 k) := ⟨![(s2 k.val).val, 128, 0], off26_eq k⟩
instance (k : Fin k0_t1_loop.trips) : ClosedOff (k0_off27 k) := ⟨![(s18 k.val).val, 0, 2304], off27_eq k⟩
instance (k : Fin k0_t1_loop.trips) : ClosedOff (k0_off28 k) := ⟨![(s2 k.val).val, 144, 0], off28_eq k⟩
instance (k : Fin k0_t1_loop.trips) : ClosedOff (k0_off29 k) := ⟨![(s18 k.val).val, 0, 2560], off29_eq k⟩
instance (k : Fin k0_t1_loop.trips) : ClosedOff (k0_off30 k) := ⟨![(s2 k.val).val, 160, 0], off30_eq k⟩
instance (k : Fin k0_t1_loop.trips) : ClosedOff (k0_off31 k) := ⟨![(s18 k.val).val, 0, 2816], off31_eq k⟩
instance (k : Fin k0_t1_loop.trips) : ClosedOff (k0_off32 k) := ⟨![(s2 k.val).val, 176, 0], off32_eq k⟩
instance (k : Fin k0_t1_loop.trips) : ClosedOff (k0_off33 k) := ⟨![(s18 k.val).val, 0, 3072], off33_eq k⟩
instance (k : Fin k0_t1_loop.trips) : ClosedOff (k0_off34 k) := ⟨![(s2 k.val).val, 192, 0], off34_eq k⟩
instance (k : Fin k0_t1_loop.trips) : ClosedOff (k0_off35 k) := ⟨![(s18 k.val).val, 0, 3328], off35_eq k⟩
instance (k : Fin k0_t1_loop.trips) : ClosedOff (k0_off36 k) := ⟨![(s2 k.val).val, 208, 0], off36_eq k⟩
instance (k : Fin k0_t1_loop.trips) : ClosedOff (k0_off37 k) := ⟨![(s18 k.val).val, 0, 3584], off37_eq k⟩
instance (k : Fin k0_t1_loop.trips) : ClosedOff (k0_off38 k) := ⟨![(s2 k.val).val, 224, 0], off38_eq k⟩
instance (k : Fin k0_t1_loop.trips) : ClosedOff (k0_off39 k) := ⟨![(s18 k.val).val, 0, 3840], off39_eq k⟩
instance (k : Fin k0_t1_loop.trips) : ClosedOff (k0_off40 k) := ⟨![(s2 k.val).val, 240, 0], off40_eq k⟩
instance (k : Fin k0_t2_loop.trips) : ClosedOff (k0_off44 k) := ⟨![(s18 (k.val + 110)).val, 0, 0], off44_eq k⟩
instance (k : Fin k0_t2_loop.trips) : ClosedOff (k0_off48 k) := ⟨![(s2 k.val).val, 0, 0], off48_eq k⟩
instance (k : Fin k0_t2_loop.trips) : ClosedOff (k0_off51 k) := ⟨![(s2 (k.val + 1)).val, 0, 0], off51_eq k⟩
instance (k : Fin k0_t2_loop.trips) : ClosedOff (k0_off52 k) := ⟨![tp (min (k.val + 1) 127), 0, 0], off52_eq k⟩
instance (k : Fin k0_t2_loop.trips) : ClosedOff (k0_off53 k) := ⟨![(s2 (k.val + 1)).val, 0, 0], off53_eq k⟩
instance (k : Fin k0_t2_loop.trips) : ClosedOff (k0_off54 k) := ⟨![(s2 k.val).val, 0, 0], off54_eq k⟩
instance (k : Fin k0_t2_loop.trips) : ClosedOff (k0_off55 k) := ⟨![(s18 (k.val + 110)).val, 0, 0], off55_eq k⟩
instance (k : Fin k0_t2_loop.trips) : ClosedOff (k0_off56 k) := ⟨![(s2 k.val).val, 0, 0], off56_eq k⟩
instance (k : Fin k0_t2_loop.trips) : ClosedOff (k0_off57 k) := ⟨![(s18 (k.val + 110)).val, 0, 256], off57_eq k⟩
instance (k : Fin k0_t2_loop.trips) : ClosedOff (k0_off58 k) := ⟨![(s2 k.val).val, 0, 128], off58_eq k⟩
instance (k : Fin k0_t2_loop.trips) : ClosedOff (k0_off59 k) := ⟨![(s18 (k.val + 110)).val, 0, 512], off59_eq k⟩
instance (k : Fin k0_t2_loop.trips) : ClosedOff (k0_off60 k) := ⟨![(s2 k.val).val, 0, 256], off60_eq k⟩
instance (k : Fin k0_t2_loop.trips) : ClosedOff (k0_off61 k) := ⟨![(s18 (k.val + 110)).val, 0, 768], off61_eq k⟩
instance (k : Fin k0_t2_loop.trips) : ClosedOff (k0_off62 k) := ⟨![(s2 k.val).val, 0, 384], off62_eq k⟩
instance (k : Fin k0_t2_loop.trips) : ClosedOff (k0_off63 k) := ⟨![(s18 (k.val + 110)).val, 0, 1024], off63_eq k⟩
instance (k : Fin k0_t2_loop.trips) : ClosedOff (k0_off64 k) := ⟨![(s2 k.val).val, 0, 512], off64_eq k⟩
instance (k : Fin k0_t2_loop.trips) : ClosedOff (k0_off65 k) := ⟨![(s18 (k.val + 110)).val, 0, 1280], off65_eq k⟩
instance (k : Fin k0_t2_loop.trips) : ClosedOff (k0_off66 k) := ⟨![(s2 k.val).val, 0, 640], off66_eq k⟩
instance (k : Fin k0_t2_loop.trips) : ClosedOff (k0_off67 k) := ⟨![(s18 (k.val + 110)).val, 0, 1536], off67_eq k⟩
instance (k : Fin k0_t2_loop.trips) : ClosedOff (k0_off68 k) := ⟨![(s2 k.val).val, 0, 768], off68_eq k⟩
instance (k : Fin k0_t2_loop.trips) : ClosedOff (k0_off69 k) := ⟨![(s18 (k.val + 110)).val, 0, 1792], off69_eq k⟩
instance (k : Fin k0_t2_loop.trips) : ClosedOff (k0_off70 k) := ⟨![(s2 k.val).val, 0, 896], off70_eq k⟩
instance (k : Fin k0_t2_loop.trips) : ClosedOff (k0_off71 k) := ⟨![(s2 k.val).val, 0, 128], off71_eq k⟩
instance (k : Fin k0_t2_loop.trips) : ClosedOff (k0_off72 k) := ⟨![(s18 (k.val + 110)).val, 0, 2048], off72_eq k⟩
instance (k : Fin k0_t2_loop.trips) : ClosedOff (k0_off73 k) := ⟨![(s2 k.val).val, 0, 1024], off73_eq k⟩
instance (k : Fin k0_t2_loop.trips) : ClosedOff (k0_off74 k) := ⟨![(s18 (k.val + 110)).val, 0, 2304], off74_eq k⟩
instance (k : Fin k0_t2_loop.trips) : ClosedOff (k0_off75 k) := ⟨![(s2 k.val).val, 0, 1152], off75_eq k⟩
instance (k : Fin k0_t2_loop.trips) : ClosedOff (k0_off76 k) := ⟨![(s18 (k.val + 110)).val, 0, 2560], off76_eq k⟩
instance (k : Fin k0_t2_loop.trips) : ClosedOff (k0_off77 k) := ⟨![(s2 k.val).val, 0, 1280], off77_eq k⟩
instance (k : Fin k0_t2_loop.trips) : ClosedOff (k0_off78 k) := ⟨![(s18 (k.val + 110)).val, 0, 2816], off78_eq k⟩
instance (k : Fin k0_t2_loop.trips) : ClosedOff (k0_off79 k) := ⟨![(s2 k.val).val, 0, 1408], off79_eq k⟩
instance (k : Fin k0_t2_loop.trips) : ClosedOff (k0_off80 k) := ⟨![(s18 (k.val + 110)).val, 0, 3072], off80_eq k⟩
instance (k : Fin k0_t2_loop.trips) : ClosedOff (k0_off81 k) := ⟨![(s2 k.val).val, 0, 1536], off81_eq k⟩
instance (k : Fin k0_t2_loop.trips) : ClosedOff (k0_off82 k) := ⟨![(s18 (k.val + 110)).val, 0, 3328], off82_eq k⟩
instance (k : Fin k0_t2_loop.trips) : ClosedOff (k0_off83 k) := ⟨![(s2 k.val).val, 0, 1664], off83_eq k⟩
instance (k : Fin k0_t2_loop.trips) : ClosedOff (k0_off84 k) := ⟨![(s18 (k.val + 110)).val, 0, 3584], off84_eq k⟩
instance (k : Fin k0_t2_loop.trips) : ClosedOff (k0_off85 k) := ⟨![(s2 k.val).val, 0, 1792], off85_eq k⟩
instance (k : Fin k0_t2_loop.trips) : ClosedOff (k0_off86 k) := ⟨![(s18 (k.val + 110)).val, 0, 3840], off86_eq k⟩
instance (k : Fin k0_t2_loop.trips) : ClosedOff (k0_off87 k) := ⟨![(s2 k.val).val, 0, 1920], off87_eq k⟩
instance (k : Fin k0_t2_loop.trips) : ClosedOff (k0_off90 k) := ⟨![(s2 k.val).val, 0, 0], off90_eq k⟩
instance (k : Fin k0_t2_loop.trips) : ClosedOff (k0_off93 k) := ⟨![(s2 (k.val + 1)).val, 0, 0], off93_eq k⟩
instance (k : Fin k0_t2_loop.trips) : ClosedOff (k0_off95 k) := ⟨![(s18 (k.val + 110)).val, 0, 0], off95_eq k⟩

end Cert.Proof.KI

end
-- ==== Proof.Ideal.Names.lean ====
/-
  The names of the quantiser's slices — tiles of the operand and of the two results, ring slots, semaphore cells — the
  equations that bring each printed slice to its name, and what is held of each in every state of the pipeline.
-/
module

public import proofs.«01_k».proof.Proof.Ideal.Offsets
public import proofs.«01_k».proof.Proof.Gen.KernelIdeal.Launch
public import proofs.«01_k».proof.Proof.Gen.KernelIdeal.Loops
public import Idealize.ShloMosaic.Lib.Ring.Tabled
public import Idealize.ShloMosaic.Lib.Pipeline.KitQuiescent
public import Idealize.ShloMosaic.Lib.Pipeline.FrameSuffixV

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ × Counters
local notation "𝕄" => MT nD τ sig Unit (Elt F) ℕ (UU nD τ) ℕ
abbrev 𝒱₀ : Variants := Variants.none

/-! ## The names -/

abbrev xM : Memref sig .tc .hbm S32768x4096 .bf16 := Memref.whole main_v0
abbrev pkM : Memref sig .tc .hbm S32768x2048 .i8 := Memref.whole main_v1_0
abbrev sbM : Memref sig .tc .hbm S32768x256 .fp8e4m3 := Memref.whole main_v1_1
abbrev xbM : Memref sig .tc .vmem S18x256x4096 .bf16 := Memref.whole cc0_scratch0
abbrev bmM : Memref sig .tc .vmem S128x256x256 .bf16 := Memref.whole cc0_scratch1
abbrev btM : Memref sig .tc .vmem S2x256x256 .f32 := Memref.whole cc0_scratch2
abbrev ivM : Memref sig .tc .vmem S2x256x256 .f32 := Memref.whole cc0_scratch3
abbrev obM : Memref sig .tc .vmem S2x256x2048 .i8 := Memref.whole cc0_scratch4
abbrev wbM : Memref sig .tc .vmem S2x256x256 .fp8e4m3 := Memref.whole cc0_scratch5
abbrev acM : Memref sig .tc .vmem S16x256 .f32 := Memref.whole cc0_scratch6
abbrev pmM : Memref sig .tc .vmem S256x256 .bf16 := Memref.whole cc0_scratch7
abbrev ppM : Memref sig .tc .vmem S256x256 .bf16 := Memref.whole cc0_scratch8

/-- The first element of tile `t` of an array cut in blocks of 256 rows. -/
abbrev tOff (t : Fin 128) : Fin 2 → Nat := ![256 * t.val, 0]
abbrev s18Off (s : Fin 18) : Fin 3 → Nat := ![s.val, 0, 0]
abbrev s2Off (s : Fin 2) : Fin 3 → Nat := ![s.val, 0, 0]
abbrev c18Off (s : Fin 18) : Fin 1 → Nat := ![s.val]
abbrev c2Off (s : Fin 2) : Fin 1 → Nat := ![s.val]

theorem tOff_x (t : Fin 128) : ∀ a, tOff t a + S256x4096.size a ≤ S32768x4096.size a := by
  have := t.isLt; intro a; fin_cases a
  · show 256 * t.val + 256 ≤ 32768; omega
  · show 0 + 4096 ≤ 4096; omega
theorem tOff_pk (t : Fin 128) : ∀ a, tOff t a + S256x2048.size a ≤ S32768x2048.size a := by
  have := t.isLt; intro a; fin_cases a
  · show 256 * t.val + 256 ≤ 32768; omega
  · show 0 + 2048 ≤ 2048; omega
theorem tOff_sb (t : Fin 128) : ∀ a, tOff t a + S256x256.size a ≤ S32768x256.size a := by
  have := t.isLt; intro a; fin_cases a
  · show 256 * t.val + 256 ≤ 32768; omega
  · show 0 + 256 ≤ 256; omega
theorem s18Off_x (s : Fin 18) : ∀ a, s18Off s a + S1x256x4096.size a ≤ S18x256x4096.size a := by
  have := s.isLt; intro a; fin_cases a
  · show s.val + 1 ≤ 18; omega
  · show 0 + 256 ≤ 256; omega
  · show 0 + 4096 ≤ 4096; omega
theorem s2Off_o (s : Fin 2) : ∀ a, s2Off s a + S1x256x2048.size a ≤ S2x256x2048.size a := by
  have := s.isLt; intro a; fin_cases a
  · show s.val + 1 ≤ 2; omega
  · show 0 + 256 ≤ 256; omega
  · show 0 + 2048 ≤ 2048; omega
theorem s2Off_w (s : Fin 2) : ∀ a, s2Off s a + S1x256x256.size a ≤ S2x256x256.size a := by
  have := s.isLt; intro a; fin_cases a
  · show s.val + 1 ≤ 2; omega
  · show 0 + 256 ≤ 256; omega
  · show 0 + 256 ≤ 256; omega
theorem c18Off_inb (s : Fin 18) : ∀ a, c18Off s a + S1.size a ≤ S18.size a := by
  have := s.isLt; intro a; fin_cases a; show s.val + 1 ≤ 18; omega
theorem c2Off_inb (s : Fin 2) : ∀ a, c2Off s a + S1.size a ≤ S2.size a := by
  have := s.isLt; intro a; fin_cases a; show s.val + 1 ≤ 2; omega

/-- Tile `t` of the operand, of the packed codes and of the block scales. -/
def xtile (t : Fin 128) : Memref sig .tc .hbm S256x4096 .bf16 :=
  xM.slice (Rect.unit (s := S32768x4096) (tOff t) S256x4096.size (tOff_x t)) (fun _ => rfl)
def pktile (t : Fin 128) : Memref sig .tc .hbm S256x2048 .i8 :=
  pkM.slice (Rect.unit (s := S32768x2048) (tOff t) S256x2048.size (tOff_pk t)) (fun _ => rfl)
def sbtile (t : Fin 128) : Memref sig .tc .hbm S256x256 .fp8e4m3 :=
  sbM.slice (Rect.unit (s := S32768x256) (tOff t) S256x256.size (tOff_sb t)) (fun _ => rfl)
/-- Slot `s` of the operand's ring, of the packed codes' and of the block scales'. -/
def xslot (s : Fin 18) : Memref sig .tc .vmem S256x4096 .bf16 :=
  (xbM.slice (Rect.unit (s := S18x256x4096) (s18Off s) S1x256x4096.size (s18Off_x s)) (fun _ => rfl)).squeeze S256x4096 squeezes_S1x256x4096_S256x4096
def oslot (s : Fin 2) : Memref sig .tc .vmem S256x2048 .i8 :=
  (obM.slice (Rect.unit (s := S2x256x2048) (s2Off s) S1x256x2048.size (s2Off_o s)) (fun _ => rfl)).squeeze S256x2048 squeezes_S1x256x2048_S256x2048
def wslot (s : Fin 2) : Memref sig .tc .vmem S256x256 .fp8e4m3 :=
  (wbM.slice (Rect.unit (s := S2x256x256) (s2Off s) S1x256x256.size (s2Off_w s)) (fun _ => rfl)).squeeze S256x256 squeezes_S1x256x256_S256x256
/-- The cell each slot's copies signal. -/
def xcell (s : Fin 18) : DmaSems sig S_ := (cc0_scratch9.slice (Rect.unit (s := S18) (c18Off s) S1.size (c18Off_inb s))).squeeze S_ squeezes_S1_S_
def ocell (s : Fin 2) : DmaSems sig S_ := (cc0_scratch10.slice (Rect.unit (s := S2) (c2Off s) S1.size (c2Off_inb s))).squeeze S_ squeezes_S1_S_
def wcell (s : Fin 2) : DmaSems sig S_ := (cc0_scratch11.slice (Rect.unit (s := S2) (c2Off s) S1.size (c2Off_inb s))).squeeze S_ squeezes_S1_S_

instance (t : Fin 128) : ClosedOff (tOff t) := ⟨tOff t, rfl⟩
instance (s : Fin 18) : ClosedOff (s18Off s) := ⟨s18Off s, rfl⟩
instance (s : Fin 2) : ClosedOff (s2Off s) := ⟨s2Off s, rfl⟩

/-! ## The printed slices are these names -/

theorem xtile_congr {off : Fin 2 → Nat} {t : Fin 128} (e : off = tOff t) (hh hs) :
    xM.slice (Rect.unit (s := S32768x4096) off S256x4096.size hh) hs = xtile t := Memref.slice_unit_congr _ e _ _ _ (fun _ => rfl)
theorem pktile_congr {off : Fin 2 → Nat} {t : Fin 128} (e : off = tOff t) (hh hs) :
    pkM.slice (Rect.unit (s := S32768x2048) off S256x2048.size hh) hs = pktile t := Memref.slice_unit_congr _ e _ _ _ (fun _ => rfl)
theorem sbtile_congr {off : Fin 2 → Nat} {t : Fin 128} (e : off = tOff t) (hh hs) :
    sbM.slice (Rect.unit (s := S32768x256) off S256x256.size hh) hs = sbtile t := Memref.slice_unit_congr _ e _ _ _ (fun _ => rfl)
theorem xslot_congr {off : Fin 3 → Nat} {s : Fin 18} (e : off = s18Off s) (hh hs) :
    (xbM.slice (Rect.unit (s := S18x256x4096) off S1x256x4096.size hh) hs).squeeze S256x4096 squeezes_S1x256x4096_S256x4096 = xslot s :=
  congrArg (fun M : Memref sig .tc .vmem S1x256x4096 .bf16 => M.squeeze S256x4096 squeezes_S1x256x4096_S256x4096) (Memref.slice_unit_congr _ e _ _ _ _)
theorem oslot_congr {off : Fin 3 → Nat} {s : Fin 2} (e : off = s2Off s) (hh hs) :
    (obM.slice (Rect.unit (s := S2x256x2048) off S1x256x2048.size hh) hs).squeeze S256x2048 squeezes_S1x256x2048_S256x2048 = oslot s :=
  congrArg (fun M : Memref sig .tc .vmem S1x256x2048 .i8 => M.squeeze S256x2048 squeezes_S1x256x2048_S256x2048) (Memref.slice_unit_congr _ e _ _ _ _)
theorem wslot_congr {off : Fin 3 → Nat} {s : Fin 2} (e : off = s2Off s) (hh hs) :
    (wbM.slice (Rect.unit (s := S2x256x256) off S1x256x256.size hh) hs).squeeze S256x256 squeezes_S1x256x256_S256x256 = wslot s :=
  congrArg (fun M : Memref sig .tc .vmem S1x256x256 .fp8e4m3 => M.squeeze S256x256 squeezes_S1x256x256_S256x256) (Memref.slice_unit_congr _ e _ _ _ _)
theorem xcell_congr {off : Fin 1 → Nat} {s : Fin 18} (e : off = c18Off s) (hh) :
    (cc0_scratch9.slice (Rect.unit (s := S18) off S1.size hh)).squeeze S_ squeezes_S1_S_ = xcell s :=
  congrArg (fun A : DmaSems sig S1 => A.squeeze S_ squeezes_S1_S_) (SemArray.slice_unit_congr _ e _ _)
theorem ocell_congr {off : Fin 1 → Nat} {s : Fin 2} (e : off = c2Off s) (hh) :
    (cc0_scratch10.slice (Rect.unit (s := S2) off S1.size hh)).squeeze S_ squeezes_S1_S_ = ocell s :=
  congrArg (fun A : DmaSems sig S1 => A.squeeze S_ squeezes_S1_S_) (SemArray.slice_unit_congr _ e _ _)
theorem wcell_congr {off : Fin 1 → Nat} {s : Fin 2} (e : off = c2Off s) (hh) :
    (cc0_scratch11.slice (Rect.unit (s := S2) off S1.size hh)).squeeze S_ squeezes_S1_S_ = wcell s :=
  congrArg (fun A : DmaSems sig S1 => A.squeeze S_ squeezes_S1_S_) (SemArray.slice_unit_congr _ e _ _)

theorem tOff_tp (p : ℕ) : (![256 * tp p, 0] : Fin 2 → Nat) = tOff (tl (p + 110)) := rfl
theorem s2Off_of (p : ℕ) : (![p % 2, 0, 0] : Fin 3 → Nat) = s2Off (s2 p) := rfl
theorem s18Off_of (p : ℕ) : (![p % 18, 0, 0] : Fin 3 → Nat) = s18Off (s18 p) := rfl
theorem tOff_of {p : ℕ} (h : p < 128) : (![256 * p, 0] : Fin 2 → Nat) = tOff (tl p) := by
  simp [tOff, tl, Nat.mod_eq_of_lt h]

theorem lt1 (k : Fin k0_t1_loop.trips) : k.val < 128 := Nat.lt_of_lt_of_eq k.isLt trips1
theorem lt2 (k : Fin k0_t2_loop.trips) : k.val < 128 := Nat.lt_of_lt_of_eq k.isLt trips2

@[sl_canon] theorem cn1 (k : Fin k0_t1_loop.trips) (hh) :
    (cc0_scratch9.slice (Rect.unit (s := S18) (k0_off1 k) S1.size hh)).squeeze S_ squeezes_S1_S_ = xcell (s18 (k.val + 4)) := xcell_congr (off1_eq k) _
@[sl_canon] theorem cn2 (k : Fin k0_t1_loop.trips) (hh hs) :
    (xbM.slice (Rect.unit (s := S18x256x4096) (k0_off2 k) S1x256x4096.size hh) hs).squeeze S256x4096 squeezes_S1x256x4096_S256x4096 = xslot (s18 (k.val + 4)) := xslot_congr (off2_eq k) _ _
@[sl_canon] theorem cn3 (k : Fin k0_t1_loop.trips) (h : k.val + 4 < 128) (hh hs) :
    xM.slice (Rect.unit (s := S32768x4096) (k0_off3 k) S256x4096.size hh) hs = xtile (tl (k.val + 4)) := xtile_congr ((off3_eq k).trans (tOff_of h)) _ _
@[sl_canon] theorem cn4 (k : Fin k0_t1_loop.trips) (hh) :
    (cc0_scratch9.slice (Rect.unit (s := S18) (k0_off4 k) S1.size hh)).squeeze S_ squeezes_S1_S_ = xcell (s18 k.val) := xcell_congr (off4_eq k) _
@[sl_canon] theorem cn5 (k : Fin k0_t1_loop.trips) (hh hs) :
    (xbM.slice (Rect.unit (s := S18x256x4096) (k0_off5 k) S1x256x4096.size hh) hs).squeeze S256x4096 squeezes_S1x256x4096_S256x4096 = xslot (s18 k.val) := xslot_congr (off5_eq k) _ _
@[sl_canon] theorem cn6 (k : Fin k0_t1_loop.trips) (hh hs) :
    xM.slice (Rect.unit (s := S32768x4096) (k0_off6 k) S256x4096.size hh) hs = xtile (tl k.val) := xtile_congr ((off6_eq k).trans (tOff_of (lt1 k))) _ _
@[sl_canon] theorem cn43 (k : Fin k0_t2_loop.trips) (hh) :
    (cc0_scratch9.slice (Rect.unit (s := S18) (k0_off43 k) S1.size hh)).squeeze S_ squeezes_S1_S_ = xcell (s18 (k.val + 110)) := xcell_congr (off43_eq k) _
@[sl_canon] theorem cn44 (k : Fin k0_t2_loop.trips) (hh hs) :
    (xbM.slice (Rect.unit (s := S18x256x4096) (k0_off44 k) S1x256x4096.size hh) hs).squeeze S256x4096 squeezes_S1x256x4096_S256x4096 = xslot (s18 (k.val + 110)) := xslot_congr (off44_eq k) _ _
@[sl_canon] theorem cn45 (k : Fin k0_t2_loop.trips) (hh hs) :
    xM.slice (Rect.unit (s := S32768x4096) (k0_off45 k) S256x4096.size hh) hs = xtile (tl (k.val + 110)) := xtile_congr (off45_eq k) _ _
@[sl_canon] theorem cn46 (k : Fin k0_t2_loop.trips) (hh) :
    (cc0_scratch10.slice (Rect.unit (s := S2) (k0_off46 k) S1.size hh)).squeeze S_ squeezes_S1_S_ = ocell (s2 k.val) := ocell_congr (off46_eq k) _
@[sl_canon] theorem cn47 (k : Fin k0_t2_loop.trips) (h : 2 ≤ k.val) (hh hs) :
    pkM.slice (Rect.unit (s := S32768x2048) (k0_off47 k) S256x2048.size hh) hs = pktile (tl (k.val - 2 + 110)) := pktile_congr (off47_eq k h) _ _
@[sl_canon] theorem cn48 (k : Fin k0_t2_loop.trips) (hh hs) :
    (obM.slice (Rect.unit (s := S2x256x2048) (k0_off48 k) S1x256x2048.size hh) hs).squeeze S256x2048 squeezes_S1x256x2048_S256x2048 = oslot (s2 k.val) := oslot_congr (off48_eq k) _ _
@[sl_canon] theorem cn49 (k : Fin k0_t2_loop.trips) (hh) :
    (cc0_scratch11.slice (Rect.unit (s := S2) (k0_off49 k) S1.size hh)).squeeze S_ squeezes_S1_S_ = wcell (s2 (k.val + 1)) := wcell_congr (off49_eq k) _
@[sl_canon] theorem cn50 (k : Fin k0_t2_loop.trips) (h : 1 ≤ k.val) (hh hs) :
    sbM.slice (Rect.unit (s := S32768x256) (k0_off50 k) S256x256.size hh) hs = sbtile (tl (k.val - 1 + 110)) := sbtile_congr (off50_eq k h) _ _
@[sl_canon] theorem cn51 (k : Fin k0_t2_loop.trips) (hh hs) :
    (wbM.slice (Rect.unit (s := S2x256x256) (k0_off51 k) S1x256x256.size hh) hs).squeeze S256x256 squeezes_S1x256x256_S256x256 = wslot (s2 (k.val + 1)) := wslot_congr (off51_eq k) _ _
@[sl_canon] theorem cn88 (k : Fin k0_t2_loop.trips) (hh) :
    (cc0_scratch10.slice (Rect.unit (s := S2) (k0_off88 k) S1.size hh)).squeeze S_ squeezes_S1_S_ = ocell (s2 k.val) := ocell_congr (off88_eq k) _
@[sl_canon] theorem cn89 (k : Fin k0_t2_loop.trips) (hh hs) :
    pkM.slice (Rect.unit (s := S32768x2048) (k0_off89 k) S256x2048.size hh) hs = pktile (tl (k.val + 110)) := pktile_congr (off89_eq k) _ _
@[sl_canon] theorem cn90 (k : Fin k0_t2_loop.trips) (hh hs) :
    (obM.slice (Rect.unit (s := S2x256x2048) (k0_off90 k) S1x256x2048.size hh) hs).squeeze S256x2048 squeezes_S1x256x2048_S256x2048 = oslot (s2 k.val) := oslot_congr (off90_eq k) _ _
@[sl_canon] theorem cn91 (k : Fin k0_t2_loop.trips) (hh) :
    (cc0_scratch11.slice (Rect.unit (s := S2) (k0_off91 k) S1.size hh)).squeeze S_ squeezes_S1_S_ = wcell (s2 (k.val + 1)) := wcell_congr (off91_eq k) _
@[sl_canon] theorem cn92 (k : Fin k0_t2_loop.trips) (h : k.val + 1 < 128) (hh hs) :
    sbM.slice (Rect.unit (s := S32768x256) (k0_off92 k) S256x256.size hh) hs = sbtile (tl (k.val + 1 + 110)) := sbtile_congr (off92_eq k h) _ _
@[sl_canon] theorem cn93 (k : Fin k0_t2_loop.trips) (hh hs) :
    (wbM.slice (Rect.unit (s := S2x256x256) (k0_off93 k) S1x256x256.size hh) hs).squeeze S256x256 squeezes_S1x256x256_S256x256 = wslot (s2 (k.val + 1)) := wslot_congr (off93_eq k) _ _
@[sl_canon] theorem cn94 (k : Fin k0_t2_loop.trips) (hh) :
    (cc0_scratch9.slice (Rect.unit (s := S18) (k0_off94 k) S1.size hh)).squeeze S_ squeezes_S1_S_ = xcell (s18 (k.val + 110)) := xcell_congr (off94_eq k) _
@[sl_canon] theorem cn95 (k : Fin k0_t2_loop.trips) (hh hs) :
    (xbM.slice (Rect.unit (s := S18x256x4096) (k0_off95 k) S1x256x4096.size hh) hs).squeeze S256x4096 squeezes_S1x256x4096_S256x4096 = xslot (s18 (k.val + 110)) := xslot_congr (off95_eq k) _ _
@[sl_canon] theorem cn96 (k : Fin k0_t2_loop.trips) (h : k.val + 18 < 128) (hh hs) :
    xM.slice (Rect.unit (s := S32768x4096) (k0_off96 k) S256x4096.size hh) hs = xtile (tl (k.val + 18 + 110)) := xtile_congr (off96_eq k h) _ _
@[sl_canon] theorem lxcell0 (hh) :
    (cc0_scratch9.slice (Rect.unit (s := S18) (![0]) S1.size hh)).squeeze S_ squeezes_S1_S_ = xcell (0) := xcell_congr (by decide) _
@[sl_canon] theorem lxslot0 (hh hs) :
    (xbM.slice (Rect.unit (s := S18x256x4096) (![0, 0, 0]) S1x256x4096.size hh) hs).squeeze S256x4096 squeezes_S1x256x4096_S256x4096 = xslot (0) := xslot_congr (by decide) _ _
@[sl_canon] theorem lxtile0 (hh hs) :
    xM.slice (Rect.unit (s := S32768x4096) (![0, 0]) S256x4096.size hh) hs = xtile (0) := xtile_congr (by decide) _ _
@[sl_canon] theorem lxcell1 (hh) :
    (cc0_scratch9.slice (Rect.unit (s := S18) (![1]) S1.size hh)).squeeze S_ squeezes_S1_S_ = xcell (1) := xcell_congr (by decide) _
@[sl_canon] theorem lxslot1 (hh hs) :
    (xbM.slice (Rect.unit (s := S18x256x4096) (![1, 0, 0]) S1x256x4096.size hh) hs).squeeze S256x4096 squeezes_S1x256x4096_S256x4096 = xslot (1) := xslot_congr (by decide) _ _
@[sl_canon] theorem lxtile1 (hh hs) :
    xM.slice (Rect.unit (s := S32768x4096) (![256, 0]) S256x4096.size hh) hs = xtile (1) := xtile_congr (by decide) _ _
@[sl_canon] theorem lxcell2 (hh) :
    (cc0_scratch9.slice (Rect.unit (s := S18) (![2]) S1.size hh)).squeeze S_ squeezes_S1_S_ = xcell (2) := xcell_congr (by decide) _
@[sl_canon] theorem lxslot2 (hh hs) :
    (xbM.slice (Rect.unit (s := S18x256x4096) (![2, 0, 0]) S1x256x4096.size hh) hs).squeeze S256x4096 squeezes_S1x256x4096_S256x4096 = xslot (2) := xslot_congr (by decide) _ _
@[sl_canon] theorem lxtile2 (hh hs) :
    xM.slice (Rect.unit (s := S32768x4096) (![512, 0]) S256x4096.size hh) hs = xtile (2) := xtile_congr (by decide) _ _
@[sl_canon] theorem lxcell3 (hh) :
    (cc0_scratch9.slice (Rect.unit (s := S18) (![3]) S1.size hh)).squeeze S_ squeezes_S1_S_ = xcell (3) := xcell_congr (by decide) _
@[sl_canon] theorem lxslot3 (hh hs) :
    (xbM.slice (Rect.unit (s := S18x256x4096) (![3, 0, 0]) S1x256x4096.size hh) hs).squeeze S256x4096 squeezes_S1x256x4096_S256x4096 = xslot (3) := xslot_congr (by decide) _ _
@[sl_canon] theorem lxtile3 (hh hs) :
    xM.slice (Rect.unit (s := S32768x4096) (![768, 0]) S256x4096.size hh) hs = xtile (3) := xtile_congr (by decide) _ _
@[sl_canon] theorem locell0 (hh) :
    (cc0_scratch10.slice (Rect.unit (s := S2) (![0]) S1.size hh)).squeeze S_ squeezes_S1_S_ = ocell (0) := ocell_congr (by decide) _
@[sl_canon] theorem lwcell0 (hh) :
    (cc0_scratch11.slice (Rect.unit (s := S2) (![0]) S1.size hh)).squeeze S_ squeezes_S1_S_ = wcell (0) := wcell_congr (by decide) _
@[sl_canon] theorem loslot0 (hh hs) :
    (obM.slice (Rect.unit (s := S2x256x2048) (![0, 0, 0]) S1x256x2048.size hh) hs).squeeze S256x2048 squeezes_S1x256x2048_S256x2048 = oslot (0) := oslot_congr (by decide) _ _
@[sl_canon] theorem lwslot0 (hh hs) :
    (wbM.slice (Rect.unit (s := S2x256x256) (![0, 0, 0]) S1x256x256.size hh) hs).squeeze S256x256 squeezes_S1x256x256_S256x256 = wslot (0) := wslot_congr (by decide) _ _
@[sl_canon] theorem locell1 (hh) :
    (cc0_scratch10.slice (Rect.unit (s := S2) (![1]) S1.size hh)).squeeze S_ squeezes_S1_S_ = ocell (1) := ocell_congr (by decide) _
@[sl_canon] theorem lwcell1 (hh) :
    (cc0_scratch11.slice (Rect.unit (s := S2) (![1]) S1.size hh)).squeeze S_ squeezes_S1_S_ = wcell (1) := wcell_congr (by decide) _
@[sl_canon] theorem loslot1 (hh hs) :
    (obM.slice (Rect.unit (s := S2x256x2048) (![1, 0, 0]) S1x256x2048.size hh) hs).squeeze S256x2048 squeezes_S1x256x2048_S256x2048 = oslot (1) := oslot_congr (by decide) _ _
@[sl_canon] theorem lwslot1 (hh hs) :
    (wbM.slice (Rect.unit (s := S2x256x256) (![1, 0, 0]) S1x256x256.size hh) hs).squeeze S256x256 squeezes_S1x256x256_S256x256 = wslot (1) := wslot_congr (by decide) _ _
@[sl_canon] theorem lsb0 (hh hs) :
    sbM.slice (Rect.unit (s := S32768x256) (k0_off42 0#1 4294967278#32 110#32) S256x256.size hh) hs = sbtile (110) := sbtile_congr (by decide +kernel) _ _
@[sl_canon] theorem lsb127 (hh hs) :
    sbM.slice (Rect.unit (s := S32768x256) (k0_off42 1#1 109#32 237#32) S256x256.size hh) hs = sbtile (109) := sbtile_congr (by decide +kernel) _ _
@[sl_canon] theorem lpk126 (hh hs) :
    pkM.slice (Rect.unit (s := S32768x2048) (k0_off97 108#32 236#32) S256x2048.size hh) hs = pktile (108) := pktile_congr (by decide +kernel) _ _
@[sl_canon] theorem lpk127 (hh hs) :
    pkM.slice (Rect.unit (s := S32768x2048) (k0_off97 109#32 237#32) S256x2048.size hh) hs = pktile (109) := pktile_congr (by decide +kernel) _ _

/-! ## What is held -/

section Held
variable (c : Dev nD) (XA : Buf (Elt F) (xM.view.loc (c : Thread nD τ)))

abbrev xhome (t : Fin 128) : sProp 𝕄 := (xtile t).view.loc (c : Thread nD τ) ↦[(xtile t).view.set]{fullShare} XA
abbrev xheld (s : Fin 18) (f : Buf (Elt F) ((xslot s).view.loc (c : Thread nD τ))) : sProp 𝕄 :=
  (xslot s).view.loc (c : Thread nD τ) ↦[(xslot s).view.set]{fullShare} f
abbrev oheld (s : Fin 2) (f : Buf (Elt F) ((oslot s).view.loc (c : Thread nD τ))) : sProp 𝕄 :=
  (oslot s).view.loc (c : Thread nD τ) ↦[(oslot s).view.set]{fullShare} f
abbrev wheld (s : Fin 2) (f : Buf (Elt F) ((wslot s).view.loc (c : Thread nD τ))) : sProp 𝕄 :=
  (wslot s).view.loc (c : Thread nD τ) ↦[(wslot s).view.set]{fullShare} f
abbrev pkheld (t : Fin 128) (f : Buf (Elt F) ((pktile t).view.loc (c : Thread nD τ))) : sProp 𝕄 :=
  (pktile t).view.loc (c : Thread nD τ) ↦[(pktile t).view.set]{fullShare} f
abbrev sbheld (t : Fin 128) (f : Buf (Elt F) ((sbtile t).view.loc (c : Thread nD τ))) : sProp 𝕄 :=
  (sbtile t).view.loc (c : Thread nD τ) ↦[(sbtile t).view.set]{fullShare} f
abbrev xidle (s : Fin 18) : sProp 𝕄 := semVal ((c : Thread nD τ), SemLoc.dma (xcell s).sem) 0
abbrev oidle (s : Fin 2) : sProp 𝕄 := semVal ((c : Thread nD τ), SemLoc.dma (ocell s).sem) 0
abbrev widle (s : Fin 2) : sProp 𝕄 := semVal ((c : Thread nD τ), SemLoc.dma (wcell s).sem) 0

end Held

end Cert.Proof.KI

end
-- ==== Proof.Ideal.Rings.lean ====
/-
  The rings of the quantiser as families of states read off tables: the 18 operand slots and the 128 operand tiles in both
  passes, the two code slots and the two scale slots in pass 2, and the 128 tiles of each result. Each table is a function
  of the trip; that a trip moves from one row to the next is decided over the 128 trips.
-/
module

public import proofs.«01_k».proof.Proof.Ideal.Names

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-- A slot of a ring: nothing of use in it, a tile in it, or a copy of tile `t` in flight. -/
inductive SS where
  | free
  | res (t : Fin 128)
  | fly (t : Fin 128)
  deriving DecidableEq

/-- A tile of a result: not written yet, lent to a copy in flight, or written. -/
inductive TS where
  | todo
  | away
  | done
  deriving DecidableEq

section Families
variable {M : Type _} [URA M] {n : ℕ} {σ : Type _} (Φ : Fin n → σ → sProp M)

theorem focus1 (st : Fin n → σ) (i : Fin n) (a : σ) (h : st i = a) :
    Ring.AtW (σ := fun _ => σ) Φ st ⊢ iprop(Φ i a ∗ Ring.restL Φ st [i]) := by
  rw [Ring.AtW_focusL Φ st [i] (by simp), show bigSepL [i] (fun k => Φ k (st k)) = Φ i (st i) from rfl, h]

theorem refocus1 (st st' : Fin n → σ) (i : Fin n) (a : σ) (h : st' i = a) (hr : ∀ k, k ≠ i → st' k = st k) :
    iprop(Φ i a ∗ Ring.restL Φ st [i]) ⊢ Ring.AtW (σ := fun _ => σ) Φ st' := by
  have e := Ring.AtW_refocusL Φ st st' [i] (by simp) (fun k hk => hr k (by simpa using hk))
  rw [show bigSepL [i] (fun k => Φ k (st' k)) = Φ i (st' i) from rfl, h] at e
  exact e

theorem atw_congr (st st' : Fin n → σ) (h : ∀ k, st' k = st k) :
    Ring.AtW (σ := fun _ => σ) Φ st ⊢ Ring.AtW (σ := fun _ => σ) Φ st' := by
  rw [Ring.AtW_congr Φ h]

end Families

/-! ## What each state holds -/

section States
variable (c : Dev nD) (XA : Buf (Elt F) (xM.view.loc (c : Thread nD τ)))
  (PO : (t : Fin 128) → Buf (Elt F) ((pktile t).view.loc (c : Thread nD τ)) → Prop)
  (SO : (t : Fin 128) → Buf (Elt F) ((sbtile t).view.loc (c : Thread nD τ)) → Prop)

/-- The slot's words are the tile's. -/
def XOK (s : Fin 18) (t : Fin 128) (f : Buf (Elt F) ((xslot s).view.loc (c : Thread nD τ))) : Prop :=
  (xslot s).view.read (Elt F) f = (xtile t).view.read (Elt F) XA

/-- The units a copy of one tile of the operand, of the codes and of the scales moves. -/
abbrev NX : ℕ := 65536
abbrev NO : ℕ := 16384
abbrev NW : ℕ := 2048

def Φx (s : Fin 18) : SS → sProp 𝕄
  | .free => iprop(xidle (F := F) c s ∗ ∃ f, xheld c s f)
  | .res t => iprop(xidle (F := F) c s ∗ ∃ f, ⌜XOK c XA s t f⌝ ∗ xheld c s f)
  | .fly t => iprop(∃ f, ⌜XOK c XA s t f⌝ ∗ Transfers.Flight countersEmb (c : Thread nD τ) (SemLoc.dma (xcell s).sem) () NX iprop(xheld c s f ∗ xhome c XA t))

def Φo (s : Fin 2) : SS → sProp 𝕄
  | .free => iprop(oidle (F := F) c s ∗ ∃ f, oheld c s f)
  | .res t => iprop(emp)
  | .fly t => iprop(∃ g f, ⌜PO t g⌝ ∗ Transfers.Flight countersEmb (c : Thread nD τ) (SemLoc.dma (ocell s).sem) () NO iprop(pkheld c t g ∗ oheld c s f))

def Φw (s : Fin 2) : SS → sProp 𝕄
  | .free => iprop(widle (F := F) c s ∗ ∃ f, wheld c s f)
  | .res t => iprop(emp)
  | .fly t => iprop(∃ g f, ⌜SO t g⌝ ∗ Transfers.Flight countersEmb (c : Thread nD τ) (SemLoc.dma (wcell s).sem) () NW iprop(sbheld c t g ∗ wheld c s f))

def Φp (t : Fin 128) : TS → sProp 𝕄
  | .todo => iprop(∃ g, pkheld c t g)
  | .away => iprop(emp)
  | .done => iprop(∃ g, ⌜PO t g⌝ ∗ pkheld c t g)

def Φs (t : Fin 128) : TS → sProp 𝕄
  | .todo => iprop(∃ g, sbheld c t g)
  | .away => iprop(emp)
  | .done => iprop(∃ g, ⌜SO t g⌝ ∗ sbheld c t g)

end States

/-! ## The tables -/

/-- Pass 1, before trip `k`: the slot holds the last tile below `k + 4` that falls in it. -/
def xt1 (k : ℕ) (s : Fin 18) : SS :=
  let q := k + 4 + (s.val + 36000 - (k + 4)) % 18
  let t := if q < 146 then q - 18 else q - 36
  if q < 18 then .free else if k ≤ t then .fly (tl t) else .res (tl t)
def xh1 (k : ℕ) (t : Fin 128) : Bool := !(decide (k ≤ t.val) && decide (t.val < k + 4))
/-- Pass 1, the trip's copy started: the slots, the tiles. -/
def xt1' (k : ℕ) (s : Fin 18) : SS := if k + 4 < 128 ∧ s = s18 (k + 4) then .fly (tl (k + 4)) else xt1 k s
def xh1' (k : ℕ) (t : Fin 128) : Bool := !(decide (k ≤ t.val) && decide (t.val < k + 5))

/-- The trip of pass 2 that visits tile `t`. -/
def pos (t : Fin 128) : ℕ := (t.val + 18) % 128

/-- Pass 2, before trip `k`. -/
def xt2 (k : ℕ) (s : Fin 18) : SS :=
  let p := k + (s.val + 36000 - (k + 110)) % 18
  if p < 18 then .res (tl (p + 110)) else if p < 128 then .fly (tl (p + 110)) else .res (tl (p - 18 + 110))
def xh2 (k : ℕ) (t : Fin 128) : Bool := !(decide (18 ≤ pos t) && decide (k ≤ pos t) && decide (pos t < k + 18))
/-- Pass 2, the trip's tile arrived. -/
def xt2' (k : ℕ) (s : Fin 18) : SS := if s = s18 (k + 110) then .res (tl (k + 110)) else xt2 k s
def xh2' (k : ℕ) (t : Fin 128) : Bool := xh2 k t || decide (t = tl (k + 110))

def ot (k : ℕ) (s : Fin 2) : SS :=
  if s = s2 (k + 1) then (if 1 ≤ k then .fly (tl (k - 1 + 110)) else .free) else (if 2 ≤ k then .fly (tl (k - 2 + 110)) else .free)
def ot' (k : ℕ) (s : Fin 2) : SS := if s = s2 k then .free else ot k s
def pt (k : ℕ) (t : Fin 128) : TS := if k ≤ pos t then .todo else if k ≤ pos t + 2 then .away else .done
def pt' (k : ℕ) (t : Fin 128) : TS := if 2 ≤ k ∧ t = tl (k - 2 + 110) then .done else pt k t

def wt (k : ℕ) (s : Fin 2) : SS :=
  if s = s2 k then (if k < 128 then .fly (tl (k + 110)) else .free) else if k = 0 then .free else .fly (tl (k - 1 + 110))
def wt' (k : ℕ) (s : Fin 2) : SS := if s = s2 (k + 1) then .free else wt k s
def st (k : ℕ) (t : Fin 128) : TS := if k < pos t then .todo else if k ≤ pos t + 1 then .away else .done
def st' (k : ℕ) (t : Fin 128) : TS := if 1 ≤ k ∧ t = tl (k - 1 + 110) then .done else st k t

/-! ## The tables' steps, decided over the trips -/

theorem x1_free : ∀ k : Fin 128, k.val + 4 < 128 → xt1 k.val (s18 (k.val + 4)) = (if k.val < 14 then .free else .res (tl (k.val - 14))) := by
  decide +kernel
theorem x1_upd (k : ℕ) (h : k + 4 < 128) : xt1' k (s18 (k + 4)) = .fly (tl (k + 4)) := by simp [xt1', h]
theorem x1_off (k : ℕ) (s : Fin 18) (h : s ≠ s18 (k + 4)) : xt1' k s = xt1 k s := by simp [xt1', h]
theorem x1_no (k : ℕ) (h : ¬ k + 4 < 128) (s : Fin 18) : xt1' k s = xt1 k s := by simp [xt1', h]
theorem h1_in : ∀ k : Fin 128, k.val + 4 < 128 → xh1 k.val (tl (k.val + 4)) = true := by decide +kernel
theorem h1_out : ∀ k : Fin 128, k.val + 4 < 128 → xh1' k.val (tl (k.val + 4)) = false := by decide +kernel
theorem h1_off : ∀ k : Fin 128, ∀ t : Fin 128, t ≠ tl (k.val + 4) → xh1' k.val t = xh1 k.val t := by decide +kernel
theorem h1_no : ∀ k : Fin 128, ¬ k.val + 4 < 128 → ∀ t : Fin 128, xh1' k.val t = xh1 k.val t := by decide +kernel
theorem x1_fly : ∀ k : Fin 128, xt1' k.val (s18 k.val) = .fly (tl k.val) := by decide +kernel
theorem x1_res : ∀ k : Fin 128, xt1 (k.val + 1) (s18 k.val) = .res (tl k.val) := by decide +kernel
theorem x1_step : ∀ k : Fin 128, ∀ s : Fin 18, s ≠ s18 k.val → xt1 (k.val + 1) s = xt1' k.val s := by decide +kernel
theorem h1_away : ∀ k : Fin 128, xh1' k.val (tl k.val) = false := by decide +kernel
theorem h1_back : ∀ k : Fin 128, xh1 (k.val + 1) (tl k.val) = true := by decide +kernel
theorem h1_step : ∀ k : Fin 128, ∀ t : Fin 128, t ≠ tl k.val → xh1 (k.val + 1) t = xh1' k.val t := by decide +kernel
theorem x_turn : ∀ s : Fin 18, xt2 0 s = xt1 128 s := by decide +kernel
theorem h_turn : ∀ t : Fin 128, xh2 0 t = xh1 128 t := by decide +kernel
theorem x_end : ∀ s : Fin 18, ∃ t, xt2 128 s = .res t := by decide +kernel
theorem h_end : ∀ t : Fin 128, xh2 128 t = true := by decide +kernel

theorem x2_fly : ∀ k : Fin 128, 18 ≤ k.val → xt2 k.val (s18 (k.val + 110)) = .fly (tl (k.val + 110)) := by decide +kernel
theorem x2_in : ∀ k : Fin 128, ¬ 18 ≤ k.val → ∀ s : Fin 18, xt2' k.val s = xt2 k.val s := by decide +kernel
theorem x2_upd (k : ℕ) : xt2' k (s18 (k + 110)) = .res (tl (k + 110)) := by simp [xt2']
theorem x2_off (k : ℕ) (s : Fin 18) (h : s ≠ s18 (k + 110)) : xt2' k s = xt2 k s := by simp [xt2', h]
theorem h2_away : ∀ k : Fin 128, 18 ≤ k.val → xh2 k.val (tl (k.val + 110)) = false := by decide +kernel
theorem h2_back (k : ℕ) : xh2' k (tl (k + 110)) = true := by simp [xh2']
theorem h2_off (k : ℕ) (t : Fin 128) (h : t ≠ tl (k + 110)) : xh2' k t = xh2 k t := by simp [xh2', h]
theorem h2_in : ∀ k : Fin 128, ¬ 18 ≤ k.val → ∀ t : Fin 128, xh2' k.val t = xh2 k.val t := by decide +kernel
theorem x2_next : ∀ k : Fin 128, k.val + 18 < 128 → xt2 (k.val + 1) (s18 (k.val + 110)) = .fly (tl (k.val + 18 + 110)) := by decide +kernel
theorem x2_stay : ∀ k : Fin 128, ¬ k.val + 18 < 128 → ∀ s : Fin 18, xt2 (k.val + 1) s = xt2' k.val s := by decide +kernel
theorem x2_step : ∀ k : Fin 128, ∀ s : Fin 18, s ≠ s18 (k.val + 110) → xt2 (k.val + 1) s = xt2' k.val s := by decide +kernel
theorem h2_home : ∀ k : Fin 128, k.val + 18 < 128 → xh2' k.val (tl (k.val + 18 + 110)) = true := by decide +kernel
theorem h2_gone : ∀ k : Fin 128, k.val + 18 < 128 → xh2 (k.val + 1) (tl (k.val + 18 + 110)) = false := by decide +kernel
theorem h2_step : ∀ k : Fin 128, ∀ t : Fin 128, t ≠ tl (k.val + 18 + 110) → xh2 (k.val + 1) t = xh2' k.val t := by decide +kernel
theorem h2_stay : ∀ k : Fin 128, ¬ k.val + 18 < 128 → ∀ t : Fin 128, xh2 (k.val + 1) t = xh2' k.val t := by decide +kernel

theorem o_fly : ∀ k : Fin 128, 2 ≤ k.val → ot k.val (s2 k.val) = .fly (tl (k.val - 2 + 110)) := by decide +kernel
theorem o_upd (k : ℕ) : ot' k (s2 k) = .free := by simp [ot']
theorem o_off (k : ℕ) (s : Fin 2) (h : s ≠ s2 k) : ot' k s = ot k s := by simp [ot', h]
theorem o_in : ∀ k : Fin 128, ¬ 2 ≤ k.val → ∀ s : Fin 2, ot' k.val s = ot k.val s := by decide +kernel
theorem o_next : ∀ k : Fin 128, ot (k.val + 1) (s2 k.val) = .fly (tl (k.val + 110)) := by decide +kernel
theorem o_step : ∀ k : Fin 128, ∀ s : Fin 2, s ≠ s2 k.val → ot (k.val + 1) s = ot' k.val s := by decide +kernel
theorem p_away : ∀ k : Fin 128, 2 ≤ k.val → pt k.val (tl (k.val - 2 + 110)) = .away := by decide +kernel
theorem p_done : ∀ k : Fin 128, 2 ≤ k.val → pt' k.val (tl (k.val - 2 + 110)) = .done := by decide +kernel
theorem p_off (k : ℕ) (t : Fin 128) (h : t ≠ tl (k - 2 + 110)) : pt' k t = pt k t := by simp [pt', h]
theorem p_in (k : ℕ) (h : ¬ 2 ≤ k) (t : Fin 128) : pt' k t = pt k t := by simp [pt', h]
theorem p_todo : ∀ k : Fin 128, pt' k.val (tl (k.val + 110)) = .todo := by decide +kernel
theorem p_next : ∀ k : Fin 128, pt (k.val + 1) (tl (k.val + 110)) = .away := by decide +kernel
theorem p_step : ∀ k : Fin 128, ∀ t : Fin 128, t ≠ tl (k.val + 110) → pt (k.val + 1) t = pt' k.val t := by decide +kernel

theorem w_fly : ∀ k : Fin 128, 1 ≤ k.val → wt k.val (s2 (k.val + 1)) = .fly (tl (k.val - 1 + 110)) := by decide +kernel
theorem w_upd (k : ℕ) : wt' k (s2 (k + 1)) = .free := by simp [wt']
theorem w_off (k : ℕ) (s : Fin 2) (h : s ≠ s2 (k + 1)) : wt' k s = wt k s := by simp [wt', h]
theorem w_in : ∀ k : Fin 128, ¬ 1 ≤ k.val → ∀ s : Fin 2, wt' k.val s = wt k.val s := by decide +kernel
theorem w_next : ∀ k : Fin 128, k.val + 1 < 128 → wt (k.val + 1) (s2 (k.val + 1)) = .fly (tl (k.val + 1 + 110)) := by decide +kernel
theorem w_step : ∀ k : Fin 128, ∀ s : Fin 2, s ≠ s2 (k.val + 1) → wt (k.val + 1) s = wt' k.val s := by decide +kernel
theorem w_stay : ∀ k : Fin 128, ¬ k.val + 1 < 128 → ∀ s : Fin 2, wt (k.val + 1) s = wt' k.val s := by decide +kernel
theorem s_away : ∀ k : Fin 128, 1 ≤ k.val → st k.val (tl (k.val - 1 + 110)) = .away := by decide +kernel
theorem s_done : ∀ k : Fin 128, 1 ≤ k.val → st' k.val (tl (k.val - 1 + 110)) = .done := by decide +kernel
theorem s_off (k : ℕ) (t : Fin 128) (h : t ≠ tl (k - 1 + 110)) : st' k t = st k t := by simp [st', h]
theorem s_in (k : ℕ) (h : ¬ 1 ≤ k) (t : Fin 128) : st' k t = st k t := by simp [st', h]
theorem s_todo : ∀ k : Fin 128, k.val + 1 < 128 → st' k.val (tl (k.val + 1 + 110)) = .todo := by decide +kernel
theorem s_next : ∀ k : Fin 128, k.val + 1 < 128 → st (k.val + 1) (tl (k.val + 1 + 110)) = .away := by decide +kernel
theorem s_step : ∀ k : Fin 128, ∀ t : Fin 128, t ≠ tl (k.val + 1 + 110) → st (k.val + 1) t = st' k.val t := by decide +kernel
theorem s_stay : ∀ k : Fin 128, ¬ k.val + 1 < 128 → ∀ t : Fin 128, st (k.val + 1) t = st' k.val t := by decide +kernel

end Cert.Proof.KI

end
-- ==== Proof.Ideal.Moves.lean ====
/-
  How a trip moves the rings: the copies it starts and the copies it waits for, each as one step from a table row to the
  next, and the rule that joins the two ways through a guarded statement.
-/
module

public import proofs.«01_k».proof.Proof.Ideal.Rings

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

attribute [local irreducible] tl s18 s2

section Families
variable {M : Type _} [URA M] {n : ℕ} {σ : Type _} (Φ : Fin n → σ → sProp M)

/-- A member taken out whose next state holds nothing. -/
theorem take1 (st st' : Fin n → σ) (i : Fin n) (a b : σ) (h : st i = a) (h' : st' i = b) (hb : (emp : sProp M) ⊢ Φ i b)
    (hr : ∀ k, k ≠ i → st' k = st k) :
    Ring.AtW (σ := fun _ => σ) Φ st ⊢ iprop(Φ i a ∗ Ring.AtW (σ := fun _ => σ) Φ st') := by
  iintro H
  ihave H := (focus1 Φ st i a h) $$ H
  icases H with ⟨H, Hr⟩
  isplitl [H]; · iexact H
  iapply (refocus1 Φ st st' i b h' hr)
  isplitr
  · iapply hb
    iempintro
  · iexact Hr

/-- A member put back, whatever its last state held. -/
theorem put1 (st st' : Fin n → σ) (i : Fin n) (b : σ) (h' : st' i = b) (hr : ∀ k, k ≠ i → st' k = st k) :
    iprop(Φ i b ∗ Ring.AtW (σ := fun _ => σ) Φ st) ⊢ Ring.AtW (σ := fun _ => σ) Φ st' := by
  iintro ⟨Hb, H⟩
  ihave H := (focus1 Φ st i _ rfl) $$ H
  icases H with ⟨-, Hr⟩
  iapply (refocus1 Φ st st' i b h' hr)
  isplitl [Hb]; · iexact Hb
  iexact Hr

end Families

/-- The two ways through a guarded statement meet in `M`. -/
theorem dite_join (c : Dev nD) {β : Type} {C : Prop} [Decidable C] (P M : sProp 𝕄)
    (A : C → Prog (TpuEff nD τ sig (Elt F) Λ₀ .tc) Unit) (J : Prog (TpuEff nD τ sig (Elt F) Λ₀ .tc) β) (Q : β → sProp 𝕄)
    (h1 : ∀ hc : C, P ⊢ wp frame (wpE (defs₀ (F := F)) 𝒱₀ (c : Thread nD τ) none) Set.univ (A hc) (fun _ => M)) (h0 : ¬ C → P ⊢ M) :
    iprop(P ∗ (M -∗ wp frame (wpE (defs₀ (F := F)) 𝒱₀ (c : Thread nD τ) none) Set.univ J Q)) ⊢ wp frame (wpE (defs₀ (F := F)) 𝒱₀ (c : Thread nD τ) none) Set.univ (if hc : C then (A hc >>= fun _ => J) else J) Q := by
  by_cases hc : C
  · rw [dif_pos hc, wp_bind]
    iintro ⟨HP, HJ⟩
    iapply (wp_wand_r Idealize.ShloMosaic.frame (wpE (defs₀ (F := F)) 𝒱₀ (c : Thread nD τ) none) Set.univ)
    isplitl [HP]
    · iapply (h1 hc); iexact HP
    · iintro %_ HM
      iapply HJ; iexact HM
  · rw [dif_neg hc]
    iintro ⟨HP, HJ⟩
    iapply HJ
    iapply (h0 hc); iexact HP

section Copies
variable (c : Dev nD) (XA : Buf (Elt F) (xM.view.loc (c : Thread nD τ)))
  (PO : (t : Fin 128) → Buf (Elt F) ((pktile t).view.loc (c : Thread nD τ)) → Prop)
  (SO : (t : Fin 128) → Buf (Elt F) ((sbtile t).view.loc (c : Thread nD τ)) → Prop)

abbrev XR (k : Fin 18 → SS) : sProp 𝕄 := Ring.AtW (σ := fun _ => SS) (Φx c XA) k
abbrev XH (k : Fin 128 → Bool) : sProp 𝕄 := Ring.AtW (σ := fun _ => Bool) (Ring.atHome (xhome c XA)) k
abbrev OR (k : Fin 2 → SS) : sProp 𝕄 := Ring.AtW (σ := fun _ => SS) (Φo c PO) k
abbrev WR (k : Fin 2 → SS) : sProp 𝕄 := Ring.AtW (σ := fun _ => SS) (Φw c SO) k
abbrev PR (k : Fin 128 → TS) : sProp 𝕄 := Ring.AtW (σ := fun _ => TS) (Φp c PO) k
abbrev SR (k : Fin 128 → TS) : sProp 𝕄 := Ring.AtW (σ := fun _ => TS) (Φs c SO) k

theorem fly_x_open (s : Fin 18) (t : Fin 128) : Φx c XA s (.fly t) ⊢ iprop(∃ f, ⌜XOK c XA s t f⌝ ∗ Transfers.Flight countersEmb (c : Thread nD τ) (SemLoc.dma (xcell s).sem) () NX iprop(xheld c s f ∗ xhome c XA t)) := .rfl
theorem fly_o_open (s : Fin 2) (t : Fin 128) : Φo c PO s (.fly t) ⊢ iprop(∃ g f, ⌜PO t g⌝ ∗ Transfers.Flight countersEmb (c : Thread nD τ) (SemLoc.dma (ocell s).sem) () NO iprop(pkheld c t g ∗ oheld c s f)) := .rfl
theorem fly_w_open (s : Fin 2) (t : Fin 128) : Φw c SO s (.fly t) ⊢ iprop(∃ g f, ⌜SO t g⌝ ∗ Transfers.Flight countersEmb (c : Thread nD τ) (SemLoc.dma (wcell s).sem) () NW iprop(sbheld c t g ∗ wheld c s f)) := .rfl
theorem res_x_open (s : Fin 18) (t : Fin 128) : Φx c XA s (.res t) ⊢ iprop(xidle (F := F) c s ∗ ∃ f, ⌜XOK c XA s t f⌝ ∗ xheld c s f) := .rfl
theorem free_o_open (s : Fin 2) : Φo c PO s .free ⊢ iprop(oidle (F := F) c s ∗ ∃ f, oheld c s f) := .rfl
theorem free_w_open (s : Fin 2) : Φw c SO s .free ⊢ iprop(widle (F := F) c s ∗ ∃ f, wheld c s f) := .rfl
theorem free_w_close (s : Fin 2) : iprop(widle (F := F) c s ∗ ∃ f, wheld c s f) ⊢ Φw c SO s .free := .rfl
theorem todo_p_open (t : Fin 128) : Φp c PO t .todo ⊢ iprop(∃ g, pkheld c t g) := .rfl
theorem todo_s_open (t : Fin 128) : Φs c SO t .todo ⊢ iprop(∃ g, sbheld c t g) := .rfl
theorem home_open (t : Fin 128) : Ring.atHome (xhome c XA) t true ⊢ xhome c XA t := .rfl
theorem home_close (t : Fin 128) : xhome c XA t ⊢ Ring.atHome (xhome c XA) t true := .rfl

/-- A copy of tile `t` started into slot `s`. -/
theorem fly_x (s : Fin 18) (t : Fin 128) (f : Buf (Elt F) ((xslot s).view.loc (c : Thread nD τ))) (w : S256x4096.Idx → Elt F .bf16)
    (hw : w = (xtile t).view.read (Elt F) XA) :
    Transfers.Flight countersEmb (c : Thread nD τ) (SemLoc.dma (xcell s).sem) () NX
      iprop(xheld c s ((xslot s).view.writes (Elt F) f [⟨Rect.whole S256x4096, w⟩]) ∗ xhome c XA t) ⊢ Φx c XA s (.fly t) := by
  unfold Φx
  iintro H
  iexists _
  isplitr [H]
  rotate_left
  · iexact H
  · ipureintro
    unfold XOK; rw [View.read_writes_whole, hw]

/-- A slot that is free or holds a tile is idle. -/
theorem idle_x (s : Fin 18) (a : SS) (ha : ∀ t, a ≠ .fly t) :
    Φx c XA s a ⊢ iprop(xidle (F := F) c s ∗ ∃ f, xheld c s f) := by
  cases a with
  | free => exact .rfl
  | res t =>
    unfold Φx; iintro ⟨HS, %f, -, Hf⟩
    isplitl [HS]; · iexact HS
    iexists f; iexact Hf
  | fly t => exact absurd rfl (ha t)

/-- A copy of tile `t`'s codes started from slot `s`. -/
theorem fly_o (s : Fin 2) (t : Fin 128) (g : Buf (Elt F) ((pktile t).view.loc (c : Thread nD τ))) (f : Buf (Elt F) ((oslot s).view.loc (c : Thread nD τ)))
    (hg : PO t g) :
    Transfers.Flight countersEmb (c : Thread nD τ) (SemLoc.dma (ocell s).sem) () NO iprop(pkheld c t g ∗ oheld c s f) ⊢ Φo c PO s (.fly t) := by
  unfold Φo
  iintro H
  iexists g; iexists f
  isplitr [H]
  rotate_left
  · iexact H
  · ipureintro; exact hg
theorem fly_w (s : Fin 2) (t : Fin 128) (g : Buf (Elt F) ((sbtile t).view.loc (c : Thread nD τ))) (f : Buf (Elt F) ((wslot s).view.loc (c : Thread nD τ)))
    (hg : SO t g) :
    Transfers.Flight countersEmb (c : Thread nD τ) (SemLoc.dma (wcell s).sem) () NW iprop(sbheld c t g ∗ wheld c s f) ⊢ Φw c SO s (.fly t) := by
  unfold Φw
  iintro H
  iexists g; iexists f
  isplitr [H]
  rotate_left
  · iexact H
  · ipureintro; exact hg

/-- Pass 1 starts the copy of tile `k + 4`. -/
theorem issue1 (k : Fin k0_t1_loop.trips) (h : k.val + 4 < 128) (p1 p2 p3 p4 p5 p6) :
    iprop(XR c XA (xt1 k.val) ∗ XH c XA (xh1 k.val)) ⊢ wp frame (wpE (defs₀ (F := F)) 𝒱₀ (c : Thread nD τ) none) Set.univ
        (Prog.lift (.enqueueDma (xM.slice (Rect.unit (s := S32768x4096) (k0_off3 k) S256x4096.size p1) (fun _ => rfl))
          (.here ((xbM.slice (Rect.unit (s := S18x256x4096) (k0_off2 k) S1x256x4096.size p2) (fun _ => rfl)).squeeze S256x4096 squeezes_S1x256x4096_S256x4096))
          (.dma ((cc0_scratch9.slice (Rect.unit (s := S18) (k0_off1 k) S1.size p3)).squeeze S_ squeezes_S1_S_).sem) p4 p5 p6))
        (fun _ => iprop(XR c XA (xt1' k.val) ∗ XH c XA (xh1' k.val))) := by
  have hx := x1_free ⟨k.val, lt1 k⟩ h
  iintro ⟨HX, HH⟩
  ihave HX := (focus1 (Φx c XA) (xt1 k.val) (s18 (k.val + 4)) _ hx) $$ HX
  icases HX with ⟨HX, HXr⟩
  ihave HH := (take1 (Ring.atHome (xhome c XA)) (xh1 k.val) (xh1' k.val) (tl (k.val + 4)) true false (h1_in ⟨k.val, lt1 k⟩ h) (h1_out ⟨k.val, lt1 k⟩ h) .rfl (h1_off ⟨k.val, lt1 k⟩)) $$ HH
  icases HH with ⟨HH, HHr⟩
  ihave HH := (home_open c XA _) $$ HH
  ihave HX := (idle_x c XA _ _ (by intro t; split <;> simp)) $$ HX
  icases HX with ⟨HS, %f, Hf⟩
  sl_exec
  sl_step
  isplitl [HS HXr]
  · iapply (refocus1 (Φx c XA) (xt1 k.val) (xt1' k.val) (s18 (k.val + 4)) _ (x1_upd k.val h) (x1_off k.val))
    isplitl [HS]
    · iapply (fly_x c XA (s18 (k.val + 4)) (tl (k.val + 4)) f (issue1.sl.dma0 c XA k p1) (by unfold issue1.sl.dma0; rfl))
      iexact HS
    · iexact HXr
  · iexact HHr

/-- Pass 2 waits for the copy of its tile. -/
theorem waitX2 (k : Fin k0_t2_loop.trips) (h : 18 ≤ k.val) (p1 p2 p3 p4 p5) :
    iprop((XR c XA (xt2 k.val) ∗ XH c XA (xh2 k.val)) ∗ ∃ W, owes (c : Thread nD τ) 0 W) ⊢ wp frame (wpE (defs₀ (F := F)) 𝒱₀ (c : Thread nD τ) none) Set.univ
        (Prog.lift (.waitDma2 ((cc0_scratch9.slice (Rect.unit (s := S18) (k0_off43 k) S1.size p3)).squeeze S_ squeezes_S1_S_).sem
          (xM.slice (Rect.unit (s := S32768x4096) (k0_off45 k) S256x4096.size p1) (fun _ => rfl))
          ((xbM.slice (Rect.unit (s := S18x256x4096) (k0_off44 k) S1x256x4096.size p2) (fun _ => rfl)).squeeze S256x4096 squeezes_S1x256x4096_S256x4096) p4 p5))
        (fun _ => iprop((XR c XA (xt2' k.val) ∗ XH c XA (xh2' k.val)) ∗ ∃ W, owes (c : Thread nD τ) 0 W)) := by
  have hx := x2_fly ⟨k.val, lt2 k⟩ h
  iintro ⟨⟨HX, HH⟩, ⟨%W, HW⟩⟩
  ihave HX := (focus1 (Φx c XA) (xt2 k.val) (s18 (k.val + 110)) _ hx) $$ HX
  icases HX with ⟨HX, HXr⟩
  ihave HX := (fly_x_open c XA _ _) $$ HX
  icases HX with ⟨%f, %hf, HF⟩
  sl_exec
  sl_step
  isplitr [HW]
  · isplitl [HF HF_dst HXr]
    · iapply (refocus1 (Φx c XA) (xt2 k.val) (xt2' k.val) (s18 (k.val + 110)) _ (x2_upd k.val) (x2_off k.val))
      isplitr [HXr]
      · unfold Φx
        isplitl [HF]; · iexact HF
        iexists f
        isplitr; · ipureintro; exact hf
        iexact HF_dst
      · iexact HXr
    · iapply (put1 (Ring.atHome (xhome c XA)) (xh2 k.val) (xh2' k.val) (tl (k.val + 110)) true (h2_back k.val) (h2_off k.val))
      isplitl [HF_src]
      · iapply (home_close c XA); iexact HF_src
      iexact HH
  · iexists _; iexact HW

/-- Pass 2 waits for the copy of the codes of two trips before. -/
theorem waitO2 (k : Fin k0_t2_loop.trips) (h : 2 ≤ k.val) (p1 p2 p3 p4 p5) :
    iprop((OR c PO (ot k.val) ∗ PR c PO (pt k.val)) ∗ ∃ W, owes (c : Thread nD τ) 0 W) ⊢ wp frame (wpE (defs₀ (F := F)) 𝒱₀ (c : Thread nD τ) none) Set.univ
        (Prog.lift (.waitDma2 ((cc0_scratch10.slice (Rect.unit (s := S2) (k0_off46 k) S1.size p3)).squeeze S_ squeezes_S1_S_).sem
          ((obM.slice (Rect.unit (s := S2x256x2048) (k0_off48 k) S1x256x2048.size p1) (fun _ => rfl)).squeeze S256x2048 squeezes_S1x256x2048_S256x2048)
          (pkM.slice (Rect.unit (s := S32768x2048) (k0_off47 k) S256x2048.size p2) (fun _ => rfl)) p4 p5))
        (fun _ => iprop((OR c PO (ot' k.val) ∗ PR c PO (pt' k.val)) ∗ ∃ W, owes (c : Thread nD τ) 0 W)) := by
  have hx := o_fly ⟨k.val, lt2 k⟩ h
  iintro ⟨⟨HX, HH⟩, ⟨%W, HW⟩⟩
  ihave HX := (focus1 (Φo c PO) (ot k.val) (s2 k.val) _ hx) $$ HX
  icases HX with ⟨HX, HXr⟩
  ihave HX := (fly_o_open c PO _ _) $$ HX
  icases HX with ⟨%g, %f, %hf, HF⟩
  sl_exec
  sl_step
  isplitr [HW]
  · isplitl [HF HF_src HXr]
    · iapply (refocus1 (Φo c PO) (ot k.val) (ot' k.val) (s2 k.val) _ (o_upd k.val) (o_off k.val))
      isplitr [HXr]
      · unfold Φo
        isplitl [HF]; · iexact HF
        iexists f
        iexact HF_src
      · iexact HXr
    · iapply (put1 (Φp c PO) (pt k.val) (pt' k.val) (tl (k.val - 2 + 110)) .done (p_done ⟨k.val, lt2 k⟩ h) (p_off k.val))
      isplitl [HF_dst]
      · unfold Φp
        iexists g
        isplitr; · ipureintro; exact hf
        iexact HF_dst
      iexact HH
  · iexists _; iexact HW

/-- Pass 2 waits for the copy of the scales of the trip before. -/
theorem waitW2 (k : Fin k0_t2_loop.trips) (h : 1 ≤ k.val) (p1 p2 p3 p4 p5) :
    iprop((WR c SO (wt k.val) ∗ SR c SO (st k.val)) ∗ ∃ W, owes (c : Thread nD τ) 0 W) ⊢ wp frame (wpE (defs₀ (F := F)) 𝒱₀ (c : Thread nD τ) none) Set.univ
        (Prog.lift (.waitDma2 ((cc0_scratch11.slice (Rect.unit (s := S2) (k0_off49 k) S1.size p3)).squeeze S_ squeezes_S1_S_).sem
          ((wbM.slice (Rect.unit (s := S2x256x256) (k0_off51 k) S1x256x256.size p1) (fun _ => rfl)).squeeze S256x256 squeezes_S1x256x256_S256x256)
          (sbM.slice (Rect.unit (s := S32768x256) (k0_off50 k) S256x256.size p2) (fun _ => rfl)) p4 p5))
        (fun _ => iprop((WR c SO (wt' k.val) ∗ SR c SO (st' k.val)) ∗ ∃ W, owes (c : Thread nD τ) 0 W)) := by
  have hx := w_fly ⟨k.val, lt2 k⟩ h
  iintro ⟨⟨HX, HH⟩, ⟨%W, HW⟩⟩
  ihave HX := (focus1 (Φw c SO) (wt k.val) (s2 (k.val + 1)) _ hx) $$ HX
  icases HX with ⟨HX, HXr⟩
  ihave HX := (fly_w_open c SO _ _) $$ HX
  icases HX with ⟨%g, %f, %hf, HF⟩
  sl_exec
  sl_step
  isplitr [HW]
  · isplitl [HF HF_src HXr]
    · iapply (refocus1 (Φw c SO) (wt k.val) (wt' k.val) (s2 (k.val + 1)) _ (w_upd k.val) (w_off k.val))
      isplitr [HXr]
      · unfold Φw
        isplitl [HF]; · iexact HF
        iexists f
        iexact HF_src
      · iexact HXr
    · iapply (put1 (Φs c SO) (st k.val) (st' k.val) (tl (k.val - 1 + 110)) .done (s_done ⟨k.val, lt2 k⟩ h) (s_off k.val))
      isplitl [HF_dst]
      · unfold Φs
        iexists g
        isplitr; · ipureintro; exact hf
        iexact HF_dst
      iexact HH
  · iexists _; iexact HW

/-- Pass 2 starts the copy of the next trip's scales: `f` is what their slot holds, and the copy leaves in the result what
    the slot reads. -/
theorem issueW2 (k : Fin k0_t2_loop.trips) (h : k.val + 1 < 128) (p1 p2 p3 p4 p5 p6)
    (f : Buf (Elt F) ((wslot (s2 (k.val + 1))).view.loc (c : Thread nD τ)))
    (hS : ∀ g : Buf (Elt F) ((sbtile (tl (k.val + 1 + 110))).view.loc (c : Thread nD τ)),
      (sbtile (tl (k.val + 1 + 110))).view.read (Elt F) g = (wslot (s2 (k.val + 1))).view.read (Elt F) f → SO (tl (k.val + 1 + 110)) g) :
    iprop((widle (F := F) c (s2 (k.val + 1)) ∗ wheld c (s2 (k.val + 1)) f) ∗ Ring.restL (Φw c SO) (wt' k.val) [s2 (k.val + 1)] ∗ SR c SO (st' k.val)) ⊢ wp frame (wpE (defs₀ (F := F)) 𝒱₀ (c : Thread nD τ) none) Set.univ
        (Prog.lift (.enqueueDma ((wbM.slice (Rect.unit (s := S2x256x256) (k0_off93 k) S1x256x256.size p1) (fun _ => rfl)).squeeze S256x256 squeezes_S1x256x256_S256x256)
          (.here (sbM.slice (Rect.unit (s := S32768x256) (k0_off92 k) S256x256.size p2) (fun _ => rfl)))
          (.dma ((cc0_scratch11.slice (Rect.unit (s := S2) (k0_off91 k) S1.size p3)).squeeze S_ squeezes_S1_S_).sem) p4 p5 p6))
        (fun _ => iprop(WR c SO (wt (k.val + 1)) ∗ SR c SO (st (k.val + 1)))) := by
  iintro ⟨⟨HS, Hf⟩, HXr, HH⟩
  ihave HH := (take1 (Φs c SO) (st' k.val) (st (k.val + 1)) (tl (k.val + 1 + 110)) .todo .away (s_todo ⟨k.val, lt2 k⟩ h) (s_next ⟨k.val, lt2 k⟩ h) .rfl (s_step ⟨k.val, lt2 k⟩)) $$ HH
  icases HH with ⟨HH, HHr⟩
  ihave HH := (todo_s_open c SO _) $$ HH
  icases HH with ⟨%g, HH⟩
  sl_exec
  sl_step
  isplitl [HS HXr]
  · iapply (refocus1 (Φw c SO) (wt' k.val) (wt (k.val + 1)) (s2 (k.val + 1)) _ (w_next ⟨k.val, lt2 k⟩ h) (w_step ⟨k.val, lt2 k⟩))
    isplitl [HS]
    · iapply (fly_w c SO (s2 (k.val + 1)) (tl (k.val + 1 + 110)) ((sbtile (tl (k.val + 1 + 110))).view.writes (Elt F) g [⟨Rect.whole S256x256, issueW2.sl.dma0 c k f⟩]) f
        (hS _ ((View.read_writes_whole _ _ _).trans (by unfold issueW2.sl.dma0; rfl))))
      iexact HS
    · iexact HXr
  · iexact HHr

/-- Pass 2 starts the copy of the tile of 18 trips on into the slot just used. -/
theorem issueX2 (k : Fin k0_t2_loop.trips) (h : k.val + 18 < 128) (p1 p2 p3 p4 p5 p6) :
    iprop(XR c XA (xt2' k.val) ∗ XH c XA (xh2' k.val)) ⊢ wp frame (wpE (defs₀ (F := F)) 𝒱₀ (c : Thread nD τ) none) Set.univ
        (Prog.lift (.enqueueDma (xM.slice (Rect.unit (s := S32768x4096) (k0_off96 k) S256x4096.size p1) (fun _ => rfl))
          (.here ((xbM.slice (Rect.unit (s := S18x256x4096) (k0_off95 k) S1x256x4096.size p2) (fun _ => rfl)).squeeze S256x4096 squeezes_S1x256x4096_S256x4096))
          (.dma ((cc0_scratch9.slice (Rect.unit (s := S18) (k0_off94 k) S1.size p3)).squeeze S_ squeezes_S1_S_).sem) p4 p5 p6))
        (fun _ => iprop(XR c XA (xt2 (k.val + 1)) ∗ XH c XA (xh2 (k.val + 1)))) := by
  iintro ⟨HX, HH⟩
  ihave HX := (focus1 (Φx c XA) (xt2' k.val) (s18 (k.val + 110)) _ (x2_upd k.val)) $$ HX
  icases HX with ⟨HX, HXr⟩
  ihave HH := (take1 (Ring.atHome (xhome c XA)) (xh2' k.val) (xh2 (k.val + 1)) (tl (k.val + 18 + 110)) true false (h2_home ⟨k.val, lt2 k⟩ h) (h2_gone ⟨k.val, lt2 k⟩ h) .rfl (h2_step ⟨k.val, lt2 k⟩)) $$ HH
  icases HH with ⟨HH, HHr⟩
  ihave HH := (home_open c XA _) $$ HH
  ihave HX := (idle_x c XA _ _ (by intro t; simp)) $$ HX
  icases HX with ⟨HS, %f, Hf⟩
  sl_exec
  sl_step
  isplitl [HS HXr]
  · iapply (refocus1 (Φx c XA) (xt2' k.val) (xt2 (k.val + 1)) (s18 (k.val + 110)) _ (x2_next ⟨k.val, lt2 k⟩ h) (x2_step ⟨k.val, lt2 k⟩))
    isplitl [HS]
    · iapply (fly_x c XA (s18 (k.val + 110)) (tl (k.val + 18 + 110)) f (issueX2.sl.dma0 c XA k p1) (by unfold issueX2.sl.dma0; rfl))
      iexact HS
    · iexact HXr
  · iexact HHr

end Copies

end Cert.Proof.KI

end
-- ==== Proof.Ideal.Spec.lean ====
/-
  What the quantiser computes, tile by tile, as functions of the operand's words: the block maxima of a group of 256
  channels, the running maximum, the global scale, the block scales and their reciprocals, the two codes of a byte.
-/
module

public import proofs.«01_k».proof.Proof.Ideal.Rings

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ
attribute [local irreducible] tl s18 s2

/-- An index of a `d × 256 × m` array as one of its blocks `1 × 256 × m`. -/
def drop3 {d m : ℕ} (j : (⟨3, ![d, 256, m]⟩ : Shape).Idx) : (⟨3, ![1, 256, m]⟩ : Shape).Idx := fun a => match a with
  | 0 => ⟨0, Nat.one_pos⟩
  | 1 => ⟨(j 1).val, (j 1).isLt⟩
  | 2 => ⟨(j 2).val, (j 2).isLt⟩
def up3 {n m : ℕ} (j : (⟨2, ![n, m]⟩ : Shape).Idx) : (⟨3, ![1, n, m]⟩ : Shape).Idx := fun a => match a with
  | 0 => ⟨0, Nat.one_pos⟩
  | 1 => ⟨(j 0).val, (j 0).isLt⟩
  | 2 => ⟨(j 1).val, (j 1).isLt⟩
/-- Two coordinates as an index. -/
def ix2 {n m : ℕ} (a b : ℕ) (ha : a < n) (hb : b < m) : (⟨2, ![n, m]⟩ : Shape).Idx := fun i => match i with
  | 0 => ⟨a, ha⟩
  | 1 => ⟨b, hb⟩
/-- Three coordinates as an index, the first 0. -/
def ix3 {n m : ℕ} (a b : ℕ) (ha : a < n) (hb : b < m) : (⟨3, ![1, n, m]⟩ : Shape).Idx := fun i => match i with
  | 0 => ⟨0, Nat.one_pos⟩
  | 1 => ⟨a, ha⟩
  | 2 => ⟨b, hb⟩

/-- Channels `256 g` to `256 g + 255` of a tile. -/
def xg (X : S256x4096.Idx → Elt F .bf16) (g : Fin 16) : Vec F S1x256x256 .bf16 :=
  fun i => X (ix2 (i 1).val (256 * g.val + (i 2).val) (i 1).isLt (by have h : (i 2).val < 256 := (i 2).isLt; have := g.isLt; omega))

/-- The block maxima of a group of 256 channels: row `b` for block `b` of the group, column `r` for row `r` of the tile. -/
def zb (pm : Vec F S256x256 .bf16) (x : Vec F S1x256x256 .bf16) : FVec F S16x256 .f32 :=
  k0_pay5 (k0_pay2 pm x) (k0_pay3 pm x) (k0_pay4 pm x)

/-- The running maximum after the first `n` groups of a tile. -/
def accN (pm : Vec F S256x256 .bf16) (X : S256x4096.Idx → Elt F .bf16) (a : FVec F S16x256 .f32) : (n : ℕ) → n ≤ 16 → FVec F S16x256 .f32
  | 0, _ => a
  | n + 1, h => maximumf (accN pm X a n (Nat.le_of_succ_le h)) (zb pm (xg X ⟨n, h⟩))
def accG (pm : Vec F S256x256 .bf16) (X : S256x4096.Idx → Elt F .bf16) (a : FVec F S16x256 .f32) : FVec F S16x256 .f32 := accN pm X a 16 le_rfl

/-- The block maxima of a tile, block by row, and turned. -/
def btV (pm : Vec F S256x256 .bf16) (X : S256x4096.Idx → Elt F .bf16) : Vec F S1x256x256 .f32 :=
  fun i => zb pm (xg X ⟨(i 1).val / 16, by have h : (i 1).val < 256 := (i 1).isLt; omega⟩)
    (ix2 ((i 1).val % 16) (i 2).val (Nat.mod_lt _ (by decide)) (i 2).isLt)
def bmV (pm : Vec F S256x256 .bf16) (X : S256x4096.Idx → Elt F .bf16) : Vec F S1x256x256 .bf16 := k0_pay1 (btV pm X)

/-- The running maximum before trip `k`. -/
def accV (pm : Vec F S256x256 .bf16) (X : Fin 128 → S256x4096.Idx → Elt F .bf16) : ℕ → FVec F S16x256 .f32
  | 0 => k0_pay287
  | k + 1 => accG pm (X (tl k)) (accV pm X k)

/-- The global scale. -/
def sgV (pm : Vec F S256x256 .bf16) (X : Fin 128 → S256x4096.Idx → Elt F .bf16) : F .f32 := k0_pay291 (accV pm X 128)

/-- The block scales of a tile and their reciprocals. -/
def sbV (sg : F .f32) (bm : Vec F S1x256x256 .bf16) : FVec F S1x256x256 .fp8e4m3 := k0_pay88 sg bm
def ivV (sg : F .f32) (bm : Vec F S1x256x256 .bf16) : FVec F S1x256x256 .f32 := k0_pay90 (k0_pay89 sg bm)

/-- Half `h` of the reciprocals of a tile. -/
def ivh (iv : Vec F S1x256x256 .f32) (h : Fin 2) : Vec F S1x256x128 .f32 :=
  fun i => iv (ix3 (i 1).val (128 * h.val + (i 2).val) (i 1).isLt (by have h2 : (i 2).val < 128 := (i 2).isLt; have := h.isLt; omega))

/-- The column of a half of the reciprocals that a column of byte-pairs reads: `o` plus an eighth of the column. -/
def idxK (v181 : IVec S256x128 32) (o : BitVec 32) : IVec S256x128 32 :=
  have v286 : IVec S256x128 32 := broadcast S256x128 8#32
  have v287 : IVec S256x128 32 := divsi v181 v286
  have v288 : IVec S256x128 32 := broadcast S256x128 0#32
  have v289 : IVec S256x128 1 := cmpi .sgt v181 v288
  have v290 : IVec S256x128 32 := extui 32 v289 natLt_1_32
  have v291 : IVec S256x128 32 := broadcast S256x128 0#32
  have v292 : IVec S256x128 1 := cmpi .slt v181 v291
  have v293 : IVec S256x128 32 := extui 32 v292 natLt_1_32
  have v294 : IVec S256x128 32 := subi v290 v293
  let v295 : BitVec 1 := Scalar.cmpi .sgt 8#32 0#32
  let v296 : BitVec 32 := Scalar.extui v295
  let v297 : BitVec 1 := Scalar.cmpi .slt 8#32 0#32
  let v298 : BitVec 32 := Scalar.extui v297
  let v299 : BitVec 32 := Scalar.subi v296 v298
  have v300 : IVec S256x128 32 := broadcast S256x128 v299
  have v301 : IVec S256x128 1 := cmpi .ne v294 v300
  have v302 : IVec S256x128 32 := broadcast S256x128 8#32
  have v303 : IVec S256x128 32 := remsi v181 v302
  have v304 : IVec S256x128 32 := broadcast S256x128 0#32
  have v305 : IVec S256x128 1 := cmpi .ne v303 v304
  have v306 : IVec S256x128 1 := andi v301 v305
  have v307 : IVec S256x128 32 := broadcast S256x128 1#32
  have v308 : IVec S256x128 32 := subi v287 v307
  have v309 : IVec S256x128 32 := select v306 v308 v287
  have v310 : IVec S256x128 32 := broadcast S256x128 o
  have v311 : IVec S256x128 32 := addi v310 v309
  have v312 : IVec S256x128 32 := broadcast S256x128 0#32
  have v313 : IVec S256x128 1 := cmpi .slt v311 v312
  have v314 : IVec S256x128 32 := broadcast S256x128 128#32
  have v315 : IVec S256x128 32 := addi v311 v314
  have v316 : IVec S256x128 32 := select v313 v315 v311
  have v317 : IVec S256x128x1 32 := shapeCast S256x128x1 v316 shapeCasts_S256x128_S256x128x1
  have v318 : IVec S256x128 32 := shapeCast S256x128 v317 shapeCasts_S256x128x1_S256x128
  v318

/-- The four-bit code of each scaled element, one to a byte. -/
def codeK (v369 v319 : FVec F S256x128 .f32) : IVec S256x128 8 :=
  have v370 : FVec F S256x128 .f32 := mulf v369 v319
  have cst_188 : F .f32 := Scalar.ofBits .f32 0xC0C00000#32
  have cst_189 : F .f32 := Scalar.ofBits .f32 0x40C00000#32
  have v371 : FVec F S256x128 .f32 := broadcast S256x128 cst_188
  have v372 : FVec F S256x128 .f32 := maximumf v371 v370
  have v373 : FVec F S256x128 .f32 := broadcast S256x128 cst_189
  have v374 : FVec F S256x128 .f32 := minimumf v373 v372
  have v375 : FVec F S256x128 .f32 := absf v374
  have v376 : IVec S256x128 32 := broadcast S256x128 0#32
  have cst_191 : F .f32 := Scalar.ofBits .f32 0x3F400000#32
  have v377 : FVec F S256x128 .f32 := broadcast S256x128 cst_191
  have v378 : IVec S256x128 1 := cmpf .oge v375 v377
  have v379 : IVec S256x128 32 := extui 32 v378 natLt_1_32
  have v380 : IVec S256x128 32 := addi v376 v379
  have cst_192 : F .f32 := Scalar.ofBits .f32 0x3FE00000#32
  have v381 : FVec F S256x128 .f32 := broadcast S256x128 cst_192
  have v382 : IVec S256x128 1 := cmpf .oge v375 v381
  have v383 : IVec S256x128 32 := extui 32 v382 natLt_1_32
  have v384 : IVec S256x128 32 := addi v380 v383
  have cst_193 : F .f32 := Scalar.ofBits .f32 0x40600000#32
  have v385 : FVec F S256x128 .f32 := broadcast S256x128 cst_193
  have v386 : IVec S256x128 1 := cmpf .oge v375 v385
  have v387 : IVec S256x128 32 := extui 32 v386 natLt_1_32
  have v388 : IVec S256x128 32 := addi v384 v387
  have cst_194 : F .f32 := Scalar.ofBits .f32 0x3E800000#32
  have v389 : FVec F S256x128 .f32 := broadcast S256x128 cst_194
  have v390 : IVec S256x128 1 := cmpf .ogt v375 v389
  have v391 : IVec S256x128 32 := extui 32 v390 natLt_1_32
  have v392 : IVec S256x128 32 := addi v388 v391
  have cst_195 : F .f32 := Scalar.ofBits .f32 0x3FA00000#32
  have v393 : FVec F S256x128 .f32 := broadcast S256x128 cst_195
  have v394 : IVec S256x128 1 := cmpf .ogt v375 v393
  have v395 : IVec S256x128 32 := extui 32 v394 natLt_1_32
  have v396 : IVec S256x128 32 := addi v392 v395
  have cst_196 : F .f32 := Scalar.ofBits .f32 0x40200000#32
  have v397 : FVec F S256x128 .f32 := broadcast S256x128 cst_196
  have v398 : IVec S256x128 1 := cmpf .ogt v375 v397
  have v399 : IVec S256x128 32 := extui 32 v398 natLt_1_32
  have v400 : IVec S256x128 32 := addi v396 v399
  have cst_197 : F .f32 := Scalar.ofBits .f32 0x40A00000#32
  have v401 : FVec F S256x128 .f32 := broadcast S256x128 cst_197
  have v402 : IVec S256x128 1 := cmpf .ogt v375 v401
  have v403 : IVec S256x128 32 := extui 32 v402 natLt_1_32
  have v404 : IVec S256x128 32 := addi v400 v403
  have cst_198 : F .f32 := Scalar.ofBits .f32 0x00000000#32
  have v405 : FVec F S256x128 .f32 := broadcast S256x128 cst_198
  have v406 : IVec S256x128 1 := cmpf .olt v374 v405
  have v407 : IVec S256x128 32 := broadcast S256x128 8#32
  have v408 : IVec S256x128 32 := addi v404 v407
  have v409 : IVec S256x128 32 := select v406 v408 v404
  have v410 : IVec S256x128 32 := broadcast S256x128 7#32
  have v411 : IVec S256x128 32 := andi v409 v410
  have v412 : IVec S256x128 32 := broadcast S256x128 7#32
  have v413 : IVec S256x128 32 := addi v411 v412
  have v414 : IVec S256x128 32 := broadcast S256x128 7#32
  have v415 : IVec S256x128 32 := ori v413 v414
  have v416 : IVec S256x128 32 := andi v409 v415
  have v417 : IVec S256x128 8 := trunci 8 v416 natLt_8_32
  v417

/-- Two codes in a byte. -/
def packK (v368 v417 : IVec S256x128 8) : IVec S1x256x128 8 :=
  have v418 : IVec S64x128 32 := bitcast S64x128 32 v368 bitcasts_S256x128_w8_S64x128_w32
  have v419 : IVec S64x128 32 := bitcast S64x128 32 v417 bitcasts_S256x128_w8_S64x128_w32
  have v420 : IVec S64x128 32 := broadcast S64x128 4#32
  have v421 : IVec S64x128 32 := shli v419 v420
  have v422 : IVec S64x128 32 := ori v418 v421
  have v423 : IVec S256x128 8 := bitcast S256x128 8 v422 bitcasts_S64x128_w32_S256x128_w8
  have v427 : IVec S1x256x128 8 := shapeCast S1x256x128 v423 shapeCasts_S256x128_S1x256x128
  v427

/-- The bytes of one group of 256 channels. -/
def grpK (v181 : IVec S256x128 32) (pp : Vec F S256x256 .bf16) (iv : Vec F S1x256x128 .f32) (x : Vec F S1x256x256 .bf16) (o : BitVec 32) : IVec S1x256x128 8 :=
  packK (codeK (extractStridedSlice S256x128 ![0, 0] (k0_pay92 x pp) slices_S256x256_o0_0_S256x128) (dynamicGather 1 (k0_pay91 iv) (idxK v181 o)))
    (codeK (extractStridedSlice S256x128 ![0, 128] (k0_pay92 x pp) slices_S256x256_o0_128_S256x128) (dynamicGather 1 (k0_pay91 iv) (idxK v181 o)))

/-- The bytes of a tile. -/
def obV (v181 : IVec S256x128 32) (pp : Vec F S256x256 .bf16) (iv : Vec F S1x256x256 .f32) (X : S256x4096.Idx → Elt F .bf16) :
    S256x2048.Idx → Elt F .i8 :=
  fun j => grpK v181 pp (ivh iv ⟨(j 1).val / 128 / 8, by have h : (j 1).val < 2048 := (j 1).isLt; omega⟩)
    (xg X ⟨(j 1).val / 128, by have h : (j 1).val < 2048 := (j 1).isLt; omega⟩)
    (BitVec.ofNat 32 (16 * ((j 1).val / 128 % 8)))
    (ix3 (j 0).val ((j 1).val % 128) (j 0).isLt (Nat.mod_lt _ (by decide)))

end Cert.Proof.KI

end
-- ==== Proof.Ideal.Facts.lean ====
/-
  What a load of a slot of the operand's ring reads, and what a list of 16 stores of 16 rows leaves.
-/
module

public import proofs.«01_k».proof.Proof.Ideal.Spec
public import Idealize.ShloMosaic.Lib.WritesUnit
public import Idealize.ShloMosaic.Lib.VecWindow
public import Idealize.ShloMosaic.Lib.Pipeline.Value

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ
attribute [local irreducible] tl s18 s2

theorem s18_val (p : ℕ) : (s18 p).val = p % 18 := by unfold s18; rfl
theorem s2_val (p : ℕ) : (s2 p).val = p % 2 := by unfold s2; rfl
theorem tl_val (p : ℕ) : (tl p).val = p % 128 := by unfold tl; rfl

/-- Two pieces of a list of stores are the same when their offsets and payloads are. -/
theorem piece_congr {s : Shape} {e : EltTy} {Val : EltTy → Type} {off off' size : Fin s.rank → ℕ} (inb : ∀ a, off a + size a ≤ s.size a)
    (inb' : ∀ a, off' a + size a ≤ s.size a) (h : off = off') (w w' : (⟨s.rank, size⟩ : Shape).Idx → Val e) (hw : w = w') :
    (⟨Rect.unit off size inb, w⟩ : View.Piece Val s e) = ⟨Rect.unit off' size inb', w'⟩ := by
  subst h hw; rfl

theorem pieces_congr {s : Shape} {e : EltTy} {Val : EltTy → Type} {off off' size : Fin s.rank → ℕ} (inb : ∀ a, off a + size a ≤ s.size a)
    (inb' : ∀ a, off' a + size a ≤ s.size a) (h : off = off') (w w' : (⟨s.rank, size⟩ : Shape).Idx → Val e) (hw : w = w')
    {L L' : List (View.Piece Val s e)} (hL : L = L') :
    (⟨Rect.unit off size inb, w⟩ : View.Piece Val s e) :: L = ⟨Rect.unit off' size inb', w'⟩ :: L' := by
  subst h hw hL; rfl

section
variable (c : Dev nD) (XA : Buf (Elt F) (xM.view.loc (c : Thread nD τ)))

/-- A load of 256 channels of a slot that holds tile `t` reads those channels of tile `t`. -/
theorem xload {s : Fin 18} {t : Fin 128} {f : Buf (Elt F) ((xslot s).view.loc (c : Thread nD τ))} (h : XOK c XA s t f) (g : Fin 16)
    {off : Fin 3 → ℕ} (inb : ∀ a, off a + S1x256x256.size a ≤ S18x256x4096.size a) (ho : off = ![s.val, 0, 256 * g.val]) :
    xbM.view.readAt (Elt F) (Rect.unit (s := S18x256x4096) off S1x256x256.size inb).toLoadRect f = xg ((xtile t).view.read (Elt F) XA) g := by
  subst ho
  unfold XOK at h
  rw [← h]
  funext i
  refine Eq.trans ?_ (congrFun (Memref.read_squeeze_slice xbM (Rect.unit (s := S18x256x4096) (s18Off s) S1x256x4096.size (s18Off_x s)) (fun _ => rfl)
    squeezes_S1x256x4096_S256x4096 squeezes_S1x256x4096_S256x4096.numel_eq f) _).symm
  refine Eq.trans ?_ (shapeCast_apply _ _ _ (ix3 (n := 256) (m := 4096) (i 1).val (256 * g.val + (i 2).val) (i 1).isLt
      (by have h : (i 2).val < 256 := (i 2).isLt; have := g.isLt; omega)) (by
    rw [Shape.rowMajor_val_three, Shape.rowMajor_val_two]
    show (0 * 256 + (i 1).val) * 4096 + (256 * g.val + (i 2).val) = (i 1).val * 4096 + (256 * g.val + (i 2).val)
    omega)).symm
  refine congrArg f (funext fun a => Fin.ext ?_)
  have h0 : (i 0).val < 1 := (i 0).isLt
  match a with
  | 0 => show s.val + 1 * (i 0).val = s.val + 1 * 0; omega
  | 1 => show 0 + 1 * (i 1).val = 0 + 1 * (i 1).val; rfl
  | 2 => show 256 * g.val + 1 * (i 2).val = 0 + 1 * (256 * g.val + (i 2).val); omega

/-- Sixteen stores of sixteen rows each to slot `s` of the block maxima leave, at row `j`, row `j % 16` of payload `j / 16`. -/
theorem read_rows16 (s : ℕ) (inb : ∀ (g : Fin 16) (a : Fin 3), (![s, 16 * g.val, 0] : Fin 3 → ℕ) a + S1x16x256.size a ≤ S2x256x256.size a)
    (P : Fin 16 → S1x16x256.Idx → Elt F .f32) (f : Buf (Elt F) (btM.view.loc (c : Thread nD τ))) (j : S2x256x256.Idx) (hj : (j 0).val = s) :
    btM.view.read (Elt F) (btM.view.writes (Elt F) f (View.tilePieces (s := S2x256x256) S1x16x256.size (fun g : Fin 16 => ![s, 16 * g.val, 0]) inb P 16 le_rfl)) j
      = P ⟨(j 1).val / 16, by have h : (j 1).val < 256 := (j 1).isLt; omega⟩
          (ix3 ((j 1).val % 16) (j 2).val (Nat.mod_lt _ (by decide)) (j 2).isLt) := by
  have h1 : (j 1).val < 256 := (j 1).isLt
  refine View.read_tilePieces btM.view f S1x16x256.size _ inb P 16 le_rfl j ⟨(j 1).val / 16, by omega⟩ (by show (j 1).val / 16 < 16; omega) _ ?_ 1 ?_
  · intro a
    match a with
    | 0 => show (j 0).val = s + 0; omega
    | 1 => show (j 1).val = 16 * ((j 1).val / 16) + (j 1).val % 16; omega
    | 2 => show (j 2).val = 0 + (j 2).val; omega
  · intro g hg
    have hne : g.val ≠ (j 1).val / 16 := fun h => hg (Fin.ext h)
    show (j 1).val < 16 * g.val ∨ 16 * g.val + 16 ≤ (j 1).val
    omega

end

end Cert.Proof.KI

end
-- ==== Proof.Ideal.Pass1.lean ====
/-
  Pass 1, one trip: the copy of tile `k + 4` starts, tile `k` arrives, its block maxima go to the scratch.
-/
module

public import proofs.«01_k».proof.Proof.Ideal.Moves
public import proofs.«01_k».proof.Proof.Ideal.Facts

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ
attribute [local irreducible] tl s18 s2

section Trip
variable (c : Dev nD) (XA : Buf (Elt F) (xM.view.loc (c : Thread nD τ)))
variable (arg3 : Memref sig .tc .smem S1x1 .f32) (harg3 : arg3.IsWhole) (v116 : IVec S256x256 1) (cst_45 cst_46 : F .f32)

abbrev held {m : Space} {sh : Shape} {e : EltTy} (M : Memref sig .tc m sh e) (f : Buf (Elt F) (M.view.loc (c : Thread nD τ))) : sProp 𝕄 :=
  M.view.loc (c : Thread nD τ) ↦[M.view.set]{fullShare} f

abbrev trip1 (k : Fin k0_t1_loop.trips) : Prog (TpuEff nD τ sig (Elt F) Λ₀ .tc) Unit :=
  k0_t1_body (F := F) xM (Memref.isWhole_whole _) pkM (Memref.isWhole_whole _) sbM (Memref.isWhole_whole _) arg3 harg3
    xbM (Memref.isWhole_whole _) bmM (Memref.isWhole_whole _) btM (Memref.isWhole_whole _) ivM (Memref.isWhole_whole _)
    obM (Memref.isWhole_whole _) wbM (Memref.isWhole_whole _) acM (Memref.isWhole_whole _) pmM (Memref.isWhole_whole _)
    ppM (Memref.isWhole_whole _) cc0_scratch9 cc0_scratch10 cc0_scratch11 v116 cst_45 cst_46 k ()

/-- The words of tile `t`. -/
abbrev XT (t : Fin 128) : S256x4096.Idx → Elt F .bf16 := (xtile t).view.read (Elt F) XA

/-- What is known of the pass-1 scratch before trip `k`: the permutation, the running maximum, the block maxima of the last tile,
and those of all tiles before it, turned. -/
structure Facts1 (PM : Vec F S256x256 .bf16) (k : ℕ) (fbt : Buf (Elt F) (btM.view.loc (c : Thread nD τ))) (fbm : Buf (Elt F) (bmM.view.loc (c : Thread nD τ)))
    (fac : Buf (Elt F) (acM.view.loc (c : Thread nD τ))) (fpm : Buf (Elt F) (pmM.view.loc (c : Thread nD τ))) : Prop where
  pm : pmM.view.read (Elt F) fpm = PM
  ac : acM.view.read (Elt F) fac = accV PM (XT c XA) k
  bt : ∀ t, t + 1 = k → ∀ j : S2x256x256.Idx, (j 0).val = t % 2 → btM.view.read (Elt F) fbt j = btV PM (XT c XA (tl t)) (drop3 j)
  bm : ∀ t, t + 1 < k → ∀ j : S128x256x256.Idx, (j 0).val = t → bmM.view.read (Elt F) fbm j = bmV PM (XT c XA (tl t)) (drop3 j)

def inv1 (PM : Vec F S256x256 .bf16) (k : ℕ) : sProp 𝕄 :=
  iprop(XR c XA (xt1 k) ∗ XH c XA (xh1 k) ∗ (∃ fbt, ∃ fbm, ∃ fac, ∃ fpm, ⌜Facts1 c XA PM k fbt fbm fac fpm⌝ ∗
    held c btM fbt ∗ held c bmM fbm ∗ held c acM fac ∗ held c pmM fpm)
    ∗ ∃ W, owes (c : Thread nD τ) 0 W)

theorem off_s2 (k : ℕ) (hk : k < 128) : ∀ (g : Fin 16) (a : Fin 3), (![k % 2, 16 * g.val, 0] : Fin 3 → ℕ) a + S1x16x256.size a ≤ S2x256x256.size a := by
  intro g a
  have := g.isLt
  match a with
  | 0 => show k % 2 + 1 ≤ 2; omega
  | 1 => show 16 * g.val + 16 ≤ 256; omega
  | 2 => show 0 + 256 ≤ 256; omega

/-- A trip of pass 1 keeps what is known of the scratch. -/
theorem facts1_step (PM : Vec F S256x256 .bf16) (k : ℕ) (hk : k < 128) {fbt fbm fac fpm} (h : Facts1 c XA PM k fbt fbm fac fpm)
    (fbt' fbm' fac') (o7 : Fin 3 → ℕ) (i7) (o8 : Fin 3 → ℕ) (i8) (h7 : o7 = ![(k - 1) % 2, 0, 0]) (h8 : o8 = ![k - 1, 0, 0])
    (hbt : fbt' = btM.view.writes (Elt F) fbt (View.tilePieces (s := S2x256x256) S1x16x256.size (fun g : Fin 16 => ![k % 2, 16 * g.val, 0]) (off_s2 k hk)
      (fun g => k0_pay288 (zb PM (xg (XT c XA (tl k)) g))) 16 le_rfl))
    (hbm : fbm' = bmM.view.writes (Elt F) fbm [⟨Rect.unit (s := S128x256x256) o8 S1x256x256.size i8,
      k0_pay1 (btM.view.readAt (Elt F) (Rect.unit (s := S2x256x256) o7 S1x256x256.size i7).toLoadRect fbt)⟩])
    (hac : acM.view.read (Elt F) fac' = accG PM (XT c XA (tl k)) (acM.view.read (Elt F) fac)) :
    Facts1 c XA PM (k + 1) fbt' fbm' fac' fpm := by
  refine ⟨h.pm, ?_, ?_, ?_⟩
  · rw [hac, h.ac]; rfl
  · intro t ht j hj
    obtain rfl : t = k := by omega
    rw [hbt, read_rows16 c (t % 2) _ _ fbt j hj]
    unfold k0_pay288 btV
    refine (shapeCast_addUnit_apply _ _ _ _).trans ?_
    refine congrArg _ (funext fun a => Fin.ext ?_)
    match a with
    | 0 => rfl
    | 1 => rfl
  · intro t ht j hj
    subst h7 h8
    by_cases e : t + 1 = k
    · subst e
      rw [hbm, View.read_writes_cons_unit_of_mem bmM.view fbm i8 _ [] j (drop3 j) rfl (fun a => match a with
        | 0 => by show (j 0).val = t + 1 - 1 + 0; omega
        | 1 => by show (j 1).val = 0 + (j 1).val; omega
        | 2 => by show (j 2).val = 0 + (j 2).val; omega)]
      unfold bmV
      refine congrFun (congrArg k0_pay1 (funext fun y => ?_)) _
      have h0 : (y 0).val < 1 := (y 0).isLt
      refine (h.bt t rfl _ ?_).trans (congrArg _ (funext fun a => Fin.ext ?_))
      · show (t + 1 - 1) % 2 + 1 * (y 0).val = t % 2
        rw [Nat.add_sub_cancel]; omega
      · match a with
        | 0 => show 0 = (y 0).val; omega
        | 1 => show 0 + 1 * (y 1).val = (y 1).val; omega
        | 2 => show 0 + 1 * (y 2).val = (y 2).val; omega
    · rw [hbm, View.read_writes_cons_unit_of_not_mem bmM.view fbm i8 _ [] j rfl 0 (by
        left; show (j 0).val < k - 1; omega)]
      exact h.bm t (by omega) j hj

theorem run1 (PM : Vec F S256x256 .bf16) (k : Fin k0_t1_loop.trips) :
    inv1 c XA PM k.val ⊢ wp frame (wpE (defs₀ (F := F)) 𝒱₀ (c : Thread nD τ) none) Set.univ
      (trip1 arg3 harg3 v116 cst_45 cst_46 k) (fun _ => inv1 c XA PM (k.val + 1)) := by
  unfold inv1
  iintro ⟨HX, HH, ⟨%fbt, %fbm, %fac, %fpm, %HF1, Hbt, Hbm, Hac, Hpm⟩, ⟨%W, HW⟩⟩
  dsimp only [trip1]
  sl_unfold [k0_t1_body]
  set_option sl_exec.stopBefore "k0_cond1" in sl_exec
  iapply (dite_join c iprop(XR c XA (xt1 k.val) ∗ XH c XA (xh1 k.val)) iprop(XR c XA (xt1' k.val) ∗ XH c XA (xh1' k.val)) _ _ _
    (fun hc => issue1 c XA k ((cond1_iff k).1 hc) _ _ _ _ _ _)
    (fun hn => by
      have hn' := fun h => hn ((cond1_iff k).2 h)
      iintro ⟨HX, HH⟩
      isplitl [HX]
      · iapply (atw_congr _ _ _ (x1_no k.val hn')); iexact HX
      · iapply (atw_congr _ _ _ (h1_no ⟨k.val, lt1 k⟩ hn')); iexact HH))
  isplitl [HX HH]
  · isplitl [HX]; · iexact HX
    iexact HH
  iintro ⟨HX, HH⟩
  ihave HX := (focus1 (Φx c XA) (xt1' k.val) (s18 k.val) _ (x1_fly ⟨k.val, lt1 k⟩)) $$ HX
  icases HX with ⟨HX, HXr⟩
  ihave HX := (fly_x_open c XA _ _) $$ HX
  icases HX with ⟨%fx, %hfx, HF⟩
  sl_exec
  sl_step
  isplitl [HXr HF_dst HF]
  · iapply (refocus1 (Φx c XA) (xt1' k.val) (xt1 (k.val + 1)) (s18 k.val) _ (x1_res ⟨k.val, lt1 k⟩) (x1_step ⟨k.val, lt1 k⟩))
    isplitl [HF_dst HF]
    · unfold Φx
      isplitl [HF]; · iexact HF
      iexists _
      isplitr
      · ipureintro; exact hfx
      · iexact HF_dst
    · iexact HXr
  isplitl [HH HF_src]
  · iapply (put1 (Ring.atHome (xhome c XA)) (xh1' k.val) (xh1 (k.val + 1)) (tl k.val) true (h1_back ⟨k.val, lt1 k⟩) (h1_step ⟨k.val, lt1 k⟩))
    isplitl [HF_src]
    · iapply (home_close c XA _); iexact HF_src
    · iexact HH
  isplitl [Hbt Hbm Hac Hpm]
  · iexists _, _, _, _
    isplitr
    swap
    · isplitl [Hbt]; · iexact Hbt
      isplitl [Hbm]; · iexact Hbm
      isplitl [Hac]; · iexact Hac
      iexact Hpm
    · ipureintro
      have hx := xload c XA hfx
      have hpm : pmM.view.readAt (Elt F) (Rect.unit (s := S256x256) ![0, 0] S256x256.size inb_S256x256_S256x256_0_0).toLoadRect fpm = PM :=
        (View.readAt_full pmM.view fpm inb_S256x256_S256x256_0_0).trans HF1.pm
      have hz := fun (g : Fin 16) {off : Fin 3 → ℕ} (inb : ∀ a, off a + S1x256x256.size a ≤ S18x256x4096.size a) (ho : off = ![k.val % 18, 0, 256 * g.val]) =>
        congr (congrArg (zb (F := F)) hpm) (hx g inb (ho.trans (by rw [s18_val])))
      refine facts1_step c XA PM k.val (lt1 k) HF1 _ _ _ (k0_off7 k) (k0_off7_inb k) (k0_off8 k) (k0_off8_inb k) (off7_eq k) (off8_eq k) ?_ rfl ?_
      · refine congrArg (btM.view.writes (Elt F) fbt) ?_
        have cc := fun {o o' : Fin 3 → ℕ} (i : ∀ a, o a + S1x16x256.size a ≤ S2x256x256.size a) (i' : ∀ a, o' a + S1x16x256.size a ≤ S2x256x256.size a) (h : o = o') (w w' : S1x16x256.Idx → Elt F .f32) (hw : w = w') {L L' : List (View.Piece (Elt F) S2x256x256 .f32)} =>
          pieces_congr (s := S2x256x256) (e := .f32) (Val := Elt F) (size := S1x16x256.size) i i' h w w' hw (L := L) (L' := L')
        refine cc _ (off_s2 k.val (lt1 k) 15) (off40_eq k) _ _ (congrArg k0_pay288 (hz 15 (k0_off39_inb k) (off39_eq k))) ?_
        refine cc _ (off_s2 k.val (lt1 k) 14) (off38_eq k) _ _ (congrArg k0_pay288 (hz 14 (k0_off37_inb k) (off37_eq k))) ?_
        refine cc _ (off_s2 k.val (lt1 k) 13) (off36_eq k) _ _ (congrArg k0_pay288 (hz 13 (k0_off35_inb k) (off35_eq k))) ?_
        refine cc _ (off_s2 k.val (lt1 k) 12) (off34_eq k) _ _ (congrArg k0_pay288 (hz 12 (k0_off33_inb k) (off33_eq k))) ?_
        refine cc _ (off_s2 k.val (lt1 k) 11) (off32_eq k) _ _ (congrArg k0_pay288 (hz 11 (k0_off31_inb k) (off31_eq k))) ?_
        refine cc _ (off_s2 k.val (lt1 k) 10) (off30_eq k) _ _ (congrArg k0_pay288 (hz 10 (k0_off29_inb k) (off29_eq k))) ?_
        refine cc _ (off_s2 k.val (lt1 k) 9) (off28_eq k) _ _ (congrArg k0_pay288 (hz 9 (k0_off27_inb k) (off27_eq k))) ?_
        refine cc _ (off_s2 k.val (lt1 k) 8) (off26_eq k) _ _ (congrArg k0_pay288 (hz 8 (k0_off25_inb k) (off25_eq k))) ?_
        refine cc _ (off_s2 k.val (lt1 k) 7) (off24_eq k) _ _ (congrArg k0_pay288 (hz 7 (k0_off23_inb k) (off23_eq k))) ?_
        refine cc _ (off_s2 k.val (lt1 k) 6) (off22_eq k) _ _ (congrArg k0_pay288 (hz 6 (k0_off21_inb k) (off21_eq k))) ?_
        refine cc _ (off_s2 k.val (lt1 k) 5) (off20_eq k) _ _ (congrArg k0_pay288 (hz 5 (k0_off19_inb k) (off19_eq k))) ?_
        refine cc _ (off_s2 k.val (lt1 k) 4) (off18_eq k) _ _ (congrArg k0_pay288 (hz 4 (k0_off17_inb k) (off17_eq k))) ?_
        refine cc _ (off_s2 k.val (lt1 k) 3) (off16_eq k) _ _ (congrArg k0_pay288 (hz 3 (k0_off15_inb k) (off15_eq k))) ?_
        refine cc _ (off_s2 k.val (lt1 k) 2) (off14_eq k) _ _ (congrArg k0_pay288 (hz 2 (k0_off13_inb k) (off13_eq k))) ?_
        refine cc _ (off_s2 k.val (lt1 k) 1) (off12_eq k) _ _ (congrArg k0_pay288 (hz 1 (k0_off11_inb k) (off11_eq k))) ?_
        refine cc _ (off_s2 k.val (lt1 k) 0) (off10_eq k) _ _ (congrArg k0_pay288 (hz 0 (k0_off9_inb k) (off9_eq k))) ?_
        rfl
      · refine (View.read_writes_full acM.view fac inb_S16x256_S16x256_0_0 _ []).trans ?_
        unfold k0_pay289
        refine (shapeCast_self _ _).trans ?_
        have hac := View.readAt_full acM.view fac inb_S16x256_S16x256_0_0
        have mm := fun (a a' b b' : FVec F S16x256 .f32) (h : a = a') (h' : b = b') => congr (congrArg (maximumf (F := F) (s := S16x256) (φ := .f32)) h) h'
        refine mm _ _ _ _ ?_ (hz 15 (k0_off39_inb k) (off39_eq k))
        refine mm _ _ _ _ ?_ (hz 14 (k0_off37_inb k) (off37_eq k))
        refine mm _ _ _ _ ?_ (hz 13 (k0_off35_inb k) (off35_eq k))
        refine mm _ _ _ _ ?_ (hz 12 (k0_off33_inb k) (off33_eq k))
        refine mm _ _ _ _ ?_ (hz 11 (k0_off31_inb k) (off31_eq k))
        refine mm _ _ _ _ ?_ (hz 10 (k0_off29_inb k) (off29_eq k))
        refine mm _ _ _ _ ?_ (hz 9 (k0_off27_inb k) (off27_eq k))
        refine mm _ _ _ _ ?_ (hz 8 (k0_off25_inb k) (off25_eq k))
        refine mm _ _ _ _ ?_ (hz 7 (k0_off23_inb k) (off23_eq k))
        refine mm _ _ _ _ ?_ (hz 6 (k0_off21_inb k) (off21_eq k))
        refine mm _ _ _ _ ?_ (hz 5 (k0_off19_inb k) (off19_eq k))
        refine mm _ _ _ _ ?_ (hz 4 (k0_off17_inb k) (off17_eq k))
        refine mm _ _ _ _ ?_ (hz 3 (k0_off15_inb k) (off15_eq k))
        refine mm _ _ _ _ ?_ (hz 2 (k0_off13_inb k) (off13_eq k))
        refine mm _ _ _ _ ?_ (hz 1 (k0_off11_inb k) (off11_eq k))
        refine mm _ _ _ _ ?_ (hz 0 (k0_off9_inb k) (off9_eq k))
        exact hac
  · iexists _; iexact HW

end Trip

end Cert.Proof.KI

end
-- ==== Proof.Ideal.Facts2.lean ====
/-
  What the slots of the two results' rings read, what sixteen stores of 128 columns leave in a slot, what the loads of pass 2 read.
-/
module

public import proofs.«01_k».proof.Proof.Ideal.Facts

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ
attribute [local irreducible] tl s18 s2

section
variable (c : Dev nD)

theorem read_oslot (s : Fin 2) (f : Buf (Elt F) (obM.view.loc (c : Thread nD τ))) (j : S256x2048.Idx) (y : S2x256x2048.Idx)
    (h0 : (y 0).val = s.val) (h1 : (y 1).val = (j 0).val) (h2 : (y 2).val = (j 1).val) :
    (oslot s).view.read (Elt F) f j = obM.view.read (Elt F) f y := by
  refine (congrFun (Memref.read_squeeze_slice obM (Rect.unit (s := S2x256x2048) (s2Off s) S1x256x2048.size (s2Off_o s)) (fun _ => rfl)
    squeezes_S1x256x2048_S256x2048 squeezes_S1x256x2048_S256x2048.numel_eq f) j).trans ?_
  refine (shapeCast_apply _ _ _ (ix3 (n := 256) (m := 2048) (j 0).val (j 1).val (j 0).isLt (j 1).isLt) (by
    rw [Shape.rowMajor_val_three, Shape.rowMajor_val_two]
    show (0 * 256 + (j 0).val) * 2048 + (j 1).val = (j 0).val * 2048 + (j 1).val
    omega)).trans ?_
  refine congrArg f (funext fun a => Fin.ext ?_)
  match a with
  | 0 => show s.val + 1 * 0 = (y 0).val; omega
  | 1 => show 0 + 1 * (j 0).val = (y 1).val; omega
  | 2 => show 0 + 1 * (j 1).val = (y 2).val; omega

theorem read_wslot (s : Fin 2) (f : Buf (Elt F) (wbM.view.loc (c : Thread nD τ))) (j : S256x256.Idx) (y : S2x256x256.Idx)
    (h0 : (y 0).val = s.val) (h1 : (y 1).val = (j 0).val) (h2 : (y 2).val = (j 1).val) :
    (wslot s).view.read (Elt F) f j = wbM.view.read (Elt F) f y := by
  refine (congrFun (Memref.read_squeeze_slice wbM (Rect.unit (s := S2x256x256) (s2Off s) S1x256x256.size (s2Off_w s)) (fun _ => rfl)
    squeezes_S1x256x256_S256x256 squeezes_S1x256x256_S256x256.numel_eq f) j).trans ?_
  refine (shapeCast_apply _ _ _ (ix3 (n := 256) (m := 256) (j 0).val (j 1).val (j 0).isLt (j 1).isLt) (by
    rw [Shape.rowMajor_val_three, Shape.rowMajor_val_two]
    show (0 * 256 + (j 0).val) * 256 + (j 1).val = (j 0).val * 256 + (j 1).val
    omega)).trans ?_
  refine congrArg f (funext fun a => Fin.ext ?_)
  match a with
  | 0 => show s.val + 1 * 0 = (y 0).val; omega
  | 1 => show 0 + 1 * (j 0).val = (y 1).val; omega
  | 2 => show 0 + 1 * (j 1).val = (y 2).val; omega

theorem off_g128 (k : ℕ) : ∀ (g : Fin 16) (a : Fin 3), (![k % 2, 0, 128 * g.val] : Fin 3 → ℕ) a + S1x256x128.size a ≤ S2x256x2048.size a := by
  intro g a
  have := g.isLt
  match a with
  | 0 => show k % 2 + 1 ≤ 2; omega
  | 1 => show 0 + 256 ≤ 256; omega
  | 2 => show 128 * g.val + 128 ≤ 2048; omega

/-- Sixteen stores of 128 columns each to a slot of the codes' ring leave the tile whose group `g` of columns is payload `g`. -/
theorem obuf_fact (k : ℕ) (v181 : IVec S256x128 32) (pp : Vec F S256x256 .bf16) (iv : Vec F S1x256x256 .f32) (X : S256x4096.Idx → Elt F .bf16)
    (f : Buf (Elt F) (obM.view.loc (c : Thread nD τ))) :
    (oslot (s2 k)).view.read (Elt F) (obM.view.writes (Elt F) f (View.tilePieces (s := S2x256x2048) S1x256x128.size
      (fun g : Fin 16 => ![k % 2, 0, 128 * g.val]) (off_g128 k)
      (fun g => grpK v181 pp (ivh iv ⟨g.val / 8, by have := g.isLt; omega⟩) (xg X g) (BitVec.ofNat 32 (16 * (g.val % 8)))) 16 le_rfl)) = obV v181 pp iv X := by
  funext j
  have h0 : (j 0).val < 256 := (j 0).isLt
  have h1 : (j 1).val < 2048 := (j 1).isLt
  have hs := s2_val k
  let y : S2x256x2048.Idx := fun a => match a with
    | 0 => ⟨(s2 k).val, (s2 k).isLt⟩
    | 1 => ⟨(j 0).val, h0⟩
    | 2 => ⟨(j 1).val, h1⟩
  refine (read_oslot c (s2 k) _ j y rfl rfl rfl).trans ?_
  refine (View.read_tilePieces obM.view f S1x256x128.size _ (off_g128 k) _ 16 le_rfl y ⟨(j 1).val / 128, by omega⟩ (by show (j 1).val / 128 < 16; omega)
    (ix3 (j 0).val ((j 1).val % 128) (j 0).isLt (Nat.mod_lt _ (by decide))) ?_ 2 ?_).trans rfl
  · intro a
    match a with
    | 0 => show (s2 k).val = k % 2 + 0; omega
    | 1 => show (j 0).val = 0 + (j 0).val; omega
    | 2 => show (j 1).val = 128 * ((j 1).val / 128) + (j 1).val % 128; omega
  · intro g hg
    have hne : g.val ≠ (j 1).val / 128 := fun h => hg (Fin.ext h)
    show (j 1).val < 128 * g.val ∨ 128 * g.val + 128 ≤ (j 1).val
    omega

/-- A store of a whole slot of the block scales' ring reads as what was stored. -/
theorem wbuf_fact (k : ℕ) (w : FVec F S1x256x256 .fp8e4m3) (f : Buf (Elt F) (wbM.view.loc (c : Thread nD τ)))
    (o : Fin 3 → ℕ) (i : ∀ a, o a + S1x256x256.size a ≤ S2x256x256.size a) (h : o = ![k % 2, 0, 0]) :
    (wslot (s2 k)).view.read (Elt F) (wbM.view.writes (Elt F) f [⟨Rect.unit (s := S2x256x256) o S1x256x256.size i, w⟩]) = fun j => w (up3 j) := by
  subst h
  funext j
  have hs := s2_val k
  let y : S2x256x256.Idx := fun a => match a with
    | 0 => ⟨(s2 k).val, (s2 k).isLt⟩
    | 1 => ⟨(j 0).val, (j 0).isLt⟩
    | 2 => ⟨(j 1).val, (j 1).isLt⟩
  refine (read_wslot c (s2 k) _ j y rfl rfl rfl).trans ?_
  exact View.read_writes_cons_unit_of_mem wbM.view f i w [] y (up3 j) rfl (fun a => match a with
    | 0 => by show (s2 k).val = k % 2 + 0; omega
    | 1 => by show (j 0).val = 0 + (j 0).val; omega
    | 2 => by show (j 1).val = 0 + (j 1).val; omega)

/-- A load of a tile's block maxima. -/
theorem bmload (W : Fin 128 → Vec F S1x256x256 .bf16) (f : Buf (Elt F) (bmM.view.loc (c : Thread nD τ)))
    (h : ∀ j : S128x256x256.Idx, bmM.view.read (Elt F) f j = W (tl (j 0).val) (drop3 j)) (t : ℕ)
    {o : Fin 3 → ℕ} (i : ∀ a, o a + S1x256x256.size a ≤ S128x256x256.size a) (ho : o = ![t, 0, 0]) :
    bmM.view.readAt (Elt F) (Rect.unit (s := S128x256x256) o S1x256x256.size i).toLoadRect f = W (tl t) := by
  subst ho
  funext y
  have h0 : (y 0).val < 1 := (y 0).isLt
  refine (h _).trans (congr (congrArg (fun t => W (tl t)) ?_) (funext fun a => Fin.ext ?_))
  · show t + 1 * (y 0).val = t; omega
  · match a with
    | 0 => show 0 = (y 0).val; omega
    | 1 => show 0 + 1 * (y 1).val = (y 1).val; omega
    | 2 => show 0 + 1 * (y 2).val = (y 2).val; omega

/-- The slot of the reciprocals after a store of one of its two. -/
theorem iv_other (w : Vec F S1x256x256 .f32) (f : Buf (Elt F) (ivM.view.loc (c : Thread nD τ))) (k : ℕ)
    {o : Fin 3 → ℕ} (i : ∀ a, o a + S1x256x256.size a ≤ S2x256x256.size a) (ho : o = ![(k + 1) % 2, 0, 0]) (j : S2x256x256.Idx) :
    ivM.view.read (Elt F) (ivM.view.writes (Elt F) f [⟨Rect.unit (s := S2x256x256) o S1x256x256.size i, w⟩]) j
      = if (j 0).val = (k + 1) % 2 then w (drop3 j) else ivM.view.read (Elt F) f j := by
  subst ho
  have h0 : (j 0).val < 2 := (j 0).isLt
  split
  · exact View.read_writes_cons_unit_of_mem ivM.view f i w [] j (drop3 j) rfl (fun a => match a with
      | 0 => by show (j 0).val = (k + 1) % 2 + 0; omega
      | 1 => by show (j 1).val = 0 + (j 1).val; omega
      | 2 => by show (j 2).val = 0 + (j 2).val; omega)
  · exact View.read_writes_cons_unit_of_not_mem ivM.view f i w [] j rfl 0 (by
      show (j 0).val < (k + 1) % 2 ∨ (k + 1) % 2 + 1 ≤ (j 0).val; omega)

/-- A load of half `h` of the current slot of the reciprocals. -/
theorem ivload (W : Vec F S1x256x256 .f32) (f : Buf (Elt F) (ivM.view.loc (c : Thread nD τ))) (k : ℕ)
    (hf : ∀ j : S2x256x256.Idx, (j 0).val = k % 2 → ivM.view.read (Elt F) f j = W (drop3 j)) (h : Fin 2)
    {o : Fin 3 → ℕ} (i : ∀ a, o a + S1x256x128.size a ≤ S2x256x256.size a) (ho : o = ![k % 2, 0, 128 * h.val]) :
    ivM.view.readAt (Elt F) (Rect.unit (s := S2x256x256) o S1x256x128.size i).toLoadRect f = ivh W h := by
  subst ho
  funext y
  have h0 : (y 0).val < 1 := (y 0).isLt
  refine (hf _ ?_).trans (congrArg W (funext fun a => Fin.ext ?_))
  · show k % 2 + 1 * (y 0).val = k % 2; omega
  · match a with
    | 0 => rfl
    | 1 => show 0 + 1 * (y 1).val = (y 1).val; omega
    | 2 => show 128 * h.val + 1 * (y 2).val = 128 * h.val + (y 2).val; omega

end

end Cert.Proof.KI

end
-- ==== Proof.Ideal.Pass2.lean ====
/-
  Pass 2, one trip: tile `k + 110` (modulo 128) is quantised from its slot and its codes start on their way; the scales of the
  next tile are made and start on theirs; the slot is refilled.
-/
module

public import proofs.«01_k».proof.Proof.Ideal.Pass1
public import proofs.«01_k».proof.Proof.Ideal.Facts2

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ
attribute [local irreducible] tl s18 s2

section Trip
variable (c : Dev nD) (XA : Buf (Elt F) (xM.view.loc (c : Thread nD τ)))
variable (arg3 : Memref sig .tc .smem S1x1 .f32) (harg3 : arg3.IsWhole) (sg : F .f32) (v181 : IVec S256x128 32)

abbrev trip2 (k : Fin k0_t2_loop.trips) : Prog (TpuEff nD τ sig (Elt F) Λ₀ .tc) Unit :=
  k0_t2_body (F := F) xM (Memref.isWhole_whole _) pkM (Memref.isWhole_whole _) sbM (Memref.isWhole_whole _) arg3 harg3
    xbM (Memref.isWhole_whole _) bmM (Memref.isWhole_whole _) btM (Memref.isWhole_whole _) ivM (Memref.isWhole_whole _)
    obM (Memref.isWhole_whole _) wbM (Memref.isWhole_whole _) acM (Memref.isWhole_whole _) pmM (Memref.isWhole_whole _)
    ppM (Memref.isWhole_whole _) cc0_scratch9 cc0_scratch10 cc0_scratch11 sg v181 k ()

variable (PM PP : Vec F S256x256 .bf16)

/-- The block maxima, the reciprocals and the bytes of tile `t`. -/
abbrev BMT (t : Fin 128) : Vec F S1x256x256 .bf16 := bmV PM (XT c XA t)
abbrev IVT (t : Fin 128) : Vec F S1x256x256 .f32 := ivV sg (BMT c XA PM t)
/-- The result tiles hold what the kernel computes. -/
def PO (t : Fin 128) (g : Buf (Elt F) ((pktile t).view.loc (c : Thread nD τ))) : Prop :=
  (pktile t).view.read (Elt F) g = obV v181 PP (IVT c XA sg PM t) (XT c XA t)
def SO (t : Fin 128) (g : Buf (Elt F) ((sbtile t).view.loc (c : Thread nD τ))) : Prop :=
  (sbtile t).view.read (Elt F) g = fun j => sbV sg (BMT c XA PM t) (up3 j)

/-- What is known of the pass-2 scratch before trip `k`: the block maxima of all tiles, the permutation, the reciprocals of the trip's tile. -/
structure Facts2 (k : ℕ) (fbm : Buf (Elt F) (bmM.view.loc (c : Thread nD τ))) (fiv : Buf (Elt F) (ivM.view.loc (c : Thread nD τ)))
    (fpp : Buf (Elt F) (ppM.view.loc (c : Thread nD τ))) : Prop where
  pp : ppM.view.read (Elt F) fpp = PP
  bm : ∀ j : S128x256x256.Idx, bmM.view.read (Elt F) fbm j = BMT c XA PM (tl (j 0).val) (drop3 j)
  iv : k < 128 → ∀ j : S2x256x256.Idx, (j 0).val = k % 2 → ivM.view.read (Elt F) fiv j = IVT c XA sg PM (tl (k + 110)) (drop3 j)

def inv2 (k : ℕ) : sProp 𝕄 :=
  iprop(XR c XA (xt2 k) ∗ XH c XA (xh2 k) ∗ OR c (PO c XA sg v181 PM PP) (ot k) ∗ PR c (PO c XA sg v181 PM PP) (pt k)
    ∗ WR c (SO c XA sg PM) (wt k) ∗ SR c (SO c XA sg PM) (st k) ∗ (∃ fbm, ∃ fiv, ∃ fpp, ⌜Facts2 c XA sg PM PP k fbm fiv fpp⌝ ∗
    held c bmM fbm ∗ held c ivM fiv ∗ held c ppM fpp) ∗ ∃ W, owes (c : Thread nD τ) 0 W)

set_option maxHeartbeats 2000000 in
theorem run2 (k : Fin k0_t2_loop.trips) :
    inv2 c XA sg v181 PM PP k.val ⊢ wp frame (wpE (defs₀ (F := F)) 𝒱₀ (c : Thread nD τ) none) Set.univ
      (trip2 arg3 harg3 sg v181 k) (fun _ => inv2 c XA sg v181 PM PP (k.val + 1)) := by
  unfold inv2
  generalize hPO : PO c XA sg v181 PM PP = PO'
  generalize hSO : SO c XA sg PM = SO'
  iintro ⟨HX, HH, HO, HP, HWR, HS, ⟨%fbm, %fiv, %fpp, %HF2, Hbm, Hiv, Hpp⟩, HW⟩
  dsimp only [trip2]
  sl_unfold [k0_t2_body]
  set_option sl_exec.stopBefore "k0_cond2" in sl_exec
  iapply (dite_join c iprop((XR c XA (xt2 k.val) ∗ XH c XA (xh2 k.val)) ∗ ∃ W, owes (c : Thread nD τ) 0 W)
    iprop((XR c XA (xt2' k.val) ∗ XH c XA (xh2' k.val)) ∗ ∃ W, owes (c : Thread nD τ) 0 W) _ _ _
    (fun hc => waitX2 c XA k ((cond2_iff k).1 hc) _ _ _ _ _)
    (fun hn => by
      have hn' := fun h => hn ((cond2_iff k).2 h)
      iintro ⟨⟨HX, HH⟩, HW⟩
      isplitr [HW]
      · isplitl [HX]
        · iapply (atw_congr _ _ _ (x2_in ⟨k.val, lt2 k⟩ hn')); iexact HX
        · iapply (atw_congr _ _ _ (h2_in ⟨k.val, lt2 k⟩ hn')); iexact HH
      · iexact HW))
  isplitl [HX HH HW]
  · isplitr [HW]
    · isplitl [HX]; · iexact HX
      iexact HH
    · iexact HW
  iintro ⟨⟨HX, HH⟩, HW⟩
  set_option sl_exec.stopBefore "k0_cond3" in sl_exec
  iapply (dite_join c iprop((OR c PO' (ot k.val) ∗ PR c PO' (pt k.val)) ∗ ∃ W, owes (c : Thread nD τ) 0 W)
    iprop((OR c PO' (ot' k.val) ∗ PR c PO' (pt' k.val)) ∗ ∃ W, owes (c : Thread nD τ) 0 W) _ _ _
    (fun hc => waitO2 c PO' k ((cond3_iff k).1 hc) _ _ _ _ _)
    (fun hn => by
      have hn' := fun h => hn ((cond3_iff k).2 h)
      iintro ⟨⟨HX, HH⟩, HW⟩
      isplitr [HW]
      · isplitl [HX]
        · iapply (atw_congr _ _ _ (o_in ⟨k.val, lt2 k⟩ hn')); iexact HX
        · iapply (atw_congr _ _ _ (p_in k.val hn')); iexact HH
      · iexact HW))
  isplitl [HO HP HW]
  · isplitr [HW]
    · isplitl [HO]; · iexact HO
      iexact HP
    · iexact HW
  iintro ⟨⟨HO, HP⟩, HW⟩
  set_option sl_exec.stopBefore "k0_cond4" in sl_exec
  iapply (dite_join c iprop((WR c SO' (wt k.val) ∗ SR c SO' (st k.val)) ∗ ∃ W, owes (c : Thread nD τ) 0 W)
    iprop((WR c SO' (wt' k.val) ∗ SR c SO' (st' k.val)) ∗ ∃ W, owes (c : Thread nD τ) 0 W) _ _ _
    (fun hc => waitW2 c SO' k ((cond4_iff k).1 hc) _ _ _ _ _)
    (fun hn => by
      have hn' := fun h => hn ((cond4_iff k).2 h)
      iintro ⟨⟨HX, HH⟩, HW⟩
      isplitr [HW]
      · isplitl [HX]
        · iapply (atw_congr _ _ _ (w_in ⟨k.val, lt2 k⟩ hn')); iexact HX
        · iapply (atw_congr _ _ _ (s_in k.val hn')); iexact HH
      · iexact HW))
  isplitl [HWR HS HW]
  · isplitr [HW]
    · isplitl [HWR]; · iexact HWR
      iexact HS
    · iexact HW
  iintro ⟨⟨HWR, HS⟩, HW⟩
  ihave HX := (focus1 (Φx c XA) (xt2' k.val) (s18 (k.val + 110)) _ (x2_upd k.val)) $$ HX
  icases HX with ⟨HX, HXr⟩
  ihave HX := (res_x_open c XA _ _) $$ HX
  icases HX with ⟨HXi, %fx, %hfx, HX⟩
  ihave HO := (focus1 (Φo c PO') (ot' k.val) (s2 k.val) _ (o_upd k.val)) $$ HO
  icases HO with ⟨HO, HOr⟩
  ihave HO := (free_o_open c PO' _) $$ HO
  icases HO with ⟨HOi, %fo, HO⟩
  ihave HWR := (focus1 (Φw c SO') (wt' k.val) (s2 (k.val + 1)) _ (w_upd k.val)) $$ HWR
  icases HWR with ⟨HWR, HWRr⟩
  ihave HWR := (free_w_open c SO' _) $$ HWR
  icases HWR with ⟨HWi, %fw, HWs⟩
  ihave HP := (take1 (Φp c PO') (pt' k.val) (pt (k.val + 1)) (tl (k.val + 110)) .todo .away (p_todo ⟨k.val, lt2 k⟩) (p_next ⟨k.val, lt2 k⟩) .rfl (p_step ⟨k.val, lt2 k⟩)) $$ HP
  icases HP with ⟨HPt, HP⟩
  ihave HPt := (todo_p_open c PO' _) $$ HPt
  icases HPt with ⟨%gp, HPt⟩
  set_option sl_exec.stopBefore "k0_cond5" in sl_exec
  have hSO' : k.val + 1 < 128 → ∀ g : Buf (Elt F) ((sbtile (tl (k.val + 1 + 110))).view.loc (c : Thread nD τ)),
      (sbtile (tl (k.val + 1 + 110))).view.read (Elt F) g = (wslot (s2 (k.val + 1))).view.read (Elt F) (run2.sl.HWs_w1 c sg k fbm fw) → SO' (tl (k.val + 1 + 110)) g := by
    intro hk g hg
    subst hSO
    unfold SO
    refine hg.trans ((wbuf_fact c (k.val + 1) _ fw (k0_off53 k) (k0_off53_inb k) (off53_eq k)).trans ?_)
    funext j
    unfold sbV
    refine congrFun (congrArg (k0_pay88 sg) (bmload c (BMT c XA PM) fbm HF2.bm _ (k0_off52_inb k) (off52_eq k) |>.trans (congrArg _ (by
      apply Fin.ext; rw [tl_val, tl_val]; unfold tp; omega)))) _
  have hPO' : PO' (tl (k.val + 110)) ((pktile (tl (k.val + 110))).view.writes (Elt F) gp [⟨Rect.whole S256x2048, run2.sl.dma71 c sg v181 k fbm fiv fpp fx fo⟩]) := by
    subst hPO
    unfold PO
    refine (View.read_writes_whole _ _ _).trans ?_
    unfold run2.sl.dma71
    refine Eq.trans ?_ (obuf_fact c k.val v181 PP (IVT c XA sg PM (tl (k.val + 110))) (XT c XA (tl (k.val + 110))) fo)
    refine congrArg (View.read (Elt F) (oslot (s2 k.val)).view) ?_
    have hpp : ppM.view.readAt (Elt F) (Rect.unit (s := S256x256) ![0, 0] S256x256.size inb_S256x256_S256x256_0_0).toLoadRect fpp = PP :=
      (View.readAt_full ppM.view fpp inb_S256x256_S256x256_0_0).trans HF2.pp
    have hiv : ∀ j : S2x256x256.Idx, (j 0).val = k.val % 2 → ivM.view.read (Elt F) (ivM.view.writes (Elt F) fiv (run2.sl.Hiv_1 c sg k fbm)) j = IVT c XA sg PM (tl (k.val + 110)) (drop3 j) := fun j hj => by
      unfold run2.sl.Hiv_1
      rw [iv_other c _ fiv k.val (k0_off53_inb k) (off53_eq k) j, if_neg (by omega)]
      exact HF2.iv (lt2 k) j hj
    have hx := xload c XA hfx
    have hi := ivload c _ _ k.val hiv
    have hz := fun (g : Fin 16) {off : Fin 3 → ℕ} (inb : ∀ a, off a + S1x256x256.size a ≤ S18x256x4096.size a) (ho : off = ![(k.val + 110) % 18, 0, 256 * g.val])
        (h : Fin 2) {oi : Fin 3 → ℕ} (iin : ∀ a, oi a + S1x256x128.size a ≤ S2x256x256.size a) (hoi : oi = ![k.val % 2, 0, 128 * h.val]) (o : BitVec 32) =>
      congrFun (congr (congr (congrArg (grpK v181) hpp) (hi h iin hoi)) (hx g inb (ho.trans (by rw [s18_val])))) o
    have ww := fun {o o' : Fin 3 → ℕ} (i : ∀ a, o a + S1x256x128.size a ≤ S2x256x2048.size a) (i' : ∀ a, o' a + S1x256x128.size a ≤ S2x256x2048.size a) (h : o = o')
        (w w' : S1x256x128.Idx → Elt F .i8) (hw : w = w') (f f' : Buf (Elt F) (obM.view.loc (c : Thread nD τ))) (hf : f = f') =>
      (by subst h hw hf; rfl : View.write (Elt F) (obM.access (Rect.unit (s := S2x256x2048) o S1x256x128.size i)) f w Finset.univ
        = View.write (Elt F) (obM.access (Rect.unit (s := S2x256x2048) o' S1x256x128.size i')) f' w' Finset.univ)
    refine ww (k0_off87_inb k) (off_g128 k.val 15) (off87_eq k) _ _ (hz 15 (k0_off86_inb k) (off86_eq k) 1 (k0_off71_inb k) (off71_eq k) 112#32) _ _ ?_
    refine ww (k0_off85_inb k) (off_g128 k.val 14) (off85_eq k) _ _ (hz 14 (k0_off84_inb k) (off84_eq k) 1 (k0_off71_inb k) (off71_eq k) 96#32) _ _ ?_
    refine ww (k0_off83_inb k) (off_g128 k.val 13) (off83_eq k) _ _ (hz 13 (k0_off82_inb k) (off82_eq k) 1 (k0_off71_inb k) (off71_eq k) 80#32) _ _ ?_
    refine ww (k0_off81_inb k) (off_g128 k.val 12) (off81_eq k) _ _ (hz 12 (k0_off80_inb k) (off80_eq k) 1 (k0_off71_inb k) (off71_eq k) 64#32) _ _ ?_
    refine ww (k0_off79_inb k) (off_g128 k.val 11) (off79_eq k) _ _ (hz 11 (k0_off78_inb k) (off78_eq k) 1 (k0_off71_inb k) (off71_eq k) 48#32) _ _ ?_
    refine ww (k0_off77_inb k) (off_g128 k.val 10) (off77_eq k) _ _ (hz 10 (k0_off76_inb k) (off76_eq k) 1 (k0_off71_inb k) (off71_eq k) 32#32) _ _ ?_
    refine ww (k0_off75_inb k) (off_g128 k.val 9) (off75_eq k) _ _ (hz 9 (k0_off74_inb k) (off74_eq k) 1 (k0_off71_inb k) (off71_eq k) 16#32) _ _ ?_
    refine ww (k0_off73_inb k) (off_g128 k.val 8) (off73_eq k) _ _ (hz 8 (k0_off72_inb k) (off72_eq k) 1 (k0_off71_inb k) (off71_eq k) 0#32) _ _ ?_
    refine ww (k0_off70_inb k) (off_g128 k.val 7) (off70_eq k) _ _ (hz 7 (k0_off69_inb k) (off69_eq k) 0 (k0_off54_inb k) (off54_eq k) 112#32) _ _ ?_
    refine ww (k0_off68_inb k) (off_g128 k.val 6) (off68_eq k) _ _ (hz 6 (k0_off67_inb k) (off67_eq k) 0 (k0_off54_inb k) (off54_eq k) 96#32) _ _ ?_
    refine ww (k0_off66_inb k) (off_g128 k.val 5) (off66_eq k) _ _ (hz 5 (k0_off65_inb k) (off65_eq k) 0 (k0_off54_inb k) (off54_eq k) 80#32) _ _ ?_
    refine ww (k0_off64_inb k) (off_g128 k.val 4) (off64_eq k) _ _ (hz 4 (k0_off63_inb k) (off63_eq k) 0 (k0_off54_inb k) (off54_eq k) 64#32) _ _ ?_
    refine ww (k0_off62_inb k) (off_g128 k.val 3) (off62_eq k) _ _ (hz 3 (k0_off61_inb k) (off61_eq k) 0 (k0_off54_inb k) (off54_eq k) 48#32) _ _ ?_
    refine ww (k0_off60_inb k) (off_g128 k.val 2) (off60_eq k) _ _ (hz 2 (k0_off59_inb k) (off59_eq k) 0 (k0_off54_inb k) (off54_eq k) 32#32) _ _ ?_
    refine ww (k0_off58_inb k) (off_g128 k.val 1) (off58_eq k) _ _ (hz 1 (k0_off57_inb k) (off57_eq k) 0 (k0_off54_inb k) (off54_eq k) 16#32) _ _ ?_
    refine ww (k0_off56_inb k) (off_g128 k.val 0) (off56_eq k) _ _ (hz 0 (k0_off55_inb k) (off55_eq k) 0 (k0_off54_inb k) (off54_eq k) 0#32) _ _ ?_
    rfl
  have hF2' : Facts2 c XA sg PM PP (k.val + 1) fbm (ivM.view.writes (Elt F) fiv (run2.sl.Hiv_1 c sg k fbm)) fpp := by
    unfold run2.sl.Hiv_1
    try unfold run2.sl.r
    refine ⟨HF2.pp, HF2.bm, fun hk j hj => ?_⟩
    rw [iv_other c _ fiv k.val (k0_off53_inb k) (off53_eq k) j, if_pos hj]
    unfold IVT ivV
    refine congrFun (congrArg (fun b => k0_pay90 (k0_pay89 sg b)) (bmload c (BMT c XA PM) fbm HF2.bm _ (k0_off52_inb k) (off52_eq k) |>.trans (congrArg _ (by
      apply Fin.ext; rw [tl_val, tl_val]; unfold tp; omega)))) _
  ihave HO := (refocus1 (Φo c PO') (ot' k.val) (ot (k.val + 1)) (s2 k.val) _ (o_next ⟨k.val, lt2 k⟩) (o_step ⟨k.val, lt2 k⟩)) $$ [HOi HOr]
  · isplitl [HOi]
    · iapply (fly_o c PO' _ _ _ _ hPO'); iexact HOi
    · iexact HOr
  ihave HX := (refocus1 (Φx c XA) (xt2' k.val) (xt2' k.val) (s18 (k.val + 110)) _ (x2_upd k.val) (fun _ _ => rfl)) $$ [HX HXi HXr]
  · isplitl [HX HXi]
    · unfold Φx
      isplitl [HXi]; · iexact HXi
      iexists _
      isplitr
      · ipureintro; exact hfx
      · iexact HX
    · iexact HXr
  iapply (dite_join c iprop((widle (F := F) c (s2 (k.val + 1)) ∗ wheld c (s2 (k.val + 1)) (run2.sl.HWs_w1 c sg k fbm fw)) ∗ Ring.restL (Φw c SO') (wt' k.val) [s2 (k.val + 1)] ∗ SR c SO' (st' k.val))
    iprop(WR c SO' (wt (k.val + 1)) ∗ SR c SO' (st (k.val + 1))) _ _ _
    (fun hc => issueW2 c SO' k ((cond5_iff k).1 hc) _ _ _ _ _ _ _ (hSO' ((cond5_iff k).1 hc)))
    (fun hn => by
      have hn' := fun h => hn ((cond5_iff k).2 h)
      iintro ⟨⟨HS, Hf⟩, HXr, HH⟩
      isplitr [HH]
      · iapply (refocus1 (Φw c SO') (wt' k.val) (wt (k.val + 1)) (s2 (k.val + 1)) _ ((w_stay ⟨k.val, lt2 k⟩ hn' _).trans (w_upd k.val)) (w_step ⟨k.val, lt2 k⟩))
        isplitr [HXr]
        · iapply (free_w_close c SO' _)
          isplitl [HS]; · iexact HS
          iexists _; iexact Hf
        · iexact HXr
      · iapply (atw_congr _ _ _ (s_stay ⟨k.val, lt2 k⟩ hn')); iexact HH))
  isplitl [HWi HWs HWRr HS]
  · isplitl [HWi HWs]
    · isplitl [HWi]; · iexact HWi
      iexact HWs
    · isplitl [HWRr]; · iexact HWRr
      iexact HS
  iintro ⟨HWR, HS⟩
  iapply (dite_join c iprop(XR c XA (xt2' k.val) ∗ XH c XA (xh2' k.val)) iprop(XR c XA (xt2 (k.val + 1)) ∗ XH c XA (xh2 (k.val + 1))) _ _ _
    (fun hc => issueX2 c XA k ((cond6_iff k).1 hc) _ _ _ _ _ _)
    (fun hn => by
      have hn' := fun h => hn ((cond6_iff k).2 h)
      iintro ⟨HX, HH⟩
      isplitl [HX]
      · iapply (atw_congr _ _ _ (x2_stay ⟨k.val, lt2 k⟩ hn')); iexact HX
      · iapply (atw_congr _ _ _ (h2_stay ⟨k.val, lt2 k⟩ hn')); iexact HH))
  isplitl [HX HH]
  · isplitl [HX]; · iexact HX
    iexact HH
  iintro ⟨HX, HH⟩
  sl_step
  isplitl [HX]; · iexact HX
  isplitl [HH]; · iexact HH
  isplitl [HO]; · iexact HO
  isplitl [HP]; · iexact HP
  isplitl [HWR]; · iexact HWR
  isplitl [HS]; · iexact HS
  isplitl [Hbm Hiv Hpp]
  · iexists _, _, _
    isplitr
    swap
    · isplitl [Hbm]; · iexact Hbm
      isplitl [Hiv]; · iexact Hiv
      iexact Hpp
    · ipureintro; exact hF2'
  · iexact HW

end Trip

end Cert.Proof.KI

end
-- ==== Proof.Ideal.Body.lean ====
/-
  The whole kernel body: the first four copies, pass 1, the global scale and the first block scales, pass 2, the last waits.
-/
module

public import proofs.«01_k».proof.Proof.Ideal.Pass2

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ
attribute [local irreducible] tl s18 s2
attribute [local irreducible] xt1 xh1 xt2 xh2 ot pt wt st

/-! ## The constants the body makes -/

abbrev iotaR : IVec S256x256 32 := iota .tc S256x256 32 [0] iota_S256x256_d0_w32
abbrev iotaC : IVec S256x256 32 := iota .tc S256x256 32 [1] iota_S256x256_d1_w32
/-- The permutation that brings the sixteen channels of each block apart, for the maxima. -/
def pmK : Vec F S256x256 .bf16 := k0_pay284 (F := F) iotaR iotaC (Scalar.select (Scalar.cmpi .eq 16#32 0#32) 1#32 16#32) k0_pay282 k0_pay283
/-- The permutation that brings even channels left and odd channels right, for the bytes. -/
def ppK : Vec F S256x256 .bf16 := k0_pay286 (F := F) (k0_pay285 iotaR iotaC) (Scalar.ofBits .f32 0x3F800000#32) (Scalar.ofBits .f32 0x00000000#32)
abbrev v181K : IVec S256x128 32 := iota .tc S256x128 32 [1] iota_S256x128_d1_w32

/-! ## The tables at the boundaries -/

theorem x1_start : ∀ s : Fin 18, s ∉ [(0 : Fin 18), 1, 2, 3] → xt1 0 s = .free := by decide +kernel
theorem h1_start : ∀ t : Fin 128, t ∉ [(0 : Fin 128), 1, 2, 3] → xh1 0 t = true := by decide +kernel
theorem x1_s0 : xt1 0 0 = .fly 0 := by decide +kernel
theorem x1_s1 : xt1 0 1 = .fly 1 := by decide +kernel
theorem x1_s2 : xt1 0 2 = .fly 2 := by decide +kernel
theorem x1_s3 : xt1 0 3 = .fly 3 := by decide +kernel
theorem h1_s0 : xh1 0 0 = false := by decide +kernel
theorem h1_s1 : xh1 0 1 = false := by decide +kernel
theorem h1_s2 : xh1 0 2 = false := by decide +kernel
theorem h1_s3 : xh1 0 3 = false := by decide +kernel
theorem o_start : ∀ s : Fin 2, ot 0 s = .free := by decide +kernel
theorem p_start : ∀ t : Fin 128, pt 0 t = .todo := by decide +kernel
theorem w_start : ∀ s : Fin 2, s ≠ 0 → wt 0 s = .free := by decide +kernel
theorem w_s0 : wt 0 0 = .fly 110 := by decide +kernel
theorem s_start : ∀ t : Fin 128, t ≠ 110 → st 0 t = .todo := by decide +kernel
theorem s_s0 : st 0 110 = .away := by decide +kernel
theorem o_last0 : ot 128 0 = .fly 108 := by decide +kernel
theorem o_last1 : ot 128 1 = .fly 109 := by decide +kernel
theorem p_last : ∀ t : Fin 128, t ∉ [(108 : Fin 128), 109] → pt 128 t = .done := by decide +kernel
theorem w_last0 : wt 128 0 = .free := by decide +kernel
theorem w_last1 : wt 128 1 = .fly 109 := by decide +kernel
theorem o_all : ∀ s : Fin 2, s ∉ [(0 : Fin 2), 1] → (SS.free : SS) = ot 128 s := by decide +kernel
theorem w_all : ∀ s : Fin 2, s ≠ 1 → (SS.free : SS) = wt 128 s := by decide +kernel
theorem s_last : ∀ t : Fin 128, t ≠ 109 → st 128 t = .done := by decide +kernel

theorem of_eq {M : Type _} [URA M] {P Q : sProp M} (e : P = Q) : P ⊢ Q := e ▸ .rfl
@[sl_canon] theorem msb0 (hh hs) :
    sbM.slice (Rect.unit (s := S32768x256) (![28160, 0]) S256x256.size hh) hs = sbtile 110 := sbtile_congr (by decide) _ _
@[sl_canon] theorem msb127 (hh hs) :
    sbM.slice (Rect.unit (s := S32768x256) (![27904, 0]) S256x256.size hh) hs = sbtile 109 := sbtile_congr (by decide) _ _
@[sl_canon] theorem mpk126 (hh hs) :
    pkM.slice (Rect.unit (s := S32768x2048) (![27648, 0]) S256x2048.size hh) hs = pktile 108 := pktile_congr (by decide) _ _
@[sl_canon] theorem mpk127 (hh hs) :
    pkM.slice (Rect.unit (s := S32768x2048) (![27904, 0]) S256x2048.size hh) hs = pktile 109 := pktile_congr (by decide) _ _

/-- A family of fewer states: `Ring.AtW_focusL` in one direction, at a table by value. -/
theorem focusL {M : Type _} [URA M] {n : ℕ} {σ : Type _} (Φ : Fin n → σ → sProp M) (st : Fin n → σ) (l : List (Fin n)) (hn : l.Nodup) :
    Ring.AtW (σ := fun _ => σ) Φ st ⊢ iprop(bigSepL l (fun k => Φ k (st k)) ∗ Ring.restL Φ st l) := by
  rw [Ring.AtW_focusL Φ st l hn]

section Body
variable (c : Dev nD)

theorem x_free (XA : Buf (Elt F) (xM.view.loc (c : Thread nD τ))) : XR c XA (xt2 128) ⊢ XR c XA (fun _ => .free) :=
  BI.bigSep_mono fun s _ => by
    obtain ⟨t, ht⟩ := x_end s
    rw [ht]
    exact idle_x c XA s (.res t) (fun _ => by simp)

/-- A load of one tile's block maxima, of which alone something is known. -/
theorem bmload1 (W : Vec F S1x256x256 .bf16) (f : Buf (Elt F) (bmM.view.loc (c : Thread nD τ))) (t : ℕ)
    (h : ∀ j : S128x256x256.Idx, (j 0).val = t → bmM.view.read (Elt F) f j = W (drop3 j))
    {o : Fin 3 → ℕ} (i : ∀ a, o a + S1x256x256.size a ≤ S128x256x256.size a) (ho : o = ![t, 0, 0]) :
    bmM.view.readAt (Elt F) (Rect.unit (s := S128x256x256) o S1x256x256.size i).toLoadRect f = W := by
  subst ho
  funext y
  have h0 : (y 0).val < 1 := (y 0).isLt
  refine (h _ ?_).trans (congrArg W (funext fun a => Fin.ext ?_))
  · show t + 1 * (y 0).val = t; omega
  · match a with
    | 0 => show 0 = (y 0).val; omega
    | 1 => show 0 + 1 * (y 1).val = (y 1).val; omega
    | 2 => show 0 + 1 * (y 2).val = (y 2).val; omega

/-- A load of a slot of the turned block maxima. -/
theorem btload1 (W : Vec F S1x256x256 .f32) (f : Buf (Elt F) (btM.view.loc (c : Thread nD τ))) (t : ℕ)
    (h : ∀ j : S2x256x256.Idx, (j 0).val = t → btM.view.read (Elt F) f j = W (drop3 j))
    {o : Fin 3 → ℕ} (i : ∀ a, o a + S1x256x256.size a ≤ S2x256x256.size a) (ho : o = ![t, 0, 0]) :
    btM.view.readAt (Elt F) (Rect.unit (s := S2x256x256) o S1x256x256.size i).toLoadRect f = W := by
  subst ho
  funext y
  have h0 : (y 0).val < 1 := (y 0).isLt
  refine (h _ ?_).trans (congrArg W (funext fun a => Fin.ext ?_))
  · show t + 1 * (y 0).val = t; omega
  · match a with
    | 0 => show 0 = (y 0).val; omega
    | 1 => show 0 + 1 * (y 1).val = (y 1).val; omega
    | 2 => show 0 + 1 * (y 2).val = (y 2).val; omega

/-- Slot 0 of the block scales' ring after a store of it. -/
theorem wbuf_fact0 (w : FVec F S1x256x256 .fp8e4m3) (f : Buf (Elt F) (wbM.view.loc (c : Thread nD τ)))
    (i : ∀ a, (![0, 0, 0] : Fin 3 → ℕ) a + S1x256x256.size a ≤ S2x256x256.size a) :
    (wslot 0).view.read (Elt F) (wbM.view.writes (Elt F) f [⟨Rect.unit (s := S2x256x256) ![0, 0, 0] S1x256x256.size i, w⟩]) = fun j => w (up3 j) := by
  have h := wbuf_fact c 0 w f _ i rfl
  have e : s2 0 = 0 := Fin.ext (s2_val 0)
  rw [e] at h
  exact h

/-- The block maxima after the last tile's are stored. -/
theorem bm_last (W : Fin 128 → Vec F S1x256x256 .bf16) (w : Vec F S1x256x256 .bf16) (f : Buf (Elt F) (bmM.view.loc (c : Thread nD τ)))
    (i : ∀ a, (![127, 0, 0] : Fin 3 → ℕ) a + S1x256x256.size a ≤ S128x256x256.size a) (hw : w = W (tl 127))
    (h : ∀ t, t + 1 < 128 → ∀ j : S128x256x256.Idx, (j 0).val = t → bmM.view.read (Elt F) f j = W (tl t) (drop3 j)) (j : S128x256x256.Idx) :
    bmM.view.read (Elt F) (bmM.view.writes (Elt F) f [⟨Rect.unit (s := S128x256x256) ![127, 0, 0] S1x256x256.size i, w⟩]) j = W (tl (j 0).val) (drop3 j) := by
  have h0 : (j 0).val < 128 := (j 0).isLt
  by_cases e : (j 0).val = 127
  · rw [e, ← hw]
    exact View.read_writes_cons_unit_of_mem bmM.view f i w [] j (drop3 j) rfl (fun a => match a with
      | 0 => by show (j 0).val = 127 + 0; omega
      | 1 => by show (j 1).val = 0 + (j 1).val; omega
      | 2 => by show (j 2).val = 0 + (j 2).val; omega)
  · refine (View.read_writes_cons_unit_of_not_mem bmM.view f i w [] j rfl 0 (by
      show (j 0).val < 127 ∨ 127 + 1 ≤ (j 0).val; omega)).trans (h _ (by omega) j rfl)

end Body

section Body
variable (c : Dev nD) (XA : Buf (Elt F) (xM.view.loc (c : Thread nD τ)))
variable (arg3 : Memref sig .tc .smem S1x1 .f32) (harg3 : arg3.IsWhole)

abbrev bodyG : Prog (TpuEff nD τ sig (Elt F) Λ₀ .tc) PUnit :=
  cc0_nvfp4_quantise (F := F) xM (Memref.isWhole_whole _) pkM (Memref.isWhole_whole _) sbM (Memref.isWhole_whole _) arg3 harg3
    xbM (Memref.isWhole_whole _) bmM (Memref.isWhole_whole _) btM (Memref.isWhole_whole _) ivM (Memref.isWhole_whole _)
    obM (Memref.isWhole_whole _) wbM (Memref.isWhole_whole _) acM (Memref.isWhole_whole _) pmM (Memref.isWhole_whole _)
    ppM (Memref.isWhole_whole _) cc0_scratch9 cc0_scratch10 cc0_scratch11

/-- The global scale of the operand, and what the two results must hold, tile by tile. -/
def SGK : F .f32 := sgV pmK (XT c XA)
abbrev POK : (t : Fin 128) → Buf (Elt F) ((pktile t).view.loc (c : Thread nD τ)) → Prop := PO c XA (SGK c XA) v181K pmK ppK
abbrev SOK : (t : Fin 128) → Buf (Elt F) ((sbtile t).view.loc (c : Thread nD τ)) → Prop := SO c XA (SGK c XA) pmK

/-- The scratch that is neither a ring nor a table of tiles, at anything. -/
def SCR : sProp 𝕄 := iprop((∃ f, held c bmM f) ∗ (∃ f, held c btM f) ∗ (∃ f, held c ivM f) ∗ (∃ f, held c acM f) ∗ (∃ f, held c pmM f) ∗ (∃ f, held c ppM f))

/-- Before the body: every tile of the operand home, every slot free, the results to be written. -/
def PRE (PO' : (t : Fin 128) → Buf (Elt F) ((pktile t).view.loc (c : Thread nD τ)) → Prop) (SO' : (t : Fin 128) → Buf (Elt F) ((sbtile t).view.loc (c : Thread nD τ)) → Prop) (a : TS) : sProp 𝕄 :=
  iprop(XR c XA (fun _ => .free) ∗ XH c XA (fun _ => true) ∗ OR c PO' (fun _ => .free) ∗ PR c PO' (fun _ => a)
    ∗ WR c SO' (fun _ => .free) ∗ SR c SO' (fun _ => a) ∗ SCR c)

set_option maxHeartbeats 4000000 in
theorem bodyRun (g3 : Buf (Elt F) (arg3.view.loc (c : Thread nD τ))) (W : Waits sig Unit) (Q : PUnit → sProp 𝕄) :
    iprop((PRE c XA (POK c XA) (SOK c XA) .todo ∗ held c arg3 g3 ∗ owes (c : Thread nD τ) 0 W)
      ∗ ((PRE c XA (POK c XA) (SOK c XA) .done ∗ (∃ g, ⌜arg3.view.read (Elt F) g = fun _ => SGK c XA⌝ ∗ held c arg3 g) ∗ ∃ W, owes (c : Thread nD τ) 0 W) -∗ Q ⟨⟩))
      ⊢ wp frame (wpE (defs₀ (F := F)) 𝒱₀ (c : Thread nD τ) none) Set.univ (bodyG arg3 harg3) Q := by
  unfold PRE SCR
  generalize hPO : POK c XA = PO'
  generalize hSO : SOK c XA = SO'
  iintro ⟨⟨⟨HX, HH, HO, HP, HWR, HS, ⟨%fbm, Hbm⟩, ⟨%fbt, Hbt⟩, ⟨%fiv, Hiv⟩, ⟨%fac, Hac⟩, ⟨%fpm, Hpm⟩, ⟨%fpp, Hpp⟩⟩, H3, HW⟩, Hk⟩
  ihave HX := (focusL (Φx c XA) (fun _ => .free) [0, 1, 2, 3] (by decide)) $$ HX
  icases HX with ⟨HX, HXr⟩
  ihave HX := (of_eq (show bigSepL [(0 : Fin 18), 1, 2, 3] (fun k => Φx c XA k .free) = iprop((xidle (F := F) c 0 ∗ ∃ f, xheld c 0 f) ∗ (xidle (F := F) c 1 ∗ ∃ f, xheld c 1 f) ∗ (xidle (F := F) c 2 ∗ ∃ f, xheld c 2 f) ∗ (xidle (F := F) c 3 ∗ ∃ f, xheld c 3 f)) from rfl)) $$ HX
  icases HX with ⟨⟨Hi0, %f0, Hf0⟩, ⟨Hi1, %f1, Hf1⟩, ⟨Hi2, %f2, Hf2⟩, ⟨Hi3, %f3, Hf3⟩⟩
  ihave HH := (focusL (Ring.atHome (xhome c XA)) (fun _ => true) [0, 1, 2, 3] (by decide)) $$ HH
  icases HH with ⟨HH, HHr⟩
  ihave HH := (of_eq (show bigSepL [(0 : Fin 128), 1, 2, 3] (fun k => Ring.atHome (xhome c XA) k true) = iprop(xhome c XA 0 ∗ xhome c XA 1 ∗ xhome c XA 2 ∗ xhome c XA 3) from rfl)) $$ HH
  icases HH with ⟨Hx0, Hx1, Hx2, Hx3⟩
  sl_exec
  ihave HX := (Ring.AtW_refocusL (Φx c XA) (fun _ => .free) (xt1 0) [0, 1, 2, 3] (by decide) x1_start) $$ [Hi0 Hi1 Hi2 Hi3 HXr]
  · isplitr [HXr]
    · iapply (of_eq (show iprop(Φx c XA 0 (.fly 0) ∗ Φx c XA 1 (.fly 1) ∗ Φx c XA 2 (.fly 2) ∗ Φx c XA 3 (.fly 3)) = bigSepL [(0 : Fin 18), 1, 2, 3] (fun k => Φx c XA k (xt1 0 k)) from by
        rw [show bigSepL [(0 : Fin 18), 1, 2, 3] (fun k => Φx c XA k (xt1 0 k)) = iprop(Φx c XA 0 (xt1 0 0) ∗ Φx c XA 1 (xt1 0 1) ∗ Φx c XA 2 (xt1 0 2) ∗ Φx c XA 3 (xt1 0 3)) from rfl, x1_s0, x1_s1, x1_s2, x1_s3]))
      isplitl [Hi0]
      · iapply (fly_x c XA 0 0 f0 (bodyRun.sl.dma0 c XA) (by unfold bodyRun.sl.dma0; rfl)); iexact Hi0
      isplitl [Hi1]
      · iapply (fly_x c XA 1 1 f1 (bodyRun.sl.dma0_1 c XA) (by unfold bodyRun.sl.dma0_1; rfl)); iexact Hi1
      isplitl [Hi2]
      · iapply (fly_x c XA 2 2 f2 (bodyRun.sl.dma0_2 c XA) (by unfold bodyRun.sl.dma0_2; rfl)); iexact Hi2
      · iapply (fly_x c XA 3 3 f3 (bodyRun.sl.dma0_3 c XA) (by unfold bodyRun.sl.dma0_3; rfl)); iexact Hi3
    · iexact HXr
  ihave HH := (Ring.AtW_refocusL (Ring.atHome (xhome c XA)) (fun _ => true) (xh1 0) [0, 1, 2, 3] (by decide) h1_start) $$ [HHr]
  · isplitr [HHr]
    · iapply (of_eq (show (iprop(emp ∗ emp ∗ emp ∗ emp) : sProp 𝕄) = bigSepL [(0 : Fin 128), 1, 2, 3] (fun k => Ring.atHome (xhome c XA) k (xh1 0 k)) from by
        rw [show bigSepL [(0 : Fin 128), 1, 2, 3] (fun k => Ring.atHome (xhome c XA) k (xh1 0 k)) = iprop(Ring.atHome (xhome c XA) 0 (xh1 0 0) ∗ Ring.atHome (xhome c XA) 1 (xh1 0 1) ∗ Ring.atHome (xhome c XA) 2 (xh1 0 2) ∗ Ring.atHome (xhome c XA) 3 (xh1 0 3)) from rfl, h1_s0, h1_s1, h1_s2, h1_s3]; rfl))
      isplitl []; · iempintro
      isplitl []; · iempintro
      isplitl []; · iempintro
      iempintro
    · iexact HHr
  iapply (Scf.wp_for_bind Idealize.ShloMosaic.frame (wpE (defs₀ (F := F)) 𝒱₀ (c : Thread nD τ) none) Set.univ _ _ _ _ _ _ (fun k _ => inv1 c XA pmK k) (fun k _ => run1 c XA arg3 harg3 _ _ _ pmK k)) $$ [HX HH Hbt Hbm Hac Hpm HW]
  · unfold inv1
    isplitl [HX]; · iexact HX
    isplitl [HH]; · iexact HH
    isplitr [HW]
    · iexists _, _, _, _
      isplitr
      swap
      · isplitl [Hbt]; · iexact Hbt
        isplitl [Hbm]; · iexact Hbm
        isplitl [Hac]; · iexact Hac
        iexact Hpm
      · ipureintro
        refine ⟨?_, ?_, fun t h => absurd h (Nat.succ_ne_zero t), fun t h => absurd h (Nat.not_lt_zero _)⟩
        · exact View.read_writes_full pmM.view _ inb_S256x256_S256x256_0_0 _ []
        · exact View.read_writes_full acM.view _ inb_S16x256_S16x256_0_0 _ []
    · iexists _; iexact HW
  iintro %_ HI
  rw [show Scf.trips k0_t1_loop.lb k0_t1_loop.ub k0_t1_loop.st = 128 from trips1]
  unfold inv1
  icases HI with ⟨HX, HH, ⟨%fbt, %fbm, %fac, %fpm, %HF1, Hbt, Hbm, Hac, Hpm⟩, ⟨%W, HW⟩⟩
  ihave HX := (atw_congr _ _ _ x_turn) $$ HX
  ihave HH := (atw_congr _ _ _ h_turn) $$ HH
  ihave HWR := (focus1 (Φw c SO') (fun _ => .free) 0 .free rfl) $$ HWR
  icases HWR with ⟨HWR, HWRr⟩
  ihave HWR := (free_w_open c SO' _) $$ HWR
  icases HWR with ⟨HWi, %fw, HWs⟩
  ihave HS := (take1 (Φs c SO') (fun _ => .todo) (st 0) 110 .todo .away rfl s_s0 .rfl s_start) $$ HS
  icases HS with ⟨HSt, HS⟩
  ihave HSt := (todo_s_open c SO' _) $$ HSt
  icases HSt with ⟨%gs, HSt⟩
  sl_exec
  have hsg : bodyRun.sl.r_1 c fac = SGK c XA := by
    unfold bodyRun.sl.r_1
    exact congrArg (k0_pay291 (F := F)) ((View.readAt_full acM.view fac inb_S16x256_S16x256_0_0).trans HF1.ac)
  have hbm110 : bodyRun.sl.v149 c fbm = BMT c XA pmK 110 := by
    unfold bodyRun.sl.v149
    refine bmload1 c _ fbm 110 (fun j hj => (HF1.bm 110 (by omega) j hj).trans ?_) _ rfl
    rw [show tl 110 = 110 from Fin.ext (tl_val 110)]
  have hSO' : SO' 110 ((sbtile 110).view.writes (Elt F) gs [⟨Rect.whole S256x256, bodyRun.sl.dma11 c fbm fac fw⟩]) := by
    subst hSO
    unfold SOK SO
    refine (View.read_writes_whole _ _ _).trans ?_
    unfold bodyRun.sl.dma11
    refine (wbuf_fact0 c _ fw inb_S2x256x256_S1x256x256_0_0_0).trans ?_
    funext j
    unfold sbV
    exact congrFun (congr (congrArg (k0_pay88 (F := F)) hsg) hbm110) _
  have hF2 : Facts2 c XA (SGK c XA) pmK ppK 0 (bmM.view.writes (Elt F) fbm
      [⟨Rect.unit (s := S128x256x256) ![127, 0, 0] S1x256x256.size inb_S128x256x256_S1x256x256_127_0_0,
          k0_pay290 (btM.view.readAt (Elt F) (Rect.unit (s := S2x256x256) ![1, 0, 0] S1x256x256.size inb_S2x256x256_S1x256x256_1_0_0).toLoadRect fbt)⟩])
      (ivM.view.writes (Elt F) fiv [⟨Rect.unit (s := S2x256x256) ![0, 0, 0] S1x256x256.size inb_S2x256x256_S1x256x256_0_0_0,
          k0_pay295 (bodyRun.sl.r_1 c fac) (bodyRun.sl.r_2 c fac) (bodyRun.sl.v149 c fbm)⟩])
      (ppM.view.writes (Elt F) ppM.view.junk bodyRun.sl.Hpp_1) := by
    refine ⟨?_, bm_last c (BMT c XA pmK) _ fbm _ ?_ HF1.bm, fun _ j hj => ?_⟩
    · exact View.read_writes_full ppM.view _ inb_S256x256_S256x256_0_0 _ []
    · exact congrArg (k0_pay1 (F := F)) (btload1 c (btV pmK (XT c XA (tl 127))) fbt 1 (fun j hj => HF1.bt 127 rfl j hj) inb_S2x256x256_S1x256x256_1_0_0 rfl)
    · refine (iv_other c _ fiv 1 _ rfl j).trans ?_
      rw [if_pos hj, show tl (0 + 110) = 110 from Fin.ext (tl_val 110)]
      unfold IVT ivV
      exact congrFun (congr (congrArg (fun s b => k0_pay90 (k0_pay89 (F := F) s b)) hsg) hbm110) _
  have hsgR : arg3.view.read (Elt F) (arg3.view.writes (Elt F) arg3.view.junk (bodyRun.sl.H3_1 c fac)) = fun _ => SGK c XA := by
    unfold bodyRun.sl.H3_1
    refine (View.read_writes_full arg3.view _ inb_S1x1_S1x1_0_0 _ []).trans ?_
    funext _; exact hsg
  rw [hsg] at hF2 ⊢
  ihave HWR := (refocus1 (Φw c SO') (fun _ => .free) (wt 0) 0 _ w_s0 w_start) $$ [HWi HWRr]
  · isplitl [HWi]
    · iapply (fly_w c SO' _ _ _ _ hSO'); iexact HWi
    · iexact HWRr
  ihave HO := (atw_congr _ (fun _ => .free) (ot 0) o_start) $$ HO
  ihave HP := (atw_congr _ (fun _ => .todo) (pt 0) p_start) $$ HP
  subst hPO hSO
  iapply (Scf.wp_for_bind Idealize.ShloMosaic.frame (wpE (defs₀ (F := F)) 𝒱₀ (c : Thread nD τ) none) Set.univ _ _ _ _ _ _
    (fun k _ => inv2 c XA (SGK c XA) v181K pmK ppK k) (fun k _ => run2 c XA arg3 harg3 (SGK c XA) v181K pmK ppK k)) $$ [HX HH HO HP HWR HS Hbm Hiv Hpp HW]
  · unfold inv2
    isplitl [HX]; · iexact HX
    isplitl [HH]; · iexact HH
    isplitl [HO]; · iexact HO
    isplitl [HP]; · iexact HP
    isplitl [HWR]; · iexact HWR
    isplitl [HS]; · iexact HS
    isplitr [HW]
    · iexists _, _, _
      isplitr
      swap
      · isplitl [Hbm]; · iexact Hbm
        isplitl [Hiv]; · iexact Hiv
        iexact Hpp
      · ipureintro
        have e : bodyRun.sl.v173 c fbm fac = k0_pay295 (SGK c XA) (bodyRun.sl.r_2 c fac) (bodyRun.sl.v149 c fbm) := by
          rw [← hsg]
          unfold bodyRun.sl.v173 bodyRun.sl.v170
          rfl
        rw [e]
        exact hF2
    · iexists _; iexact HW
  iintro %_ HI
  rw [show Scf.trips k0_t2_loop.lb k0_t2_loop.ub k0_t2_loop.st = 128 from trips2]
  unfold inv2
  icases HI with ⟨HX, HH, HO, HP, HWR, HS, ⟨%fbm, %fiv, %fpp, -, Hbm, Hiv, Hpp⟩, ⟨%W, HW⟩⟩
  ihave HO := (focusL (Φo c (POK c XA)) (ot 128) [0, 1] (by decide)) $$ HO
  icases HO with ⟨HO, HOr⟩
  ihave HO := (of_eq (show bigSepL [(0 : Fin 2), 1] (fun k => Φo c (POK c XA) k (ot 128 k)) = iprop(Φo c (POK c XA) 0 (.fly 108) ∗ Φo c (POK c XA) 1 (.fly 109)) from by
    rw [show bigSepL [(0 : Fin 2), 1] (fun k => Φo c (POK c XA) k (ot 128 k)) = iprop(Φo c (POK c XA) 0 (ot 128 0) ∗ Φo c (POK c XA) 1 (ot 128 1)) from rfl, o_last0, o_last1])) $$ HO
  icases HO with ⟨HO0, HO1⟩
  ihave HO0 := (fly_o_open c (POK c XA) _ _) $$ HO0
  icases HO0 with ⟨%g0, %e0, %hg0, HO0⟩
  ihave HO1 := (fly_o_open c (POK c XA) _ _) $$ HO1
  icases HO1 with ⟨%g1, %e1, %hg1, HO1⟩
  ihave HWR := (focus1 (Φw c (SOK c XA)) (wt 128) 1 _ w_last1) $$ HWR
  icases HWR with ⟨HW1, HWRr⟩
  ihave HW1 := (fly_w_open c (SOK c XA) _ _) $$ HW1
  icases HW1 with ⟨%g2, %e2, %hg2, HW1⟩
  sl_exec
  sl_step
  iapply Hk
  isplitr [H3 HW]
  · isplitl [HX]; · iapply (x_free c XA); iexact HX
    isplitl [HH]; · iapply (atw_congr _ (xh2 128) (fun _ => true) (fun t => (h_end t).symm)); iexact HH
    isplitl [HO0 HO0_src HO1 HO1_src HOr]
    · iapply (Ring.AtW_refocusL (Φo c (POK c XA)) (ot 128) (fun _ => .free) [0, 1] (by decide) o_all)
      isplitr [HOr]
      · iapply (of_eq (show iprop((oidle (F := F) c 0 ∗ ∃ f, oheld c 0 f) ∗ (oidle (F := F) c 1 ∗ ∃ f, oheld c 1 f)) = bigSepL [(0 : Fin 2), 1] (fun k => Φo c (POK c XA) k .free) from rfl))
        isplitl [HO0 HO0_src]
        · isplitl [HO0]; · iexact HO0
          iexists _; iexact HO0_src
        · isplitl [HO1]; · iexact HO1
          iexists _; iexact HO1_src
      · iexact HOr
    isplitl [HP HO0_dst HO1_dst]
    · iapply (put1 (Φp c (POK c XA)) (fun t => if t = 109 then pt 128 t else .done) (fun _ => .done) 109 .done rfl (fun k hk => (if_neg hk).symm))
      isplitl [HO1_dst]
      · unfold Φp
        iexists g1
        isplitr; · ipureintro; exact hg1
        iexact HO1_dst
      iapply (put1 (Φp c (POK c XA)) (pt 128) (fun t => if t = 109 then pt 128 t else .done) 108 .done (if_neg (by decide)) (fun k hk => by
        by_cases e : k = 109
        · exact if_pos e
        · exact (if_neg e).trans (p_last k (by simp [hk, e])).symm))
      isplitl [HO0_dst]
      · unfold Φp
        iexists g0
        isplitr; · ipureintro; exact hg0
        iexact HO0_dst
      iexact HP
    isplitl [HW1 HW1_src HWRr]
    · iapply (refocus1 (Φw c (SOK c XA)) (wt 128) (fun _ => .free) 1 .free rfl w_all)
      isplitl [HW1 HW1_src]
      · iapply (free_w_close c (SOK c XA) _)
        isplitl [HW1]; · iexact HW1
        iexists _; iexact HW1_src
      · iexact HWRr
    isplitl [HS HW1_dst]
    · iapply (put1 (Φs c (SOK c XA)) (st 128) (fun _ => .done) 109 .done rfl (fun k hk => (s_last k hk).symm))
      isplitl [HW1_dst]
      · unfold Φs
        iexists g2
        isplitr; · ipureintro; exact hg2
        iexact HW1_dst
      iexact HS
    isplitl [Hbm]; · iexists _; iexact Hbm
    isplitl [Hbt]; · iexists _; iexact Hbt
    isplitl [Hiv]; · iexists _; iexact Hiv
    isplitl [Hac]; · iexists _; iexact Hac
    isplitl [Hpm]; · iexists _; iexact Hpm
    iexists _; iexact Hpp
  · isplitl [H3]
    · iexists _
      isplitr
      · ipureintro; exact hsgR
      · iexact H3
    · iexists _; iexact HW

end Body

end Cert.Proof.KI

end
-- ==== Proof.Ideal.Split.lean ====
/-
  The arrays and the scratch buffers cut into tiles and slots at the launch, and put together again at its end, the two
  results at what their tiles hold.
-/
module

public import proofs.«01_k».proof.Proof.Ideal.Body

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ
attribute [local irreducible] tl s18 s2

theorem entails_eq {M : Type _} [URA M] {P Q : sProp M} (e : P = Q) : P ⊢ Q := e ▸ .rfl

/-! ## Element sets -/

abbrev XT' (t : Fin 128) : Finset S32768x4096.Idx := (Rect.unit (s := S32768x4096) (tOff t) S256x4096.size (tOff_x t)).set
abbrev PT' (t : Fin 128) : Finset S32768x2048.Idx := (Rect.unit (s := S32768x2048) (tOff t) S256x2048.size (tOff_pk t)).set
abbrev ST' (t : Fin 128) : Finset S32768x256.Idx := (Rect.unit (s := S32768x256) (tOff t) S256x256.size (tOff_sb t)).set
abbrev XS' (s : Fin 18) : Finset S18x256x4096.Idx := (Rect.unit (s := S18x256x4096) (s18Off s) S1x256x4096.size (s18Off_x s)).set
abbrev OS' (s : Fin 2) : Finset S2x256x2048.Idx := (Rect.unit (s := S2x256x2048) (s2Off s) S1x256x2048.size (s2Off_o s)).set
abbrev WS' (s : Fin 2) : Finset S2x256x256.Idx := (Rect.unit (s := S2x256x256) (s2Off s) S1x256x256.size (s2Off_w s)).set

theorem xtile_set (t : Fin 128) : (xtile t : Memref sig .tc .hbm _ _).view.set = XT' t := View.set_slice_whole _ _
theorem pktile_set (t : Fin 128) : (pktile t : Memref sig .tc .hbm _ _).view.set = PT' t := View.set_slice_whole _ _
theorem sbtile_set (t : Fin 128) : (sbtile t : Memref sig .tc .hbm _ _).view.set = ST' t := View.set_slice_whole _ _
theorem xslot_set (s : Fin 18) : (xslot s : Memref sig .tc .vmem _ _).view.set = XS' s := (View.set_reshape _ _).trans (View.set_slice_whole _ _)
theorem oslot_set (s : Fin 2) : (oslot s : Memref sig .tc .vmem _ _).view.set = OS' s := (View.set_reshape _ _).trans (View.set_slice_whole _ _)
theorem wslot_set (s : Fin 2) : (wslot s : Memref sig .tc .vmem _ _).view.set = WS' s := (View.set_reshape _ _).trans (View.set_slice_whole _ _)

theorem two_ne {a : Fin 2} (h : a ≠ 0) : a = 1 := by omega
theorem three_ne {a : Fin 3} (h : a ≠ 0) : a = 1 ∨ a = 2 := by omega

theorem tOff_zero (t : Fin 128) (a : Fin 2) (h : a ≠ 0) : tOff t a = 0 := by rw [two_ne h]; rfl
theorem s18Off_zero (t : Fin 18) (a : Fin 3) (h : a ≠ 0) : s18Off t a = 0 := by rcases three_ne h with rfl | rfl <;> rfl
theorem s2Off_zero (t : Fin 2) (a : Fin 3) (h : a ≠ 0) : s2Off t a = 0 := by rcases three_ne h with rfl | rfl <;> rfl

theorem XT_disjoint : ∀ b b' : Fin 128, b ≠ b' → Disjoint (XT' b) (XT' b') :=
  Ring.lead_disjoint (s := S32768x4096) 0 256 (fun b => tOff b) S256x4096.size tOff_x (fun b => rfl) rfl
theorem XT_cover : (Finset.univ : Finset (Fin 128)).biUnion XT' = Finset.univ :=
  Ring.lead_cover (s := S32768x4096) 0 256 (fun b => tOff b) S256x4096.size tOff_x (fun b => rfl) tOff_zero rfl (fun a h => by rw [two_ne h]; rfl) rfl
theorem PT_disjoint : ∀ b b' : Fin 128, b ≠ b' → Disjoint (PT' b) (PT' b') :=
  Ring.lead_disjoint (s := S32768x2048) 0 256 (fun b => tOff b) S256x2048.size tOff_pk (fun b => rfl) rfl
theorem PT_cover : (Finset.univ : Finset (Fin 128)).biUnion PT' = Finset.univ :=
  Ring.lead_cover (s := S32768x2048) 0 256 (fun b => tOff b) S256x2048.size tOff_pk (fun b => rfl) tOff_zero rfl (fun a h => by rw [two_ne h]; rfl) rfl
theorem ST_disjoint : ∀ b b' : Fin 128, b ≠ b' → Disjoint (ST' b) (ST' b') :=
  Ring.lead_disjoint (s := S32768x256) 0 256 (fun b => tOff b) S256x256.size tOff_sb (fun b => rfl) rfl
theorem ST_cover : (Finset.univ : Finset (Fin 128)).biUnion ST' = Finset.univ :=
  Ring.lead_cover (s := S32768x256) 0 256 (fun b => tOff b) S256x256.size tOff_sb (fun b => rfl) tOff_zero rfl (fun a h => by rw [two_ne h]; rfl) rfl
theorem XS_disjoint : ∀ b b' : Fin 18, b ≠ b' → Disjoint (XS' b) (XS' b') :=
  Ring.lead_disjoint (s := S18x256x4096) 0 1 (fun b => s18Off b) S1x256x4096.size s18Off_x (fun b => (Nat.one_mul _).symm) rfl
theorem XS_cover : (Finset.univ : Finset (Fin 18)).biUnion XS' = Finset.univ :=
  Ring.lead_cover (s := S18x256x4096) 0 1 (fun b => s18Off b) S1x256x4096.size s18Off_x (fun b => (Nat.one_mul _).symm) s18Off_zero rfl (fun a h => by rcases three_ne h with rfl | rfl <;> rfl) rfl
theorem OS_disjoint : ∀ b b' : Fin 2, b ≠ b' → Disjoint (OS' b) (OS' b') :=
  Ring.lead_disjoint (s := S2x256x2048) 0 1 (fun b => s2Off b) S1x256x2048.size s2Off_o (fun b => (Nat.one_mul _).symm) rfl
theorem OS_cover : (Finset.univ : Finset (Fin 2)).biUnion OS' = Finset.univ :=
  Ring.lead_cover (s := S2x256x2048) 0 1 (fun b => s2Off b) S1x256x2048.size s2Off_o (fun b => (Nat.one_mul _).symm) s2Off_zero rfl (fun a h => by rcases three_ne h with rfl | rfl <;> rfl) rfl
theorem WS_disjoint : ∀ b b' : Fin 2, b ≠ b' → Disjoint (WS' b) (WS' b') :=
  Ring.lead_disjoint (s := S2x256x256) 0 1 (fun b => s2Off b) S1x256x256.size s2Off_w (fun b => (Nat.one_mul _).symm) rfl
theorem WS_cover : (Finset.univ : Finset (Fin 2)).biUnion WS' = Finset.univ :=
  Ring.lead_cover (s := S2x256x256) 0 1 (fun b => s2Off b) S1x256x256.size s2Off_w (fun b => (Nat.one_mul _).symm) s2Off_zero rfl (fun a h => by rcases three_ne h with rfl | rfl <;> rfl) rfl

section Split
variable (c : Dev nD)

/-! ## The operand -/

theorem x_home (XA : Buf (Elt F) (xM.view.loc (c : Thread nD τ))) :
    (((c : Thread nD τ).loc main_v0) ↦{fullShare} XA : sProp 𝕄) = XH c XA (fun _ => true) := by
  refine (Ring.pointsTo_blocks (ℓ := (c : Thread nD τ).loc main_v0) XT' XT_disjoint XT_cover XA).trans ?_
  exact bigSep_congr fun t _ => by rw [← xtile_set]; rfl

/-! ## The slots -/

theorem xheld_eq (s : Fin 18) (f) : xheld c s f = (((c : Thread nD τ).loc cc0_scratch0) ↦[XS' s]{fullShare} f : sProp 𝕄) :=
  congrArg (fun S => (_ ↦[S]{fullShare} f : sProp 𝕄)) (xslot_set s)
theorem oheld_eq (s : Fin 2) (f) : oheld c s f = (((c : Thread nD τ).loc cc0_scratch4) ↦[OS' s]{fullShare} f : sProp 𝕄) :=
  congrArg (fun S => (_ ↦[S]{fullShare} f : sProp 𝕄)) (oslot_set s)
theorem wheld_eq (s : Fin 2) (f) : wheld c s f = (((c : Thread nD τ).loc cc0_scratch5) ↦[WS' s]{fullShare} f : sProp 𝕄) :=
  congrArg (fun S => (_ ↦[S]{fullShare} f : sProp 𝕄)) (wslot_set s)

theorem x_split :
    iprop(∃ f : Buf (Elt F) ((c : Thread nD τ).loc cc0_scratch0), ((c : Thread nD τ).loc cc0_scratch0) ↦{fullShare} f)
      ⊢ (bigSep Finset.univ (fun s => iprop(∃ f, xheld c s f)) : sProp 𝕄) := by
  have one : ∀ (f) (s), ((((c : Thread nD τ).loc cc0_scratch0) ↦[XS' s]{fullShare} f : sProp 𝕄)) ⊢ iprop(∃ f, xheld c s f) := fun f s => by
    iintro H; iexists f; iapply (entails_eq (xheld_eq c s f).symm); iexact H
  have key : ∀ f : Buf (Elt F) ((c : Thread nD τ).loc cc0_scratch0), (((c : Thread nD τ).loc cc0_scratch0) ↦{fullShare} f : sProp 𝕄)
      ⊢ bigSep Finset.univ (fun s => iprop(∃ f, xheld c s f)) := fun f =>
    (entails_eq (Ring.pointsTo_blocks (ℓ := (c : Thread nD τ).loc cc0_scratch0) XS' XS_disjoint XS_cover f)).trans (BI.bigSep_mono fun s _ => one f s)
  iintro ⟨%f, H⟩
  iapply (key f); iexact H
theorem x_join :
    (bigSep Finset.univ (fun s => iprop(∃ f, xheld c s f)) : sProp 𝕄)
      ⊢ iprop(∃ f : Buf (Elt F) ((c : Thread nD τ).loc cc0_scratch0), ((c : Thread nD τ).loc cc0_scratch0) ↦{fullShare} f) := by
  have one : ∀ s, iprop(∃ f, xheld c s f) ⊢ (iprop(∃ f, ((c : Thread nD τ).loc cc0_scratch0) ↦[XS' s]{fullShare} f) : sProp 𝕄) := fun s => by
    iintro ⟨%f, H⟩; iexists f; iapply (entails_eq (xheld_eq c s f)); iexact H
  exact (BI.bigSep_mono fun s _ => one s).trans (Ring.pointsTo_blocks_join_exists (ℓ := (c : Thread nD τ).loc cc0_scratch0) XS' XS_disjoint XS_cover (Memref.whole cc0_scratch0).view.junk)
/-- The ring's slots free are its cells at zero and its buffer at anything. -/
theorem x_ring (XA : Buf (Elt F) (xM.view.loc (c : Thread nD τ))) :
    (XR c XA (fun _ => .free) : sProp 𝕄) = iprop(bigSep Finset.univ (fun s => xidle (F := F) c s) ∗ bigSep Finset.univ (fun s => iprop(∃ f, xheld c s f))) :=
  BI.bigSep_sep _ _ _

theorem o_split :
    iprop(∃ f : Buf (Elt F) ((c : Thread nD τ).loc cc0_scratch4), ((c : Thread nD τ).loc cc0_scratch4) ↦{fullShare} f)
      ⊢ (bigSep Finset.univ (fun s => iprop(∃ f, oheld c s f)) : sProp 𝕄) := by
  have one : ∀ (f) (s), ((((c : Thread nD τ).loc cc0_scratch4) ↦[OS' s]{fullShare} f : sProp 𝕄)) ⊢ iprop(∃ f, oheld c s f) := fun f s => by
    iintro H; iexists f; iapply (entails_eq (oheld_eq c s f).symm); iexact H
  have key : ∀ f : Buf (Elt F) ((c : Thread nD τ).loc cc0_scratch4), (((c : Thread nD τ).loc cc0_scratch4) ↦{fullShare} f : sProp 𝕄)
      ⊢ bigSep Finset.univ (fun s => iprop(∃ f, oheld c s f)) := fun f =>
    (entails_eq (Ring.pointsTo_blocks (ℓ := (c : Thread nD τ).loc cc0_scratch4) OS' OS_disjoint OS_cover f)).trans (BI.bigSep_mono fun s _ => one f s)
  iintro ⟨%f, H⟩
  iapply (key f); iexact H
theorem o_join :
    (bigSep Finset.univ (fun s => iprop(∃ f, oheld c s f)) : sProp 𝕄)
      ⊢ iprop(∃ f : Buf (Elt F) ((c : Thread nD τ).loc cc0_scratch4), ((c : Thread nD τ).loc cc0_scratch4) ↦{fullShare} f) := by
  have one : ∀ s, iprop(∃ f, oheld c s f) ⊢ (iprop(∃ f, ((c : Thread nD τ).loc cc0_scratch4) ↦[OS' s]{fullShare} f) : sProp 𝕄) := fun s => by
    iintro ⟨%f, H⟩; iexists f; iapply (entails_eq (oheld_eq c s f)); iexact H
  exact (BI.bigSep_mono fun s _ => one s).trans (Ring.pointsTo_blocks_join_exists (ℓ := (c : Thread nD τ).loc cc0_scratch4) OS' OS_disjoint OS_cover (Memref.whole cc0_scratch4).view.junk)
/-- The ring's slots free are its cells at zero and its buffer at anything. -/
theorem o_ring (PO' : (t : Fin 128) → Buf (Elt F) ((pktile t).view.loc (c : Thread nD τ)) → Prop) :
    (OR c PO' (fun _ => .free) : sProp 𝕄) = iprop(bigSep Finset.univ (fun s => oidle (F := F) c s) ∗ bigSep Finset.univ (fun s => iprop(∃ f, oheld c s f))) :=
  BI.bigSep_sep _ _ _

theorem w_split :
    iprop(∃ f : Buf (Elt F) ((c : Thread nD τ).loc cc0_scratch5), ((c : Thread nD τ).loc cc0_scratch5) ↦{fullShare} f)
      ⊢ (bigSep Finset.univ (fun s => iprop(∃ f, wheld c s f)) : sProp 𝕄) := by
  have one : ∀ (f) (s), ((((c : Thread nD τ).loc cc0_scratch5) ↦[WS' s]{fullShare} f : sProp 𝕄)) ⊢ iprop(∃ f, wheld c s f) := fun f s => by
    iintro H; iexists f; iapply (entails_eq (wheld_eq c s f).symm); iexact H
  have key : ∀ f : Buf (Elt F) ((c : Thread nD τ).loc cc0_scratch5), (((c : Thread nD τ).loc cc0_scratch5) ↦{fullShare} f : sProp 𝕄)
      ⊢ bigSep Finset.univ (fun s => iprop(∃ f, wheld c s f)) := fun f =>
    (entails_eq (Ring.pointsTo_blocks (ℓ := (c : Thread nD τ).loc cc0_scratch5) WS' WS_disjoint WS_cover f)).trans (BI.bigSep_mono fun s _ => one f s)
  iintro ⟨%f, H⟩
  iapply (key f); iexact H
theorem w_join :
    (bigSep Finset.univ (fun s => iprop(∃ f, wheld c s f)) : sProp 𝕄)
      ⊢ iprop(∃ f : Buf (Elt F) ((c : Thread nD τ).loc cc0_scratch5), ((c : Thread nD τ).loc cc0_scratch5) ↦{fullShare} f) := by
  have one : ∀ s, iprop(∃ f, wheld c s f) ⊢ (iprop(∃ f, ((c : Thread nD τ).loc cc0_scratch5) ↦[WS' s]{fullShare} f) : sProp 𝕄) := fun s => by
    iintro ⟨%f, H⟩; iexists f; iapply (entails_eq (wheld_eq c s f)); iexact H
  exact (BI.bigSep_mono fun s _ => one s).trans (Ring.pointsTo_blocks_join_exists (ℓ := (c : Thread nD τ).loc cc0_scratch5) WS' WS_disjoint WS_cover (Memref.whole cc0_scratch5).view.junk)
/-- The ring's slots free are its cells at zero and its buffer at anything. -/
theorem w_ring (SO' : (t : Fin 128) → Buf (Elt F) ((sbtile t).view.loc (c : Thread nD τ)) → Prop) :
    (WR c SO' (fun _ => .free) : sProp 𝕄) = iprop(bigSep Finset.univ (fun s => widle (F := F) c s) ∗ bigSep Finset.univ (fun s => iprop(∃ f, wheld c s f))) :=
  BI.bigSep_sep _ _ _

/-! ## The results -/

variable (XA : Buf (Elt F) (xM.view.loc (c : Thread nD τ)))

/-- The two results, tile by tile: what tile `t` of each holds at the end, and the whole arrays. -/
def obT (t : Fin 128) : S256x2048.Idx → Elt F .i8 := obV v181K ppK (IVT c XA (SGK c XA) pmK t) (XT c XA t)
def sbT (t : Fin 128) : S256x256.Idx → Elt F .fp8e4m3 := fun j => sbV (SGK c XA) (BMT c XA pmK t) (up3 j)
def GP : S32768x2048.Idx → Elt F .i8 := fun y =>
  obT c XA ⟨(y 0).val / 256, by have h : (y 0).val < 32768 := (y 0).isLt; omega⟩ (ix2 ((y 0).val % 256) (y 1).val (Nat.mod_lt _ (by decide)) (y 1).isLt)
def GS : S32768x256.Idx → Elt F .fp8e4m3 := fun y =>
  sbT c XA ⟨(y 0).val / 256, by have h : (y 0).val < 32768 := (y 0).isLt; omega⟩ (ix2 ((y 0).val % 256) (y 1).val (Nat.mod_lt _ (by decide)) (y 1).isLt)

/-- What a tile's rows are in the array. -/
theorem rows_eq {m : ℕ} {β : Type} (T : Fin 128 → (⟨2, ![256, m]⟩ : Shape).Idx → β) (t : Fin 128) (j : (⟨2, ![256, m]⟩ : Shape).Idx) (y : (⟨2, ![32768, m]⟩ : Shape).Idx)
    (h0 : (y 0).val = 256 * t.val + (j 0).val) (h1 : (y 1).val = (j 1).val) :
    T ⟨(y 0).val / 256, by have h : (y 0).val < 32768 := (y 0).isLt; omega⟩ (ix2 ((y 0).val % 256) (y 1).val (Nat.mod_lt _ (by decide)) (y 1).isLt) = T t j := by
  have hj : (j 0).val < 256 := (j 0).isLt
  have ht := t.isLt
  refine congr (congrArg T (Fin.ext ?_)) (funext fun a => Fin.ext ?_)
  · show (y 0).val / 256 = t.val; omega
  · match a with
    | 0 => show (y 0).val % 256 = (j 0).val; omega
    | 1 => exact h1

section Reads
attribute [local irreducible] obT sbT

theorem GP_at (t : Fin 128) (j : S256x2048.Idx) (y : S32768x2048.Idx) (h0 : (y 0).val = 256 * t.val + (j 0).val) (h1 : (y 1).val = (j 1).val) :
    GP c XA y = obT c XA t j := rows_eq (obT c XA) t j y h0 h1
theorem GP_read (t : Fin 128) : (pktile t).view.read (Elt F) (GP c XA) = obT c XA t :=
  funext fun (j : S256x2048.Idx) => GP_at c XA t j ((pktile t).view.emb j)
    (by show 256 * t.val + 1 * (j 0).val = 256 * t.val + (j 0).val; omega) (by show 0 + 1 * (j 1).val = (j 1).val; omega)
theorem GS_at (t : Fin 128) (j : S256x256.Idx) (y : S32768x256.Idx) (h0 : (y 0).val = 256 * t.val + (j 0).val) (h1 : (y 1).val = (j 1).val) :
    GS c XA y = sbT c XA t j := rows_eq (sbT c XA) t j y h0 h1
theorem GS_read (t : Fin 128) : (sbtile t).view.read (Elt F) (GS c XA) = sbT c XA t :=
  funext fun (j : S256x256.Idx) => GS_at c XA t j ((sbtile t).view.emb j)
    (by show 256 * t.val + 1 * (j 0).val = 256 * t.val + (j 0).val; omega) (by show 0 + 1 * (j 1).val = (j 1).val; omega)
end Reads

theorem pkheld_eq (t : Fin 128) (f) : pkheld c t f = (((c : Thread nD τ).loc main_v1_0) ↦[PT' t]{fullShare} f : sProp 𝕄) :=
  congrArg (fun S => (_ ↦[S]{fullShare} f : sProp 𝕄)) (pktile_set t)
theorem pk_split (f : Buf (Elt F) ((c : Thread nD τ).loc main_v1_0)) :
    (((c : Thread nD τ).loc main_v1_0) ↦{fullShare} f : sProp 𝕄) ⊢ PR c (POK c XA) (fun _ => .todo) := by
  have one : ∀ s, ((((c : Thread nD τ).loc main_v1_0) ↦[PT' s]{fullShare} f : sProp 𝕄)) ⊢ iprop(∃ f, pkheld c s f) := fun s => by
    iintro H; iexists f; iapply (entails_eq (pkheld_eq c s f).symm); iexact H
  exact (entails_eq (Ring.pointsTo_blocks (ℓ := (c : Thread nD τ).loc main_v1_0) PT' PT_disjoint PT_cover f)).trans (BI.bigSep_mono fun s _ => one s)
theorem pk_join :
    PR c (POK c XA) (fun _ => .done) ⊢ (((c : Thread nD τ).loc main_v1_0) ↦{fullShare} GP c XA : sProp 𝕄) := by
  have one : ∀ t, iprop(∃ g, ⌜POK c XA t g⌝ ∗ pkheld c t g) ⊢ (((c : Thread nD τ).loc main_v1_0) ↦[PT' t]{fullShare} GP c XA : sProp 𝕄) := fun t => by
    iintro ⟨%g, %hg, H⟩
    iapply (entails_eq (pkheld_eq c t (GP c XA)))
    have e : pkheld c t g = pkheld c t (GP c XA) :=
      (pointsTo_rep (c : Thread nD τ) (pktile t) g fullShare).trans
        ((congrArg (fun X => ((pktile t).view.loc (c : Thread nD τ) ↦[(pktile t).view.set]{fullShare} (pktile t).view.rep X : sProp 𝕄)) (hg.trans (GP_read c XA t).symm)).trans
          (pointsTo_rep (c : Thread nD τ) (pktile t) (GP c XA) fullShare).symm)
    iapply (entails_eq e); iexact H
  exact (BI.bigSep_mono fun t _ => one t).trans (entails_eq (Ring.pointsTo_blocks (ℓ := (c : Thread nD τ).loc main_v1_0) PT' PT_disjoint PT_cover (GP c XA)).symm)

theorem sbheld_eq (t : Fin 128) (f) : sbheld c t f = (((c : Thread nD τ).loc main_v1_1) ↦[ST' t]{fullShare} f : sProp 𝕄) :=
  congrArg (fun S => (_ ↦[S]{fullShare} f : sProp 𝕄)) (sbtile_set t)
theorem sb_split (f : Buf (Elt F) ((c : Thread nD τ).loc main_v1_1)) :
    (((c : Thread nD τ).loc main_v1_1) ↦{fullShare} f : sProp 𝕄) ⊢ SR c (SOK c XA) (fun _ => .todo) := by
  have one : ∀ s, ((((c : Thread nD τ).loc main_v1_1) ↦[ST' s]{fullShare} f : sProp 𝕄)) ⊢ iprop(∃ f, sbheld c s f) := fun s => by
    iintro H; iexists f; iapply (entails_eq (sbheld_eq c s f).symm); iexact H
  exact (entails_eq (Ring.pointsTo_blocks (ℓ := (c : Thread nD τ).loc main_v1_1) ST' ST_disjoint ST_cover f)).trans (BI.bigSep_mono fun s _ => one s)
theorem sb_join :
    SR c (SOK c XA) (fun _ => .done) ⊢ (((c : Thread nD τ).loc main_v1_1) ↦{fullShare} GS c XA : sProp 𝕄) := by
  have one : ∀ t, iprop(∃ g, ⌜SOK c XA t g⌝ ∗ sbheld c t g) ⊢ (((c : Thread nD τ).loc main_v1_1) ↦[ST' t]{fullShare} GS c XA : sProp 𝕄) := fun t => by
    iintro ⟨%g, %hg, H⟩
    iapply (entails_eq (sbheld_eq c t (GS c XA)))
    have e : sbheld c t g = sbheld c t (GS c XA) :=
      (pointsTo_rep (c : Thread nD τ) (sbtile t) g fullShare).trans
        ((congrArg (fun X => ((sbtile t).view.loc (c : Thread nD τ) ↦[(sbtile t).view.set]{fullShare} (sbtile t).view.rep X : sProp 𝕄)) (hg.trans (GS_read c XA t).symm)).trans
          (pointsTo_rep (c : Thread nD τ) (sbtile t) (GS c XA) fullShare).symm)
    iapply (entails_eq e); iexact H
  exact (BI.bigSep_mono fun t _ => one t).trans (entails_eq (Ring.pointsTo_blocks (ℓ := (c : Thread nD τ).loc main_v1_1) ST' ST_disjoint ST_cover (GS c XA)).symm)

end Split

end Cert.Proof.KI

end
-- ==== Proof.Ideal.Launch.lean ====
/-
  The launch: the region's proof data, the body's obligation, and the run of the whole program. It ends with the two
  arrays left in place at what their tiles hold, the staged scalar at the global scale, and every counter at zero.
-/
module

public import proofs.«01_k».proof.Proof.Ideal.Split
public import proofs.«01_k».proof.Proof.Gen.KernelIdeal.Frame
public import Idealize.ShloMosaic.Lib.Pipeline.FrameSuffixV

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ
attribute [local irreducible] tl s18 s2

open Idealize.ShloMosaic.Pipeline (Dat Cfg Window BodyObligation cellOf)
open Idealize.ShloMosaic.Rounds

/-! ## The kernel's own semaphores -/

/-- The 18 cells of the operand's ring, the two of the packed ring, the two of the scales' ring. -/
abbrev osem : Fin 18 ⊕ Fin 2 ⊕ Fin 2 → SemLoc sig := fun k => match k with
  | .inl s => .dma (xcell s).sem
  | .inr (.inl s) => .dma (ocell s).sem
  | .inr (.inr s) => .dma (wcell s).sem
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(bigSep Finset.univ (fun s => xidle (F := F) c s) ∗ bigSep Finset.univ (fun s => oidle (F := F) c s) ∗ bigSep Finset.univ (fun s => widle (F := F) c s)) := by
  unfold Pipeline.ownSems0
  rw [BI.bigSep_univ_sum, BI.bigSep_univ_sum]; rfl

section Launch

variable (m : (ℓ : Loc nD τ sig) → Buf (Elt F) ℓ) (ρ : Dev nD → PrngReg)

/-! ## The region's proof data -/

/-- The operand's rows as the region finds them. -/
abbrev XA (c : Dev nD) : Buf (Elt F) (xM.view.loc (c : Thread nD τ)) := V m c main_v0

abbrev st0 (t : Fin cfg0.N) : Memref sig .tc .smem S1x1 .f32 := win0_0.stage (cfg0.slots t 0)
abbrev hst0 (t : Fin cfg0.N) : (st0 t).IsWhole := hstage0_0 0

def dats (_ : Fin 1) (c : Dev nD) : Dat τ (Elt F) Unit ℕ (UU nD τ) ℕ cfg0 c where
  A w := V m c (Pipeline.arrRef spec0 w)
  after w t := match w with
    | ⟨0, _⟩ => fun _ => SGK c (XA m c)
  Φ i := PRE c (XA m c) (POK c (XA m c)) (SOK c (XA m c)) (if i.val = 0 then .todo else .done)
  q _ := fullShare
  owed _ := 0

theorem after_w0 (c : Dev nD) (t : Fin cfg0.N) : (dats m 0 c).after 0 t = fun _ => SGK c (XA m c) := by dsimp only [dats]

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

theorem dat_start (c : Dev nD) (t : Fin cfg0.N) : (dats m 0 c).Φ t.castSucc = PRE c (XA m c) (POK c (XA m c)) (SOK c (XA m c)) .todo := by
  have h : t.castSucc.val = 0 := by rw [fin_N0 t]; rfl
  dsimp only [dats]; rw [if_pos h]
theorem dat_end (c : Dev nD) (t : Fin cfg0.N) : (dats m 0 c).Φ t.succ = PRE c (XA m c) (POK c (XA m c)) (SOK c (XA m c)) .done := by
  dsimp only [dats]; rw [if_neg (by simp)]

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0]
  rw [dat_start, dat_end]
  unfold Dat.owesAt Pipeline.owesWithin
  rw [show (dats m 0 c).owed t.castSucc = 0 from rfl, show (dats m 0 c).owed t.succ = 0 from rfl]
  unfold owns
  iintro ⟨Hp, ⟨%W, -, HW⟩, ⟨%d0, %g0, -, H0⟩⟩
  sl_rw [prog_eq t]
  iapply (bodyRun c (XA m c) (st0 t) (hst0 t) g0 W)
  isplitl [Hp H0 HW]
  · isplitl [Hp]; · iexact Hp
    isplitl [H0]; · iexact H0
    iexact HW
  · iintro ⟨Hp, ⟨%g, %hg, H0⟩, ⟨%W', HW⟩⟩
    isplitl [Hp]; · iexact Hp
    isplitl [HW]
    · iexists W'; isplitr; · ipureintro; exact fun _ _ => Or.inl trivial
      iexact HW
    iexists g; isplitr; · ipureintro; exact hg
    iexact H0

/-! ## Into the region and out of it -/

/-- What the two arrays hold after the region; elsewhere as launched. -/
def GA (c : Dev nD) : (b : Ref sig .tc) → Buf (Elt F) ((c : Thread nD τ).loc b) :=
  Function.update (Function.update (V m c) main_v1_0 (GP c (XA m c))) main_v1_1 (GS c (XA m c))
theorem GA_pk (c : Dev nD) : GA m c main_v1_0 = GP c (XA m c) := by
  unfold GA; rw [Function.update_of_ne (by decide), Function.update_self]
theorem GA_sb (c : Dev nD) : GA m c main_v1_1 = GS c (XA m c) := by
  unfold GA; rw [Function.update_self]

abbrev HH : Finset (Ref sig .tc) := {main_v0}
abbrev RR : Finset (Ref sig .tc) := {main_v1_0, main_v1_1}

theorem two_refs (Φ : Ref sig .tc → sProp 𝕄) : bigSep RR Φ = iprop(Φ main_v1_0 ∗ Φ main_v1_1) := by
  rw [bigSep_insert (by decide), bigSep_singleton]; rfl

/-- The scratch that is neither ring nor table, as whole buffers. -/
theorem scr_eq (c : Dev nD) : (SCR c : sProp 𝕄) = iprop(
    (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)) := by
  unfold SCR held
  rw [show bmM.view.set = Finset.univ from View.set_whole _, show btM.view.set = Finset.univ from View.set_whole _, show ivM.view.set = Finset.univ from View.set_whole _,
    show acM.view.set = Finset.univ from View.set_whole _, show pmM.view.set = Finset.univ from View.set_whole _, show ppM.view.set = Finset.univ from View.set_whole _]

theorem hin (c : Dev nD) : Pipeline.ΦDRV osem spec0 HH RR (V m) (V m) c ⊢ (dats m 0 c).Φ 0 := by
  rw [show (dats m 0 c).Φ 0 = PRE c (XA m c) (POK c (XA m c)) (SOK c (XA m c)) .todo from rfl]
  unfold Pipeline.ΦDRV PRE
  rw [scopedRest0_eq, ownSems0_eq, bigSep_singleton, two_refs, x_ring, o_ring, w_ring, scr_eq, ← x_home]
  iintro ⟨⟨B0, B1, B2, B3, B4, B5, B6, B7, B8⟩, ⟨Sx, So, Sw⟩, HX, HP, HS⟩
  isplitl [B0 Sx]
  · isplitl [Sx]; · iexact Sx
    iapply (x_split c); iexact B0
  isplitl [HX]; · iexact HX
  isplitl [B4 So]
  · isplitl [So]; · iexact So
    iapply (o_split c); iexact B4
  isplitl [HP]; · iapply (pk_split c (XA m c) _); iexact HP
  isplitl [B5 Sw]
  · isplitl [Sw]; · iexact Sw
    iapply (w_split c); iexact B5
  isplitl [HS]; · iapply (sb_split c (XA m c) _); iexact HS
  isplitl [B1]; · iexact B1
  isplitl [B2]; · iexact B2
  isplitl [B3]; · iexact B3
  isplitl [B6]; · iexact B6
  isplitl [B7]; · iexact B7
  iexact B8

theorem hout (c : Dev nD) : (dats m 0 c).Φ (Fin.last cfg0.N) ⊢ Pipeline.ΦDRV osem spec0 HH RR (V m) (GA m) c := by
  rw [show (dats m 0 c).Φ (Fin.last cfg0.N) = PRE c (XA m c) (POK c (XA m c)) (SOK c (XA m c)) .done from dat_end m c t0_0]
  unfold Pipeline.ΦDRV PRE
  rw [scopedRest0_eq, ownSems0_eq, bigSep_singleton, two_refs, x_ring, o_ring, w_ring, scr_eq, ← x_home, GA_pk, GA_sb]
  iintro ⟨⟨Sx, B0⟩, HX, ⟨So, B4⟩, HP, ⟨Sw, B5⟩, HS, ⟨B1, B2, B3, B6, B7, B8⟩⟩
  isplitl [B0 B1 B2 B3 B4 B5 B6 B7 B8]
  · isplitl [B0]; · iapply (x_join c); iexact B0
    isplitl [B1]; · iexact B1
    isplitl [B2]; · iexact B2
    isplitl [B3]; · iexact B3
    isplitl [B4]; · iapply (o_join c); iexact B4
    isplitl [B5]; · iapply (w_join c); iexact B5
    isplitl [B6]; · iexact B6
    isplitl [B7]; · iexact B7
    iexact B8
  isplitl [Sx So Sw]
  · isplitl [Sx]; · iexact Sx
    isplitl [So]; · iexact So
    iexact Sw
  isplitl [HX]; · iexact HX
  isplitl [HP]; · iapply (pk_join c (XA m c)); iexact HP
  iapply (sb_join c (XA m c)); iexact HS

/-! ## The run -/

set_option maxHeartbeats 800000 in
theorem hmainD : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What an unscoped buffer holds at the end: the lines after the region run from the region's results. -/
def endV (c : Dev nD) : Valuation τ sig (Elt F) :=
  StableHlo.after (List.flatten [hostOps1]) (Pipeline.withArrays spec0 c (Pipeline.withR (V0 m c) RR c (GA m c)) fun w => (dats m 0 c).arrAt w cfg0.N)

set_option backward.isDefEq.respectTransparency.types false in
set_option maxHeartbeats 1600000 in
theorem run_main : θ_run defs (onTc (τ := τ) (main (F := F))) (s₀ m ρ)
    (fun r => (∀ c : Dev nD, ∀ b ∈ Pipeline.restRefs sig spec0, r.2.mem ((c : Thread nD τ).loc b) = endV m c (Proc.devRef .tc b)) ∧ r.2.sem = fun _ => 0) :=
  Pipeline.θ_run_frame_dmaR_aroundV cfgs (dats m) (0 : Fin 1) launch0 osem defs₀ 𝒱₀ ownSemFacts HH RR (by decide) (by decide) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := GA m) (hmain := hmainD m) (hA := fun _ _ => rfl) (hin := hin m) (hout := hout m)
    (Q' := _) (hQ' := fun _ h => ⟨fun c => (h.1 c).2, h.2⟩)

end Launch

end Cert.Proof.KI

end
-- ==== Proof.Ideal.Ends.lean ====
/-
  What the whole program leaves: the operand as launched, the two arrays of results reshaped, the global scale as a scalar,
  every counter at zero.
-/
module

public import proofs.«01_k».proof.Proof.Ideal.Launch

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ
attribute [local irreducible] tl s18 s2

open Idealize.ShloMosaic.Pipeline (Dat Cfg Window BodyObligation cellOf)
open Idealize.ShloMosaic.Rounds

section Ends

variable (m : (ℓ : Loc nD τ sig) → Buf (Elt F) ℓ) (ρ : Dev nD → PrngReg)

/-- The operand's rows: its first two axes as one. -/
theorem XA_eq (c : Dev nD) : XA m c = shapeCast S32768x4096 (m ((c : Thread nD τ).loc main_arg0)) shapeCasts_S16x2048x4096_S32768x4096 := by
  show StableHlo.after (List.flatten [hostOps0]) (fun b => m (c, b)) (Proc.devRef .tc main_v0) = _
  simp only [hostOps0, List.flatten_cons, List.flatten_nil, List.append_nil, StableHlo.after_cons, StableHlo.after_nil]
  rw [StableHlo.reshape_result]; rfl

theorem one_eq (x y : S1x1.Idx) : x = y := funext fun a => by fin_cases a <;> exact Subsingleton.elim (α := Fin 1) _ _

theorem flushed_w0 (c : Dev nD) (t : Fin cfg0.N) : (dats m 0 c).flushed 0 t = fun _ => SGK c (XA m c) := rfl

/-- The staged scalar's array at the end. -/
theorem arr_w0 (c : Dev nD) : (dats m 0 c).arrAt 0 cfg0.N = fun _ => SGK c (XA m c) :=
  (dats m 0 c).arrAt_eq_of_cover 0 (fun _ => SGK c (XA m c)) (fun t _ => rfl)
    (fun i => ⟨t0_0, rfl, one_eq ((((cfg0.win 0).blk t0_0).view.emb (show ((cfg0.win 0).xblock (cfg0.grid.coords t0_0)).Idx from (ix2 0 0 (by decide) (by decide) : S1x1.Idx)) : S1x1.Idx)) i ▸ View.emb_mem_set _ _⟩)

/-- Before the lines after the region, a reference's contents. -/
def exitV (c : Dev nD) : Valuation τ sig (Elt F) :=
  Pipeline.withArrays spec0 c (Pipeline.withR (V0 m c) RR c (GA m c)) fun w => (dats m 0 c).arrAt w cfg0.N

theorem exit_pk (c : Dev nD) : exitV m c (Proc.devRef .tc main_v1_0) = GP c (XA m c) :=
  (Pipeline.withArrays_of_ne spec0 c _ _ main_v1_0 (by decide)).trans ((Pipeline.withR_of_mem _ RR c (GA m c) main_v1_0 (by decide)).trans (GA_pk m c))
theorem exit_sb (c : Dev nD) : exitV m c (Proc.devRef .tc main_v1_1) = GS c (XA m c) :=
  (Pipeline.withArrays_of_ne spec0 c _ _ main_v1_1 (by decide)).trans ((Pipeline.withR_of_mem _ RR c (GA m c) main_v1_1 (by decide)).trans (GA_sb m c))
theorem exit_sg (c : Dev nD) : exitV m c (Proc.devRef .tc main_v1_2) = fun _ => SGK c (XA m c) :=
  (Pipeline.withArrays_arr spec0 launch0.win.arr_inj c _ _ 0).trans (arr_w0 m c)
theorem exit_arg (c : Dev nD) : exitV m c (Proc.devRef .tc main_arg0) = m ((c : Thread nD τ).loc main_arg0) :=
  (Pipeline.withArrays_of_ne spec0 c _ _ main_arg0 (by decide)).trans ((Pipeline.withR_of_not_mem _ RR c (GA m c) main_arg0 (by decide)).trans (V_main_arg0 m c))

theorem after_ops (W : Valuation τ sig (Elt F)) :
    StableHlo.after (List.flatten [hostOps1]) W (Proc.devRef .tc main_arg0) = W (Proc.devRef .tc main_arg0)
    ∧ StableHlo.after (List.flatten [hostOps1]) W (Proc.devRef .tc main_v2) = shapeCast S16x2048x2048 (W (Proc.devRef .tc main_v1_0)) shapeCasts_S32768x2048_S16x2048x2048
    ∧ StableHlo.after (List.flatten [hostOps1]) W (Proc.devRef .tc main_v3) = shapeCast S16x2048x256 (W (Proc.devRef .tc main_v1_1)) shapeCasts_S32768x256_S16x2048x256
    ∧ StableHlo.after (List.flatten [hostOps1]) W (Proc.devRef .tc main_v4) = shapeCast S_ (W (Proc.devRef .tc main_v1_2)) shapeCasts_S1x1_S_ := by
  simp only [hostOps1, List.flatten_cons, List.flatten_nil, List.append_nil, StableHlo.after_cons, StableHlo.after_nil]
  refine ⟨?_, ?_, ?_, ?_⟩
  · rw [StableHlo.reshape_result_ne (h := by decide), StableHlo.reshape_result_ne (h := by decide), StableHlo.reshape_result_ne (h := by decide)]
  · rw [StableHlo.reshape_result_ne (h := by decide), StableHlo.reshape_result_ne (h := by decide), StableHlo.reshape_result]; rfl
  · rw [StableHlo.reshape_result_ne (h := by decide), StableHlo.reshape_result, StableHlo.reshape_result_ne (h := by decide)]; rfl
  · rw [StableHlo.reshape_result, StableHlo.reshape_result_ne (h := by decide), StableHlo.reshape_result_ne (h := by decide)]; rfl

/-- The three results. -/
def R2 (c : Dev nD) : Buf (Elt F) ((c : Thread nD τ).loc main_v2) := shapeCast S16x2048x2048 (GP c (XA m c)) shapeCasts_S32768x2048_S16x2048x2048
def R3 (c : Dev nD) : Buf (Elt F) ((c : Thread nD τ).loc main_v3) := shapeCast S16x2048x256 (GS c (XA m c)) shapeCasts_S32768x256_S16x2048x256
def R4 (c : Dev nD) : Buf (Elt F) ((c : Thread nD τ).loc main_v4) := fun _ => SGK c (XA m c)

theorem run_value : θ_run defs (onTc (τ := τ) (main (F := F))) ⟨m, fun _ => 0, ρ⟩ (fun r => (∀ c : Dev nD,
      r.2.mem ((c.tc : Thread nD τ).loc main_v2) = R2 m c ∧ r.2.mem ((c.tc : Thread nD τ).loc main_v3) = R3 m c
      ∧ r.2.mem ((c.tc : Thread nD τ).loc main_v4) = R4 m c ∧ r.2.mem ((c.tc : Thread nD τ).loc main_arg0) = m ((c.tc : Thread nD τ).loc main_arg0))
      ∧ r.2.sem = fun _ => 0) :=
  (θ_run defs _ _).mono (fun r h => ⟨fun c => by
    have A := after_ops (exitV m c)
    refine ⟨?_, ?_, ?_, ?_⟩
    · exact (h.1 c main_v2 (Pipeline.mem_restRefs_of main_v2 (by decide) (by decide))).trans (A.2.1.trans (by rw [exit_pk]; rfl))
    · exact (h.1 c main_v3 (Pipeline.mem_restRefs_of main_v3 (by decide) (by decide))).trans (A.2.2.1.trans (by rw [exit_sb]; rfl))
    · exact (h.1 c main_v4 (Pipeline.mem_restRefs_of main_v4 (by decide) (by decide))).trans (A.2.2.2.trans (by rw [exit_sg]; rfl))
    · exact (h.1 c main_arg0 (Pipeline.mem_restRefs_of main_arg0 (by decide) (by decide))).trans (A.1.trans (exit_arg m c)), h.2⟩)
    (run_main m ρ)

/-- The frame: the program ends, its operand unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c).2.2.2, h.2⟩) (run_value m ρ)

end Ends

end Cert.Proof.KI

end
-- ==== Proof.Value.Ker1.lean ====
/-
  The kernel's block maxima over exact numbers: the first permutation matrix reads one channel a row, and the sixteen
  rows of a block are its sixteen channels.
-/
module

public import proofs.«01_k».proof.Proof.Ideal.Body
public import Idealize.ShloMosaic.PureOps.Ideal
public import Idealize.ShloMosaic.Lib.Pointwise

@[expose] public section

set_option maxRecDepth 16384

noncomputable section

namespace Cert.Proof.KV

open Cert.KernelIdeal Cert.KernelIdeal.Gen
open Idealize.ShloMosaic
open Cert.Proof.KI (pmK ppK zb xg bmV btV accV accG accN sgV)

theorem sel_eq (a b : ℕ) (ha : a < 2 ^ 32) (hb : b < 2 ^ 32) :
    Scalar.select (IntOp.cmpi .eq (BitVec.ofNat 32 a) (BitVec.ofNat 32 b)) (1 : EReal) 0 = if a = b then 1 else 0 := by
  by_cases h : a = b
  · subst h; simp [Scalar.select, IntOp.cmpi]
  · have e : (BitVec.ofNat 32 a == BitVec.ofNat 32 b) = false := by
      refine beq_eq_false_iff_ne.mpr fun e => h ?_
      have e := congrArg BitVec.toNat e
      rwa [BitVec.toNat_ofNat, BitVec.toNat_ofNat, Nat.mod_eq_of_lt ha, Nat.mod_eq_of_lt hb] at e
    simp [Scalar.select, IntOp.cmpi, h, e]

/-- Row `16 e + b` of the first permutation matrix reads channel `16 b + e`. -/
theorem pm_at (j : S256x256.Idx) : pmK (F := Ideal) j = if (j 1).val = (j 0).val % 16 * 16 + (j 0).val / 16 then (1 : EReal) else 0 := by
  unfold pmK
  pointwise [k0_pay284, k0_pay282, k0_pay283]
  have h0 : (j 0).val < 256 := (j 0).isLt
  have h1 : (j 1).val < 256 := (j 1).isLt
  refine Eq.trans (congrArg (fun w => Scalar.select (IntOp.cmpi .eq (BitVec.ofNat 32 (j 1).val) w) (1 : EReal) 0)
    (?_ : _ = BitVec.ofNat 32 ((j 0).val % 16 * 16 + (j 0).val / 16))) (sel_eq _ _ (by omega) (by omega))
  generalize (j 0).val = n at h0 ⊢
  revert n
  decide +kernel

/-- Column `l` of the second reads channel `2 l`, column `128 + l` channel `2 l + 1`. -/
theorem pp_at (j : S256x256.Idx) : ppK (F := Ideal) j = if (j 0).val = 2 * ((j 1).val % 128) + (j 1).val / 128 then (1 : EReal) else 0 := by
  unfold ppK
  pointwise [k0_pay285, k0_pay286]
  have h0 : (j 0).val < 256 := (j 0).isLt
  have h1 : (j 1).val < 256 := (j 1).isLt
  refine Eq.trans (congrArg (fun w => Scalar.select (IntOp.cmpi .eq (BitVec.ofNat 32 (j 0).val) w) (1 : EReal) 0)
    (?_ : _ = BitVec.ofNat 32 (2 * ((j 1).val % 128) + (j 1).val / 128))) (sel_eq _ _ (by omega) (by omega))
  generalize (j 1).val = n at h1 ⊢
  revert n
  decide +kernel

theorem pay2_at (x : Vec Ideal S1x256x256 .bf16) (j : S256x256.Idx) (k : Fin 256) (hk : k.val = (j 0).val % 16 * 16 + (j 0).val / 16) :
    k0_pay2 (F := Ideal) pmK x j = x (ix3 0 (j 1) k) := by
  pointwise [k0_pay2]
  rw [Finset.sum_eq_single k]
  · exact (congrArg (· * _) ((pm_at _).trans (if_pos hk))).trans (one_mul _)
  · intro b _ hb
    exact (congrArg (· * _) ((pm_at _).trans (if_neg (fun e => hb (Fin.ext (e.trans hk.symm)))))).trans (zero_mul _)
  · intro h; exact absurd (Finset.mem_univ _) h

theorem pay92_at (x : Vec Ideal S1x256x256 .bf16) (j : S256x256.Idx) (k : Fin 256) (hk : k.val = 2 * ((j 1).val % 128) + (j 1).val / 128) :
    k0_pay92 (F := Ideal) x ppK j = x (ix3 0 (j 0) k) := by
  pointwise [k0_pay92]
  rw [Finset.sum_eq_single k]
  · exact (congrArg (_ * ·) ((pp_at _).trans (if_pos hk))).trans (mul_one _)
  · intro b _ hb
    exact (congrArg (_ * ·) ((pp_at _).trans (if_neg (fun e => hb (Fin.ext (e.trans hk.symm)))))).trans (mul_zero _)
  · intro h; exact absurd (Finset.mem_univ _) h

/-- A magnitude. -/
def ab (x : EReal) : EReal := max x (-x)

theorem zb_le (x : Vec Ideal S1x256x256 .bf16) (j : S16x256.Idx) (c : EReal) (h : (j 0).val < 16) :
    zb (F := Ideal) pmK x j ≤ c ↔ ∀ e : Fin 16, ab (x (ix3 0 (j 1) ⟨16 * (j 0).val + e.val, by have := e.isLt; omega⟩)) ≤ c := by
  unfold zb k0_pay5 k0_pay4 k0_pay3
  generalize hP : k0_pay2 (F := Ideal) pmK x = P
  pointwise
  have key : ∀ (e : Fin 16) (r : Fin 256), r.val = 16 * e.val + (j 0).val →
      FloatOps.absf (F := Ideal) (φ := .f32) (P (ix2 r (j 1))) = ab (x (ix3 0 (j 1) ⟨16 * (j 0).val + e.val, by have := e.isLt; omega⟩)) := by
    intro e r hr
    have he := e.isLt
    subst hP
    refine congrArg ab (pay2_at x (ix2 r (j 1)) ⟨16 * (j 0).val + e.val, by omega⟩ ?_)
    show 16 * (j 0).val + e.val = r.val % 16 * 16 + r.val / 16
    omega
  rw [key 0 ⟨(j 0).val, by omega⟩ (by show (j 0).val = 16 * 0 + (j 0).val; omega), key 1 ⟨16 + (j 0).val, by omega⟩ (by rfl), key 2 ⟨32 + (j 0).val, by omega⟩ (by rfl), key 3 ⟨48 + (j 0).val, by omega⟩ (by rfl), key 4 ⟨64 + (j 0).val, by omega⟩ (by rfl), key 5 ⟨80 + (j 0).val, by omega⟩ (by rfl), key 6 ⟨96 + (j 0).val, by omega⟩ (by rfl), key 7 ⟨112 + (j 0).val, by omega⟩ (by rfl), key 8 ⟨128 + (j 0).val, by omega⟩ (by rfl), key 9 ⟨144 + (j 0).val, by omega⟩ (by rfl), key 10 ⟨160 + (j 0).val, by omega⟩ (by rfl), key 11 ⟨176 + (j 0).val, by omega⟩ (by rfl), key 12 ⟨192 + (j 0).val, by omega⟩ (by rfl), key 13 ⟨208 + (j 0).val, by omega⟩ (by rfl), key 14 ⟨224 + (j 0).val, by omega⟩ (by rfl), key 15 ⟨240 + (j 0).val, by omega⟩ (by rfl)]
  simp only [max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ e
    fin_cases e
    · exact h0
    · exact h1
    · exact h2
    · exact h3
    · exact h4
    · exact h5
    · exact h6
    · exact h7
    · exact h8
    · exact h9
    · exact h10
    · exact h11
    · exact h12
    · exact h13
    · exact h14
    · exact h15
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

end Cert.Proof.KV

end
-- ==== Proof.Value.Consts.lean ====
module

public import proofs.«01_k».proof.Proof.Ideal.Body
public import Idealize.ShloMosaic.PureOps.Ideal.Laws
public import Idealize.ShloMosaic.Lib.Pointwise

@[expose] public section

set_option maxRecDepth 16384

noncomputable section

namespace Cert.Proof.KV
open Idealize.ShloMosaic
theorem c0 : Ideal.ofBits .f32 0x00000000#32 = ((0 : ℝ) : EReal) := by simp [Ideal.ofBits, Ideal.ieee]
theorem c25 : Ideal.ofBits .f32 0x3E800000#32 = ((1/4 : ℝ) : EReal) := by simp [Ideal.ofBits, Ideal.ieee, -EReal.coe_mul]; norm_num
theorem c50 : Ideal.ofBits .f32 0x3F000000#32 = ((1/2 : ℝ) : EReal) := by simp [Ideal.ofBits, Ideal.ieee, -EReal.coe_mul]; norm_num
theorem c75 : Ideal.ofBits .f32 0x3F400000#32 = ((3/4 : ℝ) : EReal) := by simp [Ideal.ofBits, Ideal.ieee, -EReal.coe_mul]; norm_num
theorem c100 : Ideal.ofBits .f32 0x3F800000#32 = ((1 : ℝ) : EReal) := by simp [Ideal.ofBits, Ideal.ieee, -EReal.coe_mul]; norm_num
theorem c125 : Ideal.ofBits .f32 0x3FA00000#32 = ((5/4 : ℝ) : EReal) := by simp [Ideal.ofBits, Ideal.ieee, -EReal.coe_mul]; norm_num
theorem c150 : Ideal.ofBits .f32 0x3FC00000#32 = ((3/2 : ℝ) : EReal) := by simp [Ideal.ofBits, Ideal.ieee, -EReal.coe_mul]; norm_num
theorem c175 : Ideal.ofBits .f32 0x3FE00000#32 = ((7/4 : ℝ) : EReal) := by simp [Ideal.ofBits, Ideal.ieee, -EReal.coe_mul]; norm_num
theorem c200 : Ideal.ofBits .f32 0x40000000#32 = ((2 : ℝ) : EReal) := by simp [Ideal.ofBits, Ideal.ieee, -EReal.coe_mul]; norm_num
theorem c250 : Ideal.ofBits .f32 0x40200000#32 = ((5/2 : ℝ) : EReal) := by simp [Ideal.ofBits, Ideal.ieee, -EReal.coe_mul]; norm_num
theorem c300 : Ideal.ofBits .f32 0x40400000#32 = ((3 : ℝ) : EReal) := by simp [Ideal.ofBits, Ideal.ieee, -EReal.coe_mul]; norm_num
theorem c350 : Ideal.ofBits .f32 0x40600000#32 = ((7/2 : ℝ) : EReal) := by simp [Ideal.ofBits, Ideal.ieee, -EReal.coe_mul]; norm_num
theorem c400 : Ideal.ofBits .f32 0x40800000#32 = ((4 : ℝ) : EReal) := by simp [Ideal.ofBits, Ideal.ieee, -EReal.coe_mul]; norm_num
theorem c500 : Ideal.ofBits .f32 0x40A00000#32 = ((5 : ℝ) : EReal) := by simp [Ideal.ofBits, Ideal.ieee, -EReal.coe_mul]; norm_num
theorem c600 : Ideal.ofBits .f32 0x40C00000#32 = ((6 : ℝ) : EReal) := by simp [Ideal.ofBits, Ideal.ieee, -EReal.coe_mul]; norm_num
theorem c2688 : Ideal.ofBits .f32 0x45280000#32 = ((2688 : ℝ) : EReal) := by simp [Ideal.ofBits, Ideal.ieee, -EReal.coe_mul]; norm_num
theorem cinf : Ideal.ofBits .f32 0xFF800000#32 = (⊥ : EReal) := by simp [Ideal.ofBits, Ideal.ieee]
end Cert.Proof.KV
end
-- ==== Proof.Value.Ker2.lean ====
/-
  The running maximum and the global scale over exact numbers.
-/
module

public import proofs.«01_k».proof.Proof.Value.Ker1
public import proofs.«01_k».proof.Proof.Value.Consts

@[expose] public section

set_option maxRecDepth 16384

noncomputable section

namespace Cert.Proof.KV

open Cert.KernelIdeal Cert.KernelIdeal.Gen
open Idealize.ShloMosaic
open Cert.Proof.KI (pmK ppK zb xg bmV btV accV accG accN sgV tl XT)

/-- An element of a tile. -/
abbrev at2 {n m : ℕ} (X : (⟨2, ![n, m]⟩ : Shape).Idx → EReal) (r d : ℕ) (hr : r < n) (hd : d < m) : EReal := X (Cert.Proof.KI.ix2 r d hr hd)

theorem zbx_le (X : S256x4096.Idx → Elt Ideal .bf16) (g : Fin 16) (j : S16x256.Idx) (c : EReal) (h0 : (j 0).val < 16) (h1 : (j 1).val < 256) :
    zb (F := Ideal) pmK (xg X g) j ≤ c ↔ ∀ e : Fin 16, ab (at2 X (j 1).val (256 * g.val + (16 * (j 0).val + e.val)) h1 (by have := g.isLt; have := e.isLt; omega)) ≤ c :=
  zb_le (xg X g) j c h0

theorem bmV_le (X : S256x4096.Idx → Elt Ideal .bf16) (i : S1x256x256.Idx) (c : EReal) (h1 : (i 1).val < 256) (h2 : (i 2).val < 256) :
    bmV (F := Ideal) pmK X i ≤ c ↔ ∀ e : Fin 16, ab (at2 X (i 1).val (16 * (i 2).val + e.val) h1 (by have := e.isLt; omega)) ≤ c := by
  have e1 : bmV (F := Ideal) pmK X i = btV pmK X (ix3 0 ⟨(i 2).val, h2⟩ ⟨(i 1).val, h1⟩) := by
    unfold bmV
    generalize btV (F := Ideal) pmK X = B
    pointwise [k0_pay1]
  rw [e1]
  unfold btV
  rw [zbx_le X _ _ c (Nat.mod_lt _ (by decide)) h1]
  refine forall_congr' fun e => ?_
  have he : 256 * ((i 2).val / 16) + (16 * ((i 2).val % 16) + e.val) = 16 * (i 2).val + e.val := by omega
  simp only [at2]
  refine Iff.of_eq (congrArg (fun y => ab (X y) ≤ c) ?_)
  funext a
  match a with
  | 0 => rfl
  | 1 => exact Fin.ext he

theorem accN_le (X : S256x4096.Idx → Elt Ideal .bf16) (a : FVec Ideal S16x256 .f32) (j : S16x256.Idx) (c : EReal) : (n : ℕ) → (h : n ≤ 16) →
    (accN (F := Ideal) pmK X a n h j ≤ c ↔ a j ≤ c ∧ ∀ g : Fin 16, g.val < n → zb (F := Ideal) pmK (xg X g) j ≤ c)
  | 0, h => ⟨fun ha => ⟨ha, fun g hg => absurd hg (Nat.not_lt_zero _)⟩, fun ha => ha.1⟩
  | n + 1, h => by
    have ih := accN_le X a j c n (Nat.le_of_succ_le h)
    show max (accN (F := Ideal) pmK X a n _ j) (zb (F := Ideal) pmK (xg X ⟨n, h⟩) j) ≤ c ↔ _
    rw [max_le_iff, ih]
    constructor
    · rintro ⟨⟨h1, h2⟩, h3⟩
      refine ⟨h1, fun g hg => ?_⟩
      rcases Nat.lt_succ_iff_lt_or_eq.mp hg with hl | he
      · exact h2 g hl
      · have : g = ⟨n, h⟩ := Fin.ext he
        rw [this]; exact h3
    · rintro ⟨h1, h2⟩
      exact ⟨⟨h1, fun g hg => h2 g (Nat.lt_succ_of_lt hg)⟩, h2 ⟨n, h⟩ (Nat.lt_succ_self n)⟩

theorem accV_le (X : Fin 128 → S256x4096.Idx → Elt Ideal .bf16) (j : S16x256.Idx) (c : EReal) : (n : ℕ) →
    (accV (F := Ideal) pmK X n j ≤ c ↔ 0 ≤ c ∧ ∀ k, k < n → ∀ g : Fin 16, zb (F := Ideal) pmK (xg (X (tl k)) g) j ≤ c)
  | 0 => by
    have e : accV (F := Ideal) pmK X 0 j = 0 := by
      show k0_pay287 (F := Ideal) j = 0
      pointwise [k0_pay287]
    rw [e]
    exact ⟨fun ha => ⟨ha, fun k hk => absurd hk (Nat.not_lt_zero _)⟩, fun ha => ha.1⟩
  | n + 1 => by
    have ih := accV_le X j c n
    show accN (F := Ideal) pmK (X (tl n)) (accV pmK X n) 16 le_rfl j ≤ c ↔ _
    rw [accN_le, ih]
    constructor
    · rintro ⟨⟨h1, h2⟩, h3⟩
      refine ⟨h1, fun k hk g => ?_⟩
      rcases Nat.lt_succ_iff_lt_or_eq.mp hk with hl | he
      · exact h2 k hl g
      · rw [he]; exact h3 g g.isLt
    · rintro ⟨h1, h2⟩
      exact ⟨⟨h1, fun k hk => h2 k (Nat.lt_succ_of_lt hk)⟩, fun g _ => h2 n (Nat.lt_succ_self n) g⟩

theorem named_at : (Named.named Cert.KernelIdeal.κ "inv_2688" 969083953#32 : Ideal .f32) = ((1 / 2688 : ℝ) : EReal) :=
  IdealRules.named_const.ideal_named_scalar Cert.KernelIdeal.κ "inv_2688" _ _ rfl

/-- The largest entry of the running maximum. -/
def amaxK (a : FVec Ideal S16x256 .f32) : EReal :=
  Finset.fold max (Ideal.ofBits .f32 4286578688#32) (fun x : Fin 16 × Fin 256 => a (ix2 x.1 x.2)) Finset.univ

theorem pay291_at (a : FVec Ideal S16x256 .f32) : k0_pay291 (F := Ideal) a = if 0 < amaxK a then amaxK a * ((1 / 2688 : ℝ) : EReal) else 1 := by
  rw [← named_at]
  unfold k0_pay291
  pointwise
  rfl

theorem XT_at (A : FVec Ideal S16x2048x4096 .bf16) (c : Dev nD) (t : Fin 128) (r d : ℕ) (hr : r < 256) (hd : d < 4096) :
    XT (F := Ideal) c (shapeCast S32768x4096 A shapeCasts_S16x2048x4096_S32768x4096) t (Cert.Proof.KI.ix2 r d hr hd)
      = A (ix3 ⟨(256 * t.val + r) / 2048, by omega⟩ ⟨(256 * t.val + r) % 2048, by omega⟩ ⟨d, hd⟩) := by
  show shapeCast S32768x4096 A shapeCasts_S16x2048x4096_S32768x4096 ((Cert.Proof.KI.xtile t).view.emb (Cert.Proof.KI.ix2 r d hr hd)) = _
  have e : @Eq S32768x4096.Idx ((Cert.Proof.KI.xtile t).view.emb (Cert.Proof.KI.ix2 r d hr hd)) (ix2 ⟨256 * t.val + r, by omega⟩ ⟨d, hd⟩) := by
    refine funext fun (a : Fin 2) => ?_
    match a with
    | 0 => exact Fin.ext (show 256 * t.val + 1 * r = 256 * t.val + r by omega)
    | 1 => exact Fin.ext (show 0 + 1 * d = d by omega)
  rw [e]
  pointwise

end Cert.Proof.KV

end
-- ==== Proof.Value.RefRun.lean ====
/-
  What the reference program leaves: its three results as terms over the operand, read off its lines of host operations
  and the one region between them.
-/
module

public import proofs.«01_k».proof.Proof.Gen.ReferenceIdeal.Frame
public import Idealize.ShloMosaic.Lib.Pipeline.ValueKit
public import Idealize.ShloMosaic.Lib.StableHlo.RunRead
public import Idealize.ShloMosaic.PureOps.Ideal
public import Idealize.ShloMosaic.Lib.Tactic.CleanTypes

@[expose] public section

set_option maxRecDepth 16384

noncomputable section

namespace Cert.Proof.R

open Cert.ReferenceIdeal Cert.ReferenceIdeal.Gen
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (ρ : Dev nD → PrngReg)

/-! ## The results as terms -/

def rX (a : FVec Ideal S16x2048x4096 .bf16) : FVec Ideal S16x2048x4096 .f32 := extf .f32 a bitsLt_bf16_f32
/-- The largest magnitude. -/
def rMax (x : FVec Ideal S16x2048x4096 .f32) : FVec Ideal S_ .f32 :=
  Host.reduce FloatOps.maximumf (Host.absf x) (constant S_ .f32 0xFF800000#32) reducesTo_S16x2048x4096_S_d0_1_2 h_S_
/-- The global scale. -/
def rSg (mx : FVec Ideal S_ .f32) : FVec Ideal S_ .f32 :=
  select (cmpf .ogt mx (constant S_ .f32 0x00000000#32)) (Host.divf mx (constant S_ .f32 0x45280000#32)) (constant S_ .f32 0x3F800000#32)
/-- The operand in blocks of sixteen. -/
def rX4 (x : FVec Ideal S16x2048x4096 .f32) : FVec Ideal S16x2048x256x16 .f32 :=
  shapeCast S16x2048x256x16 x shapeCasts_S16x2048x4096_S16x2048x256x16
/-- The block scales before rounding. -/
def rSc (x4 : FVec Ideal S16x2048x256x16 .f32) (sg : FVec Ideal S_ .f32) : FVec Ideal S16x2048x256 .f32 :=
  minimumf (broadcastInDim S16x2048x256 ![] bcast_S_S16x2048x256 (constant S_ .f32 0x43E00000#32))
    (maximumf (broadcastInDim S16x2048x256 ![] bcast_S_S16x2048x256 (constant S_ .f32 0x00000000#32))
      (Host.divf (Host.reduce FloatOps.maximumf (Host.absf x4) (constant S_ .f32 0xFF800000#32) reducesTo_S16x2048x256x16_S16x2048x256_d3 h_S_)
        (broadcastInDim S16x2048x256 ![] bcast_S_S16x2048x256 (mulf (constant S_ .f32 0x40C00000#32) sg))))
/-- The scaled and clipped elements. -/
def rClip (x4 : FVec Ideal S16x2048x256x16 .f32) (sc : FVec Ideal S16x2048x256 .f32) (sg : FVec Ideal S_ .f32) : FVec Ideal S16x2048x256x16 .f32 :=
  let e := mulf sc (broadcastInDim S16x2048x256 ![] bcast_S_S16x2048x256 sg)
  let f := select (cmpf .oeq e (broadcastInDim S16x2048x256 ![] bcast_S_S16x2048x256 (constant S_ .f32 0x00000000#32)))
    (broadcastInDim S16x2048x256 ![] bcast_S_S16x2048x256 (constant S_ .f32 0x3F800000#32)) e
  minimumf (broadcastInDim S16x2048x256x16 ![] bcast_S_S16x2048x256x16 (constant S_ .f32 0x40C00000#32))
    (maximumf (broadcastInDim S16x2048x256x16 ![] bcast_S_S16x2048x256x16 (constant S_ .f32 0xC0C00000#32))
      (Host.divf x4 (broadcastInDim S16x2048x256x16 ![0, 1, 2, 3] bcast_S16x2048x256x1_S16x2048x256x16_0_1_2_3
        (broadcastInDim S16x2048x256x1 ![0, 1, 2] bcast_S16x2048x256_S16x2048x256x1_0_1_2 f))))

abbrev b4 (b : BitVec 32) : FVec Ideal S16x2048x256x16 .f32 :=
  broadcastInDim S16x2048x256x16 ![] bcast_S_S16x2048x256x16 (constant (F := Ideal) S_ .f32 b)
abbrev i4 (b : BitVec 32) : IVec S16x2048x256x16 32 :=
  broadcastInDim S16x2048x256x16 ![] bcast_S_S16x2048x256x16 (constantI S_ 32 b)
/-- The magnitude rounded to the four-bit format's values. -/
def rMag (v : FVec Ideal S16x2048x256x16 .f32) : FVec Ideal S16x2048x256x16 .f32 :=
  select (cmpf .ole (Host.absf v) (b4 0x3E800000#32)) (b4 0x00000000#32)
    (select (cmpf .olt (Host.absf v) (b4 0x3F400000#32)) (b4 0x3F000000#32)
    (select (cmpf .ole (Host.absf v) (b4 0x3FA00000#32)) (b4 0x3F800000#32)
    (select (cmpf .olt (Host.absf v) (b4 0x3FE00000#32)) (b4 0x3FC00000#32)
    (select (cmpf .ole (Host.absf v) (b4 0x40200000#32)) (b4 0x40000000#32)
    (select (cmpf .olt (Host.absf v) (b4 0x40600000#32)) (b4 0x40400000#32)
    (select (cmpf .ole (Host.absf v) (b4 0x40A00000#32)) (b4 0x40800000#32) (b4 0x40C00000#32)))))))
/-- The same with its sign. -/
def rRnd (v w : FVec Ideal S16x2048x256x16 .f32) : FVec Ideal S16x2048x256x16 .f32 :=
  select (cmpf .olt v (b4 0x00000000#32)) (Host.negf w) w
/-- The code of a rounded value. -/
def rCode (w : FVec Ideal S16x2048x256x16 .f32) : IVec S16x2048x256x16 32 :=
  addi (select (cmpf .olt w (b4 0x00000000#32)) (i4 8#32) (i4 0#32))
    (addi (addi (addi (addi (addi (addi (addi (i4 0#32)
      (extui 32 (cmpf .oge (Host.absf w) (b4 0x3F000000#32)) natLt_1_32)) (extui 32 (cmpf .oge (Host.absf w) (b4 0x3F800000#32)) natLt_1_32))
      (extui 32 (cmpf .oge (Host.absf w) (b4 0x3FC00000#32)) natLt_1_32)) (extui 32 (cmpf .oge (Host.absf w) (b4 0x40000000#32)) natLt_1_32))
      (extui 32 (cmpf .oge (Host.absf w) (b4 0x40400000#32)) natLt_1_32)) (extui 32 (cmpf .oge (Host.absf w) (b4 0x40800000#32)) natLt_1_32))
      (extui 32 (cmpf .oge (Host.absf w) (b4 0x40C00000#32)) natLt_1_32))
/-- Two codes in a byte. -/
def rPack (q : IVec S16x2048x256x16 32) : IVec S16x2048x2048 8 :=
  let p := shapeCast S16x2048x2048x2 q shapeCasts_S16x2048x256x16_S16x2048x2048x2
  trunci 8 (ori (shapeCast S16x2048x2048 (extractStridedSlice S16x2048x2048x1 ![0, 0, 0, 0] p slices_S16x2048x2048x2_S16x2048x2048x1_0_0_0_0) shapeCasts_S16x2048x2048x1_S16x2048x2048)
    (Host.shli (shapeCast S16x2048x2048 (extractStridedSlice S16x2048x2048x1 ![0, 0, 0, 1] p slices_S16x2048x2048x2_S16x2048x2048x1_0_0_0_1) shapeCasts_S16x2048x2048x1_S16x2048x2048)
      (broadcastInDim S16x2048x2048 ![] bcast_S_S16x2048x2048 (constantI S_ 32 4#32)))) natLt_8_32

/-! ## The lines before the region -/

section Head
variable (W : Valuation τ sig (Elt Ideal))
abbrev head : Valuation τ sig (Elt Ideal) := StableHlo.after (List.flatten [hostOps0, hostOps0_1, hostOps0_2, hostOps0_3]) W
theorem head_v5 : head W (Proc.devRef .tc main_v5) = rSg (rMax (rX (W (Proc.devRef .tc main_arg0)))) := by
  unfold head
  simp only [hostOps0, hostOps0_1, hostOps0_2, hostOps0_3, List.flatten_cons, List.flatten_nil, List.append_nil, List.cons_append, List.nil_append]
  after_reads_simp
  unfold rSg rMax rX
  simp -implicitDefEqProofs only [TRef.toBuf, TRef.ofBuf, cast_cast, cast_eq]
theorem head_v6 : head W (Proc.devRef .tc main_v6) = rX4 (rX (W (Proc.devRef .tc main_arg0))) := by
  unfold head
  simp only [hostOps0, hostOps0_1, hostOps0_2, hostOps0_3, List.flatten_cons, List.flatten_nil, List.append_nil, List.cons_append, List.nil_append]
  after_reads_simp
  rfl
theorem head_v12 : head W (Proc.devRef .tc main_v12)
    = rSc (rX4 (rX (W (Proc.devRef .tc main_arg0)))) (rSg (rMax (rX (W (Proc.devRef .tc main_arg0))))) := by
  unfold head
  simp only [hostOps0, hostOps0_1, hostOps0_2, hostOps0_3, List.flatten_cons, List.flatten_nil, List.append_nil, List.cons_append, List.nil_append]
  after_reads_simp
  unfold rSg rMax rX rSc rX4
  simp -implicitDefEqProofs only [TRef.toBuf, TRef.ofBuf, cast_cast, cast_eq, id_eq]
  clean_types
  rfl
end Head

/-! ## The lines after the region -/

section Tail
variable (W : Valuation τ sig (Elt Ideal))
theorem tail_v22 : StableHlo.after (List.flatten [hostOps1, hostOps1_1, hostOps1_2, hostOps1_3]) W (Proc.devRef .tc main_v22)
    = rClip (W (Proc.devRef .tc main_v6)) (W (Proc.devRef .tc main_v13_1)) (W (Proc.devRef .tc main_v5)) := by
  simp only [hostOps1, hostOps1_1, hostOps1_2, hostOps1_3, List.flatten_cons, List.flatten_nil, List.append_nil, List.cons_append, List.nil_append]
  after_reads_simp
  rfl
theorem tail_v44 : StableHlo.after (List.flatten [hostOps1_4, hostOps1_5, hostOps1_6, hostOps1_7, hostOps1_8, hostOps1_9, hostOps1_10, hostOps1_11, hostOps1_12, hostOps1_13, hostOps1_14, hostOps1_15, hostOps1_16, hostOps1_17]) W (Proc.devRef .tc main_v44)
    = rMag (W (Proc.devRef .tc main_v22)) := by
  simp only [hostOps1_4, hostOps1_5, hostOps1_6, hostOps1_7, hostOps1_8, hostOps1_9, hostOps1_10, hostOps1_11, hostOps1_12, hostOps1_13, hostOps1_14, hostOps1_15, hostOps1_16, hostOps1_17, List.flatten_cons, List.flatten_nil, List.append_nil, List.cons_append, List.nil_append]
  after_reads_simp
  rfl
theorem tail_v44_v22 : StableHlo.after (List.flatten [hostOps1_4, hostOps1_5, hostOps1_6, hostOps1_7, hostOps1_8, hostOps1_9, hostOps1_10, hostOps1_11, hostOps1_12, hostOps1_13, hostOps1_14, hostOps1_15, hostOps1_16, hostOps1_17]) W (Proc.devRef .tc main_v22)
    = W (Proc.devRef .tc main_v22) := by
  simp only [hostOps1_4, hostOps1_5, hostOps1_6, hostOps1_7, hostOps1_8, hostOps1_9, hostOps1_10, hostOps1_11, hostOps1_12, hostOps1_13, hostOps1_14, hostOps1_15, hostOps1_16, hostOps1_17, List.flatten_cons, List.flatten_nil, List.append_nil, List.cons_append, List.nil_append]
  after_reads_simp
theorem tail_v48 : StableHlo.after (List.flatten [hostOps1_18, hostOps1_19]) W (Proc.devRef .tc main_v48)
    = rRnd (W (Proc.devRef .tc main_v22)) (W (Proc.devRef .tc main_v44)) := by
  simp only [hostOps1_18, hostOps1_19, List.flatten_cons, List.flatten_nil, List.append_nil, List.cons_append, List.nil_append]
  after_reads_simp
  rfl
theorem tail_v83 : StableHlo.after (List.flatten [hostOps1_20, hostOps1_21, hostOps1_22]) W (Proc.devRef .tc main_v92)
    = rPack (rCode (W (Proc.devRef .tc main_v48))) := by
  simp only [hostOps1_20, hostOps1_21, hostOps1_22, List.flatten_cons, List.flatten_nil, List.append_nil, List.cons_append, List.nil_append]
  after_reads_simp
  rfl
end Tail

end Cert.Proof.R

end
-- ==== Proof.Value.RefEnds.lean ====
/-
  The reference program's run: its three results as terms over the operand.
-/
module

public import proofs.«01_k».proof.Proof.Value.RefRun
public import Idealize.ShloMosaic.Lib.Pipeline.ValueKit
public import Idealize.ShloMosaic.Lib.StableHlo.RunRead
public import Idealize.ShloMosaic.PureOps.Ideal

@[expose] public section

set_option maxRecDepth 16384

noncomputable section

namespace Cert.Proof.R

open Cert.ReferenceIdeal Cert.ReferenceIdeal.Gen
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ) (ρ : Dev nD → PrngReg)

section Tail
variable (W : Valuation τ sig (Elt Ideal))
/-- The lines after the region as four stretches. -/
abbrev ops1 : List (List (HloOp τ sig (Elt Ideal))) := [hostOps1, hostOps1_1, hostOps1_2, hostOps1_3]
abbrev ops2 : List (List (HloOp τ sig (Elt Ideal))) := [hostOps1_4, hostOps1_5, hostOps1_6, hostOps1_7, hostOps1_8, hostOps1_9, hostOps1_10, hostOps1_11, hostOps1_12, hostOps1_13, hostOps1_14, hostOps1_15, hostOps1_16, hostOps1_17]
abbrev ops3 : List (List (HloOp τ sig (Elt Ideal))) := [hostOps1_18, hostOps1_19]
abbrev ops4 : List (List (HloOp τ sig (Elt Ideal))) := [hostOps1_20, hostOps1_21, hostOps1_22]
theorem after_four : StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22]) W
    = StableHlo.after (List.flatten ops4) (StableHlo.after (List.flatten ops3) (StableHlo.after (List.flatten ops2) (StableHlo.after (List.flatten ops1) W))) := by
  have e : ∀ (a b c d : List (List (HloOp τ sig (Elt Ideal)))), StableHlo.after (List.flatten (a ++ (b ++ (c ++ d)))) W
      = StableHlo.after (List.flatten d) (StableHlo.after (List.flatten c) (StableHlo.after (List.flatten b) (StableHlo.after (List.flatten a) W))) := by
    intro a b c d
    rw [List.flatten_append, List.flatten_append, List.flatten_append, StableHlo.after_append, StableHlo.after_append, StableHlo.after_append]
  exact e ops1 ops2 ops3 ops4
theorem tail_v92 : StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22]) W (Proc.devRef .tc main_v92)
    = rPack (rCode (rRnd (rClip (W (Proc.devRef .tc main_v6)) (W (Proc.devRef .tc main_v13_1)) (W (Proc.devRef .tc main_v5)))
        (rMag (rClip (W (Proc.devRef .tc main_v6)) (W (Proc.devRef .tc main_v13_1)) (W (Proc.devRef .tc main_v5)))))) := by
  rw [after_four, tail_v83, tail_v48, tail_v44, tail_v44_v22, tail_v22]
theorem tail_v5 : StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22]) W (Proc.devRef .tc main_v5)
    = W (Proc.devRef .tc main_v5) := by
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_v5) hostOps1_22 _ hostOps1_22_writes (by decide +kernel),
    StableHlo.after_of_writes_sub (r := main_v5) hostOps1_21 _ hostOps1_21_writes (by decide +kernel),
    StableHlo.after_of_writes_sub (r := main_v5) hostOps1_20 _ hostOps1_20_writes (by decide +kernel),
    StableHlo.after_of_writes_sub (r := main_v5) hostOps1_19 _ hostOps1_19_writes (by decide +kernel),
    StableHlo.after_of_writes_sub (r := main_v5) hostOps1_18 _ hostOps1_18_writes (by decide +kernel),
    StableHlo.after_of_writes_sub (r := main_v5) hostOps1_17 _ hostOps1_17_writes (by decide +kernel),
    StableHlo.after_of_writes_sub (r := main_v5) hostOps1_16 _ hostOps1_16_writes (by decide +kernel),
    StableHlo.after_of_writes_sub (r := main_v5) hostOps1_15 _ hostOps1_15_writes (by decide +kernel),
    StableHlo.after_of_writes_sub (r := main_v5) hostOps1_14 _ hostOps1_14_writes (by decide +kernel),
    StableHlo.after_of_writes_sub (r := main_v5) hostOps1_13 _ hostOps1_13_writes (by decide +kernel),
    StableHlo.after_of_writes_sub (r := main_v5) hostOps1_12 _ hostOps1_12_writes (by decide +kernel),
    StableHlo.after_of_writes_sub (r := main_v5) hostOps1_11 _ hostOps1_11_writes (by decide +kernel),
    StableHlo.after_of_writes_sub (r := main_v5) hostOps1_10 _ hostOps1_10_writes (by decide +kernel),
    StableHlo.after_of_writes_sub (r := main_v5) hostOps1_9 _ hostOps1_9_writes (by decide +kernel),
    StableHlo.after_of_writes_sub (r := main_v5) hostOps1_8 _ hostOps1_8_writes (by decide +kernel),
    StableHlo.after_of_writes_sub (r := main_v5) hostOps1_7 _ hostOps1_7_writes (by decide +kernel),
    StableHlo.after_of_writes_sub (r := main_v5) hostOps1_6 _ hostOps1_6_writes (by decide +kernel),
    StableHlo.after_of_writes_sub (r := main_v5) hostOps1_5 _ hostOps1_5_writes (by decide +kernel),
    StableHlo.after_of_writes_sub (r := main_v5) hostOps1_4 _ hostOps1_4_writes (by decide +kernel),
    StableHlo.after_of_writes_sub (r := main_v5) hostOps1_3 _ hostOps1_3_writes (by decide +kernel),
    StableHlo.after_of_writes_sub (r := main_v5) hostOps1_2 _ hostOps1_2_writes (by decide +kernel),
    StableHlo.after_of_writes_sub (r := main_v5) hostOps1_1 _ hostOps1_1_writes (by decide +kernel),
    StableHlo.after_of_writes_sub (r := main_v5) hostOps1 _ hostOps1_writes (by decide +kernel)]
end Tail

/-! ## The region and the run -/

/-- At exact numbers a narrowing changes nothing, -/
theorem narrow_id {s : Shape} (X : FVec Ideal s .f32) : truncf (F := Ideal) FTy.fp8e4m3 X bitsLt_fp8e4m3_f32 = X := rfl
/-- nor a widening. -/
theorem widen_id {s : Shape} (X : FVec Ideal s .fp8e4m3) : extf (F := Ideal) FTy.f32 X bitsLt_fp8e4m3_f32 = X := rfl

theorem arr1 (c : Dev nD) : (dats m 0 c).arrAt 1 cfg0.N = V m c main_v12 := by
  refine (dats m 0 c).arrAt_eq_of_after_last 1 t0_0 (by decide +kernel) _ fun j => ?_
  blk_simp
  rw [after0_1]
  frame_out
  unfold k0_pay1
  rw [shapeCast_self]
  rw [narrow_id]
  unfold iblk
  generalize V m c = W
  unfold View.read
  rw [cast_eq]
  refine congrArg (W main_v12) ?_
  funext a
  apply Fin.ext
  show 0 * _ + 1 * (j a).val = (j a).val
  omega
theorem arr2 (c : Dev nD) : (dats m 0 c).arrAt 2 cfg0.N = V m c main_v12 := by
  refine (dats m 0 c).arrAt_eq_of_after_last 2 t0_0 (by decide +kernel) _ fun j => ?_
  blk_simp
  rw [after0_2]
  frame_out
  unfold k0_pay2 k0_pay1
  rw [shapeCast_self]
  dsimp only
  rw [widen_id, narrow_id]
  unfold iblk
  generalize V m c = W
  unfold View.read
  rw [cast_eq]
  refine congrArg (W main_v12) ?_
  funext a
  apply Fin.ext
  show 0 * _ + 1 * (j a).val = (j a).val
  omega

/-- The three results over the operand. -/
def sgR (a : FVec Ideal S16x2048x4096 .bf16) : FVec Ideal S_ .f32 := rSg (rMax (rX a))
def scR (a : FVec Ideal S16x2048x4096 .bf16) : FVec Ideal S16x2048x256 .f32 := rSc (rX4 (rX a)) (sgR a)
def clR (a : FVec Ideal S16x2048x4096 .bf16) : FVec Ideal S16x2048x256x16 .f32 := rClip (rX4 (rX a)) (scR a) (sgR a)
def pkR (a : FVec Ideal S16x2048x4096 .bf16) : IVec S16x2048x2048 8 := rPack (rCode (rRnd (clR a) (rMag (clR a))))

theorem run_value : θ_run defs (onTc (τ := τ) (main (F := Ideal))) ⟨m, fun _ => 0, ρ⟩ (fun r => ∀ c : Dev nD,
      r.2.mem ((c.tc : Thread nD τ).loc main_v92) = pkR (m ((c.tc : Thread nD τ).loc main_arg0))
      ∧ r.2.mem ((c.tc : Thread nD τ).loc main_v13_0) = scR (m ((c.tc : Thread nD τ).loc main_arg0))
      ∧ r.2.mem ((c.tc : Thread nD τ).loc main_v5) = sgR (m ((c.tc : Thread nD τ).loc main_arg0))) :=
  (θ_run defs _ _).mono (fun r h c => by
    have hv12 : V m c main_v12 = scR (m ((c.tc : Thread nD τ).loc main_arg0)) := head_v12 _
    have hv5 : V0 m c (Proc.devRef .tc main_v5) = sgR (m ((c.tc : Thread nD τ).loc main_arg0)) := head_v5 _
    have hv6 : V0 m c (Proc.devRef .tc main_v6) = rX4 (rX (m ((c.tc : Thread nD τ).loc main_arg0))) := head_v6 _
    refine ⟨?_, ?_, ?_⟩
    · refine ((h c).2 main_v92 (Pipeline.mem_restRefs_of main_v92 (by decide) (by decide))).trans ?_
      unfold Pipeline.afterTail₀
      rw [tail_v92, Pipeline.withArrays_of_ne spec0 c _ _ main_v6 (by decide), Pipeline.withArrays_of_ne spec0 c _ _ main_v5 (by decide)]
      have e : Pipeline.withArrays spec0 c (V0 m c) (fun w => (dats m 0 c).arrAt w cfg0.N) (Proc.devRef .tc main_v13_1) = V m c main_v12 :=
        (Pipeline.withArrays_arr spec0 launch0.win.arr_inj c _ _ 2).trans (arr2 m c)
      rw [e, hv5, hv6, hv12]
      rfl
    · exact ((h c).1 1).trans ((arr1 m c).trans hv12)
    · refine ((h c).2 main_v5 (Pipeline.mem_restRefs_of main_v5 (by decide) (by decide))).trans ?_
      unfold Pipeline.afterTail₀
      rw [tail_v5, Pipeline.withArrays_of_ne spec0 c _ _ main_v5 (by decide)]
      exact hv5) (run_main m ρ)

end Cert.Proof.R

end
-- ==== Proof.Value.Ref1.lean ====
/-
  The reference's results at an index.
-/
module

public import proofs.«01_k».proof.Proof.Value.RefEnds
public import proofs.«01_k».proof.Proof.Value.Ker1
public import proofs.«01_k».proof.Proof.Value.Consts

@[expose] public section

set_option maxRecDepth 16384

noncomputable section

namespace Cert.Proof.R
open Cert.ReferenceIdeal Cert.ReferenceIdeal.Gen
open Idealize.ShloMosaic

theorem rMax_le (x : FVec Ideal S16x2048x4096 .f32) (j : S_.Idx) (c : EReal) : rMax x j ≤ c ↔ ∀ i, KV.ab (x i) ≤ c := by
  unfold rMax
  rw [Host.reduce_eq_fold]
  have hb : (Ideal.ofBits .f32 0xFF800000#32 : EReal) = ⊥ := by simp [Ideal.ofBits, Ideal.ieee]
  show Finset.fold max (Ideal.ofBits .f32 0xFF800000#32 : EReal) (fun i => KV.ab (x i)) _ ≤ c ↔ _
  rw [hb]
  refine (Finset.fold_max_le _).trans ⟨fun h i => h.2 i (Finset.mem_filter.mpr ⟨Finset.mem_univ _, funext fun a => a.elim0⟩), fun h => ⟨bot_le, fun i _ => h i⟩⟩
/-- The largest magnitude of each block. -/
def rBm (x4 : FVec Ideal S16x2048x256x16 .f32) : FVec Ideal S16x2048x256 .f32 :=
  Host.reduce FloatOps.maximumf (Host.absf x4) (constant S_ .f32 0xFF800000#32) reducesTo_S16x2048x256x16_S16x2048x256_d3 h_S_

theorem rSc_at (x4 : FVec Ideal S16x2048x256x16 .f32) (sg : FVec Ideal S_ .f32) (j : S16x2048x256.Idx) :
    rSc x4 sg j = min (Ideal.ofBits .f32 0x43E00000#32) (max (Ideal.ofBits .f32 0x00000000#32) (Ideal.div (rBm x4 j) (Ideal.ofBits .f32 0x40C00000#32 * sg ix0))) := by
  have : rSc x4 sg = minimumf (broadcastInDim S16x2048x256 ![] bcast_S_S16x2048x256 (constant S_ .f32 0x43E00000#32))
    (maximumf (broadcastInDim S16x2048x256 ![] bcast_S_S16x2048x256 (constant S_ .f32 0x00000000#32))
      (Host.divf (rBm x4)
        (broadcastInDim S16x2048x256 ![] bcast_S_S16x2048x256 (mulf (constant S_ .f32 0x40C00000#32) sg)))) := rfl
  rw [this]
  generalize rBm x4 = bm
  pointwise

theorem rBm_le (x4 : FVec Ideal S16x2048x256x16 .f32) (j : S16x2048x256.Idx) (c : EReal) : rBm x4 j ≤ c ↔ ∀ e : Fin 16, KV.ab (x4 (ix4 (j 0) (j 1) (j 2) e)) ≤ c := by
  unfold rBm
  rw [Host.reduce_eq_fold]
  have hb : (Ideal.ofBits .f32 0xFF800000#32 : EReal) = ⊥ := by simp [Ideal.ofBits, Ideal.ieee]
  show Finset.fold max (Ideal.ofBits .f32 0xFF800000#32 : EReal) (fun i => KV.ab (x4 i)) _ ≤ c ↔ _
  rw [hb]
  have hd : ∀ i : S16x2048x256x16.Idx, reducesTo_S16x2048x256x16_S16x2048x256_d3.drop i = ix3 (i 0) (i 1) (i 2) := by
    intro i
    funext a
    match a with
    | 0 => rfl
    | 1 => rfl
    | 2 => rfl
  refine (Finset.fold_max_le _).trans ⟨fun h e => h.2 _ (Finset.mem_filter.mpr ⟨Finset.mem_univ _, ?_⟩), fun h => ⟨bot_le, fun i hi => ?_⟩⟩
  · rw [hd]
    funext a
    match a with
    | 0 => rfl
    | 1 => rfl
    | 2 => rfl
  · have h2 := (Finset.mem_filter.mp hi).2
    rw [hd] at h2
    subst h2
    have e : ix4 (i 0) (i 1) (i 2) (i 3) = i := by
      funext a
      match a with
      | 0 => rfl
      | 1 => rfl
      | 2 => rfl
      | 3 => rfl
    have := h (i 3)
    rw [← e]
    exact this

theorem rSg_at (mx : FVec Ideal S_ .f32) : rSg mx ix0 = if 0 < mx ix0 then Ideal.div (mx ix0) (Ideal.ofBits .f32 0x45280000#32) else 1 := by
  unfold rSg
  pointwise

theorem rClip_at (x4 : FVec Ideal S16x2048x256x16 .f32) (sc : FVec Ideal S16x2048x256 .f32) (sg : FVec Ideal S_ .f32) (j : S16x2048x256x16.Idx) :
    rClip x4 sc sg j = min (Ideal.ofBits .f32 0x40C00000#32) (max (Ideal.ofBits .f32 0xC0C00000#32) (Ideal.div (x4 j)
      (if sc (ix3 (j 0) (j 1) (j 2)) * sg ix0 = 0 then 1 else sc (ix3 (j 0) (j 1) (j 2)) * sg ix0))) := by
  unfold rClip
  pointwise

theorem rX4_at (A : FVec Ideal S16x2048x4096 .bf16) (b : Fin 16) (s : Fin 2048) (k : Fin 256) (e : Fin 16) :
    rX4 (rX A) (ix4 b s k e) = A (ix3 b s ⟨16 * k.val + e.val, by omega⟩) := by
  unfold rX4 rX
  pointwise
  exact congrArg (fun d => A (ix3 b s d)) (Fin.ext (show k.val * 16 + e.val = 16 * k.val + e.val by omega))

theorem rPack_at (q : IVec S16x2048x256x16 32) (b : Fin 16) (s : Fin 2048) (l : Fin 2048) :
    rPack q (ix3 b s l) = BitVec.setWidth 8 (IntOp.ori (q (ix4 b s ⟨l.val / 8, by omega⟩ ⟨l.val % 8 * 2, by omega⟩))
      (IntOp.shli .host (q (ix4 b s ⟨l.val / 8, by omega⟩ ⟨l.val % 8 * 2 + 1, by omega⟩)) 4#32)) := by
  unfold rPack
  pointwise

end Cert.Proof.R

end
-- ==== Proof.Value.Scales.lean ====
/-
  The global scale and the block scales of the kernel are the reference's.
-/
module

public import proofs.«01_k».proof.Proof.Value.Ker2
public import proofs.«01_k».proof.Proof.Value.Ref1
public import proofs.«01_k».proof.Proof.Ideal.Ends

@[expose] public section

set_option maxRecDepth 16384

noncomputable section

namespace Cert.Proof.KV
open Cert.KernelIdeal Cert.KernelIdeal.Gen
open Idealize.ShloMosaic
open Cert.Proof.KI (pmK ppK zb xg bmV btV accV accG accN sgV tl XT SGK sbV BMT sbT GS)

/-- The operand's rows, tokens by channels. -/
abbrev xA (A : FVec Ideal S16x2048x4096 .bf16) : FVec Ideal S32768x4096 .bf16 := shapeCast S32768x4096 A shapeCasts_S16x2048x4096_S32768x4096

theorem zero_le_ab (x : EReal) : 0 ≤ ab x := by
  rcases le_total 0 x with h | h
  · exact le_trans h (le_max_left _ _)
  · exact le_trans (EReal.neg_nonneg.mpr h) (le_max_right _ _)

theorem amaxK_eq (A : FVec Ideal S16x2048x4096 .bf16) (c : Dev nD) (j : S_.Idx) : amaxK (accV pmK (XT c (xA A)) 128) = R.rMax (R.rX A) j := by
  refine eq_of_forall_ge_iff fun q => ?_
  rw [R.rMax_le]
  unfold amaxK
  rw [cinf]
  constructor
  · intro h i
    have i0 : (i 0).val < 16 := (i 0).isLt
    have i1 : (i 1).val < 2048 := (i 1).isLt
    have i2 : (i 2).val < 4096 := (i 2).isLt
    have hx := ((Finset.fold_max_le _).mp h).2 (⟨(i 2).val % 256 / 16, by omega⟩, ⟨(i 1).val % 256, by omega⟩) (Finset.mem_univ _)
    have h1 := ((accV_le _ _ q 128).mp hx).2 ((2048 * (i 0).val + (i 1).val) / 256) (by omega) ⟨(i 2).val / 256, by omega⟩
    have h2 := (zbx_le _ _ _ _ (by show (i 2).val % 256 / 16 < 16; omega) (by show (i 1).val % 256 < 256; omega)).mp h1 ⟨(i 2).val % 16, by omega⟩
    have h3 : ab (XT (F := Ideal) c (xA A) (tl ((2048 * (i 0).val + (i 1).val) / 256)) (Cert.Proof.KI.ix2 ((i 1).val % 256) (256 * ((i 2).val / 256) + (16 * ((i 2).val % 256 / 16) + (i 2).val % 16)) (by omega) (by omega))) ≤ q := h2
    rw [XT_at] at h3
    refine le_trans (le_of_eq (congrArg (fun y => ab (A y)) ?_)) h3
    funext a
    have ht := Cert.Proof.KI.tl_val ((2048 * (i 0).val + (i 1).val) / 256)
    match a with
    | 0 => exact Fin.ext (show (i 0).val = (256 * (tl ((2048 * (i 0).val + (i 1).val) / 256)).val + (i 1).val % 256) / 2048 by omega)
    | 1 => exact Fin.ext (show (i 1).val = (256 * (tl ((2048 * (i 0).val + (i 1).val) / 256)).val + (i 1).val % 256) % 2048 by omega)
    | 2 => exact Fin.ext (show (i 2).val = 256 * ((i 2).val / 256) + (16 * ((i 2).val % 256 / 16) + (i 2).val % 16) by omega)
  · intro h
    have z : 0 ≤ q := le_trans (zero_le_ab _) (h (ix3 0 0 0))
    refine (Finset.fold_max_le _).mpr ⟨bot_le, fun x _ => (accV_le _ _ q 128).mpr ⟨z, fun k hk g => (zbx_le _ _ _ _ x.1.isLt x.2.isLt).mpr fun e => ?_⟩⟩
    have := g.isLt
    have := e.isLt
    have := x.1.isLt
    exact le_trans (le_of_eq (congrArg ab (XT_at A c (tl k) x.2.val (256 * g.val + (16 * x.1.val + e.val)) x.2.isLt (by omega)))) (h _)

theorem sg_eq (A : FVec Ideal S16x2048x4096 .bf16) (c : Dev nD) : SGK c (xA A) = R.sgR A ix0 := by
  show k0_pay291 (accV pmK (XT c (xA A)) 128) = R.rSg (R.rMax (R.rX A)) ix0
  rw [pay291_at, amaxK_eq A c ix0, R.rSg_at, c2688]
  have hd : ∀ y : EReal, y * ((1 / 2688 : ℝ) : EReal) = Ideal.div y ((2688 : ℝ) : EReal) := by
    intro y
    unfold Ideal.div
    rw [if_neg (by rw [← EReal.coe_zero, EReal.coe_eq_coe_iff]; norm_num), ← EReal.coe_inv, one_div]
  rw [hd]

theorem bm_eq (A : FVec Ideal S16x2048x4096 .bf16) (c : Dev nD) (t : Fin 128) (r k : ℕ) (hr : r < 256) (hk : k < 256) (b : Fin 16) (s : Fin 2048)
    (h : 2048 * b.val + s.val = 256 * t.val + r) :
    bmV (F := Ideal) pmK (XT c (xA A) t) (Cert.Proof.KI.ix3 r k hr hk) = R.rBm (R.rX4 (R.rX A)) (ix3 b s ⟨k, hk⟩) := by
  refine eq_of_forall_ge_iff fun q => ?_
  rw [R.rBm_le, bmV_le _ _ q hr hk]
  refine forall_congr' fun e => ?_
  have e1 := XT_at A c t r (16 * k + e.val) hr (by omega)
  have e2 := R.rX4_at A b s ⟨k, hk⟩ e
  have e3 : (ix3 ⟨(256 * t.val + r) / 2048, by omega⟩ ⟨(256 * t.val + r) % 2048, by omega⟩ ⟨16 * k + e.val, by omega⟩ : S16x2048x4096.Idx) = ix3 b s ⟨16 * k + e.val, by omega⟩ := by
    funext a
    match a with
    | 0 => exact Fin.ext (show (256 * t.val + r) / 2048 = b.val by omega)
    | 1 => exact Fin.ext (show (256 * t.val + r) % 2048 = s.val by omega)
    | 2 => rfl
  exact Iff.of_eq (congrArg (fun y => ab y ≤ q) (e1.trans ((congrArg A e3).trans e2.symm)))

theorem pay88_at (s : EReal) (b : Vec Ideal S1x256x256 .bf16) (j) :
    k0_pay88 (F := Ideal) s b j = min (Ideal.ofBits FTy.f32 1138753536#32) (max 0 (Ideal.div (b j) (Ideal.ofBits FTy.f32 1086324736#32 * s))) := by
  unfold k0_pay88 k0_pay87
  pointwise

theorem sc_eq (A : FVec Ideal S16x2048x4096 .bf16) (c : Dev nD) (t : Fin 128) (r k : ℕ) (hr : r < 256) (hk : k < 256) (b : Fin 16) (s : Fin 2048)
    (h : 2048 * b.val + s.val = 256 * t.val + r) :
    sbV (F := Ideal) (SGK c (xA A)) (bmV pmK (XT c (xA A) t)) (Cert.Proof.KI.ix3 r k hr hk) = R.scR A (ix3 b s ⟨k, hk⟩) := by
  show k0_pay88 (F := Ideal) _ _ _ = R.rSc (R.rX4 (R.rX A)) (R.sgR A) (ix3 b s ⟨k, hk⟩)
  rw [pay88_at, R.rSc_at, bm_eq A c t r k hr hk b s h, sg_eq, c0]
  rfl

theorem GS_at (A : FVec Ideal S16x2048x4096 .bf16) (c : Dev nD) (b : Fin 16) (s : Fin 2048) (k : Fin 256) :
    shapeCast S16x2048x256 (GS (F := Ideal) c (xA A)) shapeCasts_S32768x256_S16x2048x256 (ix3 b s k) = R.scR A (ix3 b s k) := by
  have e : shapeCast S16x2048x256 (GS (F := Ideal) c (xA A)) shapeCasts_S32768x256_S16x2048x256 (ix3 b s k) = GS c (xA A) (ix2 ⟨b.val * 2048 + s.val, by omega⟩ k) := by
    generalize GS (F := Ideal) c (xA A) = G
    pointwise
  rw [e]
  have eu : (Cert.Proof.KI.up3 (Cert.Proof.KI.ix2 ((b.val * 2048 + s.val) % 256) k.val (Nat.mod_lt _ (by decide)) k.isLt) : S1x256x256.Idx)
      = Cert.Proof.KI.ix3 ((b.val * 2048 + s.val) % 256) k.val (Nat.mod_lt _ (by decide)) k.isLt := by
    funext a
    match a with
    | 0 => rfl
    | 1 => rfl
    | 2 => rfl
  have e2 := sc_eq A c ⟨(b.val * 2048 + s.val) / 256, by omega⟩ ((b.val * 2048 + s.val) % 256) k.val (Nat.mod_lt _ (by decide)) k.isLt
    b s (by show 2048 * b.val + s.val = 256 * ((b.val * 2048 + s.val) / 256) + _; omega)
  refine Eq.trans ?_ e2
  rw [← eu]
  rfl

theorem idx3_eta {n m p : ℕ} (j : (⟨3, ![n, m, p]⟩ : Shape).Idx) : j = ix3 (j 0) (j 1) (j 2) := by
  funext a
  match a with
  | 0 => rfl
  | 1 => rfl
  | 2 => rfl

theorem GS_eq (A : FVec Ideal S16x2048x4096 .bf16) (c : Dev nD) :
    shapeCast S16x2048x256 (GS (F := Ideal) c (xA A)) shapeCasts_S32768x256_S16x2048x256 = R.scR A := by
  funext j
  have ej := idx3_eta j
  exact (congrArg _ ej).trans ((GS_at A c (j 0) (j 1) (j 2)).trans (congrArg (R.scR A) ej.symm))

end Cert.Proof.KV

end
-- ==== Proof.Value.Codes.lean ====
/-
  The four-bit codes of the kernel and of the reference agree.
-/
module

public import proofs.«01_k».proof.Proof.Value.RefEnds
public import proofs.«01_k».proof.Proof.Value.Ker1
public import proofs.«01_k».proof.Proof.Value.Consts

@[expose] public section

set_option maxRecDepth 16384

noncomputable section

namespace Cert.Proof.KV
open Idealize.ShloMosaic

theorem reg {q1 q2 q3 q4 q5 q6 q7 : Prop} (i2 : q2 → q1) (i3 : q3 → q2) (i4 : q4 → q3) (i5 : q5 → q4) (i6 : q6 → q5) (i7 : q7 → q6) :
    ∃ m : Fin 8, (q1 ↔ 1 ≤ m.val) ∧ (q2 ↔ 2 ≤ m.val) ∧ (q3 ↔ 3 ≤ m.val) ∧ (q4 ↔ 4 ≤ m.val) ∧ (q5 ↔ 5 ≤ m.val) ∧ (q6 ↔ 6 ≤ m.val) ∧ (q7 ↔ 7 ≤ m.val) := by
  by_cases h7 : q7
  · exact ⟨7, by simp; tauto⟩
  by_cases h6 : q6
  · exact ⟨6, by simp; tauto⟩
  by_cases h5 : q5
  · exact ⟨5, by simp; tauto⟩
  by_cases h4 : q4
  · exact ⟨4, by simp; tauto⟩
  by_cases h3 : q3
  · exact ⟨3, by simp; tauto⟩
  by_cases h2 : q2
  · exact ⟨2, by simp; tauto⟩
  by_cases h1 : q1
  · exact ⟨1, by simp; tauto⟩
  · exact ⟨0, by simp; tauto⟩

/-- Where a magnitude lies among the seven thresholds. -/
def Reg (a : EReal) (m : Fin 8) : Prop :=
  (((1 / 4 : ℝ) : EReal) < a ↔ 1 ≤ m.val) ∧ (((3 / 4 : ℝ) : EReal) ≤ a ↔ 2 ≤ m.val) ∧ (((5 / 4 : ℝ) : EReal) < a ↔ 3 ≤ m.val) ∧
  (((7 / 4 : ℝ) : EReal) ≤ a ↔ 4 ≤ m.val) ∧ (((5 / 2 : ℝ) : EReal) < a ↔ 5 ≤ m.val) ∧ (((7 / 2 : ℝ) : EReal) ≤ a ↔ 6 ≤ m.val) ∧
  (((5 : ℝ) : EReal) < a ↔ 7 ≤ m.val)

theorem reg_ex (a : EReal) : ∃ m, Reg a m := by
  have lt : ∀ p q : ℝ, p < q → (p : EReal) < (q : EReal) := fun p q h => EReal.coe_lt_coe_iff.mpr h
  exact reg (fun h => lt_of_lt_of_le (lt _ _ (by norm_num)) h) (fun h => le_of_lt (lt_trans (lt _ _ (by norm_num)) h))
    (fun h => lt_of_lt_of_le (lt _ _ (by norm_num)) h) (fun h => le_of_lt (lt_trans (lt _ _ (by norm_num)) h))
    (fun h => lt_of_lt_of_le (lt _ _ (by norm_num)) h) (fun h => le_of_lt (lt_trans (lt _ _ (by norm_num)) h))

/-- The code of an element: its magnitude's place, with eight more for a negative one that does not round to zero. -/
def nc (v : EReal) (m : Fin 8) : ℕ := if v < 0 ∧ 1 ≤ m.val then m.val + 8 else m.val

section K
open Cert.KernelIdeal Cert.KernelIdeal.Gen
open Cert.Proof.KI (codeK)
theorem codeK_at (a b : FVec Ideal S256x128 .f32) (j : S256x128.Idx) (v : EReal) (m : Fin 8)
    (hv : min (Ideal.ofBits FTy.f32 1086324736#32) (max (Ideal.ofBits FTy.f32 3233808384#32) (a j * b j)) = v) (hm : Reg (ab v) m) :
    codeK (F := Ideal) a b j = BitVec.ofNat 8 (nc v m) := by
  obtain ⟨h1, h2, h3, h4, h5, h6, h7⟩ := hm
  unfold codeK
  pointwise
  rw [hv]
  have ha : (FloatOps.absf (F := Ideal) (φ := .f32) v) = ab v := rfl
  rw [ha, c75, c175, c350, c25, c125, c250, c500]
  simp only [h1, h2, h3, h4, h5, h6, h7]
  unfold nc
  by_cases hn : v < 0
  · simp only [hn, if_true, true_and]
    clear h1 h2 h3 h4 h5 h6 h7 ha hv hn
    revert m; decide
  · simp only [hn, if_false, false_and]
    clear h1 h2 h3 h4 h5 h6 h7 ha hv hn
    revert m; decide
end K

section R
open Cert.ReferenceIdeal Cert.ReferenceIdeal.Gen
open Cert.Proof.R (rCode rRnd rMag)
/-- The rounded magnitudes. -/
def gm (m : Fin 8) : ℝ := ![0, 1/2, 1, 3/2, 2, 3, 4, 6] m
theorem rMag_at (w : FVec Ideal S16x2048x256x16 .f32) (i) (m : Fin 8) (hm : Reg (ab (w i)) m) : rMag w i = ((gm m : ℝ) : EReal) := by
  obtain ⟨h1, h2, h3, h4, h5, h6, h7⟩ := hm
  unfold rMag
  pointwise
  have ha : (FloatOps.absf (F := Ideal) (φ := .f32) (w i)) = ab (w i) := rfl
  rw [ha, c75, c175, c350, c25, c125, c250, c500]
  have k1 : ab (w i) ≤ ((1 / 4 : ℝ) : EReal) ↔ ¬ 1 ≤ m.val := by rw [← not_lt, h1]
  have k2 : ab (w i) < ((3 / 4 : ℝ) : EReal) ↔ ¬ 2 ≤ m.val := by rw [← not_le, h2]
  have k3 : ab (w i) ≤ ((5 / 4 : ℝ) : EReal) ↔ ¬ 3 ≤ m.val := by rw [← not_lt, h3]
  have k4 : ab (w i) < ((7 / 4 : ℝ) : EReal) ↔ ¬ 4 ≤ m.val := by rw [← not_le, h4]
  have k5 : ab (w i) ≤ ((5 / 2 : ℝ) : EReal) ↔ ¬ 5 ≤ m.val := by rw [← not_lt, h5]
  have k6 : ab (w i) < ((7 / 2 : ℝ) : EReal) ↔ ¬ 6 ≤ m.val := by rw [← not_le, h6]
  have k7 : ab (w i) ≤ ((5 : ℝ) : EReal) ↔ ¬ 7 ≤ m.val := by rw [← not_lt, h7]
  simp only [k1, k2, k3, k4, k5, k6, k7, c50, c150, c200, c300, c400, c600]
  clear h1 h2 h3 h4 h5 h6 h7 k1 k2 k3 k4 k5 k6 k7 ha
  fin_cases m <;> simp [gm]
theorem rRnd_at (v w : FVec Ideal S16x2048x256x16 .f32) (i) : rRnd v w i = if v i < 0 then - w i else w i := by
  unfold rRnd
  pointwise
theorem gm_nonneg (m : Fin 8) : 0 ≤ gm m := by fin_cases m <;> simp [gm] <;> norm_num
theorem rCode_at (w : FVec Ideal S16x2048x256x16 .f32) (i) (v : EReal) (m : Fin 8) (hw : w i = if v < 0 then -((gm m : ℝ) : EReal) else ((gm m : ℝ) : EReal)) :
    rCode w i = BitVec.ofNat 32 (nc v m) := by
  unfold rCode
  pointwise
  have h0 := gm_nonneg m
  have ha : (FloatOps.absf (F := Ideal) (φ := .f32) (w i)) = ((gm m : ℝ) : EReal) := by
    show max (w i) (-(w i)) = _
    rw [hw]
    have h1 : -((gm m : ℝ) : EReal) ≤ ((gm m : ℝ) : EReal) := by
      rw [← EReal.coe_neg, EReal.coe_le_coe_iff]; linarith
    split
    · rw [neg_neg]; exact max_eq_right h1
    · exact max_eq_left h1
  have hz : 0 < gm m ↔ 1 ≤ m.val := by clear hw ha h0; fin_cases m <;> simp [gm]
  have hn : w i < 0 ↔ v < 0 ∧ 1 ≤ m.val := by
    rw [hw]
    by_cases hv : v < 0
    · simp only [hv, if_true, true_and]
      rw [← hz, ← EReal.coe_neg, ← EReal.coe_zero, EReal.coe_lt_coe_iff]
      exact neg_lt_zero
    · simp only [hv, if_false, false_and, iff_false, not_lt]
      rw [← EReal.coe_zero, EReal.coe_le_coe_iff]
      exact h0
  have e1 : (1 : EReal) = ((1 : ℝ) : EReal) := rfl
  rw [ha, c50, c150, c200, c300, c400, c600, e1]
  simp only [EReal.coe_le_coe_iff, hn]
  have g1 : 1 / 2 ≤ gm m ↔ 1 ≤ m.val := by clear hw ha h0 hz hn; fin_cases m <;> simp [gm] <;> norm_num
  have g2 : 1 ≤ gm m ↔ 2 ≤ m.val := by clear hw ha h0 hz hn; fin_cases m <;> simp [gm] <;> norm_num
  have g3 : 3 / 2 ≤ gm m ↔ 3 ≤ m.val := by clear hw ha h0 hz hn; fin_cases m <;> simp [gm] <;> norm_num
  have g4 : 2 ≤ gm m ↔ 4 ≤ m.val := by clear hw ha h0 hz hn; fin_cases m <;> simp [gm] <;> norm_num
  have g5 : 3 ≤ gm m ↔ 5 ≤ m.val := by clear hw ha h0 hz hn; fin_cases m <;> simp [gm] <;> norm_num
  have g6 : 4 ≤ gm m ↔ 6 ≤ m.val := by clear hw ha h0 hz hn; fin_cases m <;> simp [gm] <;> norm_num
  have g7 : 6 ≤ gm m ↔ 7 ≤ m.val := by clear hw ha h0 hz hn; fin_cases m <;> simp [gm] <;> norm_num
  simp only [g1, g2, g3, g4, g5, g6, g7]
  clear g1 g2 g3 g4 g5 g6 g7 hn hz ha hw h0 e1
  unfold nc
  by_cases hv : v < 0
  · simp only [hv, true_and]
    clear hv
    revert m; decide
  · simp only [hv, false_and, if_false]
    clear hv
    revert m; decide
/-- The reference's code of an element. -/
theorem codeR_at (v : FVec Ideal S16x2048x256x16 .f32) (i) (m : Fin 8) (hm : Reg (ab (v i)) m) :
    rCode (rRnd v (rMag v)) i = BitVec.ofNat 32 (nc (v i) m) :=
  rCode_at _ i (v i) m (by rw [rRnd_at, rMag_at v i m hm])
theorem nc_lt (v : EReal) (m : Fin 8) : nc v m < 16 := by unfold nc; split <;> omega
theorem byte_eq : ∀ a b : Fin 16, BitVec.setWidth 8 (IntOp.ori (BitVec.ofNat 32 a.val) (IntOp.shli .host (BitVec.ofNat 32 b.val) 4#32))
    = BitVec.ofNat 8 a.val ||| (BitVec.ofNat 8 b.val <<< 4) := by decide +kernel
end R
end Cert.Proof.KV
end
-- ==== Proof.Value.Pack.lean ====
/-
  The kernel's reciprocals, the columns they are gathered from, and the two codes of a byte, at an index.
-/
module

public import proofs.«01_k».proof.Proof.Value.Ker1
public import Idealize.ShloMosaic.Lib.BitcastFour

@[expose] public section

set_option maxRecDepth 16384

noncomputable section

namespace Cert.Proof.KV
open Cert.KernelIdeal Cert.KernelIdeal.Gen
open Cert.Proof.KI (codeK idxK packK v181K)
open Idealize.ShloMosaic

theorem pay90_at (s : EReal) (b : Vec Ideal S1x256x256 .bf16) (r k : Fin 256) :
    k0_pay90 (k0_pay89 (F := Ideal) s b) (ix3 0 r k)
      = Ideal.div 1 (if k0_pay88 (F := Ideal) s b (ix3 0 r k) * s = 0 then 1 else k0_pay88 (F := Ideal) s b (ix3 0 r k) * s) := by
  unfold k0_pay90 k0_pay89 k0_pay88
  generalize k0_pay87 (F := Ideal) s b = d
  pointwise

theorem gat_at (b : Vec Ideal S1x256x128 .f32) (i : IVec S256x128 32) (r : Fin 256) (l : Fin 128) :
    dynamicGather 1 (k0_pay91 b) i (ix2 r l) = b (ix3 0 r ⟨(i (ix2 r l)).toNat % 128, Nat.mod_lt _ (by decide)⟩) := by
  unfold k0_pay91
  pointwise

theorem idx_at (g : Fin 8) (r : Fin 256) (l : Fin 128) :
    (idxK v181K (BitVec.ofNat 32 (16 * g.val)) (ix2 r l)).toNat % 128 = 16 * g.val + l.val / 8 := by
  unfold idxK v181K
  pointwise
  clear r
  revert g l
  decide +kernel

theorem bit32 (p : IVec S256x128 8) (a : Fin 64) (l : Fin 128) (k : ℕ) (hk : k < 32) (r : Fin 256) (h : r.val = 4 * a.val + k / 8) :
    (bitcast S64x128 32 p bitcasts_S256x128_w8_S64x128_w32 (ix2 a l)).getLsbD k = (p (ix2 r l)).getLsbD (k % 8) :=
  bitcast_8_32_getLsbD_ix2 p bitcasts_S256x128_w8_S64x128_w32 a l k hk r h

theorem pack_at (p q : IVec S256x128 8) (r : Fin 256) (l : Fin 128) (hq : ∀ r', (q (ix2 r' l)).toNat < 16) :
    packK p q (ix3 0 r l) = p (ix2 r l) ||| (q (ix2 r l) <<< 4) := by
  unfold packK
  have e : ∀ W : IVec S64x128 32, shapeCast S1x256x128 (bitcast S256x128 8 W bitcasts_S64x128_w32_S256x128_w8) shapeCasts_S256x128_S1x256x128 (ix3 0 r l)
      = bitcast S256x128 8 W bitcasts_S64x128_w32_S256x128_w8 (ix2 r l) := by
    intro W
    generalize bitcast S256x128 8 W bitcasts_S64x128_w32_S256x128_w8 = V
    pointwise
  refine (e _).trans ?_
  apply BitVec.eq_of_getLsbD_eq
  intro i hi
  rw [bitcast_getLsbD _ _ _ i hi (by decide)]
  have hrow : S256x128.row (ix2 r l) = r.val := rfl
  have hsrc : ∀ n (hn : ∀ a : Fin 2, a.val + 2 = 2 → n < S64x128.size a), n = r.val / 4 → (bitcasts_S64x128_w32_S256x128_w8).srcIdx (ix2 r l) n hn = ix2 ⟨r.val / 4, by omega⟩ l := by
    intro n hn h
    refine funext fun (a : Fin 2) => ?_
    match a with
    | 0 => exact Fin.ext (((bitcasts_S64x128_w32_S256x128_w8).srcIdx_row _ _ _ ⟨0, Nat.zero_lt_two⟩ rfl).trans h)
    | 1 => rfl
  rw [hsrc _ _ (by rw [hrow]; omega)]
  rw [hrow]
  have hm : (r.val * 8 + i) % 32 = 8 * (r.val % 4) + i := by omega
  rw [hm]
  have hsh : ∀ (x y : IVec S64x128 32) (j : S64x128.Idx), ori x (shli y (broadcast S64x128 4#32)) j = x j ||| (y j <<< 4) := by
    intro x y j
    rfl
  rw [hsh]
  rw [BitVec.getLsbD_or, BitVec.getLsbD_shiftLeft, BitVec.getLsbD_or, BitVec.getLsbD_shiftLeft]
  rw [bit32 p _ _ _ (by omega) r (by show r.val = 4 * (r.val / 4) + _; omega)]
  have h1 : (8 * (r.val % 4) + i) % 8 = i := by omega
  rw [h1]
  congr 1
  by_cases h4 : i < 4
  · have z : (decide (8 * (r.val % 4) + i < 32) && !decide (8 * (r.val % 4) + i < 4) && (bitcast S64x128 32 q bitcasts_S256x128_w8_S64x128_w32 (ix2 ⟨r.val / 4, by omega⟩ l)).getLsbD (8 * (r.val % 4) + i - 4)) = false := by
      by_cases h0 : r.val % 4 = 0
      · have : 8 * (r.val % 4) + i < 4 := by omega
        simp [this]
      · rw [bit32 q _ _ _ (by omega) ⟨r.val - 1, by omega⟩ (by show r.val - 1 = 4 * (r.val / 4) + _; omega)]
        have hb : (q (ix2 ⟨r.val - 1, by omega⟩ l)).getLsbD ((8 * (r.val % 4) + i - 4) % 8) = false := by
          have h5 : (8 * (r.val % 4) + i - 4) % 8 = i + 4 := by omega
          rw [h5]
          have := hq ⟨r.val - 1, by omega⟩
          exact Nat.testBit_lt_two_pow (lt_of_lt_of_le this (by
            have : 2 ^ 4 ≤ 2 ^ (i + 4) := Nat.pow_le_pow_right (by decide) (by omega)
            omega))
        rw [hb, Bool.and_false]
    rw [z]
    simp [h4]
  · rw [bit32 q _ _ _ (by omega) r (by show r.val = 4 * (r.val / 4) + _; omega)]
    have h5 : (8 * (r.val % 4) + i - 4) % 8 = i - 4 := by omega
    rw [h5]
    have h6 : 8 * (r.val % 4) + i < 32 := by omega
    have h7 : ¬ 8 * (r.val % 4) + i < 4 := by omega
    simp [h4, h6, h7, hi]

end Cert.Proof.KV

end
-- ==== Proof.Value.Bytes.lean ====
/-
  The kernel's bytes are the reference's.
-/
module

public import proofs.«01_k».proof.Proof.Value.Scales
public import proofs.«01_k».proof.Proof.Value.Codes
public import proofs.«01_k».proof.Proof.Value.Pack

@[expose] public section

set_option maxRecDepth 16384

noncomputable section

namespace Cert.Proof.KV
open Cert.KernelIdeal Cert.KernelIdeal.Gen
open Idealize.ShloMosaic
open Cert.Proof.KI (pmK ppK xg bmV XT SGK IVT BMT ivV sbV GP obT obV grpK codeK packK idxK v181K ivh)

/-- A product with the reciprocal of a divisor that is not 0 is the quotient. -/
theorem mul_recip (x y : EReal) (h : y ≠ 0) : x * Ideal.div 1 y = Ideal.div x y := by
  unfold Ideal.div
  rw [if_neg h, if_neg h, one_mul]

theorem byte_nat (a b : ℕ) (ha : a < 16) (hb : b < 16) : BitVec.setWidth 8 (IntOp.ori (BitVec.ofNat 32 a) (IntOp.shli .host (BitVec.ofNat 32 b) 4#32))
    = BitVec.ofNat 8 a ||| (BitVec.ofNat 8 b <<< 4) := byte_eq ⟨a, ha⟩ ⟨b, hb⟩

/-- The effective scale of a block. -/
def effR (A : FVec Ideal S16x2048x4096 .bf16) (b : Fin 16) (s : Fin 2048) (k : Fin 256) : EReal :=
  if R.scR A (ix3 b s k) * R.sgR A ix0 = 0 then 1 else R.scR A (ix3 b s k) * R.sgR A ix0

theorem effR_ne (A : FVec Ideal S16x2048x4096 .bf16) (b s k) : effR A b s k ≠ 0 := by
  unfold effR
  split
  · exact one_ne_zero
  · assumption

theorem iv_eq (A : FVec Ideal S16x2048x4096 .bf16) (c : Dev nD) (t : Fin 128) (r k : ℕ) (hr : r < 256) (hk : k < 256) (b : Fin 16) (s : Fin 2048)
    (h : 2048 * b.val + s.val = 256 * t.val + r) :
    IVT (F := Ideal) c (xA A) (SGK c (xA A)) pmK t (Cert.Proof.KI.ix3 r k hr hk) = Ideal.div 1 (effR A b s ⟨k, hk⟩) := by
  have e3 : (Cert.Proof.KI.ix3 r k hr hk : S1x256x256.Idx) = ix3 0 ⟨r, hr⟩ ⟨k, hk⟩ := by
    funext a
    match a with
    | 0 => rfl
    | 1 => rfl
    | 2 => rfl
  have e1 := sc_eq A c t r k hr hk b s h
  rw [e3] at e1 ⊢
  show k0_pay90 (k0_pay89 (F := Ideal) (SGK c (xA A)) (bmV pmK (XT c (xA A) t))) _ = _
  have e4 : k0_pay88 (F := Ideal) (SGK c (xA A)) (bmV pmK (XT c (xA A) t)) (ix3 0 ⟨r, hr⟩ ⟨k, hk⟩) = R.scR A (ix3 b s ⟨k, hk⟩) := e1
  rw [pay90_at, e4, sg_eq]
  rfl

/-- One code of the kernel and the reference's: the scaled element is the same. -/
theorem el_eq (A : FVec Ideal S16x2048x4096 .bf16) (c : Dev nD) (t : Fin 128) (r : Fin 256) (g : Fin 16) (l : Fin 128) (p : Fin 2) (b : Fin 16) (s : Fin 2048)
    (h : 2048 * b.val + s.val = 256 * t.val + r.val) (x iv : EReal)
    (hx : x = XT (F := Ideal) c (xA A) t (Cert.Proof.KI.ix2 r.val (256 * g.val + (2 * l.val + p.val)) r.isLt (by omega)))
    (hiv : iv = IVT (F := Ideal) c (xA A) (SGK c (xA A)) pmK t (Cert.Proof.KI.ix3 r.val (16 * g.val + l.val / 8) r.isLt (by omega))) :
    R.clR A (ix4 b s ⟨(128 * g.val + l.val) / 8, by omega⟩ ⟨(128 * g.val + l.val) % 8 * 2 + p.val, by omega⟩)
      = min (Ideal.ofBits FTy.f32 1086324736#32) (max (Ideal.ofBits FTy.f32 3233808384#32) (x * iv)) := by
  unfold R.clR
  rw [R.rClip_at]
  have e1 : iv = Ideal.div 1 (effR A b s ⟨16 * g.val + l.val / 8, by omega⟩) := hiv.trans (iv_eq A c t r.val _ r.isLt _ b s h)
  have e2 : x = R.rX4 (R.rX A) (ix4 b s ⟨(128 * g.val + l.val) / 8, by omega⟩ ⟨(128 * g.val + l.val) % 8 * 2 + p.val, by omega⟩) := by
    refine (hx.trans (XT_at A c t r.val _ r.isLt _)).trans ((congrArg A ?_).trans (R.rX4_at A b s _ _).symm)
    funext a
    match a with
    | 0 => exact Fin.ext (show (256 * t.val + r.val) / 2048 = b.val by omega)
    | 1 => exact Fin.ext (show (256 * t.val + r.val) % 2048 = s.val by omega)
    | 2 => exact Fin.ext (show 256 * g.val + (2 * l.val + p.val) = 16 * ((128 * g.val + l.val) / 8) + ((128 * g.val + l.val) % 8 * 2 + p.val) by omega)
  have e5 : (⟨16 * g.val + l.val / 8, by omega⟩ : Fin 256) = ⟨(128 * g.val + l.val) / 8, by omega⟩ := Fin.ext (show 16 * g.val + l.val / 8 = (128 * g.val + l.val) / 8 by omega)
  rw [e1, mul_recip _ _ (effR_ne _ _ _ _), e2, e5]
  rfl

/-- Column `l` of half `p` of a group's channels, the even ones first. -/
theorem half_at (Z : FVec Ideal S256x256 .f32) (r : Fin 256) (l : Fin 128) :
    extractStridedSlice S256x128 ![0, 0] Z slices_S256x256_o0_0_S256x128 (ix2 r l) = Z (ix2 r ⟨l.val, by omega⟩)
    ∧ extractStridedSlice S256x128 ![0, 128] Z slices_S256x256_o0_128_S256x128 (ix2 r l) = Z (ix2 r ⟨128 + l.val, by omega⟩) := by
  constructor
  · pointwise
  · pointwise

theorem byte_at (A : FVec Ideal S16x2048x4096 .bf16) (c : Dev nD) (t : Fin 128) (r : Fin 256) (g : Fin 16) (l : Fin 128) (b : Fin 16) (s : Fin 2048)
    (h : 2048 * b.val + s.val = 256 * t.val + r.val) :
    grpK (F := Ideal) v181K ppK (ivh (IVT c (xA A) (SGK c (xA A)) pmK t) ⟨g.val / 8, by omega⟩) (xg (XT c (xA A) t) g) (BitVec.ofNat 32 (16 * (g.val % 8))) (ix3 0 r l)
      = R.pkR A (ix3 b s ⟨128 * g.val + l.val, by omega⟩) := by
  unfold grpK
  generalize hG : dynamicGather 1 (k0_pay91 (ivh (F := Ideal) (IVT c (xA A) (SGK c (xA A)) pmK t) ⟨g.val / 8, by omega⟩)) (idxK v181K (BitVec.ofNat 32 (16 * (g.val % 8)))) = G
  generalize hZ : k0_pay92 (F := Ideal) (xg (XT c (xA A) t) g) ppK = Z
  have hq : ∀ (a : FVec Ideal S256x128 .f32) j, (codeK (F := Ideal) a G j).toNat < 16 := by
    intro a j
    obtain ⟨m, hm⟩ := reg_ex (ab (min (Ideal.ofBits FTy.f32 1086324736#32) (max (Ideal.ofBits FTy.f32 3233808384#32) (a j * G j))))
    rw [codeK_at a G j _ m rfl hm, BitVec.toNat_ofNat]
    exact lt_of_le_of_lt (Nat.mod_le _ _) (nc_lt _ _)
  rw [pack_at _ _ r l (fun r' => hq _ _)]
  have eG : G (ix2 r l) = IVT (F := Ideal) c (xA A) (SGK c (xA A)) pmK t (Cert.Proof.KI.ix3 r.val (16 * g.val + l.val / 8) r.isLt (by omega)) := by
    rw [← hG, gat_at]
    have e := idx_at ⟨g.val % 8, by omega⟩ r l
    unfold ivh
    refine congrArg (IVT (F := Ideal) c (xA A) (SGK c (xA A)) pmK t) ?_
    funext a
    match a with
    | 0 => rfl
    | 1 => rfl
    | 2 => exact Fin.ext (show 128 * (g.val / 8) + (idxK v181K (BitVec.ofNat 32 (16 * (g.val % 8))) (ix2 r l)).toNat % 128 = 16 * g.val + l.val / 8 by
        have e' : (idxK v181K (BitVec.ofNat 32 (16 * (g.val % 8))) (ix2 r l)).toNat % 128 = 16 * (g.val % 8) + l.val / 8 := e
        omega)
  have eZ0 : Z (ix2 r ⟨l.val, by omega⟩) = XT (F := Ideal) c (xA A) t (Cert.Proof.KI.ix2 r.val (256 * g.val + (2 * l.val + 0)) r.isLt (by omega)) := by
    rw [← hZ]
    exact pay92_at _ _ ⟨2 * l.val + 0, by omega⟩ (show 2 * l.val + 0 = 2 * (l.val % 128) + l.val / 128 by omega)
  have eZ1 : Z (ix2 r ⟨128 + l.val, by omega⟩) = XT (F := Ideal) c (xA A) t (Cert.Proof.KI.ix2 r.val (256 * g.val + (2 * l.val + 1)) r.isLt (by omega)) := by
    rw [← hZ]
    exact pay92_at _ _ ⟨2 * l.val + 1, by omega⟩ (show 2 * l.val + 1 = 2 * ((128 + l.val) % 128) + (128 + l.val) / 128 by omega)
  have v0 := el_eq A c t r g l 0 b s h _ _ ((half_at Z r l).1.trans eZ0) eG
  have v1 := el_eq A c t r g l 1 b s h _ _ ((half_at Z r l).2.trans eZ1) eG
  obtain ⟨m0, hm0⟩ := reg_ex (ab (R.clR A (ix4 b s ⟨(128 * g.val + l.val) / 8, by omega⟩ ⟨(128 * g.val + l.val) % 8 * 2, by omega⟩)))
  obtain ⟨m1, hm1⟩ := reg_ex (ab (R.clR A (ix4 b s ⟨(128 * g.val + l.val) / 8, by omega⟩ ⟨(128 * g.val + l.val) % 8 * 2 + 1, by omega⟩)))
  rw [codeK_at _ G (ix2 r l) _ m0 v0.symm hm0, codeK_at _ G (ix2 r l) _ m1 v1.symm hm1]
  unfold R.pkR
  rw [R.rPack_at]
  refine Eq.symm ?_
  have q0 := codeR_at (R.clR A) _ m0 hm0
  have q1 := codeR_at (R.clR A) _ m1 hm1
  refine Eq.trans (congrArg₂ (fun x y => BitVec.setWidth 8 (IntOp.ori x (IntOp.shli .host y 4#32))) q0 q1) ?_
  beta_reduce
  exact byte_nat _ _ (nc_lt _ _) (nc_lt _ _)

theorem GP_at (A : FVec Ideal S16x2048x4096 .bf16) (c : Dev nD) (b : Fin 16) (s : Fin 2048) (k : Fin 2048) :
    shapeCast S16x2048x2048 (GP (F := Ideal) c (xA A)) shapeCasts_S32768x2048_S16x2048x2048 (ix3 b s k) = R.pkR A (ix3 b s k) := by
  have e : shapeCast S16x2048x2048 (GP (F := Ideal) c (xA A)) shapeCasts_S32768x2048_S16x2048x2048 (ix3 b s k) = GP c (xA A) (ix2 ⟨b.val * 2048 + s.val, by omega⟩ k) := by
    generalize GP (F := Ideal) c (xA A) = G
    pointwise
  rw [e]
  have e2 := byte_at A c ⟨(b.val * 2048 + s.val) / 256, by omega⟩ ⟨(b.val * 2048 + s.val) % 256, by omega⟩ ⟨k.val / 128, by omega⟩ ⟨k.val % 128, by omega⟩ b s
    (by show 2048 * b.val + s.val = 256 * ((b.val * 2048 + s.val) / 256) + (b.val * 2048 + s.val) % 256; omega)
  have ek : (⟨128 * (k.val / 128) + k.val % 128, by omega⟩ : Fin 2048) = k := Fin.ext (show 128 * (k.val / 128) + k.val % 128 = k.val by omega)
  have e3 : (Cert.Proof.KI.ix3 ((b.val * 2048 + s.val) % 256) (k.val % 128) (Nat.mod_lt _ (by decide)) (Nat.mod_lt _ (by decide)) : S1x256x128.Idx)
      = ix3 0 ⟨(b.val * 2048 + s.val) % 256, by omega⟩ ⟨k.val % 128, by omega⟩ := by
    funext a
    match a with
    | 0 => rfl
    | 1 => rfl
    | 2 => rfl
  refine Eq.trans ?_ (e2.trans (congrArg (fun k => R.pkR A (ix3 b s k)) ek))
  rw [← e3]
  rfl

theorem GP_eq (A : FVec Ideal S16x2048x4096 .bf16) (c : Dev nD) :
    shapeCast S16x2048x2048 (GP (F := Ideal) c (xA A)) shapeCasts_S32768x2048_S16x2048x2048 = R.pkR A := by
  funext j
  have ej := idx3_eta j
  exact (congrArg _ ej).trans ((GP_at A c (j 0) (j 1) (j 2)).trans (congrArg (R.pkR A) ej.symm))

end Cert.Proof.KV

end
-- ==== Proof.Value.Algebraic.lean ====
/-
  The kernel and the reference give the same three results over the extended reals.
-/
module

public import proofs.«01_k».proof.Defs
public import proofs.«01_k».proof.Proof.Gen.ReferenceIdeal.Frame
public import proofs.«01_k».proof.Proof.Value.Bytes

@[expose] public section

set_option maxRecDepth 16384

noncomputable section

namespace Cert.Proof
open Idealize.ShloMosaic

section Kernel
open Cert.KernelIdeal Cert.KernelIdeal.Gen
variable (m : (ℓ : Loc nD τ sig) → Buf (Elt Ideal) ℓ) (c : Dev nD)
theorem R2_eq : KI.R2 (F := Ideal) m c = R.pkR (m ((c.tc : Thread nD τ).loc main_arg0)) := by
  unfold KI.R2
  rw [KI.XA_eq]
  exact KV.GP_eq (m ((c.tc : Thread nD τ).loc main_arg0)) c
theorem R3_eq : KI.R3 (F := Ideal) m c = R.scR (m ((c.tc : Thread nD τ).loc main_arg0)) := by
  unfold KI.R3
  rw [KI.XA_eq]
  exact KV.GS_eq (m ((c.tc : Thread nD τ).loc main_arg0)) c
theorem R4_eq : KI.R4 (F := Ideal) m c = R.sgR (m ((c.tc : Thread nD τ).loc main_arg0)) := by
  unfold KI.R4
  rw [KI.XA_eq]
  funext j
  refine (KV.sg_eq (m ((c.tc : Thread nD τ).loc main_arg0)) c).trans (congrArg (R.sgR _) ?_)
  funext a
  exact a.elim0
end Kernel

/-- Equal results, the operand unchanged. -/
theorem algebraic [hKernelIdeal : Cert.KernelIdeal.Facts] [hReferenceIdeal : Cert.ReferenceIdeal.Facts] : Cert.algebraic_KernelIdeal_ReferenceIdeal := by
  intro m g m' g' _ ha
  refine ⟨fun c => KI.R2 (F := Ideal) m c, fun c => KI.R3 (F := Ideal) m c, fun c => KI.R4 (F := Ideal) m c,
    (θ_run Cert.KernelIdeal.defs _ _).mono (fun r h => h.1) (KI.run_value (F := Ideal) m g),
    (θ_run Cert.ReferenceIdeal.defs _ _).mono (fun r h c => ?_) (θ_run_and (R.run_value m' g') (Cert.ReferenceIdeal.Gen.frame m' g'))⟩
  obtain ⟨h1, h2, h3⟩ := h.1 c
  exact ⟨h1.trans ((congrArg R.pkR (ha c)).trans (R2_eq m c).symm), h2.trans ((congrArg R.scR (ha c)).trans (R3_eq m c).symm),
    h3.trans ((congrArg R.sgR (ha c)).trans (R4_eq m c).symm), h.2.1 c⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.Kernel.Skeleton
public import proofs.«01_k».proof.Proof.Gen.KernelIdeal.Skeleton
public import proofs.«01_k».proof.Proof.Gen.Kernel.Loops
public import proofs.«01_k».proof.Proof.Gen.KernelIdeal.Loops
public import proofs.«01_k».proof.Proof.Ends
public import proofs.«01_k».proof.Proof.Ideal.Ends
public import proofs.«01_k».proof.Proof.Value.Algebraic

@[expose] public section

noncomputable section

open Idealize.ShloMosaic

namespace Cert.Proof

/-- The claims, together. -/
theorem claim : Cert.Claim :=
  ⟨Cert.Kernel.Gen.facts, Cert.KernelIdeal.Gen.facts, Cert.ReferenceIdeal.Gen.facts,
    fun m g _ => Cert.Proof.K.frame m g, fun m g _ => Cert.Proof.KI.frame m g, fun m ρ _ => Cert.ReferenceIdeal.Gen.frame m ρ,
    IdealRules.named_const.statement Cert.KernelIdeal.κ "inv_2688" .f32 0x39C30C31#32 ((1 / 2688 : ℝ) : EReal) rfl,
    Cert.Proof.algebraic⟩

end Cert.Proof

end
